-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_5) = v0 c
          ∧ r.2.mem ((c.tc : Thread Cert.ReferenceIdeal.nD Cert.ReferenceIdeal.τ).loc Cert.ReferenceIdeal.main_v4_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1024x4096 : Shape := ⟨2, ![1024, 4096]⟩
abbrev S4096x4096 : Shape := ⟨2, ![4096, 4096]⟩
abbrev S_ : Shape := ⟨0, ![]⟩
abbrev S9216x4096 : Shape := ⟨2, ![9216, 4096]⟩

class Facts : Prop where
  bcast_S_S1024x4096 : S_.BroadcastsInDim S1024x4096 (![] : Fin 0 → Fin S1024x4096.rank)
  bcast_S_S4096x4096 : S_.BroadcastsInDim S4096x4096 (![] : Fin 0 → Fin S4096x4096.rank)
  concatenates_S1024x4096_S4096x4096_S4096x4096_S9216x4096_d0 : Shape.Concatenates [S1024x4096, S4096x4096, S4096x4096] S9216x4096 0

variable [Facts]

def fn {F : FTy → Type} [FloatOps F] (main_arg0 : FVec F S1024x4096 .f32) (main_arg1 : FVec F S4096x4096 .f32) (main_arg2 : FVec F S4096x4096 .f32) : IVec S9216x4096 1 :=
  let main_cst : FVec F S_ .f32 := constant S_ .f32 0x7F800000#32
  let main_v0 : FVec F S1024x4096 .f32 := broadcastInDim S1024x4096 ![] bcast_S_S1024x4096 main_cst
  let main_v1 : IVec S1024x4096 1 := cmpf .olt main_arg0 main_v0
  let main_cst_0 : FVec F S_ .f32 := constant S_ .f32 0x00000000#32
  let main_v2 : FVec F S4096x4096 .f32 := broadcastInDim S4096x4096 ![] bcast_S_S4096x4096 main_cst_0
  let main_v3 : IVec S4096x4096 1 := cmpf .oeq main_arg1 main_v2
  let main_cst_1 : FVec F S_ .f32 := constant S_ .f32 0x00000000#32
  let main_v4 : FVec F S4096x4096 .f32 := broadcastInDim S4096x4096 ![] bcast_S_S4096x4096 main_cst_1
  let main_v5 : IVec S4096x4096 1 := cmpf .oeq main_arg2 main_v4
  let main_v6 : IVec S9216x4096 1 := concatenate S9216x4096 0 [⟨S1024x4096, main_v1⟩, ⟨S4096x4096, main_v3⟩, ⟨S4096x4096, main_v5⟩] concatenates_S1024x4096_S4096x4096_S4096x4096_S9216x4096_d0
  main_v6
-- ==== Kernel.lean ====
abbrev S1024x4096 : Shape := ⟨2, ![1024, 4096]⟩
abbrev S4096x4096 : Shape := ⟨2, ![4096, 4096]⟩
abbrev S1024x1 : Shape := ⟨2, ![1024, 1]⟩
abbrev S1x1024 : Shape := ⟨2, ![1, 1024]⟩
abbrev S128x4096 : Shape := ⟨2, ![128, 4096]⟩
abbrev S128x1 : Shape := ⟨2, ![128, 1]⟩
abbrev S1x128 : Shape := ⟨2, ![1, 128]⟩
abbrev S128 : Shape := ⟨1, ![128]⟩
abbrev S16x128 : Shape := ⟨2, ![16, 128]⟩
abbrev S1024x1024 : Shape := ⟨2, ![1024, 1024]⟩
abbrev S1024 : Shape := ⟨1, ![1024]⟩
abbrev S8x128 : Shape := ⟨2, ![8, 128]⟩
abbrev S_ : Shape := ⟨0, ![]⟩
abbrev S8x4096 : Shape := ⟨2, ![8, 4096]⟩
abbrev S16 : Shape := ⟨1, ![16]⟩
abbrev S1x16 : Shape := ⟨2, ![1, 16]⟩

abbrev nBuf : Table → Nat
  | .hbm => 14
  | .local .tc .vmem => 17
  | .local .scVector .vmem => 4
  | _ => 0

abbrev bufTy : (tb : Table) → Fin (nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S1024x1, .i32⟩
  | .hbm, ⟨4, _⟩ => ⟨S1024x1, .i32⟩
  | .hbm, ⟨5, _⟩ => ⟨S1x1024, .i32⟩
  | .hbm, ⟨6, _⟩ => ⟨S1x1024, .i32⟩
  | .hbm, ⟨7, _⟩ => ⟨S16x128, .i32⟩
  | .hbm, ⟨8, _⟩ => ⟨S16x128, .f32⟩
  | .hbm, ⟨9, _⟩ => ⟨S16x128, .f32⟩
  | .hbm, ⟨10, _⟩ => ⟨S_, .f32⟩
  | .hbm, ⟨11, _⟩ => ⟨S8x4096, .f32⟩
  | .hbm, ⟨12, _⟩ => ⟨S4096x4096, .f32⟩
  | .hbm, ⟨13, _⟩ => ⟨S4096x4096, .f32⟩
  | .local .tc .vmem, ⟨0, _⟩ => ⟨S128x4096, .f32⟩
  | .local .tc .vmem, ⟨1, _⟩ => ⟨S128x4096, .f32⟩
  | .local .tc .vmem, ⟨2, _⟩ => ⟨S128x1, .i32⟩
  | .local .tc .vmem, ⟨3, _⟩ => ⟨S128x1, .i32⟩
  | .local .tc .vmem, ⟨4, _⟩ => ⟨S128x1, .i32⟩
  | .local .tc .vmem, ⟨5, _⟩ => ⟨S128x1, .i32⟩
  | .local .tc .vmem, ⟨6, _⟩ => ⟨S1x128, .i32⟩
  | .local .tc .vmem, ⟨7, _⟩ => ⟨S1x128, .i32⟩
  | .local .tc .vmem, ⟨8, _⟩ => ⟨S1x128, .i32⟩
  | .local .tc .vmem, ⟨9, _⟩ => ⟨S1x128, .i32⟩
  | .local .tc .vmem, ⟨10, _⟩ => ⟨S1024x1, .i32⟩
  | .local .tc .vmem, ⟨11, _⟩ => ⟨S1024x1, .i32⟩
  | .local .tc .vmem, ⟨12, _⟩ => ⟨S1x1024, .i32⟩
  | .local .tc .vmem, ⟨13, _⟩ => ⟨S1x1024, .i32⟩
  | .local .tc .vmem, ⟨14, _⟩ => ⟨S16x128, .i32⟩
  | .local .tc .vmem, ⟨15, _⟩ => ⟨S16x128, .f32⟩
  | .local .tc .vmem, ⟨16, _⟩ => ⟨S16x128, .f32⟩
  | .local .scVector .vmem, ⟨0, _⟩ => ⟨S8x4096, .f32⟩
  | .local .scVector .vmem, ⟨1, _⟩ => ⟨S8x4096, .f32⟩
  | .local .scVector .vmem, ⟨2, _⟩ => ⟨S16x128, .i32⟩
  | .local .scVector .vmem, ⟨3, _⟩ => ⟨S16x128, .f32⟩
  | _, _ => ⟨S1024x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_cst : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v1_0_scv : Ref sig .scVector := ⟨.hbm, 7, rfl⟩
abbrev main_v1_1_scv : Ref sig .scVector := ⟨.hbm, 8, rfl⟩
abbrev main_v1_2_scv : Ref sig .scVector := ⟨.hbm, 9, rfl⟩
abbrev main_v2_scv : Ref sig .scVector := ⟨.hbm, 11, rfl⟩
abbrev main_v3_0_scv : Ref sig .scVector := ⟨.hbm, 12, rfl⟩
abbrev main_v3_1_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨2, ![2, 16], ![false, false]⟩

def k2_cond1 (i : grid2.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k2_t1_loop : Scf.Loop 32 :=
  let c0_i32_4 : BitVec 32 := 0#32
  let c128_i32 : BitVec 32 := 128#32
  let v8 : BitVec 32 := Scalar.addi c0_i32_4 c128_i32
  let c1_i32_5 : BitVec 32 := 1#32
  ⟨c0_i32_4, v8, c1_i32_5⟩
def k2_mult1 (k2_t1 : Fin k2_t1_loop.trips) : BitVec 32 :=
  let c0_i32_4 : BitVec 32 := 0#32
  let c1_i32_5 : BitVec 32 := 1#32
  let arg14 : BitVec 32 := Scf.iv c0_i32_4 c1_i32_5 k2_t1
  let c8_i32_504 : BitVec 32 := 8#32
  let v292 : BitVec 32 := Scalar.remsi arg14 c8_i32_504
  let c16_i32_505 : BitVec 32 := 16#32
  let v293 : BitVec 32 := Scalar.muli v292 c16_i32_505
  v293
def k2_off1 (k2_t1 : Fin k2_t1_loop.trips) : Fin 2 → Nat :=
  let c0_i32_4 : BitVec 32 := 0#32
  let c1_i32_5 : BitVec 32 := 1#32
  let arg14 : BitVec 32 := Scf.iv c0_i32_4 c1_i32_5 k2_t1
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk1 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx1_inb : ∀ (i : grid2.Coords) (v310 : IVec S16 32) (v312 : IVec S16 32) (k2_hw1 : k2_chk1 i v310 v312), ∀ (k2_h1 : k2_cond1 i = 1#1), ∀ a x, ((![v310, v312] : Fin 2 → IVec S16 32) a x).toNat < S8x4096.size a := fun i v310 v312 k2_hw1 k2_h1 => k2_hw1 k2_h1
def k2_off2 (i : grid2.Coords) (c0_i32_7 : BitVec 32) : Fin 2 → Nat :=
  let arg1 : BitVec 32 := BitVec.ofNat 32 (i 1).val
  let c256_i32 : BitVec 32 := 256#32
  let v0 : BitVec 32 := Scalar.muli arg1 c256_i32
  let v9 : BitVec 32 := Scalar.addi v0 c0_i32_7
  let c0_i32_8 : BitVec 32 := 0#32
  ![v9.toNat, 0]
@[reducible] def k2_t2_loop : Scf.Loop 32 :=
  let c0_i32_11 : BitVec 32 := 0#32
  let c128_i32_12 : BitVec 32 := 128#32
  let v13 : BitVec 32 := Scalar.addi c0_i32_11 c128_i32_12
  let c1_i32_13 : BitVec 32 := 1#32
  ⟨c0_i32_11, v13, c1_i32_13⟩
def k2_mult2 (k2_t2 : Fin k2_t2_loop.trips) : BitVec 32 :=
  let c0_i32_11 : BitVec 32 := 0#32
  let c1_i32_13 : BitVec 32 := 1#32
  let arg14 : BitVec 32 := Scf.iv c0_i32_11 c1_i32_13 k2_t2
  let c8_i32_504 : BitVec 32 := 8#32
  let v292 : BitVec 32 := Scalar.remsi arg14 c8_i32_504
  let c16_i32_505 : BitVec 32 := 16#32
  let v293 : BitVec 32 := Scalar.muli v292 c16_i32_505
  v293
def k2_off3 (k2_t2 : Fin k2_t2_loop.trips) : Fin 2 → Nat :=
  let c0_i32_11 : BitVec 32 := 0#32
  let c1_i32_13 : BitVec 32 := 1#32
  let arg14 : BitVec 32 := Scf.iv c0_i32_11 c1_i32_13 k2_t2
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk2 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx2_inb : ∀ (i : grid2.Coords) (v310 : IVec S16 32) (v312 : IVec S16 32) (k2_hw2 : k2_chk2 i v310 v312), ∀ (k2_h1 : k2_cond1 i = 1#1), ∀ a x, ((![v310, v312] : Fin 2 → IVec S16 32) a x).toNat < S8x4096.size a := fun i v310 v312 k2_hw2 k2_h1 => k2_hw2 k2_h1
@[reducible] def k2_t3_loop : Scf.Loop 32 :=
  let c0_i32_22 : BitVec 32 := 0#32
  let c128_i32_23 : BitVec 32 := 128#32
  let v20 : BitVec 32 := Scalar.addi c0_i32_22 c128_i32_23
  let c1_i32_24 : BitVec 32 := 1#32
  ⟨c0_i32_22, v20, c1_i32_24⟩
def k2_mult3 (k2_t3 : Fin k2_t3_loop.trips) : BitVec 32 :=
  let c0_i32_22 : BitVec 32 := 0#32
  let c1_i32_24 : BitVec 32 := 1#32
  let arg14 : BitVec 32 := Scf.iv c0_i32_22 c1_i32_24 k2_t3
  let c8_i32_504 : BitVec 32 := 8#32
  let v292 : BitVec 32 := Scalar.remsi arg14 c8_i32_504
  let c16_i32_505 : BitVec 32 := 16#32
  let v293 : BitVec 32 := Scalar.muli v292 c16_i32_505
  v293
def k2_off4 (k2_t3 : Fin k2_t3_loop.trips) : Fin 2 → Nat :=
  let c0_i32_22 : BitVec 32 := 0#32
  let c1_i32_24 : BitVec 32 := 1#32
  let arg14 : BitVec 32 := Scf.iv c0_i32_22 c1_i32_24 k2_t3
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk3 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx3_inb : ∀ (i : grid2.Coords) (v310 : IVec S16 32) (v312 : IVec S16 32) (k2_hw3 : k2_chk3 i v310 v312), ∀ (k2_h1 : k2_cond1 i = 1#1), ∀ a x, ((![v310, v312] : Fin 2 → IVec S16 32) a x).toNat < S8x4096.size a := fun i v310 v312 k2_hw3 k2_h1 => k2_hw3 k2_h1
@[reducible] def k2_t4_loop : Scf.Loop 32 :=
  let c0_i32_27 : BitVec 32 := 0#32
  let c128_i32_28 : BitVec 32 := 128#32
  let v22 : BitVec 32 := Scalar.addi c0_i32_27 c128_i32_28
  let c1_i32_29 : BitVec 32 := 1#32
  ⟨c0_i32_27, v22, c1_i32_29⟩
def k2_mult4 (k2_t4 : Fin k2_t4_loop.trips) : BitVec 32 :=
  let c0_i32_27 : BitVec 32 := 0#32
  let c1_i32_29 : BitVec 32 := 1#32
  let arg14 : BitVec 32 := Scf.iv c0_i32_27 c1_i32_29 k2_t4
  let c8_i32_504 : BitVec 32 := 8#32
  let v292 : BitVec 32 := Scalar.remsi arg14 c8_i32_504
  let c16_i32_505 : BitVec 32 := 16#32
  let v293 : BitVec 32 := Scalar.muli v292 c16_i32_505
  v293
def k2_off5 (k2_t4 : Fin k2_t4_loop.trips) : Fin 2 → Nat :=
  let c0_i32_27 : BitVec 32 := 0#32
  let c1_i32_29 : BitVec 32 := 1#32
  let arg14 : BitVec 32 := Scf.iv c0_i32_27 c1_i32_29 k2_t4
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk4 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx4_inb : ∀ (i : grid2.Coords) (v310 : IVec S16 32) (v312 : IVec S16 32) (k2_hw4 : k2_chk4 i v310 v312), ∀ (k2_h1 : k2_cond1 i = 1#1), ∀ a x, ((![v310, v312] : Fin 2 → IVec S16 32) a x).toNat < S8x4096.size a := fun i v310 v312 k2_hw4 k2_h1 => k2_hw4 k2_h1
@[reducible] def k2_t5_loop : Scf.Loop 32 :=
  let c0_i32_38 : BitVec 32 := 0#32
  let c128_i32_39 : BitVec 32 := 128#32
  let v29 : BitVec 32 := Scalar.addi c0_i32_38 c128_i32_39
  let c1_i32_40 : BitVec 32 := 1#32
  ⟨c0_i32_38, v29, c1_i32_40⟩
def k2_mult5 (k2_t5 : Fin k2_t5_loop.trips) : BitVec 32 :=
  let c0_i32_38 : BitVec 32 := 0#32
  let c1_i32_40 : BitVec 32 := 1#32
  let arg14 : BitVec 32 := Scf.iv c0_i32_38 c1_i32_40 k2_t5
  let c8_i32_504 : BitVec 32 := 8#32
  let v292 : BitVec 32 := Scalar.remsi arg14 c8_i32_504
  let c16_i32_505 : BitVec 32 := 16#32
  let v293 : BitVec 32 := Scalar.muli v292 c16_i32_505
  v293
def k2_off6 (k2_t5 : Fin k2_t5_loop.trips) : Fin 2 → Nat :=
  let c0_i32_38 : BitVec 32 := 0#32
  let c1_i32_40 : BitVec 32 := 1#32
  let arg14 : BitVec 32 := Scf.iv c0_i32_38 c1_i32_40 k2_t5
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk5 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx5_inb : ∀ (i : grid2.Coords) (v310 : IVec S16 32) (v312 : IVec S16 32) (k2_hw5 : k2_chk5 i v310 v312), ∀ (k2_h1 : k2_cond1 i = 1#1), ∀ a x, ((![v310, v312] : Fin 2 → IVec S16 32) a x).toNat < S8x4096.size a := fun i v310 v312 k2_hw5 k2_h1 => k2_hw5 k2_h1
@[reducible] def k2_t6_loop : Scf.Loop 32 :=
  let c0_i32_43 : BitVec 32 := 0#32
  let c128_i32_44 : BitVec 32 := 128#32
  let v31 : BitVec 32 := Scalar.addi c0_i32_43 c128_i32_44
  let c1_i32_45 : BitVec 32 := 1#32
  ⟨c0_i32_43, v31, c1_i32_45⟩
def k2_mult6 (k2_t6 : Fin k2_t6_loop.trips) : BitVec 32 :=
  let c0_i32_43 : BitVec 32 := 0#32
  let c1_i32_45 : BitVec 32 := 1#32
  let arg14 : BitVec 32 := Scf.iv c0_i32_43 c1_i32_45 k2_t6
  let c8_i32_504 : BitVec 32 := 8#32
  let v292 : BitVec 32 := Scalar.remsi arg14 c8_i32_504
  let c16_i32_505 : BitVec 32 := 16#32
  let v293 : BitVec 32 := Scalar.muli v292 c16_i32_505
  v293
def k2_off7 (k2_t6 : Fin k2_t6_loop.trips) : Fin 2 → Nat :=
  let c0_i32_43 : BitVec 32 := 0#32
  let c1_i32_45 : BitVec 32 := 1#32
  let arg14 : BitVec 32 := Scf.iv c0_i32_43 c1_i32_45 k2_t6
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk6 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx6_inb : ∀ (i : grid2.Coords) (v310 : IVec S16 32) (v312 : IVec S16 32) (k2_hw6 : k2_chk6 i v310 v312), ∀ (k2_h1 : k2_cond1 i = 1#1), ∀ a x, ((![v310, v312] : Fin 2 → IVec S16 32) a x).toNat < S8x4096.size a := fun i v310 v312 k2_hw6 k2_h1 => k2_hw6 k2_h1
@[reducible] def k2_t7_loop : Scf.Loop 32 :=
  let c0_i32_54 : BitVec 32 := 0#32
  let c128_i32_55 : BitVec 32 := 128#32
  let v38 : BitVec 32 := Scalar.addi c0_i32_54 c128_i32_55
  let c1_i32_56 : BitVec 32 := 1#32
  ⟨c0_i32_54, v38, c1_i32_56⟩
def k2_mult7 (k2_t7 : Fin k2_t7_loop.trips) : BitVec 32 :=
  let c0_i32_54 : BitVec 32 := 0#32
  let c1_i32_56 : BitVec 32 := 1#32
  let arg14 : BitVec 32 := Scf.iv c0_i32_54 c1_i32_56 k2_t7
  let c8_i32_504 : BitVec 32 := 8#32
  let v292 : BitVec 32 := Scalar.remsi arg14 c8_i32_504
  let c16_i32_505 : BitVec 32 := 16#32
  let v293 : BitVec 32 := Scalar.muli v292 c16_i32_505
  v293
def k2_off8 (k2_t7 : Fin k2_t7_loop.trips) : Fin 2 → Nat :=
  let c0_i32_54 : BitVec 32 := 0#32
  let c1_i32_56 : BitVec 32 := 1#32
  let arg14 : BitVec 32 := Scf.iv c0_i32_54 c1_i32_56 k2_t7
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk7 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx7_inb : ∀ (i : grid2.Coords) (v310 : IVec S16 32) (v312 : IVec S16 32) (k2_hw7 : k2_chk7 i v310 v312), ∀ (k2_h1 : k2_cond1 i = 1#1), ∀ a x, ((![v310, v312] : Fin 2 → IVec S16 32) a x).toNat < S8x4096.size a := fun i v310 v312 k2_hw7 k2_h1 => k2_hw7 k2_h1
@[reducible] def k2_t8_loop : Scf.Loop 32 :=
  let c0_i32_59 : BitVec 32 := 0#32
  let c128_i32_60 : BitVec 32 := 128#32
  let v40 : BitVec 32 := Scalar.addi c0_i32_59 c128_i32_60
  let c1_i32_61 : BitVec 32 := 1#32
  ⟨c0_i32_59, v40, c1_i32_61⟩
def k2_mult8 (k2_t8 : Fin k2_t8_loop.trips) : BitVec 32 :=
  let c0_i32_59 : BitVec 32 := 0#32
  let c1_i32_61 : BitVec 32 := 1#32
  let arg14 : BitVec 32 := Scf.iv c0_i32_59 c1_i32_61 k2_t8
  let c8_i32_504 : BitVec 32 := 8#32
  let v292 : BitVec 32 := Scalar.remsi arg14 c8_i32_504
  let c16_i32_505 : BitVec 32 := 16#32
  let v293 : BitVec 32 := Scalar.muli v292 c16_i32_505
  v293
def k2_off9 (k2_t8 : Fin k2_t8_loop.trips) : Fin 2 → Nat :=
  let c0_i32_59 : BitVec 32 := 0#32
  let c1_i32_61 : BitVec 32 := 1#32
  let arg14 : BitVec 32 := Scf.iv c0_i32_59 c1_i32_61 k2_t8
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk8 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx8_inb : ∀ (i : grid2.Coords) (v310 : IVec S16 32) (v312 : IVec S16 32) (k2_hw8 : k2_chk8 i v310 v312), ∀ (k2_h1 : k2_cond1 i = 1#1), ∀ a x, ((![v310, v312] : Fin 2 → IVec S16 32) a x).toNat < S8x4096.size a := fun i v310 v312 k2_hw8 k2_h1 => k2_hw8 k2_h1
@[reducible] def k2_t9_loop : Scf.Loop 32 :=
  let c0_i32_70 : BitVec 32 := 0#32
  let c128_i32_71 : BitVec 32 := 128#32
  let v47 : BitVec 32 := Scalar.addi c0_i32_70 c128_i32_71
  let c1_i32_72 : BitVec 32 := 1#32
  ⟨c0_i32_70, v47, c1_i32_72⟩
def k2_mult9 (k2_t9 : Fin k2_t9_loop.trips) : BitVec 32 :=
  let c0_i32_70 : BitVec 32 := 0#32
  let c1_i32_72 : BitVec 32 := 1#32
  let arg14 : BitVec 32 := Scf.iv c0_i32_70 c1_i32_72 k2_t9
  let c8_i32_504 : BitVec 32 := 8#32
  let v292 : BitVec 32 := Scalar.remsi arg14 c8_i32_504
  let c16_i32_505 : BitVec 32 := 16#32
  let v293 : BitVec 32 := Scalar.muli v292 c16_i32_505
  v293
def k2_off10 (k2_t9 : Fin k2_t9_loop.trips) : Fin 2 → Nat :=
  let c0_i32_70 : BitVec 32 := 0#32
  let c1_i32_72 : BitVec 32 := 1#32
  let arg14 : BitVec 32 := Scf.iv c0_i32_70 c1_i32_72 k2_t9
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk9 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx9_inb : ∀ (i : grid2.Coords) (v310 : IVec S16 32) (v312 : IVec S16 32) (k2_hw9 : k2_chk9 i v310 v312), ∀ (k2_h1 : k2_cond1 i = 1#1), ∀ a x, ((![v310, v312] : Fin 2 → IVec S16 32) a x).toNat < S8x4096.size a := fun i v310 v312 k2_hw9 k2_h1 => k2_hw9 k2_h1
@[reducible] def k2_t10_loop : Scf.Loop 32 :=
  let c0_i32_75 : BitVec 32 := 0#32
  let c128_i32_76 : BitVec 32 := 128#32
  let v49 : BitVec 32 := Scalar.addi c0_i32_75 c128_i32_76
  let c1_i32_77 : BitVec 32 := 1#32
  ⟨c0_i32_75, v49, c1_i32_77⟩
def k2_mult10 (k2_t10 : Fin k2_t10_loop.trips) : BitVec 32 :=
  let c0_i32_75 : BitVec 32 := 0#32
  let c1_i32_77 : BitVec 32 := 1#32
  let arg14 : BitVec 32 := Scf.iv c0_i32_75 c1_i32_77 k2_t10
  let c8_i32_504 : BitVec 32 := 8#32
  let v292 : BitVec 32 := Scalar.remsi arg14 c8_i32_504
  let c16_i32_505 : BitVec 32 := 16#32
  let v293 : BitVec 32 := Scalar.muli v292 c16_i32_505
  v293
def k2_off11 (k2_t10 : Fin k2_t10_loop.trips) : Fin 2 → Nat :=
  let c0_i32_75 : BitVec 32 := 0#32
  let c1_i32_77 : BitVec 32 := 1#32
  let arg14 : BitVec 32 := Scf.iv c0_i32_75 c1_i32_77 k2_t10
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk10 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx10_inb : ∀ (i : grid2.Coords) (v310 : IVec S16 32) (v312 : IVec S16 32) (k2_hw10 : k2_chk10 i v310 v312), ∀ (k2_h1 : k2_cond1 i = 1#1), ∀ a x, ((![v310, v312] : Fin 2 → IVec S16 32) a x).toNat < S8x4096.size a := fun i v310 v312 k2_hw10 k2_h1 => k2_hw10 k2_h1
@[reducible] def k2_t11_loop : Scf.Loop 32 :=
  let c0_i32_86 : BitVec 32 := 0#32
  let c128_i32_87 : BitVec 32 := 128#32
  let v56 : BitVec 32 := Scalar.addi c0_i32_86 c128_i32_87
  let c1_i32_88 : BitVec 32 := 1#32
  ⟨c0_i32_86, v56, c1_i32_88⟩
def k2_mult11 (k2_t11 : Fin k2_t11_loop.trips) : BitVec 32 :=
  let c0_i32_86 : BitVec 32 := 0#32
  let c1_i32_88 : BitVec 32 := 1#32
  let arg14 : BitVec 32 := Scf.iv c0_i32_86 c1_i32_88 k2_t11
  let c8_i32_504 : BitVec 32 := 8#32
  let v292 : BitVec 32 := Scalar.remsi arg14 c8_i32_504
  let c16_i32_505 : BitVec 32 := 16#32
  let v293 : BitVec 32 := Scalar.muli v292 c16_i32_505
  v293
def k2_off12 (k2_t11 : Fin k2_t11_loop.trips) : Fin 2 → Nat :=
  let c0_i32_86 : BitVec 32 := 0#32
  let c1_i32_88 : BitVec 32 := 1#32
  let arg14 : BitVec 32 := Scf.iv c0_i32_86 c1_i32_88 k2_t11
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk11 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx11_inb : ∀ (i : grid2.Coords) (v310 : IVec S16 32) (v312 : IVec S16 32) (k2_hw11 : k2_chk11 i v310 v312), ∀ (k2_h1 : k2_cond1 i = 1#1), ∀ a x, ((![v310, v312] : Fin 2 → IVec S16 32) a x).toNat < S8x4096.size a := fun i v310 v312 k2_hw11 k2_h1 => k2_hw11 k2_h1
@[reducible] def k2_t12_loop : Scf.Loop 32 :=
  let c0_i32_91 : BitVec 32 := 0#32
  let c128_i32_92 : BitVec 32 := 128#32
  let v58 : BitVec 32 := Scalar.addi c0_i32_91 c128_i32_92
  let c1_i32_93 : BitVec 32 := 1#32
  ⟨c0_i32_91, v58, c1_i32_93⟩
def k2_mult12 (k2_t12 : Fin k2_t12_loop.trips) : BitVec 32 :=
  let c0_i32_91 : BitVec 32 := 0#32
  let c1_i32_93 : BitVec 32 := 1#32
  let arg14 : BitVec 32 := Scf.iv c0_i32_91 c1_i32_93 k2_t12
  let c8_i32_504 : BitVec 32 := 8#32
  let v292 : BitVec 32 := Scalar.remsi arg14 c8_i32_504
  let c16_i32_505 : BitVec 32 := 16#32
  let v293 : BitVec 32 := Scalar.muli v292 c16_i32_505
  v293
def k2_off13 (k2_t12 : Fin k2_t12_loop.trips) : Fin 2 → Nat :=
  let c0_i32_91 : BitVec 32 := 0#32
  let c1_i32_93 : BitVec 32 := 1#32
  let arg14 : BitVec 32 := Scf.iv c0_i32_91 c1_i32_93 k2_t12
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk12 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx12_inb : ∀ (i : grid2.Coords) (v310 : IVec S16 32) (v312 : IVec S16 32) (k2_hw12 : k2_chk12 i v310 v312), ∀ (k2_h1 : k2_cond1 i = 1#1), ∀ a x, ((![v310, v312] : Fin 2 → IVec S16 32) a x).toNat < S8x4096.size a := fun i v310 v312 k2_hw12 k2_h1 => k2_hw12 k2_h1
@[reducible] def k2_t13_loop : Scf.Loop 32 :=
  let c0_i32_102 : BitVec 32 := 0#32
  let c128_i32_103 : BitVec 32 := 128#32
  let v65 : BitVec 32 := Scalar.addi c0_i32_102 c128_i32_103
  let c1_i32_104 : BitVec 32 := 1#32
  ⟨c0_i32_102, v65, c1_i32_104⟩
def k2_mult13 (k2_t13 : Fin k2_t13_loop.trips) : BitVec 32 :=
  let c0_i32_102 : BitVec 32 := 0#32
  let c1_i32_104 : BitVec 32 := 1#32
  let arg14 : BitVec 32 := Scf.iv c0_i32_102 c1_i32_104 k2_t13
  let c8_i32_504 : BitVec 32 := 8#32
  let v292 : BitVec 32 := Scalar.remsi arg14 c8_i32_504
  let c16_i32_505 : BitVec 32 := 16#32
  let v293 : BitVec 32 := Scalar.muli v292 c16_i32_505
  v293
def k2_off14 (k2_t13 : Fin k2_t13_loop.trips) : Fin 2 → Nat :=
  let c0_i32_102 : BitVec 32 := 0#32
  let c1_i32_104 : BitVec 32 := 1#32
  let arg14 : BitVec 32 := Scf.iv c0_i32_102 c1_i32_104 k2_t13
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk13 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx13_inb : ∀ (i : grid2.Coords) (v310 : IVec S16 32) (v312 : IVec S16 32) (k2_hw13 : k2_chk13 i v310 v312), ∀ (k2_h1 : k2_cond1 i = 1#1), ∀ a x, ((![v310, v312] : Fin 2 → IVec S16 32) a x).toNat < S8x4096.size a := fun i v310 v312 k2_hw13 k2_h1 => k2_hw13 k2_h1
@[reducible] def k2_t14_loop : Scf.Loop 32 :=
  let c0_i32_107 : BitVec 32 := 0#32
  let c128_i32_108 : BitVec 32 := 128#32
  let v67 : BitVec 32 := Scalar.addi c0_i32_107 c128_i32_108
  let c1_i32_109 : BitVec 32 := 1#32
  ⟨c0_i32_107, v67, c1_i32_109⟩
def k2_mult14 (k2_t14 : Fin k2_t14_loop.trips) : BitVec 32 :=
  let c0_i32_107 : BitVec 32 := 0#32
  let c1_i32_109 : BitVec 32 := 1#32
  let arg14 : BitVec 32 := Scf.iv c0_i32_107 c1_i32_109 k2_t14
  let c8_i32_504 : BitVec 32 := 8#32
  let v292 : BitVec 32 := Scalar.remsi arg14 c8_i32_504
  let c16_i32_505 : BitVec 32 := 16#32
  let v293 : BitVec 32 := Scalar.muli v292 c16_i32_505
  v293
def k2_off15 (k2_t14 : Fin k2_t14_loop.trips) : Fin 2 → Nat :=
  let c0_i32_107 : BitVec 32 := 0#32
  let c1_i32_109 : BitVec 32 := 1#32
  let arg14 : BitVec 32 := Scf.iv c0_i32_107 c1_i32_109 k2_t14
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk14 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx14_inb : ∀ (i : grid2.Coords) (v310 : IVec S16 32) (v312 : IVec S16 32) (k2_hw14 : k2_chk14 i v310 v312), ∀ (k2_h1 : k2_cond1 i = 1#1), ∀ a x, ((![v310, v312] : Fin 2 → IVec S16 32) a x).toNat < S8x4096.size a := fun i v310 v312 k2_hw14 k2_h1 => k2_hw14 k2_h1
@[reducible] def k2_t15_loop : Scf.Loop 32 :=
  let c0_i32_118 : BitVec 32 := 0#32
  let c128_i32_119 : BitVec 32 := 128#32
  let v74 : BitVec 32 := Scalar.addi c0_i32_118 c128_i32_119
  let c1_i32_120 : BitVec 32 := 1#32
  ⟨c0_i32_118, v74, c1_i32_120⟩
def k2_mult15 (k2_t15 : Fin k2_t15_loop.trips) : BitVec 32 :=
  let c0_i32_118 : BitVec 32 := 0#32
  let c1_i32_120 : BitVec 32 := 1#32
  let arg14 : BitVec 32 := Scf.iv c0_i32_118 c1_i32_120 k2_t15
  let c8_i32_504 : BitVec 32 := 8#32
  let v292 : BitVec 32 := Scalar.remsi arg14 c8_i32_504
  let c16_i32_505 : BitVec 32 := 16#32
  let v293 : BitVec 32 := Scalar.muli v292 c16_i32_505
  v293
def k2_off16 (k2_t15 : Fin k2_t15_loop.trips) : Fin 2 → Nat :=
  let c0_i32_118 : BitVec 32 := 0#32
  let c1_i32_120 : BitVec 32 := 1#32
  let arg14 : BitVec 32 := Scf.iv c0_i32_118 c1_i32_120 k2_t15
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk15 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx15_inb : ∀ (i : grid2.Coords) (v310 : IVec S16 32) (v312 : IVec S16 32) (k2_hw15 : k2_chk15 i v310 v312), ∀ (k2_h1 : k2_cond1 i = 1#1), ∀ a x, ((![v310, v312] : Fin 2 → IVec S16 32) a x).toNat < S8x4096.size a := fun i v310 v312 k2_hw15 k2_h1 => k2_hw15 k2_h1
@[reducible] def k2_t16_loop : Scf.Loop 32 :=
  let c0_i32_123 : BitVec 32 := 0#32
  let c128_i32_124 : BitVec 32 := 128#32
  let v76 : BitVec 32 := Scalar.addi c0_i32_123 c128_i32_124
  let c1_i32_125 : BitVec 32 := 1#32
  ⟨c0_i32_123, v76, c1_i32_125⟩
def k2_mult16 (k2_t16 : Fin k2_t16_loop.trips) : BitVec 32 :=
  let c0_i32_123 : BitVec 32 := 0#32
  let c1_i32_125 : BitVec 32 := 1#32
  let arg14 : BitVec 32 := Scf.iv c0_i32_123 c1_i32_125 k2_t16
  let c8_i32_504 : BitVec 32 := 8#32
  let v292 : BitVec 32 := Scalar.remsi arg14 c8_i32_504
  let c16_i32_505 : BitVec 32 := 16#32
  let v293 : BitVec 32 := Scalar.muli v292 c16_i32_505
  v293
def k2_off17 (k2_t16 : Fin k2_t16_loop.trips) : Fin 2 → Nat :=
  let c0_i32_123 : BitVec 32 := 0#32
  let c1_i32_125 : BitVec 32 := 1#32
  let arg14 : BitVec 32 := Scf.iv c0_i32_123 c1_i32_125 k2_t16
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk16 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx16_inb : ∀ (i : grid2.Coords) (v310 : IVec S16 32) (v312 : IVec S16 32) (k2_hw16 : k2_chk16 i v310 v312), ∀ (k2_h1 : k2_cond1 i = 1#1), ∀ a x, ((![v310, v312] : Fin 2 → IVec S16 32) a x).toNat < S8x4096.size a := fun i v310 v312 k2_hw16 k2_h1 => k2_hw16 k2_h1
@[reducible] def k2_t17_loop : Scf.Loop 32 :=
  let c0_i32_134 : BitVec 32 := 0#32
  let c128_i32_135 : BitVec 32 := 128#32
  let v83 : BitVec 32 := Scalar.addi c0_i32_134 c128_i32_135
  let c1_i32_136 : BitVec 32 := 1#32
  ⟨c0_i32_134, v83, c1_i32_136⟩
def k2_mult17 (k2_t17 : Fin k2_t17_loop.trips) : BitVec 32 :=
  let c0_i32_134 : BitVec 32 := 0#32
  let c1_i32_136 : BitVec 32 := 1#32
  let arg14 : BitVec 32 := Scf.iv c0_i32_134 c1_i32_136 k2_t17
  let c8_i32_504 : BitVec 32 := 8#32
  let v292 : BitVec 32 := Scalar.remsi arg14 c8_i32_504
  let c16_i32_505 : BitVec 32 := 16#32
  let v293 : BitVec 32 := Scalar.muli v292 c16_i32_505
  v293
def k2_off18 (k2_t17 : Fin k2_t17_loop.trips) : Fin 2 → Nat :=
  let c0_i32_134 : BitVec 32 := 0#32
  let c1_i32_136 : BitVec 32 := 1#32
  let arg14 : BitVec 32 := Scf.iv c0_i32_134 c1_i32_136 k2_t17
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk17 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx17_inb : ∀ (i : grid2.Coords) (v310 : IVec S16 32) (v312 : IVec S16 32) (k2_hw17 : k2_chk17 i v310 v312), ∀ (k2_h1 : k2_cond1 i = 1#1), ∀ a x, ((![v310, v312] : Fin 2 → IVec S16 32) a x).toNat < S8x4096.size a := fun i v310 v312 k2_hw17 k2_h1 => k2_hw17 k2_h1
@[reducible] def k2_t18_loop : Scf.Loop 32 :=
  let c0_i32_139 : BitVec 32 := 0#32
  let c128_i32_140 : BitVec 32 := 128#32
  let v85 : BitVec 32 := Scalar.addi c0_i32_139 c128_i32_140
  let c1_i32_141 : BitVec 32 := 1#32
  ⟨c0_i32_139, v85, c1_i32_141⟩
def k2_mult18 (k2_t18 : Fin k2_t18_loop.trips) : BitVec 32 :=
  let c0_i32_139 : BitVec 32 := 0#32
  let c1_i32_141 : BitVec 32 := 1#32
  let arg14 : BitVec 32 := Scf.iv c0_i32_139 c1_i32_141 k2_t18
  let c8_i32_504 : BitVec 32 := 8#32
  let v292 : BitVec 32 := Scalar.remsi arg14 c8_i32_504
  let c16_i32_505 : BitVec 32 := 16#32
  let v293 : BitVec 32 := Scalar.muli v292 c16_i32_505
  v293
def k2_off19 (k2_t18 : Fin k2_t18_loop.trips) : Fin 2 → Nat :=
  let c0_i32_139 : BitVec 32 := 0#32
  let c1_i32_141 : BitVec 32 := 1#32
  let arg14 : BitVec 32 := Scf.iv c0_i32_139 c1_i32_141 k2_t18
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk18 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx18_inb : ∀ (i : grid2.Coords) (v310 : IVec S16 32) (v312 : IVec S16 32) (k2_hw18 : k2_chk18 i v310 v312), ∀ (k2_h1 : k2_cond1 i = 1#1), ∀ a x, ((![v310, v312] : Fin 2 → IVec S16 32) a x).toNat < S8x4096.size a := fun i v310 v312 k2_hw18 k2_h1 => k2_hw18 k2_h1
@[reducible] def k2_t19_loop : Scf.Loop 32 :=
  let c0_i32_150 : BitVec 32 := 0#32
  let c128_i32_151 : BitVec 32 := 128#32
  let v92 : BitVec 32 := Scalar.addi c0_i32_150 c128_i32_151
  let c1_i32_152 : BitVec 32 := 1#32
  ⟨c0_i32_150, v92, c1_i32_152⟩
def k2_mult19 (k2_t19 : Fin k2_t19_loop.trips) : BitVec 32 :=
  let c0_i32_150 : BitVec 32 := 0#32
  let c1_i32_152 : BitVec 32 := 1#32
  let arg14 : BitVec 32 := Scf.iv c0_i32_150 c1_i32_152 k2_t19
  let c8_i32_504 : BitVec 32 := 8#32
  let v292 : BitVec 32 := Scalar.remsi arg14 c8_i32_504
  let c16_i32_505 : BitVec 32 := 16#32
  let v293 : BitVec 32 := Scalar.muli v292 c16_i32_505
  v293
def k2_off20 (k2_t19 : Fin k2_t19_loop.trips) : Fin 2 → Nat :=
  let c0_i32_150 : BitVec 32 := 0#32
  let c1_i32_152 : BitVec 32 := 1#32
  let arg14 : BitVec 32 := Scf.iv c0_i32_150 c1_i32_152 k2_t19
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk19 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx19_inb : ∀ (i : grid2.Coords) (v310 : IVec S16 32) (v312 : IVec S16 32) (k2_hw19 : k2_chk19 i v310 v312), ∀ (k2_h1 : k2_cond1 i = 1#1), ∀ a x, ((![v310, v312] : Fin 2 → IVec S16 32) a x).toNat < S8x4096.size a := fun i v310 v312 k2_hw19 k2_h1 => k2_hw19 k2_h1
@[reducible] def k2_t20_loop : Scf.Loop 32 :=
  let c0_i32_155 : BitVec 32 := 0#32
  let c128_i32_156 : BitVec 32 := 128#32
  let v94 : BitVec 32 := Scalar.addi c0_i32_155 c128_i32_156
  let c1_i32_157 : BitVec 32 := 1#32
  ⟨c0_i32_155, v94, c1_i32_157⟩
def k2_mult20 (k2_t20 : Fin k2_t20_loop.trips) : BitVec 32 :=
  let c0_i32_155 : BitVec 32 := 0#32
  let c1_i32_157 : BitVec 32 := 1#32
  let arg14 : BitVec 32 := Scf.iv c0_i32_155 c1_i32_157 k2_t20
  let c8_i32_504 : BitVec 32 := 8#32
  let v292 : BitVec 32 := Scalar.remsi arg14 c8_i32_504
  let c16_i32_505 : BitVec 32 := 16#32
  let v293 : BitVec 32 := Scalar.muli v292 c16_i32_505
  v293
def k2_off21 (k2_t20 : Fin k2_t20_loop.trips) : Fin 2 → Nat :=
  let c0_i32_155 : BitVec 32 := 0#32
  let c1_i32_157 : BitVec 32 := 1#32
  let arg14 : BitVec 32 := Scf.iv c0_i32_155 c1_i32_157 k2_t20
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk20 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx20_inb : ∀ (i : grid2.Coords) (v310 : IVec S16 32) (v312 : IVec S16 32) (k2_hw20 : k2_chk20 i v310 v312), ∀ (k2_h1 : k2_cond1 i = 1#1), ∀ a x, ((![v310, v312] : Fin 2 → IVec S16 32) a x).toNat < S8x4096.size a := fun i v310 v312 k2_hw20 k2_h1 => k2_hw20 k2_h1
@[reducible] def k2_t21_loop : Scf.Loop 32 :=
  let c0_i32_166 : BitVec 32 := 0#32
  let c128_i32_167 : BitVec 32 := 128#32
  let v101 : BitVec 32 := Scalar.addi c0_i32_166 c128_i32_167
  let c1_i32_168 : BitVec 32 := 1#32
  ⟨c0_i32_166, v101, c1_i32_168⟩
def k2_mult21 (k2_t21 : Fin k2_t21_loop.trips) : BitVec 32 :=
  let c0_i32_166 : BitVec 32 := 0#32
  let c1_i32_168 : BitVec 32 := 1#32
  let arg14 : BitVec 32 := Scf.iv c0_i32_166 c1_i32_168 k2_t21
  let c8_i32_504 : BitVec 32 := 8#32
  let v292 : BitVec 32 := Scalar.remsi arg14 c8_i32_504
  let c16_i32_505 : BitVec 32 := 16#32
  let v293 : BitVec 32 := Scalar.muli v292 c16_i32_505
  v293
def k2_off22 (k2_t21 : Fin k2_t21_loop.trips) : Fin 2 → Nat :=
  let c0_i32_166 : BitVec 32 := 0#32
  let c1_i32_168 : BitVec 32 := 1#32
  let arg14 : BitVec 32 := Scf.iv c0_i32_166 c1_i32_168 k2_t21
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk21 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx21_inb : ∀ (i : grid2.Coords) (v310 : IVec S16 32) (v312 : IVec S16 32) (k2_hw21 : k2_chk21 i v310 v312), ∀ (k2_h1 : k2_cond1 i = 1#1), ∀ a x, ((![v310, v312] : Fin 2 → IVec S16 32) a x).toNat < S8x4096.size a := fun i v310 v312 k2_hw21 k2_h1 => k2_hw21 k2_h1
@[reducible] def k2_t22_loop : Scf.Loop 32 :=
  let c0_i32_171 : BitVec 32 := 0#32
  let c128_i32_172 : BitVec 32 := 128#32
  let v103 : BitVec 32 := Scalar.addi c0_i32_171 c128_i32_172
  let c1_i32_173 : BitVec 32 := 1#32
  ⟨c0_i32_171, v103, c1_i32_173⟩
def k2_mult22 (k2_t22 : Fin k2_t22_loop.trips) : BitVec 32 :=
  let c0_i32_171 : BitVec 32 := 0#32
  let c1_i32_173 : BitVec 32 := 1#32
  let arg14 : BitVec 32 := Scf.iv c0_i32_171 c1_i32_173 k2_t22
  let c8_i32_504 : BitVec 32 := 8#32
  let v292 : BitVec 32 := Scalar.remsi arg14 c8_i32_504
  let c16_i32_505 : BitVec 32 := 16#32
  let v293 : BitVec 32 := Scalar.muli v292 c16_i32_505
  v293
def k2_off23 (k2_t22 : Fin k2_t22_loop.trips) : Fin 2 → Nat :=
  let c0_i32_171 : BitVec 32 := 0#32
  let c1_i32_173 : BitVec 32 := 1#32
  let arg14 : BitVec 32 := Scf.iv c0_i32_171 c1_i32_173 k2_t22
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk22 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx22_inb : ∀ (i : grid2.Coords) (v310 : IVec S16 32) (v312 : IVec S16 32) (k2_hw22 : k2_chk22 i v310 v312), ∀ (k2_h1 : k2_cond1 i = 1#1), ∀ a x, ((![v310, v312] : Fin 2 → IVec S16 32) a x).toNat < S8x4096.size a := fun i v310 v312 k2_hw22 k2_h1 => k2_hw22 k2_h1
@[reducible] def k2_t23_loop : Scf.Loop 32 :=
  let c0_i32_182 : BitVec 32 := 0#32
  let c128_i32_183 : BitVec 32 := 128#32
  let v110 : BitVec 32 := Scalar.addi c0_i32_182 c128_i32_183
  let c1_i32_184 : BitVec 32 := 1#32
  ⟨c0_i32_182, v110, c1_i32_184⟩
def k2_mult23 (k2_t23 : Fin k2_t23_loop.trips) : BitVec 32 :=
  let c0_i32_182 : BitVec 32 := 0#32
  let c1_i32_184 : BitVec 32 := 1#32
  let arg14 : BitVec 32 := Scf.iv c0_i32_182 c1_i32_184 k2_t23
  let c8_i32_504 : BitVec 32 := 8#32
  let v292 : BitVec 32 := Scalar.remsi arg14 c8_i32_504
  let c16_i32_505 : BitVec 32 := 16#32
  let v293 : BitVec 32 := Scalar.muli v292 c16_i32_505
  v293
def k2_off24 (k2_t23 : Fin k2_t23_loop.trips) : Fin 2 → Nat :=
  let c0_i32_182 : BitVec 32 := 0#32
  let c1_i32_184 : BitVec 32 := 1#32
  let arg14 : BitVec 32 := Scf.iv c0_i32_182 c1_i32_184 k2_t23
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk23 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx23_inb : ∀ (i : grid2.Coords) (v310 : IVec S16 32) (v312 : IVec S16 32) (k2_hw23 : k2_chk23 i v310 v312), ∀ (k2_h1 : k2_cond1 i = 1#1), ∀ a x, ((![v310, v312] : Fin 2 → IVec S16 32) a x).toNat < S8x4096.size a := fun i v310 v312 k2_hw23 k2_h1 => k2_hw23 k2_h1
@[reducible] def k2_t24_loop : Scf.Loop 32 :=
  let c0_i32_187 : BitVec 32 := 0#32
  let c128_i32_188 : BitVec 32 := 128#32
  let v112 : BitVec 32 := Scalar.addi c0_i32_187 c128_i32_188
  let c1_i32_189 : BitVec 32 := 1#32
  ⟨c0_i32_187, v112, c1_i32_189⟩
def k2_mult24 (k2_t24 : Fin k2_t24_loop.trips) : BitVec 32 :=
  let c0_i32_187 : BitVec 32 := 0#32
  let c1_i32_189 : BitVec 32 := 1#32
  let arg14 : BitVec 32 := Scf.iv c0_i32_187 c1_i32_189 k2_t24
  let c8_i32_504 : BitVec 32 := 8#32
  let v292 : BitVec 32 := Scalar.remsi arg14 c8_i32_504
  let c16_i32_505 : BitVec 32 := 16#32
  let v293 : BitVec 32 := Scalar.muli v292 c16_i32_505
  v293
def k2_off25 (k2_t24 : Fin k2_t24_loop.trips) : Fin 2 → Nat :=
  let c0_i32_187 : BitVec 32 := 0#32
  let c1_i32_189 : BitVec 32 := 1#32
  let arg14 : BitVec 32 := Scf.iv c0_i32_187 c1_i32_189 k2_t24
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk24 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx24_inb : ∀ (i : grid2.Coords) (v310 : IVec S16 32) (v312 : IVec S16 32) (k2_hw24 : k2_chk24 i v310 v312), ∀ (k2_h1 : k2_cond1 i = 1#1), ∀ a x, ((![v310, v312] : Fin 2 → IVec S16 32) a x).toNat < S8x4096.size a := fun i v310 v312 k2_hw24 k2_h1 => k2_hw24 k2_h1
@[reducible] def k2_t25_loop : Scf.Loop 32 :=
  let c0_i32_198 : BitVec 32 := 0#32
  let c128_i32_199 : BitVec 32 := 128#32
  let v119 : BitVec 32 := Scalar.addi c0_i32_198 c128_i32_199
  let c1_i32_200 : BitVec 32 := 1#32
  ⟨c0_i32_198, v119, c1_i32_200⟩
def k2_mult25 (k2_t25 : Fin k2_t25_loop.trips) : BitVec 32 :=
  let c0_i32_198 : BitVec 32 := 0#32
  let c1_i32_200 : BitVec 32 := 1#32
  let arg14 : BitVec 32 := Scf.iv c0_i32_198 c1_i32_200 k2_t25
  let c8_i32_504 : BitVec 32 := 8#32
  let v292 : BitVec 32 := Scalar.remsi arg14 c8_i32_504
  let c16_i32_505 : BitVec 32 := 16#32
  let v293 : BitVec 32 := Scalar.muli v292 c16_i32_505
  v293
def k2_off26 (k2_t25 : Fin k2_t25_loop.trips) : Fin 2 → Nat :=
  let c0_i32_198 : BitVec 32 := 0#32
  let c1_i32_200 : BitVec 32 := 1#32
  let arg14 : BitVec 32 := Scf.iv c0_i32_198 c1_i32_200 k2_t25
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk25 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx25_inb : ∀ (i : grid2.Coords) (v310 : IVec S16 32) (v312 : IVec S16 32) (k2_hw25 : k2_chk25 i v310 v312), ∀ (k2_h1 : k2_cond1 i = 1#1), ∀ a x, ((![v310, v312] : Fin 2 → IVec S16 32) a x).toNat < S8x4096.size a := fun i v310 v312 k2_hw25 k2_h1 => k2_hw25 k2_h1
@[reducible] def k2_t26_loop : Scf.Loop 32 :=
  let c0_i32_203 : BitVec 32 := 0#32
  let c128_i32_204 : BitVec 32 := 128#32
  let v121 : BitVec 32 := Scalar.addi c0_i32_203 c128_i32_204
  let c1_i32_205 : BitVec 32 := 1#32
  ⟨c0_i32_203, v121, c1_i32_205⟩
def k2_mult26 (k2_t26 : Fin k2_t26_loop.trips) : BitVec 32 :=
  let c0_i32_203 : BitVec 32 := 0#32
  let c1_i32_205 : BitVec 32 := 1#32
  let arg14 : BitVec 32 := Scf.iv c0_i32_203 c1_i32_205 k2_t26
  let c8_i32_504 : BitVec 32 := 8#32
  let v292 : BitVec 32 := Scalar.remsi arg14 c8_i32_504
  let c16_i32_505 : BitVec 32 := 16#32
  let v293 : BitVec 32 := Scalar.muli v292 c16_i32_505
  v293
def k2_off27 (k2_t26 : Fin k2_t26_loop.trips) : Fin 2 → Nat :=
  let c0_i32_203 : BitVec 32 := 0#32
  let c1_i32_205 : BitVec 32 := 1#32
  let arg14 : BitVec 32 := Scf.iv c0_i32_203 c1_i32_205 k2_t26
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk26 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx26_inb : ∀ (i : grid2.Coords) (v310 : IVec S16 32) (v312 : IVec S16 32) (k2_hw26 : k2_chk26 i v310 v312), ∀ (k2_h1 : k2_cond1 i = 1#1), ∀ a x, ((![v310, v312] : Fin 2 → IVec S16 32) a x).toNat < S8x4096.size a := fun i v310 v312 k2_hw26 k2_h1 => k2_hw26 k2_h1
@[reducible] def k2_t27_loop : Scf.Loop 32 :=
  let c0_i32_214 : BitVec 32 := 0#32
  let c128_i32_215 : BitVec 32 := 128#32
  let v128 : BitVec 32 := Scalar.addi c0_i32_214 c128_i32_215
  let c1_i32_216 : BitVec 32 := 1#32
  ⟨c0_i32_214, v128, c1_i32_216⟩
def k2_mult27 (k2_t27 : Fin k2_t27_loop.trips) : BitVec 32 :=
  let c0_i32_214 : BitVec 32 := 0#32
  let c1_i32_216 : BitVec 32 := 1#32
  let arg14 : BitVec 32 := Scf.iv c0_i32_214 c1_i32_216 k2_t27
  let c8_i32_504 : BitVec 32 := 8#32
  let v292 : BitVec 32 := Scalar.remsi arg14 c8_i32_504
  let c16_i32_505 : BitVec 32 := 16#32
  let v293 : BitVec 32 := Scalar.muli v292 c16_i32_505
  v293
def k2_off28 (k2_t27 : Fin k2_t27_loop.trips) : Fin 2 → Nat :=
  let c0_i32_214 : BitVec 32 := 0#32
  let c1_i32_216 : BitVec 32 := 1#32
  let arg14 : BitVec 32 := Scf.iv c0_i32_214 c1_i32_216 k2_t27
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk27 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx27_inb : ∀ (i : grid2.Coords) (v310 : IVec S16 32) (v312 : IVec S16 32) (k2_hw27 : k2_chk27 i v310 v312), ∀ (k2_h1 : k2_cond1 i = 1#1), ∀ a x, ((![v310, v312] : Fin 2 → IVec S16 32) a x).toNat < S8x4096.size a := fun i v310 v312 k2_hw27 k2_h1 => k2_hw27 k2_h1
@[reducible] def k2_t28_loop : Scf.Loop 32 :=
  let c0_i32_219 : BitVec 32 := 0#32
  let c128_i32_220 : BitVec 32 := 128#32
  let v130 : BitVec 32 := Scalar.addi c0_i32_219 c128_i32_220
  let c1_i32_221 : BitVec 32 := 1#32
  ⟨c0_i32_219, v130, c1_i32_221⟩
def k2_mult28 (k2_t28 : Fin k2_t28_loop.trips) : BitVec 32 :=
  let c0_i32_219 : BitVec 32 := 0#32
  let c1_i32_221 : BitVec 32 := 1#32
  let arg14 : BitVec 32 := Scf.iv c0_i32_219 c1_i32_221 k2_t28
  let c8_i32_504 : BitVec 32 := 8#32
  let v292 : BitVec 32 := Scalar.remsi arg14 c8_i32_504
  let c16_i32_505 : BitVec 32 := 16#32
  let v293 : BitVec 32 := Scalar.muli v292 c16_i32_505
  v293
def k2_off29 (k2_t28 : Fin k2_t28_loop.trips) : Fin 2 → Nat :=
  let c0_i32_219 : BitVec 32 := 0#32
  let c1_i32_221 : BitVec 32 := 1#32
  let arg14 : BitVec 32 := Scf.iv c0_i32_219 c1_i32_221 k2_t28
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk28 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx28_inb : ∀ (i : grid2.Coords) (v310 : IVec S16 32) (v312 : IVec S16 32) (k2_hw28 : k2_chk28 i v310 v312), ∀ (k2_h1 : k2_cond1 i = 1#1), ∀ a x, ((![v310, v312] : Fin 2 → IVec S16 32) a x).toNat < S8x4096.size a := fun i v310 v312 k2_hw28 k2_h1 => k2_hw28 k2_h1
@[reducible] def k2_t29_loop : Scf.Loop 32 :=
  let c0_i32_230 : BitVec 32 := 0#32
  let c128_i32_231 : BitVec 32 := 128#32
  let v137 : BitVec 32 := Scalar.addi c0_i32_230 c128_i32_231
  let c1_i32_232 : BitVec 32 := 1#32
  ⟨c0_i32_230, v137, c1_i32_232⟩
def k2_mult29 (k2_t29 : Fin k2_t29_loop.trips) : BitVec 32 :=
  let c0_i32_230 : BitVec 32 := 0#32
  let c1_i32_232 : BitVec 32 := 1#32
  let arg14 : BitVec 32 := Scf.iv c0_i32_230 c1_i32_232 k2_t29
  let c8_i32_504 : BitVec 32 := 8#32
  let v292 : BitVec 32 := Scalar.remsi arg14 c8_i32_504
  let c16_i32_505 : BitVec 32 := 16#32
  let v293 : BitVec 32 := Scalar.muli v292 c16_i32_505
  v293
def k2_off30 (k2_t29 : Fin k2_t29_loop.trips) : Fin 2 → Nat :=
  let c0_i32_230 : BitVec 32 := 0#32
  let c1_i32_232 : BitVec 32 := 1#32
  let arg14 : BitVec 32 := Scf.iv c0_i32_230 c1_i32_232 k2_t29
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk29 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx29_inb : ∀ (i : grid2.Coords) (v310 : IVec S16 32) (v312 : IVec S16 32) (k2_hw29 : k2_chk29 i v310 v312), ∀ (k2_h1 : k2_cond1 i = 1#1), ∀ a x, ((![v310, v312] : Fin 2 → IVec S16 32) a x).toNat < S8x4096.size a := fun i v310 v312 k2_hw29 k2_h1 => k2_hw29 k2_h1
@[reducible] def k2_t30_loop : Scf.Loop 32 :=
  let c0_i32_235 : BitVec 32 := 0#32
  let c128_i32_236 : BitVec 32 := 128#32
  let v139 : BitVec 32 := Scalar.addi c0_i32_235 c128_i32_236
  let c1_i32_237 : BitVec 32 := 1#32
  ⟨c0_i32_235, v139, c1_i32_237⟩
def k2_mult30 (k2_t30 : Fin k2_t30_loop.trips) : BitVec 32 :=
  let c0_i32_235 : BitVec 32 := 0#32
  let c1_i32_237 : BitVec 32 := 1#32
  let arg14 : BitVec 32 := Scf.iv c0_i32_235 c1_i32_237 k2_t30
  let c8_i32_504 : BitVec 32 := 8#32
  let v292 : BitVec 32 := Scalar.remsi arg14 c8_i32_504
  let c16_i32_505 : BitVec 32 := 16#32
  let v293 : BitVec 32 := Scalar.muli v292 c16_i32_505
  v293
def k2_off31 (k2_t30 : Fin k2_t30_loop.trips) : Fin 2 → Nat :=
  let c0_i32_235 : BitVec 32 := 0#32
  let c1_i32_237 : BitVec 32 := 1#32
  let arg14 : BitVec 32 := Scf.iv c0_i32_235 c1_i32_237 k2_t30
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk30 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx30_inb : ∀ (i : grid2.Coords) (v310 : IVec S16 32) (v312 : IVec S16 32) (k2_hw30 : k2_chk30 i v310 v312), ∀ (k2_h1 : k2_cond1 i = 1#1), ∀ a x, ((![v310, v312] : Fin 2 → IVec S16 32) a x).toNat < S8x4096.size a := fun i v310 v312 k2_hw30 k2_h1 => k2_hw30 k2_h1
@[reducible] def k2_t31_loop : Scf.Loop 32 :=
  let c0_i32_246 : BitVec 32 := 0#32
  let c128_i32_247 : BitVec 32 := 128#32
  let v146 : BitVec 32 := Scalar.addi c0_i32_246 c128_i32_247
  let c1_i32_248 : BitVec 32 := 1#32
  ⟨c0_i32_246, v146, c1_i32_248⟩
def k2_mult31 (k2_t31 : Fin k2_t31_loop.trips) : BitVec 32 :=
  let c0_i32_246 : BitVec 32 := 0#32
  let c1_i32_248 : BitVec 32 := 1#32
  let arg14 : BitVec 32 := Scf.iv c0_i32_246 c1_i32_248 k2_t31
  let c8_i32_504 : BitVec 32 := 8#32
  let v292 : BitVec 32 := Scalar.remsi arg14 c8_i32_504
  let c16_i32_505 : BitVec 32 := 16#32
  let v293 : BitVec 32 := Scalar.muli v292 c16_i32_505
  v293
def k2_off32 (k2_t31 : Fin k2_t31_loop.trips) : Fin 2 → Nat :=
  let c0_i32_246 : BitVec 32 := 0#32
  let c1_i32_248 : BitVec 32 := 1#32
  let arg14 : BitVec 32 := Scf.iv c0_i32_246 c1_i32_248 k2_t31
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk31 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx31_inb : ∀ (i : grid2.Coords) (v310 : IVec S16 32) (v312 : IVec S16 32) (k2_hw31 : k2_chk31 i v310 v312), ∀ (k2_h1 : k2_cond1 i = 1#1), ∀ a x, ((![v310, v312] : Fin 2 → IVec S16 32) a x).toNat < S8x4096.size a := fun i v310 v312 k2_hw31 k2_h1 => k2_hw31 k2_h1
@[reducible] def k2_t32_loop : Scf.Loop 32 :=
  let c0_i32_252 : BitVec 32 := 0#32
  let c128_i32_253 : BitVec 32 := 128#32
  let v148 : BitVec 32 := Scalar.addi c0_i32_252 c128_i32_253
  let c1_i32_254 : BitVec 32 := 1#32
  ⟨c0_i32_252, v148, c1_i32_254⟩
def k2_mult32 (k2_t32 : Fin k2_t32_loop.trips) : BitVec 32 :=
  let c0_i32_252 : BitVec 32 := 0#32
  let c1_i32_254 : BitVec 32 := 1#32
  let arg14 : BitVec 32 := Scf.iv c0_i32_252 c1_i32_254 k2_t32
  let c8_i32_504 : BitVec 32 := 8#32
  let v292 : BitVec 32 := Scalar.remsi arg14 c8_i32_504
  let c16_i32_505 : BitVec 32 := 16#32
  let v293 : BitVec 32 := Scalar.muli v292 c16_i32_505
  v293
def k2_off33 (k2_t32 : Fin k2_t32_loop.trips) : Fin 2 → Nat :=
  let c0_i32_252 : BitVec 32 := 0#32
  let c1_i32_254 : BitVec 32 := 1#32
  let arg14 : BitVec 32 := Scf.iv c0_i32_252 c1_i32_254 k2_t32
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk32 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx32_inb : ∀ (i : grid2.Coords) (v310 : IVec S16 32) (v312 : IVec S16 32) (k2_hw32 : k2_chk32 i v310 v312), ∀ (k2_h1 : k2_cond1 i = 1#1), ∀ a x, ((![v310, v312] : Fin 2 → IVec S16 32) a x).toNat < S8x4096.size a := fun i v310 v312 k2_hw32 k2_h1 => k2_hw32 k2_h1
@[reducible] def k2_t33_loop : Scf.Loop 32 :=
  let c0_i32_263 : BitVec 32 := 0#32
  let c128_i32_264 : BitVec 32 := 128#32
  let v155 : BitVec 32 := Scalar.addi c0_i32_263 c128_i32_264
  let c1_i32_265 : BitVec 32 := 1#32
  ⟨c0_i32_263, v155, c1_i32_265⟩
def k2_mult33 (k2_t33 : Fin k2_t33_loop.trips) : BitVec 32 :=
  let c0_i32_263 : BitVec 32 := 0#32
  let c1_i32_265 : BitVec 32 := 1#32
  let arg14 : BitVec 32 := Scf.iv c0_i32_263 c1_i32_265 k2_t33
  let c8_i32_504 : BitVec 32 := 8#32
  let v292 : BitVec 32 := Scalar.remsi arg14 c8_i32_504
  let c16_i32_505 : BitVec 32 := 16#32
  let v293 : BitVec 32 := Scalar.muli v292 c16_i32_505
  v293
def k2_off34 (k2_t33 : Fin k2_t33_loop.trips) : Fin 2 → Nat :=
  let c0_i32_263 : BitVec 32 := 0#32
  let c1_i32_265 : BitVec 32 := 1#32
  let arg14 : BitVec 32 := Scf.iv c0_i32_263 c1_i32_265 k2_t33
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk33 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx33_inb : ∀ (i : grid2.Coords) (v310 : IVec S16 32) (v312 : IVec S16 32) (k2_hw33 : k2_chk33 i v310 v312), ∀ (k2_h1 : k2_cond1 i = 1#1), ∀ a x, ((![v310, v312] : Fin 2 → IVec S16 32) a x).toNat < S8x4096.size a := fun i v310 v312 k2_hw33 k2_h1 => k2_hw33 k2_h1
@[reducible] def k2_t34_loop : Scf.Loop 32 :=
  let c0_i32_268 : BitVec 32 := 0#32
  let c128_i32_269 : BitVec 32 := 128#32
  let v157 : BitVec 32 := Scalar.addi c0_i32_268 c128_i32_269
  let c1_i32_270 : BitVec 32 := 1#32
  ⟨c0_i32_268, v157, c1_i32_270⟩
def k2_mult34 (k2_t34 : Fin k2_t34_loop.trips) : BitVec 32 :=
  let c0_i32_268 : BitVec 32 := 0#32
  let c1_i32_270 : BitVec 32 := 1#32
  let arg14 : BitVec 32 := Scf.iv c0_i32_268 c1_i32_270 k2_t34
  let c8_i32_504 : BitVec 32 := 8#32
  let v292 : BitVec 32 := Scalar.remsi arg14 c8_i32_504
  let c16_i32_505 : BitVec 32 := 16#32
  let v293 : BitVec 32 := Scalar.muli v292 c16_i32_505
  v293
def k2_off35 (k2_t34 : Fin k2_t34_loop.trips) : Fin 2 → Nat :=
  let c0_i32_268 : BitVec 32 := 0#32
  let c1_i32_270 : BitVec 32 := 1#32
  let arg14 : BitVec 32 := Scf.iv c0_i32_268 c1_i32_270 k2_t34
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk34 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx34_inb : ∀ (i : grid2.Coords) (v310 : IVec S16 32) (v312 : IVec S16 32) (k2_hw34 : k2_chk34 i v310 v312), ∀ (k2_h1 : k2_cond1 i = 1#1), ∀ a x, ((![v310, v312] : Fin 2 → IVec S16 32) a x).toNat < S8x4096.size a := fun i v310 v312 k2_hw34 k2_h1 => k2_hw34 k2_h1
@[reducible] def k2_t35_loop : Scf.Loop 32 :=
  let c0_i32_279 : BitVec 32 := 0#32
  let c128_i32_280 : BitVec 32 := 128#32
  let v164 : BitVec 32 := Scalar.addi c0_i32_279 c128_i32_280
  let c1_i32_281 : BitVec 32 := 1#32
  ⟨c0_i32_279, v164, c1_i32_281⟩
def k2_mult35 (k2_t35 : Fin k2_t35_loop.trips) : BitVec 32 :=
  let c0_i32_279 : BitVec 32 := 0#32
  let c1_i32_281 : BitVec 32 := 1#32
  let arg14 : BitVec 32 := Scf.iv c0_i32_279 c1_i32_281 k2_t35
  let c8_i32_504 : BitVec 32 := 8#32
  let v292 : BitVec 32 := Scalar.remsi arg14 c8_i32_504
  let c16_i32_505 : BitVec 32 := 16#32
  let v293 : BitVec 32 := Scalar.muli v292 c16_i32_505
  v293
def k2_off36 (k2_t35 : Fin k2_t35_loop.trips) : Fin 2 → Nat :=
  let c0_i32_279 : BitVec 32 := 0#32
  let c1_i32_281 : BitVec 32 := 1#32
  let arg14 : BitVec 32 := Scf.iv c0_i32_279 c1_i32_281 k2_t35
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk35 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx35_inb : ∀ (i : grid2.Coords) (v310 : IVec S16 32) (v312 : IVec S16 32) (k2_hw35 : k2_chk35 i v310 v312), ∀ (k2_h1 : k2_cond1 i = 1#1), ∀ a x, ((![v310, v312] : Fin 2 → IVec S16 32) a x).toNat < S8x4096.size a := fun i v310 v312 k2_hw35 k2_h1 => k2_hw35 k2_h1
@[reducible] def k2_t36_loop : Scf.Loop 32 :=
  let c0_i32_284 : BitVec 32 := 0#32
  let c128_i32_285 : BitVec 32 := 128#32
  let v166 : BitVec 32 := Scalar.addi c0_i32_284 c128_i32_285
  let c1_i32_286 : BitVec 32 := 1#32
  ⟨c0_i32_284, v166, c1_i32_286⟩
def k2_mult36 (k2_t36 : Fin k2_t36_loop.trips) : BitVec 32 :=
  let c0_i32_284 : BitVec 32 := 0#32
  let c1_i32_286 : BitVec 32 := 1#32
  let arg14 : BitVec 32 := Scf.iv c0_i32_284 c1_i32_286 k2_t36
  let c8_i32_504 : BitVec 32 := 8#32
  let v292 : BitVec 32 := Scalar.remsi arg14 c8_i32_504
  let c16_i32_505 : BitVec 32 := 16#32
  let v293 : BitVec 32 := Scalar.muli v292 c16_i32_505
  v293
def k2_off37 (k2_t36 : Fin k2_t36_loop.trips) : Fin 2 → Nat :=
  let c0_i32_284 : BitVec 32 := 0#32
  let c1_i32_286 : BitVec 32 := 1#32
  let arg14 : BitVec 32 := Scf.iv c0_i32_284 c1_i32_286 k2_t36
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk36 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx36_inb : ∀ (i : grid2.Coords) (v310 : IVec S16 32) (v312 : IVec S16 32) (k2_hw36 : k2_chk36 i v310 v312), ∀ (k2_h1 : k2_cond1 i = 1#1), ∀ a x, ((![v310, v312] : Fin 2 → IVec S16 32) a x).toNat < S8x4096.size a := fun i v310 v312 k2_hw36 k2_h1 => k2_hw36 k2_h1
@[reducible] def k2_t37_loop : Scf.Loop 32 :=
  let c0_i32_295 : BitVec 32 := 0#32
  let c128_i32_296 : BitVec 32 := 128#32
  let v173 : BitVec 32 := Scalar.addi c0_i32_295 c128_i32_296
  let c1_i32_297 : BitVec 32 := 1#32
  ⟨c0_i32_295, v173, c1_i32_297⟩
def k2_mult37 (k2_t37 : Fin k2_t37_loop.trips) : BitVec 32 :=
  let c0_i32_295 : BitVec 32 := 0#32
  let c1_i32_297 : BitVec 32 := 1#32
  let arg14 : BitVec 32 := Scf.iv c0_i32_295 c1_i32_297 k2_t37
  let c8_i32_504 : BitVec 32 := 8#32
  let v292 : BitVec 32 := Scalar.remsi arg14 c8_i32_504
  let c16_i32_505 : BitVec 32 := 16#32
  let v293 : BitVec 32 := Scalar.muli v292 c16_i32_505
  v293
def k2_off38 (k2_t37 : Fin k2_t37_loop.trips) : Fin 2 → Nat :=
  let c0_i32_295 : BitVec 32 := 0#32
  let c1_i32_297 : BitVec 32 := 1#32
  let arg14 : BitVec 32 := Scf.iv c0_i32_295 c1_i32_297 k2_t37
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk37 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx37_inb : ∀ (i : grid2.Coords) (v310 : IVec S16 32) (v312 : IVec S16 32) (k2_hw37 : k2_chk37 i v310 v312), ∀ (k2_h1 : k2_cond1 i = 1#1), ∀ a x, ((![v310, v312] : Fin 2 → IVec S16 32) a x).toNat < S8x4096.size a := fun i v310 v312 k2_hw37 k2_h1 => k2_hw37 k2_h1
@[reducible] def k2_t38_loop : Scf.Loop 32 :=
  let c0_i32_300 : BitVec 32 := 0#32
  let c128_i32_301 : BitVec 32 := 128#32
  let v175 : BitVec 32 := Scalar.addi c0_i32_300 c128_i32_301
  let c1_i32_302 : BitVec 32 := 1#32
  ⟨c0_i32_300, v175, c1_i32_302⟩
def k2_mult38 (k2_t38 : Fin k2_t38_loop.trips) : BitVec 32 :=
  let c0_i32_300 : BitVec 32 := 0#32
  let c1_i32_302 : BitVec 32 := 1#32
  let arg14 : BitVec 32 := Scf.iv c0_i32_300 c1_i32_302 k2_t38
  let c8_i32_504 : BitVec 32 := 8#32
  let v292 : BitVec 32 := Scalar.remsi arg14 c8_i32_504
  let c16_i32_505 : BitVec 32 := 16#32
  let v293 : BitVec 32 := Scalar.muli v292 c16_i32_505
  v293
def k2_off39 (k2_t38 : Fin k2_t38_loop.trips) : Fin 2 → Nat :=
  let c0_i32_300 : BitVec 32 := 0#32
  let c1_i32_302 : BitVec 32 := 1#32
  let arg14 : BitVec 32 := Scf.iv c0_i32_300 c1_i32_302 k2_t38
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk38 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx38_inb : ∀ (i : grid2.Coords) (v310 : IVec S16 32) (v312 : IVec S16 32) (k2_hw38 : k2_chk38 i v310 v312), ∀ (k2_h1 : k2_cond1 i = 1#1), ∀ a x, ((![v310, v312] : Fin 2 → IVec S16 32) a x).toNat < S8x4096.size a := fun i v310 v312 k2_hw38 k2_h1 => k2_hw38 k2_h1
@[reducible] def k2_t39_loop : Scf.Loop 32 :=
  let c0_i32_311 : BitVec 32 := 0#32
  let c128_i32_312 : BitVec 32 := 128#32
  let v182 : BitVec 32 := Scalar.addi c0_i32_311 c128_i32_312
  let c1_i32_313 : BitVec 32 := 1#32
  ⟨c0_i32_311, v182, c1_i32_313⟩
def k2_mult39 (k2_t39 : Fin k2_t39_loop.trips) : BitVec 32 :=
  let c0_i32_311 : BitVec 32 := 0#32
  let c1_i32_313 : BitVec 32 := 1#32
  let arg14 : BitVec 32 := Scf.iv c0_i32_311 c1_i32_313 k2_t39
  let c8_i32_504 : BitVec 32 := 8#32
  let v292 : BitVec 32 := Scalar.remsi arg14 c8_i32_504
  let c16_i32_505 : BitVec 32 := 16#32
  let v293 : BitVec 32 := Scalar.muli v292 c16_i32_505
  v293
def k2_off40 (k2_t39 : Fin k2_t39_loop.trips) : Fin 2 → Nat :=
  let c0_i32_311 : BitVec 32 := 0#32
  let c1_i32_313 : BitVec 32 := 1#32
  let arg14 : BitVec 32 := Scf.iv c0_i32_311 c1_i32_313 k2_t39
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk39 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx39_inb : ∀ (i : grid2.Coords) (v310 : IVec S16 32) (v312 : IVec S16 32) (k2_hw39 : k2_chk39 i v310 v312), ∀ (k2_h1 : k2_cond1 i = 1#1), ∀ a x, ((![v310, v312] : Fin 2 → IVec S16 32) a x).toNat < S8x4096.size a := fun i v310 v312 k2_hw39 k2_h1 => k2_hw39 k2_h1
@[reducible] def k2_t40_loop : Scf.Loop 32 :=
  let c0_i32_316 : BitVec 32 := 0#32
  let c128_i32_317 : BitVec 32 := 128#32
  let v184 : BitVec 32 := Scalar.addi c0_i32_316 c128_i32_317
  let c1_i32_318 : BitVec 32 := 1#32
  ⟨c0_i32_316, v184, c1_i32_318⟩
def k2_mult40 (k2_t40 : Fin k2_t40_loop.trips) : BitVec 32 :=
  let c0_i32_316 : BitVec 32 := 0#32
  let c1_i32_318 : BitVec 32 := 1#32
  let arg14 : BitVec 32 := Scf.iv c0_i32_316 c1_i32_318 k2_t40
  let c8_i32_504 : BitVec 32 := 8#32
  let v292 : BitVec 32 := Scalar.remsi arg14 c8_i32_504
  let c16_i32_505 : BitVec 32 := 16#32
  let v293 : BitVec 32 := Scalar.muli v292 c16_i32_505
  v293
def k2_off41 (k2_t40 : Fin k2_t40_loop.trips) : Fin 2 → Nat :=
  let c0_i32_316 : BitVec 32 := 0#32
  let c1_i32_318 : BitVec 32 := 1#32
  let arg14 : BitVec 32 := Scf.iv c0_i32_316 c1_i32_318 k2_t40
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk40 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx40_inb : ∀ (i : grid2.Coords) (v310 : IVec S16 32) (v312 : IVec S16 32) (k2_hw40 : k2_chk40 i v310 v312), ∀ (k2_h1 : k2_cond1 i = 1#1), ∀ a x, ((![v310, v312] : Fin 2 → IVec S16 32) a x).toNat < S8x4096.size a := fun i v310 v312 k2_hw40 k2_h1 => k2_hw40 k2_h1
@[reducible] def k2_t41_loop : Scf.Loop 32 :=
  let c0_i32_327 : BitVec 32 := 0#32
  let c128_i32_328 : BitVec 32 := 128#32
  let v191 : BitVec 32 := Scalar.addi c0_i32_327 c128_i32_328
  let c1_i32_329 : BitVec 32 := 1#32
  ⟨c0_i32_327, v191, c1_i32_329⟩
def k2_mult41 (k2_t41 : Fin k2_t41_loop.trips) : BitVec 32 :=
  let c0_i32_327 : BitVec 32 := 0#32
  let c1_i32_329 : BitVec 32 := 1#32
  let arg14 : BitVec 32 := Scf.iv c0_i32_327 c1_i32_329 k2_t41
  let c8_i32_504 : BitVec 32 := 8#32
  let v292 : BitVec 32 := Scalar.remsi arg14 c8_i32_504
  let c16_i32_505 : BitVec 32 := 16#32
  let v293 : BitVec 32 := Scalar.muli v292 c16_i32_505
  v293
def k2_off42 (k2_t41 : Fin k2_t41_loop.trips) : Fin 2 → Nat :=
  let c0_i32_327 : BitVec 32 := 0#32
  let c1_i32_329 : BitVec 32 := 1#32
  let arg14 : BitVec 32 := Scf.iv c0_i32_327 c1_i32_329 k2_t41
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk41 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx41_inb : ∀ (i : grid2.Coords) (v310 : IVec S16 32) (v312 : IVec S16 32) (k2_hw41 : k2_chk41 i v310 v312), ∀ (k2_h1 : k2_cond1 i = 1#1), ∀ a x, ((![v310, v312] : Fin 2 → IVec S16 32) a x).toNat < S8x4096.size a := fun i v310 v312 k2_hw41 k2_h1 => k2_hw41 k2_h1
@[reducible] def k2_t42_loop : Scf.Loop 32 :=
  let c0_i32_332 : BitVec 32 := 0#32
  let c128_i32_333 : BitVec 32 := 128#32
  let v193 : BitVec 32 := Scalar.addi c0_i32_332 c128_i32_333
  let c1_i32_334 : BitVec 32 := 1#32
  ⟨c0_i32_332, v193, c1_i32_334⟩
def k2_mult42 (k2_t42 : Fin k2_t42_loop.trips) : BitVec 32 :=
  let c0_i32_332 : BitVec 32 := 0#32
  let c1_i32_334 : BitVec 32 := 1#32
  let arg14 : BitVec 32 := Scf.iv c0_i32_332 c1_i32_334 k2_t42
  let c8_i32_504 : BitVec 32 := 8#32
  let v292 : BitVec 32 := Scalar.remsi arg14 c8_i32_504
  let c16_i32_505 : BitVec 32 := 16#32
  let v293 : BitVec 32 := Scalar.muli v292 c16_i32_505
  v293
def k2_off43 (k2_t42 : Fin k2_t42_loop.trips) : Fin 2 → Nat :=
  let c0_i32_332 : BitVec 32 := 0#32
  let c1_i32_334 : BitVec 32 := 1#32
  let arg14 : BitVec 32 := Scf.iv c0_i32_332 c1_i32_334 k2_t42
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk42 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx42_inb : ∀ (i : grid2.Coords) (v310 : IVec S16 32) (v312 : IVec S16 32) (k2_hw42 : k2_chk42 i v310 v312), ∀ (k2_h1 : k2_cond1 i = 1#1), ∀ a x, ((![v310, v312] : Fin 2 → IVec S16 32) a x).toNat < S8x4096.size a := fun i v310 v312 k2_hw42 k2_h1 => k2_hw42 k2_h1
@[reducible] def k2_t43_loop : Scf.Loop 32 :=
  let c0_i32_343 : BitVec 32 := 0#32
  let c128_i32_344 : BitVec 32 := 128#32
  let v200 : BitVec 32 := Scalar.addi c0_i32_343 c128_i32_344
  let c1_i32_345 : BitVec 32 := 1#32
  ⟨c0_i32_343, v200, c1_i32_345⟩
def k2_mult43 (k2_t43 : Fin k2_t43_loop.trips) : BitVec 32 :=
  let c0_i32_343 : BitVec 32 := 0#32
  let c1_i32_345 : BitVec 32 := 1#32
  let arg14 : BitVec 32 := Scf.iv c0_i32_343 c1_i32_345 k2_t43
  let c8_i32_504 : BitVec 32 := 8#32
  let v292 : BitVec 32 := Scalar.remsi arg14 c8_i32_504
  let c16_i32_505 : BitVec 32 := 16#32
  let v293 : BitVec 32 := Scalar.muli v292 c16_i32_505
  v293
def k2_off44 (k2_t43 : Fin k2_t43_loop.trips) : Fin 2 → Nat :=
  let c0_i32_343 : BitVec 32 := 0#32
  let c1_i32_345 : BitVec 32 := 1#32
  let arg14 : BitVec 32 := Scf.iv c0_i32_343 c1_i32_345 k2_t43
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk43 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx43_inb : ∀ (i : grid2.Coords) (v310 : IVec S16 32) (v312 : IVec S16 32) (k2_hw43 : k2_chk43 i v310 v312), ∀ (k2_h1 : k2_cond1 i = 1#1), ∀ a x, ((![v310, v312] : Fin 2 → IVec S16 32) a x).toNat < S8x4096.size a := fun i v310 v312 k2_hw43 k2_h1 => k2_hw43 k2_h1
@[reducible] def k2_t44_loop : Scf.Loop 32 :=
  let c0_i32_348 : BitVec 32 := 0#32
  let c128_i32_349 : BitVec 32 := 128#32
  let v202 : BitVec 32 := Scalar.addi c0_i32_348 c128_i32_349
  let c1_i32_350 : BitVec 32 := 1#32
  ⟨c0_i32_348, v202, c1_i32_350⟩
def k2_mult44 (k2_t44 : Fin k2_t44_loop.trips) : BitVec 32 :=
  let c0_i32_348 : BitVec 32 := 0#32
  let c1_i32_350 : BitVec 32 := 1#32
  let arg14 : BitVec 32 := Scf.iv c0_i32_348 c1_i32_350 k2_t44
  let c8_i32_504 : BitVec 32 := 8#32
  let v292 : BitVec 32 := Scalar.remsi arg14 c8_i32_504
  let c16_i32_505 : BitVec 32 := 16#32
  let v293 : BitVec 32 := Scalar.muli v292 c16_i32_505
  v293
def k2_off45 (k2_t44 : Fin k2_t44_loop.trips) : Fin 2 → Nat :=
  let c0_i32_348 : BitVec 32 := 0#32
  let c1_i32_350 : BitVec 32 := 1#32
  let arg14 : BitVec 32 := Scf.iv c0_i32_348 c1_i32_350 k2_t44
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk44 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx44_inb : ∀ (i : grid2.Coords) (v310 : IVec S16 32) (v312 : IVec S16 32) (k2_hw44 : k2_chk44 i v310 v312), ∀ (k2_h1 : k2_cond1 i = 1#1), ∀ a x, ((![v310, v312] : Fin 2 → IVec S16 32) a x).toNat < S8x4096.size a := fun i v310 v312 k2_hw44 k2_h1 => k2_hw44 k2_h1
@[reducible] def k2_t45_loop : Scf.Loop 32 :=
  let c0_i32_359 : BitVec 32 := 0#32
  let c128_i32_360 : BitVec 32 := 128#32
  let v209 : BitVec 32 := Scalar.addi c0_i32_359 c128_i32_360
  let c1_i32_361 : BitVec 32 := 1#32
  ⟨c0_i32_359, v209, c1_i32_361⟩
def k2_mult45 (k2_t45 : Fin k2_t45_loop.trips) : BitVec 32 :=
  let c0_i32_359 : BitVec 32 := 0#32
  let c1_i32_361 : BitVec 32 := 1#32
  let arg14 : BitVec 32 := Scf.iv c0_i32_359 c1_i32_361 k2_t45
  let c8_i32_504 : BitVec 32 := 8#32
  let v292 : BitVec 32 := Scalar.remsi arg14 c8_i32_504
  let c16_i32_505 : BitVec 32 := 16#32
  let v293 : BitVec 32 := Scalar.muli v292 c16_i32_505
  v293
def k2_off46 (k2_t45 : Fin k2_t45_loop.trips) : Fin 2 → Nat :=
  let c0_i32_359 : BitVec 32 := 0#32
  let c1_i32_361 : BitVec 32 := 1#32
  let arg14 : BitVec 32 := Scf.iv c0_i32_359 c1_i32_361 k2_t45
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk45 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx45_inb : ∀ (i : grid2.Coords) (v310 : IVec S16 32) (v312 : IVec S16 32) (k2_hw45 : k2_chk45 i v310 v312), ∀ (k2_h1 : k2_cond1 i = 1#1), ∀ a x, ((![v310, v312] : Fin 2 → IVec S16 32) a x).toNat < S8x4096.size a := fun i v310 v312 k2_hw45 k2_h1 => k2_hw45 k2_h1
@[reducible] def k2_t46_loop : Scf.Loop 32 :=
  let c0_i32_364 : BitVec 32 := 0#32
  let c128_i32_365 : BitVec 32 := 128#32
  let v211 : BitVec 32 := Scalar.addi c0_i32_364 c128_i32_365
  let c1_i32_366 : BitVec 32 := 1#32
  ⟨c0_i32_364, v211, c1_i32_366⟩
def k2_mult46 (k2_t46 : Fin k2_t46_loop.trips) : BitVec 32 :=
  let c0_i32_364 : BitVec 32 := 0#32
  let c1_i32_366 : BitVec 32 := 1#32
  let arg14 : BitVec 32 := Scf.iv c0_i32_364 c1_i32_366 k2_t46
  let c8_i32_504 : BitVec 32 := 8#32
  let v292 : BitVec 32 := Scalar.remsi arg14 c8_i32_504
  let c16_i32_505 : BitVec 32 := 16#32
  let v293 : BitVec 32 := Scalar.muli v292 c16_i32_505
  v293
def k2_off47 (k2_t46 : Fin k2_t46_loop.trips) : Fin 2 → Nat :=
  let c0_i32_364 : BitVec 32 := 0#32
  let c1_i32_366 : BitVec 32 := 1#32
  let arg14 : BitVec 32 := Scf.iv c0_i32_364 c1_i32_366 k2_t46
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk46 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx46_inb : ∀ (i : grid2.Coords) (v310 : IVec S16 32) (v312 : IVec S16 32) (k2_hw46 : k2_chk46 i v310 v312), ∀ (k2_h1 : k2_cond1 i = 1#1), ∀ a x, ((![v310, v312] : Fin 2 → IVec S16 32) a x).toNat < S8x4096.size a := fun i v310 v312 k2_hw46 k2_h1 => k2_hw46 k2_h1
@[reducible] def k2_t47_loop : Scf.Loop 32 :=
  let c0_i32_375 : BitVec 32 := 0#32
  let c128_i32_376 : BitVec 32 := 128#32
  let v218 : BitVec 32 := Scalar.addi c0_i32_375 c128_i32_376
  let c1_i32_377 : BitVec 32 := 1#32
  ⟨c0_i32_375, v218, c1_i32_377⟩
def k2_mult47 (k2_t47 : Fin k2_t47_loop.trips) : BitVec 32 :=
  let c0_i32_375 : BitVec 32 := 0#32
  let c1_i32_377 : BitVec 32 := 1#32
  let arg14 : BitVec 32 := Scf.iv c0_i32_375 c1_i32_377 k2_t47
  let c8_i32_504 : BitVec 32 := 8#32
  let v292 : BitVec 32 := Scalar.remsi arg14 c8_i32_504
  let c16_i32_505 : BitVec 32 := 16#32
  let v293 : BitVec 32 := Scalar.muli v292 c16_i32_505
  v293
def k2_off48 (k2_t47 : Fin k2_t47_loop.trips) : Fin 2 → Nat :=
  let c0_i32_375 : BitVec 32 := 0#32
  let c1_i32_377 : BitVec 32 := 1#32
  let arg14 : BitVec 32 := Scf.iv c0_i32_375 c1_i32_377 k2_t47
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk47 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx47_inb : ∀ (i : grid2.Coords) (v310 : IVec S16 32) (v312 : IVec S16 32) (k2_hw47 : k2_chk47 i v310 v312), ∀ (k2_h1 : k2_cond1 i = 1#1), ∀ a x, ((![v310, v312] : Fin 2 → IVec S16 32) a x).toNat < S8x4096.size a := fun i v310 v312 k2_hw47 k2_h1 => k2_hw47 k2_h1
@[reducible] def k2_t48_loop : Scf.Loop 32 :=
  let c0_i32_380 : BitVec 32 := 0#32
  let c128_i32_381 : BitVec 32 := 128#32
  let v220 : BitVec 32 := Scalar.addi c0_i32_380 c128_i32_381
  let c1_i32_382 : BitVec 32 := 1#32
  ⟨c0_i32_380, v220, c1_i32_382⟩
def k2_mult48 (k2_t48 : Fin k2_t48_loop.trips) : BitVec 32 :=
  let c0_i32_380 : BitVec 32 := 0#32
  let c1_i32_382 : BitVec 32 := 1#32
  let arg14 : BitVec 32 := Scf.iv c0_i32_380 c1_i32_382 k2_t48
  let c8_i32_504 : BitVec 32 := 8#32
  let v292 : BitVec 32 := Scalar.remsi arg14 c8_i32_504
  let c16_i32_505 : BitVec 32 := 16#32
  let v293 : BitVec 32 := Scalar.muli v292 c16_i32_505
  v293
def k2_off49 (k2_t48 : Fin k2_t48_loop.trips) : Fin 2 → Nat :=
  let c0_i32_380 : BitVec 32 := 0#32
  let c1_i32_382 : BitVec 32 := 1#32
  let arg14 : BitVec 32 := Scf.iv c0_i32_380 c1_i32_382 k2_t48
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk48 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx48_inb : ∀ (i : grid2.Coords) (v310 : IVec S16 32) (v312 : IVec S16 32) (k2_hw48 : k2_chk48 i v310 v312), ∀ (k2_h1 : k2_cond1 i = 1#1), ∀ a x, ((![v310, v312] : Fin 2 → IVec S16 32) a x).toNat < S8x4096.size a := fun i v310 v312 k2_hw48 k2_h1 => k2_hw48 k2_h1
@[reducible] def k2_t49_loop : Scf.Loop 32 :=
  let c0_i32_391 : BitVec 32 := 0#32
  let c128_i32_392 : BitVec 32 := 128#32
  let v227 : BitVec 32 := Scalar.addi c0_i32_391 c128_i32_392
  let c1_i32_393 : BitVec 32 := 1#32
  ⟨c0_i32_391, v227, c1_i32_393⟩
def k2_mult49 (k2_t49 : Fin k2_t49_loop.trips) : BitVec 32 :=
  let c0_i32_391 : BitVec 32 := 0#32
  let c1_i32_393 : BitVec 32 := 1#32
  let arg14 : BitVec 32 := Scf.iv c0_i32_391 c1_i32_393 k2_t49
  let c8_i32_504 : BitVec 32 := 8#32
  let v292 : BitVec 32 := Scalar.remsi arg14 c8_i32_504
  let c16_i32_505 : BitVec 32 := 16#32
  let v293 : BitVec 32 := Scalar.muli v292 c16_i32_505
  v293
def k2_off50 (k2_t49 : Fin k2_t49_loop.trips) : Fin 2 → Nat :=
  let c0_i32_391 : BitVec 32 := 0#32
  let c1_i32_393 : BitVec 32 := 1#32
  let arg14 : BitVec 32 := Scf.iv c0_i32_391 c1_i32_393 k2_t49
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk49 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx49_inb : ∀ (i : grid2.Coords) (v310 : IVec S16 32) (v312 : IVec S16 32) (k2_hw49 : k2_chk49 i v310 v312), ∀ (k2_h1 : k2_cond1 i = 1#1), ∀ a x, ((![v310, v312] : Fin 2 → IVec S16 32) a x).toNat < S8x4096.size a := fun i v310 v312 k2_hw49 k2_h1 => k2_hw49 k2_h1
@[reducible] def k2_t50_loop : Scf.Loop 32 :=
  let c0_i32_396 : BitVec 32 := 0#32
  let c128_i32_397 : BitVec 32 := 128#32
  let v229 : BitVec 32 := Scalar.addi c0_i32_396 c128_i32_397
  let c1_i32_398 : BitVec 32 := 1#32
  ⟨c0_i32_396, v229, c1_i32_398⟩
def k2_mult50 (k2_t50 : Fin k2_t50_loop.trips) : BitVec 32 :=
  let c0_i32_396 : BitVec 32 := 0#32
  let c1_i32_398 : BitVec 32 := 1#32
  let arg14 : BitVec 32 := Scf.iv c0_i32_396 c1_i32_398 k2_t50
  let c8_i32_504 : BitVec 32 := 8#32
  let v292 : BitVec 32 := Scalar.remsi arg14 c8_i32_504
  let c16_i32_505 : BitVec 32 := 16#32
  let v293 : BitVec 32 := Scalar.muli v292 c16_i32_505
  v293
def k2_off51 (k2_t50 : Fin k2_t50_loop.trips) : Fin 2 → Nat :=
  let c0_i32_396 : BitVec 32 := 0#32
  let c1_i32_398 : BitVec 32 := 1#32
  let arg14 : BitVec 32 := Scf.iv c0_i32_396 c1_i32_398 k2_t50
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk50 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx50_inb : ∀ (i : grid2.Coords) (v310 : IVec S16 32) (v312 : IVec S16 32) (k2_hw50 : k2_chk50 i v310 v312), ∀ (k2_h1 : k2_cond1 i = 1#1), ∀ a x, ((![v310, v312] : Fin 2 → IVec S16 32) a x).toNat < S8x4096.size a := fun i v310 v312 k2_hw50 k2_h1 => k2_hw50 k2_h1
@[reducible] def k2_t51_loop : Scf.Loop 32 :=
  let c0_i32_407 : BitVec 32 := 0#32
  let c128_i32_408 : BitVec 32 := 128#32
  let v236 : BitVec 32 := Scalar.addi c0_i32_407 c128_i32_408
  let c1_i32_409 : BitVec 32 := 1#32
  ⟨c0_i32_407, v236, c1_i32_409⟩
def k2_mult51 (k2_t51 : Fin k2_t51_loop.trips) : BitVec 32 :=
  let c0_i32_407 : BitVec 32 := 0#32
  let c1_i32_409 : BitVec 32 := 1#32
  let arg14 : BitVec 32 := Scf.iv c0_i32_407 c1_i32_409 k2_t51
  let c8_i32_504 : BitVec 32 := 8#32
  let v292 : BitVec 32 := Scalar.remsi arg14 c8_i32_504
  let c16_i32_505 : BitVec 32 := 16#32
  let v293 : BitVec 32 := Scalar.muli v292 c16_i32_505
  v293
def k2_off52 (k2_t51 : Fin k2_t51_loop.trips) : Fin 2 → Nat :=
  let c0_i32_407 : BitVec 32 := 0#32
  let c1_i32_409 : BitVec 32 := 1#32
  let arg14 : BitVec 32 := Scf.iv c0_i32_407 c1_i32_409 k2_t51
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk51 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx51_inb : ∀ (i : grid2.Coords) (v310 : IVec S16 32) (v312 : IVec S16 32) (k2_hw51 : k2_chk51 i v310 v312), ∀ (k2_h1 : k2_cond1 i = 1#1), ∀ a x, ((![v310, v312] : Fin 2 → IVec S16 32) a x).toNat < S8x4096.size a := fun i v310 v312 k2_hw51 k2_h1 => k2_hw51 k2_h1
@[reducible] def k2_t52_loop : Scf.Loop 32 :=
  let c0_i32_412 : BitVec 32 := 0#32
  let c128_i32_413 : BitVec 32 := 128#32
  let v238 : BitVec 32 := Scalar.addi c0_i32_412 c128_i32_413
  let c1_i32_414 : BitVec 32 := 1#32
  ⟨c0_i32_412, v238, c1_i32_414⟩
def k2_mult52 (k2_t52 : Fin k2_t52_loop.trips) : BitVec 32 :=
  let c0_i32_412 : BitVec 32 := 0#32
  let c1_i32_414 : BitVec 32 := 1#32
  let arg14 : BitVec 32 := Scf.iv c0_i32_412 c1_i32_414 k2_t52
  let c8_i32_504 : BitVec 32 := 8#32
  let v292 : BitVec 32 := Scalar.remsi arg14 c8_i32_504
  let c16_i32_505 : BitVec 32 := 16#32
  let v293 : BitVec 32 := Scalar.muli v292 c16_i32_505
  v293
def k2_off53 (k2_t52 : Fin k2_t52_loop.trips) : Fin 2 → Nat :=
  let c0_i32_412 : BitVec 32 := 0#32
  let c1_i32_414 : BitVec 32 := 1#32
  let arg14 : BitVec 32 := Scf.iv c0_i32_412 c1_i32_414 k2_t52
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk52 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx52_inb : ∀ (i : grid2.Coords) (v310 : IVec S16 32) (v312 : IVec S16 32) (k2_hw52 : k2_chk52 i v310 v312), ∀ (k2_h1 : k2_cond1 i = 1#1), ∀ a x, ((![v310, v312] : Fin 2 → IVec S16 32) a x).toNat < S8x4096.size a := fun i v310 v312 k2_hw52 k2_h1 => k2_hw52 k2_h1
@[reducible] def k2_t53_loop : Scf.Loop 32 :=
  let c0_i32_423 : BitVec 32 := 0#32
  let c128_i32_424 : BitVec 32 := 128#32
  let v245 : BitVec 32 := Scalar.addi c0_i32_423 c128_i32_424
  let c1_i32_425 : BitVec 32 := 1#32
  ⟨c0_i32_423, v245, c1_i32_425⟩
def k2_mult53 (k2_t53 : Fin k2_t53_loop.trips) : BitVec 32 :=
  let c0_i32_423 : BitVec 32 := 0#32
  let c1_i32_425 : BitVec 32 := 1#32
  let arg14 : BitVec 32 := Scf.iv c0_i32_423 c1_i32_425 k2_t53
  let c8_i32_504 : BitVec 32 := 8#32
  let v292 : BitVec 32 := Scalar.remsi arg14 c8_i32_504
  let c16_i32_505 : BitVec 32 := 16#32
  let v293 : BitVec 32 := Scalar.muli v292 c16_i32_505
  v293
def k2_off54 (k2_t53 : Fin k2_t53_loop.trips) : Fin 2 → Nat :=
  let c0_i32_423 : BitVec 32 := 0#32
  let c1_i32_425 : BitVec 32 := 1#32
  let arg14 : BitVec 32 := Scf.iv c0_i32_423 c1_i32_425 k2_t53
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk53 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx53_inb : ∀ (i : grid2.Coords) (v310 : IVec S16 32) (v312 : IVec S16 32) (k2_hw53 : k2_chk53 i v310 v312), ∀ (k2_h1 : k2_cond1 i = 1#1), ∀ a x, ((![v310, v312] : Fin 2 → IVec S16 32) a x).toNat < S8x4096.size a := fun i v310 v312 k2_hw53 k2_h1 => k2_hw53 k2_h1
@[reducible] def k2_t54_loop : Scf.Loop 32 :=
  let c0_i32_428 : BitVec 32 := 0#32
  let c128_i32_429 : BitVec 32 := 128#32
  let v247 : BitVec 32 := Scalar.addi c0_i32_428 c128_i32_429
  let c1_i32_430 : BitVec 32 := 1#32
  ⟨c0_i32_428, v247, c1_i32_430⟩
def k2_mult54 (k2_t54 : Fin k2_t54_loop.trips) : BitVec 32 :=
  let c0_i32_428 : BitVec 32 := 0#32
  let c1_i32_430 : BitVec 32 := 1#32
  let arg14 : BitVec 32 := Scf.iv c0_i32_428 c1_i32_430 k2_t54
  let c8_i32_504 : BitVec 32 := 8#32
  let v292 : BitVec 32 := Scalar.remsi arg14 c8_i32_504
  let c16_i32_505 : BitVec 32 := 16#32
  let v293 : BitVec 32 := Scalar.muli v292 c16_i32_505
  v293
def k2_off55 (k2_t54 : Fin k2_t54_loop.trips) : Fin 2 → Nat :=
  let c0_i32_428 : BitVec 32 := 0#32
  let c1_i32_430 : BitVec 32 := 1#32
  let arg14 : BitVec 32 := Scf.iv c0_i32_428 c1_i32_430 k2_t54
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk54 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx54_inb : ∀ (i : grid2.Coords) (v310 : IVec S16 32) (v312 : IVec S16 32) (k2_hw54 : k2_chk54 i v310 v312), ∀ (k2_h1 : k2_cond1 i = 1#1), ∀ a x, ((![v310, v312] : Fin 2 → IVec S16 32) a x).toNat < S8x4096.size a := fun i v310 v312 k2_hw54 k2_h1 => k2_hw54 k2_h1
@[reducible] def k2_t55_loop : Scf.Loop 32 :=
  let c0_i32_439 : BitVec 32 := 0#32
  let c128_i32_440 : BitVec 32 := 128#32
  let v254 : BitVec 32 := Scalar.addi c0_i32_439 c128_i32_440
  let c1_i32_441 : BitVec 32 := 1#32
  ⟨c0_i32_439, v254, c1_i32_441⟩
def k2_mult55 (k2_t55 : Fin k2_t55_loop.trips) : BitVec 32 :=
  let c0_i32_439 : BitVec 32 := 0#32
  let c1_i32_441 : BitVec 32 := 1#32
  let arg14 : BitVec 32 := Scf.iv c0_i32_439 c1_i32_441 k2_t55
  let c8_i32_504 : BitVec 32 := 8#32
  let v292 : BitVec 32 := Scalar.remsi arg14 c8_i32_504
  let c16_i32_505 : BitVec 32 := 16#32
  let v293 : BitVec 32 := Scalar.muli v292 c16_i32_505
  v293
def k2_off56 (k2_t55 : Fin k2_t55_loop.trips) : Fin 2 → Nat :=
  let c0_i32_439 : BitVec 32 := 0#32
  let c1_i32_441 : BitVec 32 := 1#32
  let arg14 : BitVec 32 := Scf.iv c0_i32_439 c1_i32_441 k2_t55
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk55 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx55_inb : ∀ (i : grid2.Coords) (v310 : IVec S16 32) (v312 : IVec S16 32) (k2_hw55 : k2_chk55 i v310 v312), ∀ (k2_h1 : k2_cond1 i = 1#1), ∀ a x, ((![v310, v312] : Fin 2 → IVec S16 32) a x).toNat < S8x4096.size a := fun i v310 v312 k2_hw55 k2_h1 => k2_hw55 k2_h1
@[reducible] def k2_t56_loop : Scf.Loop 32 :=
  let c0_i32_444 : BitVec 32 := 0#32
  let c128_i32_445 : BitVec 32 := 128#32
  let v256 : BitVec 32 := Scalar.addi c0_i32_444 c128_i32_445
  let c1_i32_446 : BitVec 32 := 1#32
  ⟨c0_i32_444, v256, c1_i32_446⟩
def k2_mult56 (k2_t56 : Fin k2_t56_loop.trips) : BitVec 32 :=
  let c0_i32_444 : BitVec 32 := 0#32
  let c1_i32_446 : BitVec 32 := 1#32
  let arg14 : BitVec 32 := Scf.iv c0_i32_444 c1_i32_446 k2_t56
  let c8_i32_504 : BitVec 32 := 8#32
  let v292 : BitVec 32 := Scalar.remsi arg14 c8_i32_504
  let c16_i32_505 : BitVec 32 := 16#32
  let v293 : BitVec 32 := Scalar.muli v292 c16_i32_505
  v293
def k2_off57 (k2_t56 : Fin k2_t56_loop.trips) : Fin 2 → Nat :=
  let c0_i32_444 : BitVec 32 := 0#32
  let c1_i32_446 : BitVec 32 := 1#32
  let arg14 : BitVec 32 := Scf.iv c0_i32_444 c1_i32_446 k2_t56
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk56 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx56_inb : ∀ (i : grid2.Coords) (v310 : IVec S16 32) (v312 : IVec S16 32) (k2_hw56 : k2_chk56 i v310 v312), ∀ (k2_h1 : k2_cond1 i = 1#1), ∀ a x, ((![v310, v312] : Fin 2 → IVec S16 32) a x).toNat < S8x4096.size a := fun i v310 v312 k2_hw56 k2_h1 => k2_hw56 k2_h1
@[reducible] def k2_t57_loop : Scf.Loop 32 :=
  let c0_i32_455 : BitVec 32 := 0#32
  let c128_i32_456 : BitVec 32 := 128#32
  let v263 : BitVec 32 := Scalar.addi c0_i32_455 c128_i32_456
  let c1_i32_457 : BitVec 32 := 1#32
  ⟨c0_i32_455, v263, c1_i32_457⟩
def k2_mult57 (k2_t57 : Fin k2_t57_loop.trips) : BitVec 32 :=
  let c0_i32_455 : BitVec 32 := 0#32
  let c1_i32_457 : BitVec 32 := 1#32
  let arg14 : BitVec 32 := Scf.iv c0_i32_455 c1_i32_457 k2_t57
  let c8_i32_504 : BitVec 32 := 8#32
  let v292 : BitVec 32 := Scalar.remsi arg14 c8_i32_504
  let c16_i32_505 : BitVec 32 := 16#32
  let v293 : BitVec 32 := Scalar.muli v292 c16_i32_505
  v293
def k2_off58 (k2_t57 : Fin k2_t57_loop.trips) : Fin 2 → Nat :=
  let c0_i32_455 : BitVec 32 := 0#32
  let c1_i32_457 : BitVec 32 := 1#32
  let arg14 : BitVec 32 := Scf.iv c0_i32_455 c1_i32_457 k2_t57
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk57 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx57_inb : ∀ (i : grid2.Coords) (v310 : IVec S16 32) (v312 : IVec S16 32) (k2_hw57 : k2_chk57 i v310 v312), ∀ (k2_h1 : k2_cond1 i = 1#1), ∀ a x, ((![v310, v312] : Fin 2 → IVec S16 32) a x).toNat < S8x4096.size a := fun i v310 v312 k2_hw57 k2_h1 => k2_hw57 k2_h1
@[reducible] def k2_t58_loop : Scf.Loop 32 :=
  let c0_i32_460 : BitVec 32 := 0#32
  let c128_i32_461 : BitVec 32 := 128#32
  let v265 : BitVec 32 := Scalar.addi c0_i32_460 c128_i32_461
  let c1_i32_462 : BitVec 32 := 1#32
  ⟨c0_i32_460, v265, c1_i32_462⟩
def k2_mult58 (k2_t58 : Fin k2_t58_loop.trips) : BitVec 32 :=
  let c0_i32_460 : BitVec 32 := 0#32
  let c1_i32_462 : BitVec 32 := 1#32
  let arg14 : BitVec 32 := Scf.iv c0_i32_460 c1_i32_462 k2_t58
  let c8_i32_504 : BitVec 32 := 8#32
  let v292 : BitVec 32 := Scalar.remsi arg14 c8_i32_504
  let c16_i32_505 : BitVec 32 := 16#32
  let v293 : BitVec 32 := Scalar.muli v292 c16_i32_505
  v293
def k2_off59 (k2_t58 : Fin k2_t58_loop.trips) : Fin 2 → Nat :=
  let c0_i32_460 : BitVec 32 := 0#32
  let c1_i32_462 : BitVec 32 := 1#32
  let arg14 : BitVec 32 := Scf.iv c0_i32_460 c1_i32_462 k2_t58
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk58 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx58_inb : ∀ (i : grid2.Coords) (v310 : IVec S16 32) (v312 : IVec S16 32) (k2_hw58 : k2_chk58 i v310 v312), ∀ (k2_h1 : k2_cond1 i = 1#1), ∀ a x, ((![v310, v312] : Fin 2 → IVec S16 32) a x).toNat < S8x4096.size a := fun i v310 v312 k2_hw58 k2_h1 => k2_hw58 k2_h1
@[reducible] def k2_t59_loop : Scf.Loop 32 :=
  let c0_i32_471 : BitVec 32 := 0#32
  let c128_i32_472 : BitVec 32 := 128#32
  let v272 : BitVec 32 := Scalar.addi c0_i32_471 c128_i32_472
  let c1_i32_473 : BitVec 32 := 1#32
  ⟨c0_i32_471, v272, c1_i32_473⟩
def k2_mult59 (k2_t59 : Fin k2_t59_loop.trips) : BitVec 32 :=
  let c0_i32_471 : BitVec 32 := 0#32
  let c1_i32_473 : BitVec 32 := 1#32
  let arg14 : BitVec 32 := Scf.iv c0_i32_471 c1_i32_473 k2_t59
  let c8_i32_504 : BitVec 32 := 8#32
  let v292 : BitVec 32 := Scalar.remsi arg14 c8_i32_504
  let c16_i32_505 : BitVec 32 := 16#32
  let v293 : BitVec 32 := Scalar.muli v292 c16_i32_505
  v293
def k2_off60 (k2_t59 : Fin k2_t59_loop.trips) : Fin 2 → Nat :=
  let c0_i32_471 : BitVec 32 := 0#32
  let c1_i32_473 : BitVec 32 := 1#32
  let arg14 : BitVec 32 := Scf.iv c0_i32_471 c1_i32_473 k2_t59
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk59 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx59_inb : ∀ (i : grid2.Coords) (v310 : IVec S16 32) (v312 : IVec S16 32) (k2_hw59 : k2_chk59 i v310 v312), ∀ (k2_h1 : k2_cond1 i = 1#1), ∀ a x, ((![v310, v312] : Fin 2 → IVec S16 32) a x).toNat < S8x4096.size a := fun i v310 v312 k2_hw59 k2_h1 => k2_hw59 k2_h1
@[reducible] def k2_t60_loop : Scf.Loop 32 :=
  let c0_i32_476 : BitVec 32 := 0#32
  let c128_i32_477 : BitVec 32 := 128#32
  let v274 : BitVec 32 := Scalar.addi c0_i32_476 c128_i32_477
  let c1_i32_478 : BitVec 32 := 1#32
  ⟨c0_i32_476, v274, c1_i32_478⟩
def k2_mult60 (k2_t60 : Fin k2_t60_loop.trips) : BitVec 32 :=
  let c0_i32_476 : BitVec 32 := 0#32
  let c1_i32_478 : BitVec 32 := 1#32
  let arg14 : BitVec 32 := Scf.iv c0_i32_476 c1_i32_478 k2_t60
  let c8_i32_504 : BitVec 32 := 8#32
  let v292 : BitVec 32 := Scalar.remsi arg14 c8_i32_504
  let c16_i32_505 : BitVec 32 := 16#32
  let v293 : BitVec 32 := Scalar.muli v292 c16_i32_505
  v293
def k2_off61 (k2_t60 : Fin k2_t60_loop.trips) : Fin 2 → Nat :=
  let c0_i32_476 : BitVec 32 := 0#32
  let c1_i32_478 : BitVec 32 := 1#32
  let arg14 : BitVec 32 := Scf.iv c0_i32_476 c1_i32_478 k2_t60
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk60 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx60_inb : ∀ (i : grid2.Coords) (v310 : IVec S16 32) (v312 : IVec S16 32) (k2_hw60 : k2_chk60 i v310 v312), ∀ (k2_h1 : k2_cond1 i = 1#1), ∀ a x, ((![v310, v312] : Fin 2 → IVec S16 32) a x).toNat < S8x4096.size a := fun i v310 v312 k2_hw60 k2_h1 => k2_hw60 k2_h1
@[reducible] def k2_t61_loop : Scf.Loop 32 :=
  let c0_i32_487 : BitVec 32 := 0#32
  let c128_i32_488 : BitVec 32 := 128#32
  let v281 : BitVec 32 := Scalar.addi c0_i32_487 c128_i32_488
  let c1_i32_489 : BitVec 32 := 1#32
  ⟨c0_i32_487, v281, c1_i32_489⟩
def k2_mult61 (k2_t61 : Fin k2_t61_loop.trips) : BitVec 32 :=
  let c0_i32_487 : BitVec 32 := 0#32
  let c1_i32_489 : BitVec 32 := 1#32
  let arg14 : BitVec 32 := Scf.iv c0_i32_487 c1_i32_489 k2_t61
  let c8_i32_504 : BitVec 32 := 8#32
  let v292 : BitVec 32 := Scalar.remsi arg14 c8_i32_504
  let c16_i32_505 : BitVec 32 := 16#32
  let v293 : BitVec 32 := Scalar.muli v292 c16_i32_505
  v293
def k2_off62 (k2_t61 : Fin k2_t61_loop.trips) : Fin 2 → Nat :=
  let c0_i32_487 : BitVec 32 := 0#32
  let c1_i32_489 : BitVec 32 := 1#32
  let arg14 : BitVec 32 := Scf.iv c0_i32_487 c1_i32_489 k2_t61
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk61 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx61_inb : ∀ (i : grid2.Coords) (v310 : IVec S16 32) (v312 : IVec S16 32) (k2_hw61 : k2_chk61 i v310 v312), ∀ (k2_h1 : k2_cond1 i = 1#1), ∀ a x, ((![v310, v312] : Fin 2 → IVec S16 32) a x).toNat < S8x4096.size a := fun i v310 v312 k2_hw61 k2_h1 => k2_hw61 k2_h1
@[reducible] def k2_t62_loop : Scf.Loop 32 :=
  let c0_i32_492 : BitVec 32 := 0#32
  let c128_i32_493 : BitVec 32 := 128#32
  let v283 : BitVec 32 := Scalar.addi c0_i32_492 c128_i32_493
  let c1_i32_494 : BitVec 32 := 1#32
  ⟨c0_i32_492, v283, c1_i32_494⟩
def k2_mult62 (k2_t62 : Fin k2_t62_loop.trips) : BitVec 32 :=
  let c0_i32_492 : BitVec 32 := 0#32
  let c1_i32_494 : BitVec 32 := 1#32
  let arg14 : BitVec 32 := Scf.iv c0_i32_492 c1_i32_494 k2_t62
  let c8_i32_504 : BitVec 32 := 8#32
  let v292 : BitVec 32 := Scalar.remsi arg14 c8_i32_504
  let c16_i32_505 : BitVec 32 := 16#32
  let v293 : BitVec 32 := Scalar.muli v292 c16_i32_505
  v293
def k2_off63 (k2_t62 : Fin k2_t62_loop.trips) : Fin 2 → Nat :=
  let c0_i32_492 : BitVec 32 := 0#32
  let c1_i32_494 : BitVec 32 := 1#32
  let arg14 : BitVec 32 := Scf.iv c0_i32_492 c1_i32_494 k2_t62
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk62 (i : grid2.Coords) (v310 : IVec S16 32) (v312 : IVec S16 32) : Prop :=
  (∀ (k2_h1 : k2_cond1 i = 1#1), ∀ a x, ((![v310, v312] : Fin 2 → IVec S16 32) a x).toNat < S8x4096.size a)
theorem k2_idx62_inb : ∀ (i : grid2.Coords) (v310 : IVec S16 32) (v312 : IVec S16 32) (k2_hw62 : k2_chk62 i v310 v312), ∀ (k2_h1 : k2_cond1 i = 1#1), ∀ a x, ((![v310, v312] : Fin 2 → IVec S16 32) a x).toNat < S8x4096.size a := fun i v310 v312 k2_hw62 k2_h1 => k2_hw62 k2_h1
def k2_cond2 (i : grid2.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

@[reducible] def k2_t63_loop : Scf.Loop 32 :=
  let c0_i32_4 : BitVec 32 := 0#32
  let c128_i32 : BitVec 32 := 128#32
  let v8 : BitVec 32 := Scalar.addi c0_i32_4 c128_i32
  let c1_i32_5 : BitVec 32 := 1#32
  ⟨c0_i32_4, v8, c1_i32_5⟩
def k2_mult63 (k2_t63 : Fin k2_t63_loop.trips) : BitVec 32 :=
  let c0_i32_4 : BitVec 32 := 0#32
  let c1_i32_5 : BitVec 32 := 1#32
  let arg14 : BitVec 32 := Scf.iv c0_i32_4 c1_i32_5 k2_t63
  let c8_i32_504 : BitVec 32 := 8#32
  let v292 : BitVec 32 := Scalar.remsi arg14 c8_i32_504
  let c16_i32_505 : BitVec 32 := 16#32
  let v293 : BitVec 32 := Scalar.muli v292 c16_i32_505
  v293
def k2_off64 (k2_t63 : Fin k2_t63_loop.trips) : Fin 2 → Nat :=
  let c0_i32_4 : BitVec 32 := 0#32
  let c1_i32_5 : BitVec 32 := 1#32
  let arg14 : BitVec 32 := Scf.iv c0_i32_4 c1_i32_5 k2_t63
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk63 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx63_inb : ∀ (i : grid2.Coords) (v310 : IVec S16 32) (v312 : IVec S16 32) (k2_hw63 : k2_chk63 i v310 v312), ∀ (k2_h2 : k2_cond2 i = 1#1), ∀ a x, ((![v310, v312] : Fin 2 → IVec S16 32) a x).toNat < S8x4096.size a := fun i v310 v312 k2_hw63 k2_h2 => k2_hw63 k2_h2
def k2_off65 (i : grid2.Coords) (c0_i32_7 : BitVec 32) : Fin 2 → Nat :=
  let arg1 : BitVec 32 := BitVec.ofNat 32 (i 1).val
  let c256_i32 : BitVec 32 := 256#32
  let v0 : BitVec 32 := Scalar.muli arg1 c256_i32
  let v9 : BitVec 32 := Scalar.addi v0 c0_i32_7
  let c0_i32_8 : BitVec 32 := 0#32
  ![v9.toNat, 0]
@[reducible] def k2_t64_loop : Scf.Loop 32 :=
  let c0_i32_11 : BitVec 32 := 0#32
  let c128_i32_12 : BitVec 32 := 128#32
  let v13 : BitVec 32 := Scalar.addi c0_i32_11 c128_i32_12
  let c1_i32_13 : BitVec 32 := 1#32
  ⟨c0_i32_11, v13, c1_i32_13⟩
def k2_mult64 (k2_t64 : Fin k2_t64_loop.trips) : BitVec 32 :=
  let c0_i32_11 : BitVec 32 := 0#32
  let c1_i32_13 : BitVec 32 := 1#32
  let arg14 : BitVec 32 := Scf.iv c0_i32_11 c1_i32_13 k2_t64
  let c8_i32_504 : BitVec 32 := 8#32
  let v292 : BitVec 32 := Scalar.remsi arg14 c8_i32_504
  let c16_i32_505 : BitVec 32 := 16#32
  let v293 : BitVec 32 := Scalar.muli v292 c16_i32_505
  v293
def k2_off66 (k2_t64 : Fin k2_t64_loop.trips) : Fin 2 → Nat :=
  let c0_i32_11 : BitVec 32 := 0#32
  let c1_i32_13 : BitVec 32 := 1#32
  let arg14 : BitVec 32 := Scf.iv c0_i32_11 c1_i32_13 k2_t64
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk64 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx64_inb : ∀ (i : grid2.Coords) (v310 : IVec S16 32) (v312 : IVec S16 32) (k2_hw64 : k2_chk64 i v310 v312), ∀ (k2_h2 : k2_cond2 i = 1#1), ∀ a x, ((![v310, v312] : Fin 2 → IVec S16 32) a x).toNat < S8x4096.size a := fun i v310 v312 k2_hw64 k2_h2 => k2_hw64 k2_h2
@[reducible] def k2_t65_loop : Scf.Loop 32 :=
  let c0_i32_22 : BitVec 32 := 0#32
  let c128_i32_23 : BitVec 32 := 128#32
  let v20 : BitVec 32 := Scalar.addi c0_i32_22 c128_i32_23
  let c1_i32_24 : BitVec 32 := 1#32
  ⟨c0_i32_22, v20, c1_i32_24⟩
def k2_mult65 (k2_t65 : Fin k2_t65_loop.trips) : BitVec 32 :=
  let c0_i32_22 : BitVec 32 := 0#32
  let c1_i32_24 : BitVec 32 := 1#32
  let arg14 : BitVec 32 := Scf.iv c0_i32_22 c1_i32_24 k2_t65
  let c8_i32_504 : BitVec 32 := 8#32
  let v292 : BitVec 32 := Scalar.remsi arg14 c8_i32_504
  let c16_i32_505 : BitVec 32 := 16#32
  let v293 : BitVec 32 := Scalar.muli v292 c16_i32_505
  v293
def k2_off67 (k2_t65 : Fin k2_t65_loop.trips) : Fin 2 → Nat :=
  let c0_i32_22 : BitVec 32 := 0#32
  let c1_i32_24 : BitVec 32 := 1#32
  let arg14 : BitVec 32 := Scf.iv c0_i32_22 c1_i32_24 k2_t65
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk65 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx65_inb : ∀ (i : grid2.Coords) (v310 : IVec S16 32) (v312 : IVec S16 32) (k2_hw65 : k2_chk65 i v310 v312), ∀ (k2_h2 : k2_cond2 i = 1#1), ∀ a x, ((![v310, v312] : Fin 2 → IVec S16 32) a x).toNat < S8x4096.size a := fun i v310 v312 k2_hw65 k2_h2 => k2_hw65 k2_h2
@[reducible] def k2_t66_loop : Scf.Loop 32 :=
  let c0_i32_27 : BitVec 32 := 0#32
  let c128_i32_28 : BitVec 32 := 128#32
  let v22 : BitVec 32 := Scalar.addi c0_i32_27 c128_i32_28
  let c1_i32_29 : BitVec 32 := 1#32
  ⟨c0_i32_27, v22, c1_i32_29⟩
def k2_mult66 (k2_t66 : Fin k2_t66_loop.trips) : BitVec 32 :=
  let c0_i32_27 : BitVec 32 := 0#32
  let c1_i32_29 : BitVec 32 := 1#32
  let arg14 : BitVec 32 := Scf.iv c0_i32_27 c1_i32_29 k2_t66
  let c8_i32_504 : BitVec 32 := 8#32
  let v292 : BitVec 32 := Scalar.remsi arg14 c8_i32_504
  let c16_i32_505 : BitVec 32 := 16#32
  let v293 : BitVec 32 := Scalar.muli v292 c16_i32_505
  v293
def k2_off68 (k2_t66 : Fin k2_t66_loop.trips) : Fin 2 → Nat :=
  let c0_i32_27 : BitVec 32 := 0#32
  let c1_i32_29 : BitVec 32 := 1#32
  let arg14 : BitVec 32 := Scf.iv c0_i32_27 c1_i32_29 k2_t66
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk66 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx66_inb : ∀ (i : grid2.Coords) (v310 : IVec S16 32) (v312 : IVec S16 32) (k2_hw66 : k2_chk66 i v310 v312), ∀ (k2_h2 : k2_cond2 i = 1#1), ∀ a x, ((![v310, v312] : Fin 2 → IVec S16 32) a x).toNat < S8x4096.size a := fun i v310 v312 k2_hw66 k2_h2 => k2_hw66 k2_h2
@[reducible] def k2_t67_loop : Scf.Loop 32 :=
  let c0_i32_38 : BitVec 32 := 0#32
  let c128_i32_39 : BitVec 32 := 128#32
  let v29 : BitVec 32 := Scalar.addi c0_i32_38 c128_i32_39
  let c1_i32_40 : BitVec 32 := 1#32
  ⟨c0_i32_38, v29, c1_i32_40⟩
def k2_mult67 (k2_t67 : Fin k2_t67_loop.trips) : BitVec 32 :=
  let c0_i32_38 : BitVec 32 := 0#32
  let c1_i32_40 : BitVec 32 := 1#32
  let arg14 : BitVec 32 := Scf.iv c0_i32_38 c1_i32_40 k2_t67
  let c8_i32_504 : BitVec 32 := 8#32
  let v292 : BitVec 32 := Scalar.remsi arg14 c8_i32_504
  let c16_i32_505 : BitVec 32 := 16#32
  let v293 : BitVec 32 := Scalar.muli v292 c16_i32_505
  v293
def k2_off69 (k2_t67 : Fin k2_t67_loop.trips) : Fin 2 → Nat :=
  let c0_i32_38 : BitVec 32 := 0#32
  let c1_i32_40 : BitVec 32 := 1#32
  let arg14 : BitVec 32 := Scf.iv c0_i32_38 c1_i32_40 k2_t67
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk67 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx67_inb : ∀ (i : grid2.Coords) (v310 : IVec S16 32) (v312 : IVec S16 32) (k2_hw67 : k2_chk67 i v310 v312), ∀ (k2_h2 : k2_cond2 i = 1#1), ∀ a x, ((![v310, v312] : Fin 2 → IVec S16 32) a x).toNat < S8x4096.size a := fun i v310 v312 k2_hw67 k2_h2 => k2_hw67 k2_h2
@[reducible] def k2_t68_loop : Scf.Loop 32 :=
  let c0_i32_43 : BitVec 32 := 0#32
  let c128_i32_44 : BitVec 32 := 128#32
  let v31 : BitVec 32 := Scalar.addi c0_i32_43 c128_i32_44
  let c1_i32_45 : BitVec 32 := 1#32
  ⟨c0_i32_43, v31, c1_i32_45⟩
def k2_mult68 (k2_t68 : Fin k2_t68_loop.trips) : BitVec 32 :=
  let c0_i32_43 : BitVec 32 := 0#32
  let c1_i32_45 : BitVec 32 := 1#32
  let arg14 : BitVec 32 := Scf.iv c0_i32_43 c1_i32_45 k2_t68
  let c8_i32_504 : BitVec 32 := 8#32
  let v292 : BitVec 32 := Scalar.remsi arg14 c8_i32_504
  let c16_i32_505 : BitVec 32 := 16#32
  let v293 : BitVec 32 := Scalar.muli v292 c16_i32_505
  v293
def k2_off70 (k2_t68 : Fin k2_t68_loop.trips) : Fin 2 → Nat :=
  let c0_i32_43 : BitVec 32 := 0#32
  let c1_i32_45 : BitVec 32 := 1#32
  let arg14 : BitVec 32 := Scf.iv c0_i32_43 c1_i32_45 k2_t68
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk68 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx68_inb : ∀ (i : grid2.Coords) (v310 : IVec S16 32) (v312 : IVec S16 32) (k2_hw68 : k2_chk68 i v310 v312), ∀ (k2_h2 : k2_cond2 i = 1#1), ∀ a x, ((![v310, v312] : Fin 2 → IVec S16 32) a x).toNat < S8x4096.size a := fun i v310 v312 k2_hw68 k2_h2 => k2_hw68 k2_h2
@[reducible] def k2_t69_loop : Scf.Loop 32 :=
  let c0_i32_54 : BitVec 32 := 0#32
  let c128_i32_55 : BitVec 32 := 128#32
  let v38 : BitVec 32 := Scalar.addi c0_i32_54 c128_i32_55
  let c1_i32_56 : BitVec 32 := 1#32
  ⟨c0_i32_54, v38, c1_i32_56⟩
def k2_mult69 (k2_t69 : Fin k2_t69_loop.trips) : BitVec 32 :=
  let c0_i32_54 : BitVec 32 := 0#32
  let c1_i32_56 : BitVec 32 := 1#32
  let arg14 : BitVec 32 := Scf.iv c0_i32_54 c1_i32_56 k2_t69
  let c8_i32_504 : BitVec 32 := 8#32
  let v292 : BitVec 32 := Scalar.remsi arg14 c8_i32_504
  let c16_i32_505 : BitVec 32 := 16#32
  let v293 : BitVec 32 := Scalar.muli v292 c16_i32_505
  v293
def k2_off71 (k2_t69 : Fin k2_t69_loop.trips) : Fin 2 → Nat :=
  let c0_i32_54 : BitVec 32 := 0#32
  let c1_i32_56 : BitVec 32 := 1#32
  let arg14 : BitVec 32 := Scf.iv c0_i32_54 c1_i32_56 k2_t69
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk69 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx69_inb : ∀ (i : grid2.Coords) (v310 : IVec S16 32) (v312 : IVec S16 32) (k2_hw69 : k2_chk69 i v310 v312), ∀ (k2_h2 : k2_cond2 i = 1#1), ∀ a x, ((![v310, v312] : Fin 2 → IVec S16 32) a x).toNat < S8x4096.size a := fun i v310 v312 k2_hw69 k2_h2 => k2_hw69 k2_h2
@[reducible] def k2_t70_loop : Scf.Loop 32 :=
  let c0_i32_59 : BitVec 32 := 0#32
  let c128_i32_60 : BitVec 32 := 128#32
  let v40 : BitVec 32 := Scalar.addi c0_i32_59 c128_i32_60
  let c1_i32_61 : BitVec 32 := 1#32
  ⟨c0_i32_59, v40, c1_i32_61⟩
def k2_mult70 (k2_t70 : Fin k2_t70_loop.trips) : BitVec 32 :=
  let c0_i32_59 : BitVec 32 := 0#32
  let c1_i32_61 : BitVec 32 := 1#32
  let arg14 : BitVec 32 := Scf.iv c0_i32_59 c1_i32_61 k2_t70
  let c8_i32_504 : BitVec 32 := 8#32
  let v292 : BitVec 32 := Scalar.remsi arg14 c8_i32_504
  let c16_i32_505 : BitVec 32 := 16#32
  let v293 : BitVec 32 := Scalar.muli v292 c16_i32_505
  v293
def k2_off72 (k2_t70 : Fin k2_t70_loop.trips) : Fin 2 → Nat :=
  let c0_i32_59 : BitVec 32 := 0#32
  let c1_i32_61 : BitVec 32 := 1#32
  let arg14 : BitVec 32 := Scf.iv c0_i32_59 c1_i32_61 k2_t70
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk70 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx70_inb : ∀ (i : grid2.Coords) (v310 : IVec S16 32) (v312 : IVec S16 32) (k2_hw70 : k2_chk70 i v310 v312), ∀ (k2_h2 : k2_cond2 i = 1#1), ∀ a x, ((![v310, v312] : Fin 2 → IVec S16 32) a x).toNat < S8x4096.size a := fun i v310 v312 k2_hw70 k2_h2 => k2_hw70 k2_h2
@[reducible] def k2_t71_loop : Scf.Loop 32 :=
  let c0_i32_70 : BitVec 32 := 0#32
  let c128_i32_71 : BitVec 32 := 128#32
  let v47 : BitVec 32 := Scalar.addi c0_i32_70 c128_i32_71
  let c1_i32_72 : BitVec 32 := 1#32
  ⟨c0_i32_70, v47, c1_i32_72⟩
def k2_mult71 (k2_t71 : Fin k2_t71_loop.trips) : BitVec 32 :=
  let c0_i32_70 : BitVec 32 := 0#32
  let c1_i32_72 : BitVec 32 := 1#32
  let arg14 : BitVec 32 := Scf.iv c0_i32_70 c1_i32_72 k2_t71
  let c8_i32_504 : BitVec 32 := 8#32
  let v292 : BitVec 32 := Scalar.remsi arg14 c8_i32_504
  let c16_i32_505 : BitVec 32 := 16#32
  let v293 : BitVec 32 := Scalar.muli v292 c16_i32_505
  v293
def k2_off73 (k2_t71 : Fin k2_t71_loop.trips) : Fin 2 → Nat :=
  let c0_i32_70 : BitVec 32 := 0#32
  let c1_i32_72 : BitVec 32 := 1#32
  let arg14 : BitVec 32 := Scf.iv c0_i32_70 c1_i32_72 k2_t71
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk71 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx71_inb : ∀ (i : grid2.Coords) (v310 : IVec S16 32) (v312 : IVec S16 32) (k2_hw71 : k2_chk71 i v310 v312), ∀ (k2_h2 : k2_cond2 i = 1#1), ∀ a x, ((![v310, v312] : Fin 2 → IVec S16 32) a x).toNat < S8x4096.size a := fun i v310 v312 k2_hw71 k2_h2 => k2_hw71 k2_h2
@[reducible] def k2_t72_loop : Scf.Loop 32 :=
  let c0_i32_75 : BitVec 32 := 0#32
  let c128_i32_76 : BitVec 32 := 128#32
  let v49 : BitVec 32 := Scalar.addi c0_i32_75 c128_i32_76
  let c1_i32_77 : BitVec 32 := 1#32
  ⟨c0_i32_75, v49, c1_i32_77⟩
def k2_mult72 (k2_t72 : Fin k2_t72_loop.trips) : BitVec 32 :=
  let c0_i32_75 : BitVec 32 := 0#32
  let c1_i32_77 : BitVec 32 := 1#32
  let arg14 : BitVec 32 := Scf.iv c0_i32_75 c1_i32_77 k2_t72
  let c8_i32_504 : BitVec 32 := 8#32
  let v292 : BitVec 32 := Scalar.remsi arg14 c8_i32_504
  let c16_i32_505 : BitVec 32 := 16#32
  let v293 : BitVec 32 := Scalar.muli v292 c16_i32_505
  v293
def k2_off74 (k2_t72 : Fin k2_t72_loop.trips) : Fin 2 → Nat :=
  let c0_i32_75 : BitVec 32 := 0#32
  let c1_i32_77 : BitVec 32 := 1#32
  let arg14 : BitVec 32 := Scf.iv c0_i32_75 c1_i32_77 k2_t72
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk72 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx72_inb : ∀ (i : grid2.Coords) (v310 : IVec S16 32) (v312 : IVec S16 32) (k2_hw72 : k2_chk72 i v310 v312), ∀ (k2_h2 : k2_cond2 i = 1#1), ∀ a x, ((![v310, v312] : Fin 2 → IVec S16 32) a x).toNat < S8x4096.size a := fun i v310 v312 k2_hw72 k2_h2 => k2_hw72 k2_h2
@[reducible] def k2_t73_loop : Scf.Loop 32 :=
  let c0_i32_86 : BitVec 32 := 0#32
  let c128_i32_87 : BitVec 32 := 128#32
  let v56 : BitVec 32 := Scalar.addi c0_i32_86 c128_i32_87
  let c1_i32_88 : BitVec 32 := 1#32
  ⟨c0_i32_86, v56, c1_i32_88⟩
def k2_mult73 (k2_t73 : Fin k2_t73_loop.trips) : BitVec 32 :=
  let c0_i32_86 : BitVec 32 := 0#32
  let c1_i32_88 : BitVec 32 := 1#32
  let arg14 : BitVec 32 := Scf.iv c0_i32_86 c1_i32_88 k2_t73
  let c8_i32_504 : BitVec 32 := 8#32
  let v292 : BitVec 32 := Scalar.remsi arg14 c8_i32_504
  let c16_i32_505 : BitVec 32 := 16#32
  let v293 : BitVec 32 := Scalar.muli v292 c16_i32_505
  v293
def k2_off75 (k2_t73 : Fin k2_t73_loop.trips) : Fin 2 → Nat :=
  let c0_i32_86 : BitVec 32 := 0#32
  let c1_i32_88 : BitVec 32 := 1#32
  let arg14 : BitVec 32 := Scf.iv c0_i32_86 c1_i32_88 k2_t73
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk73 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx73_inb : ∀ (i : grid2.Coords) (v310 : IVec S16 32) (v312 : IVec S16 32) (k2_hw73 : k2_chk73 i v310 v312), ∀ (k2_h2 : k2_cond2 i = 1#1), ∀ a x, ((![v310, v312] : Fin 2 → IVec S16 32) a x).toNat < S8x4096.size a := fun i v310 v312 k2_hw73 k2_h2 => k2_hw73 k2_h2
@[reducible] def k2_t74_loop : Scf.Loop 32 :=
  let c0_i32_91 : BitVec 32 := 0#32
  let c128_i32_92 : BitVec 32 := 128#32
  let v58 : BitVec 32 := Scalar.addi c0_i32_91 c128_i32_92
  let c1_i32_93 : BitVec 32 := 1#32
  ⟨c0_i32_91, v58, c1_i32_93⟩
def k2_mult74 (k2_t74 : Fin k2_t74_loop.trips) : BitVec 32 :=
  let c0_i32_91 : BitVec 32 := 0#32
  let c1_i32_93 : BitVec 32 := 1#32
  let arg14 : BitVec 32 := Scf.iv c0_i32_91 c1_i32_93 k2_t74
  let c8_i32_504 : BitVec 32 := 8#32
  let v292 : BitVec 32 := Scalar.remsi arg14 c8_i32_504
  let c16_i32_505 : BitVec 32 := 16#32
  let v293 : BitVec 32 := Scalar.muli v292 c16_i32_505
  v293
def k2_off76 (k2_t74 : Fin k2_t74_loop.trips) : Fin 2 → Nat :=
  let c0_i32_91 : BitVec 32 := 0#32
  let c1_i32_93 : BitVec 32 := 1#32
  let arg14 : BitVec 32 := Scf.iv c0_i32_91 c1_i32_93 k2_t74
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk74 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx74_inb : ∀ (i : grid2.Coords) (v310 : IVec S16 32) (v312 : IVec S16 32) (k2_hw74 : k2_chk74 i v310 v312), ∀ (k2_h2 : k2_cond2 i = 1#1), ∀ a x, ((![v310, v312] : Fin 2 → IVec S16 32) a x).toNat < S8x4096.size a := fun i v310 v312 k2_hw74 k2_h2 => k2_hw74 k2_h2
@[reducible] def k2_t75_loop : Scf.Loop 32 :=
  let c0_i32_102 : BitVec 32 := 0#32
  let c128_i32_103 : BitVec 32 := 128#32
  let v65 : BitVec 32 := Scalar.addi c0_i32_102 c128_i32_103
  let c1_i32_104 : BitVec 32 := 1#32
  ⟨c0_i32_102, v65, c1_i32_104⟩
def k2_mult75 (k2_t75 : Fin k2_t75_loop.trips) : BitVec 32 :=
  let c0_i32_102 : BitVec 32 := 0#32
  let c1_i32_104 : BitVec 32 := 1#32
  let arg14 : BitVec 32 := Scf.iv c0_i32_102 c1_i32_104 k2_t75
  let c8_i32_504 : BitVec 32 := 8#32
  let v292 : BitVec 32 := Scalar.remsi arg14 c8_i32_504
  let c16_i32_505 : BitVec 32 := 16#32
  let v293 : BitVec 32 := Scalar.muli v292 c16_i32_505
  v293
def k2_off77 (k2_t75 : Fin k2_t75_loop.trips) : Fin 2 → Nat :=
  let c0_i32_102 : BitVec 32 := 0#32
  let c1_i32_104 : BitVec 32 := 1#32
  let arg14 : BitVec 32 := Scf.iv c0_i32_102 c1_i32_104 k2_t75
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk75 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx75_inb : ∀ (i : grid2.Coords) (v310 : IVec S16 32) (v312 : IVec S16 32) (k2_hw75 : k2_chk75 i v310 v312), ∀ (k2_h2 : k2_cond2 i = 1#1), ∀ a x, ((![v310, v312] : Fin 2 → IVec S16 32) a x).toNat < S8x4096.size a := fun i v310 v312 k2_hw75 k2_h2 => k2_hw75 k2_h2
@[reducible] def k2_t76_loop : Scf.Loop 32 :=
  let c0_i32_107 : BitVec 32 := 0#32
  let c128_i32_108 : BitVec 32 := 128#32
  let v67 : BitVec 32 := Scalar.addi c0_i32_107 c128_i32_108
  let c1_i32_109 : BitVec 32 := 1#32
  ⟨c0_i32_107, v67, c1_i32_109⟩
def k2_mult76 (k2_t76 : Fin k2_t76_loop.trips) : BitVec 32 :=
  let c0_i32_107 : BitVec 32 := 0#32
  let c1_i32_109 : BitVec 32 := 1#32
  let arg14 : BitVec 32 := Scf.iv c0_i32_107 c1_i32_109 k2_t76
  let c8_i32_504 : BitVec 32 := 8#32
  let v292 : BitVec 32 := Scalar.remsi arg14 c8_i32_504
  let c16_i32_505 : BitVec 32 := 16#32
  let v293 : BitVec 32 := Scalar.muli v292 c16_i32_505
  v293
def k2_off78 (k2_t76 : Fin k2_t76_loop.trips) : Fin 2 → Nat :=
  let c0_i32_107 : BitVec 32 := 0#32
  let c1_i32_109 : BitVec 32 := 1#32
  let arg14 : BitVec 32 := Scf.iv c0_i32_107 c1_i32_109 k2_t76
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk76 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx76_inb : ∀ (i : grid2.Coords) (v310 : IVec S16 32) (v312 : IVec S16 32) (k2_hw76 : k2_chk76 i v310 v312), ∀ (k2_h2 : k2_cond2 i = 1#1), ∀ a x, ((![v310, v312] : Fin 2 → IVec S16 32) a x).toNat < S8x4096.size a := fun i v310 v312 k2_hw76 k2_h2 => k2_hw76 k2_h2
@[reducible] def k2_t77_loop : Scf.Loop 32 :=
  let c0_i32_118 : BitVec 32 := 0#32
  let c128_i32_119 : BitVec 32 := 128#32
  let v74 : BitVec 32 := Scalar.addi c0_i32_118 c128_i32_119
  let c1_i32_120 : BitVec 32 := 1#32
  ⟨c0_i32_118, v74, c1_i32_120⟩
def k2_mult77 (k2_t77 : Fin k2_t77_loop.trips) : BitVec 32 :=
  let c0_i32_118 : BitVec 32 := 0#32
  let c1_i32_120 : BitVec 32 := 1#32
  let arg14 : BitVec 32 := Scf.iv c0_i32_118 c1_i32_120 k2_t77
  let c8_i32_504 : BitVec 32 := 8#32
  let v292 : BitVec 32 := Scalar.remsi arg14 c8_i32_504
  let c16_i32_505 : BitVec 32 := 16#32
  let v293 : BitVec 32 := Scalar.muli v292 c16_i32_505
  v293
def k2_off79 (k2_t77 : Fin k2_t77_loop.trips) : Fin 2 → Nat :=
  let c0_i32_118 : BitVec 32 := 0#32
  let c1_i32_120 : BitVec 32 := 1#32
  let arg14 : BitVec 32 := Scf.iv c0_i32_118 c1_i32_120 k2_t77
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk77 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx77_inb : ∀ (i : grid2.Coords) (v310 : IVec S16 32) (v312 : IVec S16 32) (k2_hw77 : k2_chk77 i v310 v312), ∀ (k2_h2 : k2_cond2 i = 1#1), ∀ a x, ((![v310, v312] : Fin 2 → IVec S16 32) a x).toNat < S8x4096.size a := fun i v310 v312 k2_hw77 k2_h2 => k2_hw77 k2_h2
@[reducible] def k2_t78_loop : Scf.Loop 32 :=
  let c0_i32_123 : BitVec 32 := 0#32
  let c128_i32_124 : BitVec 32 := 128#32
  let v76 : BitVec 32 := Scalar.addi c0_i32_123 c128_i32_124
  let c1_i32_125 : BitVec 32 := 1#32
  ⟨c0_i32_123, v76, c1_i32_125⟩
def k2_mult78 (k2_t78 : Fin k2_t78_loop.trips) : BitVec 32 :=
  let c0_i32_123 : BitVec 32 := 0#32
  let c1_i32_125 : BitVec 32 := 1#32
  let arg14 : BitVec 32 := Scf.iv c0_i32_123 c1_i32_125 k2_t78
  let c8_i32_504 : BitVec 32 := 8#32
  let v292 : BitVec 32 := Scalar.remsi arg14 c8_i32_504
  let c16_i32_505 : BitVec 32 := 16#32
  let v293 : BitVec 32 := Scalar.muli v292 c16_i32_505
  v293
def k2_off80 (k2_t78 : Fin k2_t78_loop.trips) : Fin 2 → Nat :=
  let c0_i32_123 : BitVec 32 := 0#32
  let c1_i32_125 : BitVec 32 := 1#32
  let arg14 : BitVec 32 := Scf.iv c0_i32_123 c1_i32_125 k2_t78
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk78 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx78_inb : ∀ (i : grid2.Coords) (v310 : IVec S16 32) (v312 : IVec S16 32) (k2_hw78 : k2_chk78 i v310 v312), ∀ (k2_h2 : k2_cond2 i = 1#1), ∀ a x, ((![v310, v312] : Fin 2 → IVec S16 32) a x).toNat < S8x4096.size a := fun i v310 v312 k2_hw78 k2_h2 => k2_hw78 k2_h2
@[reducible] def k2_t79_loop : Scf.Loop 32 :=
  let c0_i32_134 : BitVec 32 := 0#32
  let c128_i32_135 : BitVec 32 := 128#32
  let v83 : BitVec 32 := Scalar.addi c0_i32_134 c128_i32_135
  let c1_i32_136 : BitVec 32 := 1#32
  ⟨c0_i32_134, v83, c1_i32_136⟩
def k2_mult79 (k2_t79 : Fin k2_t79_loop.trips) : BitVec 32 :=
  let c0_i32_134 : BitVec 32 := 0#32
  let c1_i32_136 : BitVec 32 := 1#32
  let arg14 : BitVec 32 := Scf.iv c0_i32_134 c1_i32_136 k2_t79
  let c8_i32_504 : BitVec 32 := 8#32
  let v292 : BitVec 32 := Scalar.remsi arg14 c8_i32_504
  let c16_i32_505 : BitVec 32 := 16#32
  let v293 : BitVec 32 := Scalar.muli v292 c16_i32_505
  v293
def k2_off81 (k2_t79 : Fin k2_t79_loop.trips) : Fin 2 → Nat :=
  let c0_i32_134 : BitVec 32 := 0#32
  let c1_i32_136 : BitVec 32 := 1#32
  let arg14 : BitVec 32 := Scf.iv c0_i32_134 c1_i32_136 k2_t79
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk79 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx79_inb : ∀ (i : grid2.Coords) (v310 : IVec S16 32) (v312 : IVec S16 32) (k2_hw79 : k2_chk79 i v310 v312), ∀ (k2_h2 : k2_cond2 i = 1#1), ∀ a x, ((![v310, v312] : Fin 2 → IVec S16 32) a x).toNat < S8x4096.size a := fun i v310 v312 k2_hw79 k2_h2 => k2_hw79 k2_h2
@[reducible] def k2_t80_loop : Scf.Loop 32 :=
  let c0_i32_139 : BitVec 32 := 0#32
  let c128_i32_140 : BitVec 32 := 128#32
  let v85 : BitVec 32 := Scalar.addi c0_i32_139 c128_i32_140
  let c1_i32_141 : BitVec 32 := 1#32
  ⟨c0_i32_139, v85, c1_i32_141⟩
def k2_mult80 (k2_t80 : Fin k2_t80_loop.trips) : BitVec 32 :=
  let c0_i32_139 : BitVec 32 := 0#32
  let c1_i32_141 : BitVec 32 := 1#32
  let arg14 : BitVec 32 := Scf.iv c0_i32_139 c1_i32_141 k2_t80
  let c8_i32_504 : BitVec 32 := 8#32
  let v292 : BitVec 32 := Scalar.remsi arg14 c8_i32_504
  let c16_i32_505 : BitVec 32 := 16#32
  let v293 : BitVec 32 := Scalar.muli v292 c16_i32_505
  v293
def k2_off82 (k2_t80 : Fin k2_t80_loop.trips) : Fin 2 → Nat :=
  let c0_i32_139 : BitVec 32 := 0#32
  let c1_i32_141 : BitVec 32 := 1#32
  let arg14 : BitVec 32 := Scf.iv c0_i32_139 c1_i32_141 k2_t80
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk80 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx80_inb : ∀ (i : grid2.Coords) (v310 : IVec S16 32) (v312 : IVec S16 32) (k2_hw80 : k2_chk80 i v310 v312), ∀ (k2_h2 : k2_cond2 i = 1#1), ∀ a x, ((![v310, v312] : Fin 2 → IVec S16 32) a x).toNat < S8x4096.size a := fun i v310 v312 k2_hw80 k2_h2 => k2_hw80 k2_h2
@[reducible] def k2_t81_loop : Scf.Loop 32 :=
  let c0_i32_150 : BitVec 32 := 0#32
  let c128_i32_151 : BitVec 32 := 128#32
  let v92 : BitVec 32 := Scalar.addi c0_i32_150 c128_i32_151
  let c1_i32_152 : BitVec 32 := 1#32
  ⟨c0_i32_150, v92, c1_i32_152⟩
def k2_mult81 (k2_t81 : Fin k2_t81_loop.trips) : BitVec 32 :=
  let c0_i32_150 : BitVec 32 := 0#32
  let c1_i32_152 : BitVec 32 := 1#32
  let arg14 : BitVec 32 := Scf.iv c0_i32_150 c1_i32_152 k2_t81
  let c8_i32_504 : BitVec 32 := 8#32
  let v292 : BitVec 32 := Scalar.remsi arg14 c8_i32_504
  let c16_i32_505 : BitVec 32 := 16#32
  let v293 : BitVec 32 := Scalar.muli v292 c16_i32_505
  v293
def k2_off83 (k2_t81 : Fin k2_t81_loop.trips) : Fin 2 → Nat :=
  let c0_i32_150 : BitVec 32 := 0#32
  let c1_i32_152 : BitVec 32 := 1#32
  let arg14 : BitVec 32 := Scf.iv c0_i32_150 c1_i32_152 k2_t81
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk81 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx81_inb : ∀ (i : grid2.Coords) (v310 : IVec S16 32) (v312 : IVec S16 32) (k2_hw81 : k2_chk81 i v310 v312), ∀ (k2_h2 : k2_cond2 i = 1#1), ∀ a x, ((![v310, v312] : Fin 2 → IVec S16 32) a x).toNat < S8x4096.size a := fun i v310 v312 k2_hw81 k2_h2 => k2_hw81 k2_h2
@[reducible] def k2_t82_loop : Scf.Loop 32 :=
  let c0_i32_155 : BitVec 32 := 0#32
  let c128_i32_156 : BitVec 32 := 128#32
  let v94 : BitVec 32 := Scalar.addi c0_i32_155 c128_i32_156
  let c1_i32_157 : BitVec 32 := 1#32
  ⟨c0_i32_155, v94, c1_i32_157⟩
def k2_mult82 (k2_t82 : Fin k2_t82_loop.trips) : BitVec 32 :=
  let c0_i32_155 : BitVec 32 := 0#32
  let c1_i32_157 : BitVec 32 := 1#32
  let arg14 : BitVec 32 := Scf.iv c0_i32_155 c1_i32_157 k2_t82
  let c8_i32_504 : BitVec 32 := 8#32
  let v292 : BitVec 32 := Scalar.remsi arg14 c8_i32_504
  let c16_i32_505 : BitVec 32 := 16#32
  let v293 : BitVec 32 := Scalar.muli v292 c16_i32_505
  v293
def k2_off84 (k2_t82 : Fin k2_t82_loop.trips) : Fin 2 → Nat :=
  let c0_i32_155 : BitVec 32 := 0#32
  let c1_i32_157 : BitVec 32 := 1#32
  let arg14 : BitVec 32 := Scf.iv c0_i32_155 c1_i32_157 k2_t82
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk82 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx82_inb : ∀ (i : grid2.Coords) (v310 : IVec S16 32) (v312 : IVec S16 32) (k2_hw82 : k2_chk82 i v310 v312), ∀ (k2_h2 : k2_cond2 i = 1#1), ∀ a x, ((![v310, v312] : Fin 2 → IVec S16 32) a x).toNat < S8x4096.size a := fun i v310 v312 k2_hw82 k2_h2 => k2_hw82 k2_h2
@[reducible] def k2_t83_loop : Scf.Loop 32 :=
  let c0_i32_166 : BitVec 32 := 0#32
  let c128_i32_167 : BitVec 32 := 128#32
  let v101 : BitVec 32 := Scalar.addi c0_i32_166 c128_i32_167
  let c1_i32_168 : BitVec 32 := 1#32
  ⟨c0_i32_166, v101, c1_i32_168⟩
def k2_mult83 (k2_t83 : Fin k2_t83_loop.trips) : BitVec 32 :=
  let c0_i32_166 : BitVec 32 := 0#32
  let c1_i32_168 : BitVec 32 := 1#32
  let arg14 : BitVec 32 := Scf.iv c0_i32_166 c1_i32_168 k2_t83
  let c8_i32_504 : BitVec 32 := 8#32
  let v292 : BitVec 32 := Scalar.remsi arg14 c8_i32_504
  let c16_i32_505 : BitVec 32 := 16#32
  let v293 : BitVec 32 := Scalar.muli v292 c16_i32_505
  v293
def k2_off85 (k2_t83 : Fin k2_t83_loop.trips) : Fin 2 → Nat :=
  let c0_i32_166 : BitVec 32 := 0#32
  let c1_i32_168 : BitVec 32 := 1#32
  let arg14 : BitVec 32 := Scf.iv c0_i32_166 c1_i32_168 k2_t83
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk83 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx83_inb : ∀ (i : grid2.Coords) (v310 : IVec S16 32) (v312 : IVec S16 32) (k2_hw83 : k2_chk83 i v310 v312), ∀ (k2_h2 : k2_cond2 i = 1#1), ∀ a x, ((![v310, v312] : Fin 2 → IVec S16 32) a x).toNat < S8x4096.size a := fun i v310 v312 k2_hw83 k2_h2 => k2_hw83 k2_h2
@[reducible] def k2_t84_loop : Scf.Loop 32 :=
  let c0_i32_171 : BitVec 32 := 0#32
  let c128_i32_172 : BitVec 32 := 128#32
  let v103 : BitVec 32 := Scalar.addi c0_i32_171 c128_i32_172
  let c1_i32_173 : BitVec 32 := 1#32
  ⟨c0_i32_171, v103, c1_i32_173⟩
def k2_mult84 (k2_t84 : Fin k2_t84_loop.trips) : BitVec 32 :=
  let c0_i32_171 : BitVec 32 := 0#32
  let c1_i32_173 : BitVec 32 := 1#32
  let arg14 : BitVec 32 := Scf.iv c0_i32_171 c1_i32_173 k2_t84
  let c8_i32_504 : BitVec 32 := 8#32
  let v292 : BitVec 32 := Scalar.remsi arg14 c8_i32_504
  let c16_i32_505 : BitVec 32 := 16#32
  let v293 : BitVec 32 := Scalar.muli v292 c16_i32_505
  v293
def k2_off86 (k2_t84 : Fin k2_t84_loop.trips) : Fin 2 → Nat :=
  let c0_i32_171 : BitVec 32 := 0#32
  let c1_i32_173 : BitVec 32 := 1#32
  let arg14 : BitVec 32 := Scf.iv c0_i32_171 c1_i32_173 k2_t84
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk84 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx84_inb : ∀ (i : grid2.Coords) (v310 : IVec S16 32) (v312 : IVec S16 32) (k2_hw84 : k2_chk84 i v310 v312), ∀ (k2_h2 : k2_cond2 i = 1#1), ∀ a x, ((![v310, v312] : Fin 2 → IVec S16 32) a x).toNat < S8x4096.size a := fun i v310 v312 k2_hw84 k2_h2 => k2_hw84 k2_h2
@[reducible] def k2_t85_loop : Scf.Loop 32 :=
  let c0_i32_182 : BitVec 32 := 0#32
  let c128_i32_183 : BitVec 32 := 128#32
  let v110 : BitVec 32 := Scalar.addi c0_i32_182 c128_i32_183
  let c1_i32_184 : BitVec 32 := 1#32
  ⟨c0_i32_182, v110, c1_i32_184⟩
def k2_mult85 (k2_t85 : Fin k2_t85_loop.trips) : BitVec 32 :=
  let c0_i32_182 : BitVec 32 := 0#32
  let c1_i32_184 : BitVec 32 := 1#32
  let arg14 : BitVec 32 := Scf.iv c0_i32_182 c1_i32_184 k2_t85
  let c8_i32_504 : BitVec 32 := 8#32
  let v292 : BitVec 32 := Scalar.remsi arg14 c8_i32_504
  let c16_i32_505 : BitVec 32 := 16#32
  let v293 : BitVec 32 := Scalar.muli v292 c16_i32_505
  v293
def k2_off87 (k2_t85 : Fin k2_t85_loop.trips) : Fin 2 → Nat :=
  let c0_i32_182 : BitVec 32 := 0#32
  let c1_i32_184 : BitVec 32 := 1#32
  let arg14 : BitVec 32 := Scf.iv c0_i32_182 c1_i32_184 k2_t85
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk85 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx85_inb : ∀ (i : grid2.Coords) (v310 : IVec S16 32) (v312 : IVec S16 32) (k2_hw85 : k2_chk85 i v310 v312), ∀ (k2_h2 : k2_cond2 i = 1#1), ∀ a x, ((![v310, v312] : Fin 2 → IVec S16 32) a x).toNat < S8x4096.size a := fun i v310 v312 k2_hw85 k2_h2 => k2_hw85 k2_h2
@[reducible] def k2_t86_loop : Scf.Loop 32 :=
  let c0_i32_187 : BitVec 32 := 0#32
  let c128_i32_188 : BitVec 32 := 128#32
  let v112 : BitVec 32 := Scalar.addi c0_i32_187 c128_i32_188
  let c1_i32_189 : BitVec 32 := 1#32
  ⟨c0_i32_187, v112, c1_i32_189⟩
def k2_mult86 (k2_t86 : Fin k2_t86_loop.trips) : BitVec 32 :=
  let c0_i32_187 : BitVec 32 := 0#32
  let c1_i32_189 : BitVec 32 := 1#32
  let arg14 : BitVec 32 := Scf.iv c0_i32_187 c1_i32_189 k2_t86
  let c8_i32_504 : BitVec 32 := 8#32
  let v292 : BitVec 32 := Scalar.remsi arg14 c8_i32_504
  let c16_i32_505 : BitVec 32 := 16#32
  let v293 : BitVec 32 := Scalar.muli v292 c16_i32_505
  v293
def k2_off88 (k2_t86 : Fin k2_t86_loop.trips) : Fin 2 → Nat :=
  let c0_i32_187 : BitVec 32 := 0#32
  let c1_i32_189 : BitVec 32 := 1#32
  let arg14 : BitVec 32 := Scf.iv c0_i32_187 c1_i32_189 k2_t86
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk86 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx86_inb : ∀ (i : grid2.Coords) (v310 : IVec S16 32) (v312 : IVec S16 32) (k2_hw86 : k2_chk86 i v310 v312), ∀ (k2_h2 : k2_cond2 i = 1#1), ∀ a x, ((![v310, v312] : Fin 2 → IVec S16 32) a x).toNat < S8x4096.size a := fun i v310 v312 k2_hw86 k2_h2 => k2_hw86 k2_h2
@[reducible] def k2_t87_loop : Scf.Loop 32 :=
  let c0_i32_198 : BitVec 32 := 0#32
  let c128_i32_199 : BitVec 32 := 128#32
  let v119 : BitVec 32 := Scalar.addi c0_i32_198 c128_i32_199
  let c1_i32_200 : BitVec 32 := 1#32
  ⟨c0_i32_198, v119, c1_i32_200⟩
def k2_mult87 (k2_t87 : Fin k2_t87_loop.trips) : BitVec 32 :=
  let c0_i32_198 : BitVec 32 := 0#32
  let c1_i32_200 : BitVec 32 := 1#32
  let arg14 : BitVec 32 := Scf.iv c0_i32_198 c1_i32_200 k2_t87
  let c8_i32_504 : BitVec 32 := 8#32
  let v292 : BitVec 32 := Scalar.remsi arg14 c8_i32_504
  let c16_i32_505 : BitVec 32 := 16#32
  let v293 : BitVec 32 := Scalar.muli v292 c16_i32_505
  v293
def k2_off89 (k2_t87 : Fin k2_t87_loop.trips) : Fin 2 → Nat :=
  let c0_i32_198 : BitVec 32 := 0#32
  let c1_i32_200 : BitVec 32 := 1#32
  let arg14 : BitVec 32 := Scf.iv c0_i32_198 c1_i32_200 k2_t87
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk87 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx87_inb : ∀ (i : grid2.Coords) (v310 : IVec S16 32) (v312 : IVec S16 32) (k2_hw87 : k2_chk87 i v310 v312), ∀ (k2_h2 : k2_cond2 i = 1#1), ∀ a x, ((![v310, v312] : Fin 2 → IVec S16 32) a x).toNat < S8x4096.size a := fun i v310 v312 k2_hw87 k2_h2 => k2_hw87 k2_h2
@[reducible] def k2_t88_loop : Scf.Loop 32 :=
  let c0_i32_203 : BitVec 32 := 0#32
  let c128_i32_204 : BitVec 32 := 128#32
  let v121 : BitVec 32 := Scalar.addi c0_i32_203 c128_i32_204
  let c1_i32_205 : BitVec 32 := 1#32
  ⟨c0_i32_203, v121, c1_i32_205⟩
def k2_mult88 (k2_t88 : Fin k2_t88_loop.trips) : BitVec 32 :=
  let c0_i32_203 : BitVec 32 := 0#32
  let c1_i32_205 : BitVec 32 := 1#32
  let arg14 : BitVec 32 := Scf.iv c0_i32_203 c1_i32_205 k2_t88
  let c8_i32_504 : BitVec 32 := 8#32
  let v292 : BitVec 32 := Scalar.remsi arg14 c8_i32_504
  let c16_i32_505 : BitVec 32 := 16#32
  let v293 : BitVec 32 := Scalar.muli v292 c16_i32_505
  v293
def k2_off90 (k2_t88 : Fin k2_t88_loop.trips) : Fin 2 → Nat :=
  let c0_i32_203 : BitVec 32 := 0#32
  let c1_i32_205 : BitVec 32 := 1#32
  let arg14 : BitVec 32 := Scf.iv c0_i32_203 c1_i32_205 k2_t88
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk88 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx88_inb : ∀ (i : grid2.Coords) (v310 : IVec S16 32) (v312 : IVec S16 32) (k2_hw88 : k2_chk88 i v310 v312), ∀ (k2_h2 : k2_cond2 i = 1#1), ∀ a x, ((![v310, v312] : Fin 2 → IVec S16 32) a x).toNat < S8x4096.size a := fun i v310 v312 k2_hw88 k2_h2 => k2_hw88 k2_h2
@[reducible] def k2_t89_loop : Scf.Loop 32 :=
  let c0_i32_214 : BitVec 32 := 0#32
  let c128_i32_215 : BitVec 32 := 128#32
  let v128 : BitVec 32 := Scalar.addi c0_i32_214 c128_i32_215
  let c1_i32_216 : BitVec 32 := 1#32
  ⟨c0_i32_214, v128, c1_i32_216⟩
def k2_mult89 (k2_t89 : Fin k2_t89_loop.trips) : BitVec 32 :=
  let c0_i32_214 : BitVec 32 := 0#32
  let c1_i32_216 : BitVec 32 := 1#32
  let arg14 : BitVec 32 := Scf.iv c0_i32_214 c1_i32_216 k2_t89
  let c8_i32_504 : BitVec 32 := 8#32
  let v292 : BitVec 32 := Scalar.remsi arg14 c8_i32_504
  let c16_i32_505 : BitVec 32 := 16#32
  let v293 : BitVec 32 := Scalar.muli v292 c16_i32_505
  v293
def k2_off91 (k2_t89 : Fin k2_t89_loop.trips) : Fin 2 → Nat :=
  let c0_i32_214 : BitVec 32 := 0#32
  let c1_i32_216 : BitVec 32 := 1#32
  let arg14 : BitVec 32 := Scf.iv c0_i32_214 c1_i32_216 k2_t89
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk89 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx89_inb : ∀ (i : grid2.Coords) (v310 : IVec S16 32) (v312 : IVec S16 32) (k2_hw89 : k2_chk89 i v310 v312), ∀ (k2_h2 : k2_cond2 i = 1#1), ∀ a x, ((![v310, v312] : Fin 2 → IVec S16 32) a x).toNat < S8x4096.size a := fun i v310 v312 k2_hw89 k2_h2 => k2_hw89 k2_h2
@[reducible] def k2_t90_loop : Scf.Loop 32 :=
  let c0_i32_219 : BitVec 32 := 0#32
  let c128_i32_220 : BitVec 32 := 128#32
  let v130 : BitVec 32 := Scalar.addi c0_i32_219 c128_i32_220
  let c1_i32_221 : BitVec 32 := 1#32
  ⟨c0_i32_219, v130, c1_i32_221⟩
def k2_mult90 (k2_t90 : Fin k2_t90_loop.trips) : BitVec 32 :=
  let c0_i32_219 : BitVec 32 := 0#32
  let c1_i32_221 : BitVec 32 := 1#32
  let arg14 : BitVec 32 := Scf.iv c0_i32_219 c1_i32_221 k2_t90
  let c8_i32_504 : BitVec 32 := 8#32
  let v292 : BitVec 32 := Scalar.remsi arg14 c8_i32_504
  let c16_i32_505 : BitVec 32 := 16#32
  let v293 : BitVec 32 := Scalar.muli v292 c16_i32_505
  v293
def k2_off92 (k2_t90 : Fin k2_t90_loop.trips) : Fin 2 → Nat :=
  let c0_i32_219 : BitVec 32 := 0#32
  let c1_i32_221 : BitVec 32 := 1#32
  let arg14 : BitVec 32 := Scf.iv c0_i32_219 c1_i32_221 k2_t90
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk90 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx90_inb : ∀ (i : grid2.Coords) (v310 : IVec S16 32) (v312 : IVec S16 32) (k2_hw90 : k2_chk90 i v310 v312), ∀ (k2_h2 : k2_cond2 i = 1#1), ∀ a x, ((![v310, v312] : Fin 2 → IVec S16 32) a x).toNat < S8x4096.size a := fun i v310 v312 k2_hw90 k2_h2 => k2_hw90 k2_h2
@[reducible] def k2_t91_loop : Scf.Loop 32 :=
  let c0_i32_230 : BitVec 32 := 0#32
  let c128_i32_231 : BitVec 32 := 128#32
  let v137 : BitVec 32 := Scalar.addi c0_i32_230 c128_i32_231
  let c1_i32_232 : BitVec 32 := 1#32
  ⟨c0_i32_230, v137, c1_i32_232⟩
def k2_mult91 (k2_t91 : Fin k2_t91_loop.trips) : BitVec 32 :=
  let c0_i32_230 : BitVec 32 := 0#32
  let c1_i32_232 : BitVec 32 := 1#32
  let arg14 : BitVec 32 := Scf.iv c0_i32_230 c1_i32_232 k2_t91
  let c8_i32_504 : BitVec 32 := 8#32
  let v292 : BitVec 32 := Scalar.remsi arg14 c8_i32_504
  let c16_i32_505 : BitVec 32 := 16#32
  let v293 : BitVec 32 := Scalar.muli v292 c16_i32_505
  v293
def k2_off93 (k2_t91 : Fin k2_t91_loop.trips) : Fin 2 → Nat :=
  let c0_i32_230 : BitVec 32 := 0#32
  let c1_i32_232 : BitVec 32 := 1#32
  let arg14 : BitVec 32 := Scf.iv c0_i32_230 c1_i32_232 k2_t91
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk91 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx91_inb : ∀ (i : grid2.Coords) (v310 : IVec S16 32) (v312 : IVec S16 32) (k2_hw91 : k2_chk91 i v310 v312), ∀ (k2_h2 : k2_cond2 i = 1#1), ∀ a x, ((![v310, v312] : Fin 2 → IVec S16 32) a x).toNat < S8x4096.size a := fun i v310 v312 k2_hw91 k2_h2 => k2_hw91 k2_h2
@[reducible] def k2_t92_loop : Scf.Loop 32 :=
  let c0_i32_235 : BitVec 32 := 0#32
  let c128_i32_236 : BitVec 32 := 128#32
  let v139 : BitVec 32 := Scalar.addi c0_i32_235 c128_i32_236
  let c1_i32_237 : BitVec 32 := 1#32
  ⟨c0_i32_235, v139, c1_i32_237⟩
def k2_mult92 (k2_t92 : Fin k2_t92_loop.trips) : BitVec 32 :=
  let c0_i32_235 : BitVec 32 := 0#32
  let c1_i32_237 : BitVec 32 := 1#32
  let arg14 : BitVec 32 := Scf.iv c0_i32_235 c1_i32_237 k2_t92
  let c8_i32_504 : BitVec 32 := 8#32
  let v292 : BitVec 32 := Scalar.remsi arg14 c8_i32_504
  let c16_i32_505 : BitVec 32 := 16#32
  let v293 : BitVec 32 := Scalar.muli v292 c16_i32_505
  v293
def k2_off94 (k2_t92 : Fin k2_t92_loop.trips) : Fin 2 → Nat :=
  let c0_i32_235 : BitVec 32 := 0#32
  let c1_i32_237 : BitVec 32 := 1#32
  let arg14 : BitVec 32 := Scf.iv c0_i32_235 c1_i32_237 k2_t92
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk92 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx92_inb : ∀ (i : grid2.Coords) (v310 : IVec S16 32) (v312 : IVec S16 32) (k2_hw92 : k2_chk92 i v310 v312), ∀ (k2_h2 : k2_cond2 i = 1#1), ∀ a x, ((![v310, v312] : Fin 2 → IVec S16 32) a x).toNat < S8x4096.size a := fun i v310 v312 k2_hw92 k2_h2 => k2_hw92 k2_h2
@[reducible] def k2_t93_loop : Scf.Loop 32 :=
  let c0_i32_246 : BitVec 32 := 0#32
  let c128_i32_247 : BitVec 32 := 128#32
  let v146 : BitVec 32 := Scalar.addi c0_i32_246 c128_i32_247
  let c1_i32_248 : BitVec 32 := 1#32
  ⟨c0_i32_246, v146, c1_i32_248⟩
def k2_mult93 (k2_t93 : Fin k2_t93_loop.trips) : BitVec 32 :=
  let c0_i32_246 : BitVec 32 := 0#32
  let c1_i32_248 : BitVec 32 := 1#32
  let arg14 : BitVec 32 := Scf.iv c0_i32_246 c1_i32_248 k2_t93
  let c8_i32_504 : BitVec 32 := 8#32
  let v292 : BitVec 32 := Scalar.remsi arg14 c8_i32_504
  let c16_i32_505 : BitVec 32 := 16#32
  let v293 : BitVec 32 := Scalar.muli v292 c16_i32_505
  v293
def k2_off95 (k2_t93 : Fin k2_t93_loop.trips) : Fin 2 → Nat :=
  let c0_i32_246 : BitVec 32 := 0#32
  let c1_i32_248 : BitVec 32 := 1#32
  let arg14 : BitVec 32 := Scf.iv c0_i32_246 c1_i32_248 k2_t93
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk93 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx93_inb : ∀ (i : grid2.Coords) (v310 : IVec S16 32) (v312 : IVec S16 32) (k2_hw93 : k2_chk93 i v310 v312), ∀ (k2_h2 : k2_cond2 i = 1#1), ∀ a x, ((![v310, v312] : Fin 2 → IVec S16 32) a x).toNat < S8x4096.size a := fun i v310 v312 k2_hw93 k2_h2 => k2_hw93 k2_h2
@[reducible] def k2_t94_loop : Scf.Loop 32 :=
  let c0_i32_252 : BitVec 32 := 0#32
  let c128_i32_253 : BitVec 32 := 128#32
  let v148 : BitVec 32 := Scalar.addi c0_i32_252 c128_i32_253
  let c1_i32_254 : BitVec 32 := 1#32
  ⟨c0_i32_252, v148, c1_i32_254⟩
def k2_mult94 (k2_t94 : Fin k2_t94_loop.trips) : BitVec 32 :=
  let c0_i32_252 : BitVec 32 := 0#32
  let c1_i32_254 : BitVec 32 := 1#32
  let arg14 : BitVec 32 := Scf.iv c0_i32_252 c1_i32_254 k2_t94
  let c8_i32_504 : BitVec 32 := 8#32
  let v292 : BitVec 32 := Scalar.remsi arg14 c8_i32_504
  let c16_i32_505 : BitVec 32 := 16#32
  let v293 : BitVec 32 := Scalar.muli v292 c16_i32_505
  v293
def k2_off96 (k2_t94 : Fin k2_t94_loop.trips) : Fin 2 → Nat :=
  let c0_i32_252 : BitVec 32 := 0#32
  let c1_i32_254 : BitVec 32 := 1#32
  let arg14 : BitVec 32 := Scf.iv c0_i32_252 c1_i32_254 k2_t94
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk94 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx94_inb : ∀ (i : grid2.Coords) (v310 : IVec S16 32) (v312 : IVec S16 32) (k2_hw94 : k2_chk94 i v310 v312), ∀ (k2_h2 : k2_cond2 i = 1#1), ∀ a x, ((![v310, v312] : Fin 2 → IVec S16 32) a x).toNat < S8x4096.size a := fun i v310 v312 k2_hw94 k2_h2 => k2_hw94 k2_h2
@[reducible] def k2_t95_loop : Scf.Loop 32 :=
  let c0_i32_263 : BitVec 32 := 0#32
  let c128_i32_264 : BitVec 32 := 128#32
  let v155 : BitVec 32 := Scalar.addi c0_i32_263 c128_i32_264
  let c1_i32_265 : BitVec 32 := 1#32
  ⟨c0_i32_263, v155, c1_i32_265⟩
def k2_mult95 (k2_t95 : Fin k2_t95_loop.trips) : BitVec 32 :=
  let c0_i32_263 : BitVec 32 := 0#32
  let c1_i32_265 : BitVec 32 := 1#32
  let arg14 : BitVec 32 := Scf.iv c0_i32_263 c1_i32_265 k2_t95
  let c8_i32_504 : BitVec 32 := 8#32
  let v292 : BitVec 32 := Scalar.remsi arg14 c8_i32_504
  let c16_i32_505 : BitVec 32 := 16#32
  let v293 : BitVec 32 := Scalar.muli v292 c16_i32_505
  v293
def k2_off97 (k2_t95 : Fin k2_t95_loop.trips) : Fin 2 → Nat :=
  let c0_i32_263 : BitVec 32 := 0#32
  let c1_i32_265 : BitVec 32 := 1#32
  let arg14 : BitVec 32 := Scf.iv c0_i32_263 c1_i32_265 k2_t95
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk95 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx95_inb : ∀ (i : grid2.Coords) (v310 : IVec S16 32) (v312 : IVec S16 32) (k2_hw95 : k2_chk95 i v310 v312), ∀ (k2_h2 : k2_cond2 i = 1#1), ∀ a x, ((![v310, v312] : Fin 2 → IVec S16 32) a x).toNat < S8x4096.size a := fun i v310 v312 k2_hw95 k2_h2 => k2_hw95 k2_h2
@[reducible] def k2_t96_loop : Scf.Loop 32 :=
  let c0_i32_268 : BitVec 32 := 0#32
  let c128_i32_269 : BitVec 32 := 128#32
  let v157 : BitVec 32 := Scalar.addi c0_i32_268 c128_i32_269
  let c1_i32_270 : BitVec 32 := 1#32
  ⟨c0_i32_268, v157, c1_i32_270⟩
def k2_mult96 (k2_t96 : Fin k2_t96_loop.trips) : BitVec 32 :=
  let c0_i32_268 : BitVec 32 := 0#32
  let c1_i32_270 : BitVec 32 := 1#32
  let arg14 : BitVec 32 := Scf.iv c0_i32_268 c1_i32_270 k2_t96
  let c8_i32_504 : BitVec 32 := 8#32
  let v292 : BitVec 32 := Scalar.remsi arg14 c8_i32_504
  let c16_i32_505 : BitVec 32 := 16#32
  let v293 : BitVec 32 := Scalar.muli v292 c16_i32_505
  v293
def k2_off98 (k2_t96 : Fin k2_t96_loop.trips) : Fin 2 → Nat :=
  let c0_i32_268 : BitVec 32 := 0#32
  let c1_i32_270 : BitVec 32 := 1#32
  let arg14 : BitVec 32 := Scf.iv c0_i32_268 c1_i32_270 k2_t96
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk96 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx96_inb : ∀ (i : grid2.Coords) (v310 : IVec S16 32) (v312 : IVec S16 32) (k2_hw96 : k2_chk96 i v310 v312), ∀ (k2_h2 : k2_cond2 i = 1#1), ∀ a x, ((![v310, v312] : Fin 2 → IVec S16 32) a x).toNat < S8x4096.size a := fun i v310 v312 k2_hw96 k2_h2 => k2_hw96 k2_h2
@[reducible] def k2_t97_loop : Scf.Loop 32 :=
  let c0_i32_279 : BitVec 32 := 0#32
  let c128_i32_280 : BitVec 32 := 128#32
  let v164 : BitVec 32 := Scalar.addi c0_i32_279 c128_i32_280
  let c1_i32_281 : BitVec 32 := 1#32
  ⟨c0_i32_279, v164, c1_i32_281⟩
def k2_mult97 (k2_t97 : Fin k2_t97_loop.trips) : BitVec 32 :=
  let c0_i32_279 : BitVec 32 := 0#32
  let c1_i32_281 : BitVec 32 := 1#32
  let arg14 : BitVec 32 := Scf.iv c0_i32_279 c1_i32_281 k2_t97
  let c8_i32_504 : BitVec 32 := 8#32
  let v292 : BitVec 32 := Scalar.remsi arg14 c8_i32_504
  let c16_i32_505 : BitVec 32 := 16#32
  let v293 : BitVec 32 := Scalar.muli v292 c16_i32_505
  v293
def k2_off99 (k2_t97 : Fin k2_t97_loop.trips) : Fin 2 → Nat :=
  let c0_i32_279 : BitVec 32 := 0#32
  let c1_i32_281 : BitVec 32 := 1#32
  let arg14 : BitVec 32 := Scf.iv c0_i32_279 c1_i32_281 k2_t97
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk97 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx97_inb : ∀ (i : grid2.Coords) (v310 : IVec S16 32) (v312 : IVec S16 32) (k2_hw97 : k2_chk97 i v310 v312), ∀ (k2_h2 : k2_cond2 i = 1#1), ∀ a x, ((![v310, v312] : Fin 2 → IVec S16 32) a x).toNat < S8x4096.size a := fun i v310 v312 k2_hw97 k2_h2 => k2_hw97 k2_h2
@[reducible] def k2_t98_loop : Scf.Loop 32 :=
  let c0_i32_284 : BitVec 32 := 0#32
  let c128_i32_285 : BitVec 32 := 128#32
  let v166 : BitVec 32 := Scalar.addi c0_i32_284 c128_i32_285
  let c1_i32_286 : BitVec 32 := 1#32
  ⟨c0_i32_284, v166, c1_i32_286⟩
def k2_mult98 (k2_t98 : Fin k2_t98_loop.trips) : BitVec 32 :=
  let c0_i32_284 : BitVec 32 := 0#32
  let c1_i32_286 : BitVec 32 := 1#32
  let arg14 : BitVec 32 := Scf.iv c0_i32_284 c1_i32_286 k2_t98
  let c8_i32_504 : BitVec 32 := 8#32
  let v292 : BitVec 32 := Scalar.remsi arg14 c8_i32_504
  let c16_i32_505 : BitVec 32 := 16#32
  let v293 : BitVec 32 := Scalar.muli v292 c16_i32_505
  v293
def k2_off100 (k2_t98 : Fin k2_t98_loop.trips) : Fin 2 → Nat :=
  let c0_i32_284 : BitVec 32 := 0#32
  let c1_i32_286 : BitVec 32 := 1#32
  let arg14 : BitVec 32 := Scf.iv c0_i32_284 c1_i32_286 k2_t98
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk98 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx98_inb : ∀ (i : grid2.Coords) (v310 : IVec S16 32) (v312 : IVec S16 32) (k2_hw98 : k2_chk98 i v310 v312), ∀ (k2_h2 : k2_cond2 i = 1#1), ∀ a x, ((![v310, v312] : Fin 2 → IVec S16 32) a x).toNat < S8x4096.size a := fun i v310 v312 k2_hw98 k2_h2 => k2_hw98 k2_h2
@[reducible] def k2_t99_loop : Scf.Loop 32 :=
  let c0_i32_295 : BitVec 32 := 0#32
  let c128_i32_296 : BitVec 32 := 128#32
  let v173 : BitVec 32 := Scalar.addi c0_i32_295 c128_i32_296
  let c1_i32_297 : BitVec 32 := 1#32
  ⟨c0_i32_295, v173, c1_i32_297⟩
def k2_mult99 (k2_t99 : Fin k2_t99_loop.trips) : BitVec 32 :=
  let c0_i32_295 : BitVec 32 := 0#32
  let c1_i32_297 : BitVec 32 := 1#32
  let arg14 : BitVec 32 := Scf.iv c0_i32_295 c1_i32_297 k2_t99
  let c8_i32_504 : BitVec 32 := 8#32
  let v292 : BitVec 32 := Scalar.remsi arg14 c8_i32_504
  let c16_i32_505 : BitVec 32 := 16#32
  let v293 : BitVec 32 := Scalar.muli v292 c16_i32_505
  v293
def k2_off101 (k2_t99 : Fin k2_t99_loop.trips) : Fin 2 → Nat :=
  let c0_i32_295 : BitVec 32 := 0#32
  let c1_i32_297 : BitVec 32 := 1#32
  let arg14 : BitVec 32 := Scf.iv c0_i32_295 c1_i32_297 k2_t99
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk99 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx99_inb : ∀ (i : grid2.Coords) (v310 : IVec S16 32) (v312 : IVec S16 32) (k2_hw99 : k2_chk99 i v310 v312), ∀ (k2_h2 : k2_cond2 i = 1#1), ∀ a x, ((![v310, v312] : Fin 2 → IVec S16 32) a x).toNat < S8x4096.size a := fun i v310 v312 k2_hw99 k2_h2 => k2_hw99 k2_h2
@[reducible] def k2_t100_loop : Scf.Loop 32 :=
  let c0_i32_300 : BitVec 32 := 0#32
  let c128_i32_301 : BitVec 32 := 128#32
  let v175 : BitVec 32 := Scalar.addi c0_i32_300 c128_i32_301
  let c1_i32_302 : BitVec 32 := 1#32
  ⟨c0_i32_300, v175, c1_i32_302⟩
def k2_mult100 (k2_t100 : Fin k2_t100_loop.trips) : BitVec 32 :=
  let c0_i32_300 : BitVec 32 := 0#32
  let c1_i32_302 : BitVec 32 := 1#32
  let arg14 : BitVec 32 := Scf.iv c0_i32_300 c1_i32_302 k2_t100
  let c8_i32_504 : BitVec 32 := 8#32
  let v292 : BitVec 32 := Scalar.remsi arg14 c8_i32_504
  let c16_i32_505 : BitVec 32 := 16#32
  let v293 : BitVec 32 := Scalar.muli v292 c16_i32_505
  v293
def k2_off102 (k2_t100 : Fin k2_t100_loop.trips) : Fin 2 → Nat :=
  let c0_i32_300 : BitVec 32 := 0#32
  let c1_i32_302 : BitVec 32 := 1#32
  let arg14 : BitVec 32 := Scf.iv c0_i32_300 c1_i32_302 k2_t100
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk100 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx100_inb : ∀ (i : grid2.Coords) (v310 : IVec S16 32) (v312 : IVec S16 32) (k2_hw100 : k2_chk100 i v310 v312), ∀ (k2_h2 : k2_cond2 i = 1#1), ∀ a x, ((![v310, v312] : Fin 2 → IVec S16 32) a x).toNat < S8x4096.size a := fun i v310 v312 k2_hw100 k2_h2 => k2_hw100 k2_h2
@[reducible] def k2_t101_loop : Scf.Loop 32 :=
  let c0_i32_311 : BitVec 32 := 0#32
  let c128_i32_312 : BitVec 32 := 128#32
  let v182 : BitVec 32 := Scalar.addi c0_i32_311 c128_i32_312
  let c1_i32_313 : BitVec 32 := 1#32
  ⟨c0_i32_311, v182, c1_i32_313⟩
def k2_mult101 (k2_t101 : Fin k2_t101_loop.trips) : BitVec 32 :=
  let c0_i32_311 : BitVec 32 := 0#32
  let c1_i32_313 : BitVec 32 := 1#32
  let arg14 : BitVec 32 := Scf.iv c0_i32_311 c1_i32_313 k2_t101
  let c8_i32_504 : BitVec 32 := 8#32
  let v292 : BitVec 32 := Scalar.remsi arg14 c8_i32_504
  let c16_i32_505 : BitVec 32 := 16#32
  let v293 : BitVec 32 := Scalar.muli v292 c16_i32_505
  v293
def k2_off103 (k2_t101 : Fin k2_t101_loop.trips) : Fin 2 → Nat :=
  let c0_i32_311 : BitVec 32 := 0#32
  let c1_i32_313 : BitVec 32 := 1#32
  let arg14 : BitVec 32 := Scf.iv c0_i32_311 c1_i32_313 k2_t101
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk101 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx101_inb : ∀ (i : grid2.Coords) (v310 : IVec S16 32) (v312 : IVec S16 32) (k2_hw101 : k2_chk101 i v310 v312), ∀ (k2_h2 : k2_cond2 i = 1#1), ∀ a x, ((![v310, v312] : Fin 2 → IVec S16 32) a x).toNat < S8x4096.size a := fun i v310 v312 k2_hw101 k2_h2 => k2_hw101 k2_h2
@[reducible] def k2_t102_loop : Scf.Loop 32 :=
  let c0_i32_316 : BitVec 32 := 0#32
  let c128_i32_317 : BitVec 32 := 128#32
  let v184 : BitVec 32 := Scalar.addi c0_i32_316 c128_i32_317
  let c1_i32_318 : BitVec 32 := 1#32
  ⟨c0_i32_316, v184, c1_i32_318⟩
def k2_mult102 (k2_t102 : Fin k2_t102_loop.trips) : BitVec 32 :=
  let c0_i32_316 : BitVec 32 := 0#32
  let c1_i32_318 : BitVec 32 := 1#32
  let arg14 : BitVec 32 := Scf.iv c0_i32_316 c1_i32_318 k2_t102
  let c8_i32_504 : BitVec 32 := 8#32
  let v292 : BitVec 32 := Scalar.remsi arg14 c8_i32_504
  let c16_i32_505 : BitVec 32 := 16#32
  let v293 : BitVec 32 := Scalar.muli v292 c16_i32_505
  v293
def k2_off104 (k2_t102 : Fin k2_t102_loop.trips) : Fin 2 → Nat :=
  let c0_i32_316 : BitVec 32 := 0#32
  let c1_i32_318 : BitVec 32 := 1#32
  let arg14 : BitVec 32 := Scf.iv c0_i32_316 c1_i32_318 k2_t102
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk102 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx102_inb : ∀ (i : grid2.Coords) (v310 : IVec S16 32) (v312 : IVec S16 32) (k2_hw102 : k2_chk102 i v310 v312), ∀ (k2_h2 : k2_cond2 i = 1#1), ∀ a x, ((![v310, v312] : Fin 2 → IVec S16 32) a x).toNat < S8x4096.size a := fun i v310 v312 k2_hw102 k2_h2 => k2_hw102 k2_h2
@[reducible] def k2_t103_loop : Scf.Loop 32 :=
  let c0_i32_327 : BitVec 32 := 0#32
  let c128_i32_328 : BitVec 32 := 128#32
  let v191 : BitVec 32 := Scalar.addi c0_i32_327 c128_i32_328
  let c1_i32_329 : BitVec 32 := 1#32
  ⟨c0_i32_327, v191, c1_i32_329⟩
def k2_mult103 (k2_t103 : Fin k2_t103_loop.trips) : BitVec 32 :=
  let c0_i32_327 : BitVec 32 := 0#32
  let c1_i32_329 : BitVec 32 := 1#32
  let arg14 : BitVec 32 := Scf.iv c0_i32_327 c1_i32_329 k2_t103
  let c8_i32_504 : BitVec 32 := 8#32
  let v292 : BitVec 32 := Scalar.remsi arg14 c8_i32_504
  let c16_i32_505 : BitVec 32 := 16#32
  let v293 : BitVec 32 := Scalar.muli v292 c16_i32_505
  v293
def k2_off105 (k2_t103 : Fin k2_t103_loop.trips) : Fin 2 → Nat :=
  let c0_i32_327 : BitVec 32 := 0#32
  let c1_i32_329 : BitVec 32 := 1#32
  let arg14 : BitVec 32 := Scf.iv c0_i32_327 c1_i32_329 k2_t103
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk103 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx103_inb : ∀ (i : grid2.Coords) (v310 : IVec S16 32) (v312 : IVec S16 32) (k2_hw103 : k2_chk103 i v310 v312), ∀ (k2_h2 : k2_cond2 i = 1#1), ∀ a x, ((![v310, v312] : Fin 2 → IVec S16 32) a x).toNat < S8x4096.size a := fun i v310 v312 k2_hw103 k2_h2 => k2_hw103 k2_h2
@[reducible] def k2_t104_loop : Scf.Loop 32 :=
  let c0_i32_332 : BitVec 32 := 0#32
  let c128_i32_333 : BitVec 32 := 128#32
  let v193 : BitVec 32 := Scalar.addi c0_i32_332 c128_i32_333
  let c1_i32_334 : BitVec 32 := 1#32
  ⟨c0_i32_332, v193, c1_i32_334⟩
def k2_mult104 (k2_t104 : Fin k2_t104_loop.trips) : BitVec 32 :=
  let c0_i32_332 : BitVec 32 := 0#32
  let c1_i32_334 : BitVec 32 := 1#32
  let arg14 : BitVec 32 := Scf.iv c0_i32_332 c1_i32_334 k2_t104
  let c8_i32_504 : BitVec 32 := 8#32
  let v292 : BitVec 32 := Scalar.remsi arg14 c8_i32_504
  let c16_i32_505 : BitVec 32 := 16#32
  let v293 : BitVec 32 := Scalar.muli v292 c16_i32_505
  v293
def k2_off106 (k2_t104 : Fin k2_t104_loop.trips) : Fin 2 → Nat :=
  let c0_i32_332 : BitVec 32 := 0#32
  let c1_i32_334 : BitVec 32 := 1#32
  let arg14 : BitVec 32 := Scf.iv c0_i32_332 c1_i32_334 k2_t104
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk104 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx104_inb : ∀ (i : grid2.Coords) (v310 : IVec S16 32) (v312 : IVec S16 32) (k2_hw104 : k2_chk104 i v310 v312), ∀ (k2_h2 : k2_cond2 i = 1#1), ∀ a x, ((![v310, v312] : Fin 2 → IVec S16 32) a x).toNat < S8x4096.size a := fun i v310 v312 k2_hw104 k2_h2 => k2_hw104 k2_h2
@[reducible] def k2_t105_loop : Scf.Loop 32 :=
  let c0_i32_343 : BitVec 32 := 0#32
  let c128_i32_344 : BitVec 32 := 128#32
  let v200 : BitVec 32 := Scalar.addi c0_i32_343 c128_i32_344
  let c1_i32_345 : BitVec 32 := 1#32
  ⟨c0_i32_343, v200, c1_i32_345⟩
def k2_mult105 (k2_t105 : Fin k2_t105_loop.trips) : BitVec 32 :=
  let c0_i32_343 : BitVec 32 := 0#32
  let c1_i32_345 : BitVec 32 := 1#32
  let arg14 : BitVec 32 := Scf.iv c0_i32_343 c1_i32_345 k2_t105
  let c8_i32_504 : BitVec 32 := 8#32
  let v292 : BitVec 32 := Scalar.remsi arg14 c8_i32_504
  let c16_i32_505 : BitVec 32 := 16#32
  let v293 : BitVec 32 := Scalar.muli v292 c16_i32_505
  v293
def k2_off107 (k2_t105 : Fin k2_t105_loop.trips) : Fin 2 → Nat :=
  let c0_i32_343 : BitVec 32 := 0#32
  let c1_i32_345 : BitVec 32 := 1#32
  let arg14 : BitVec 32 := Scf.iv c0_i32_343 c1_i32_345 k2_t105
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk105 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx105_inb : ∀ (i : grid2.Coords) (v310 : IVec S16 32) (v312 : IVec S16 32) (k2_hw105 : k2_chk105 i v310 v312), ∀ (k2_h2 : k2_cond2 i = 1#1), ∀ a x, ((![v310, v312] : Fin 2 → IVec S16 32) a x).toNat < S8x4096.size a := fun i v310 v312 k2_hw105 k2_h2 => k2_hw105 k2_h2
@[reducible] def k2_t106_loop : Scf.Loop 32 :=
  let c0_i32_348 : BitVec 32 := 0#32
  let c128_i32_349 : BitVec 32 := 128#32
  let v202 : BitVec 32 := Scalar.addi c0_i32_348 c128_i32_349
  let c1_i32_350 : BitVec 32 := 1#32
  ⟨c0_i32_348, v202, c1_i32_350⟩
def k2_mult106 (k2_t106 : Fin k2_t106_loop.trips) : BitVec 32 :=
  let c0_i32_348 : BitVec 32 := 0#32
  let c1_i32_350 : BitVec 32 := 1#32
  let arg14 : BitVec 32 := Scf.iv c0_i32_348 c1_i32_350 k2_t106
  let c8_i32_504 : BitVec 32 := 8#32
  let v292 : BitVec 32 := Scalar.remsi arg14 c8_i32_504
  let c16_i32_505 : BitVec 32 := 16#32
  let v293 : BitVec 32 := Scalar.muli v292 c16_i32_505
  v293
def k2_off108 (k2_t106 : Fin k2_t106_loop.trips) : Fin 2 → Nat :=
  let c0_i32_348 : BitVec 32 := 0#32
  let c1_i32_350 : BitVec 32 := 1#32
  let arg14 : BitVec 32 := Scf.iv c0_i32_348 c1_i32_350 k2_t106
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk106 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx106_inb : ∀ (i : grid2.Coords) (v310 : IVec S16 32) (v312 : IVec S16 32) (k2_hw106 : k2_chk106 i v310 v312), ∀ (k2_h2 : k2_cond2 i = 1#1), ∀ a x, ((![v310, v312] : Fin 2 → IVec S16 32) a x).toNat < S8x4096.size a := fun i v310 v312 k2_hw106 k2_h2 => k2_hw106 k2_h2
@[reducible] def k2_t107_loop : Scf.Loop 32 :=
  let c0_i32_359 : BitVec 32 := 0#32
  let c128_i32_360 : BitVec 32 := 128#32
  let v209 : BitVec 32 := Scalar.addi c0_i32_359 c128_i32_360
  let c1_i32_361 : BitVec 32 := 1#32
  ⟨c0_i32_359, v209, c1_i32_361⟩
def k2_mult107 (k2_t107 : Fin k2_t107_loop.trips) : BitVec 32 :=
  let c0_i32_359 : BitVec 32 := 0#32
  let c1_i32_361 : BitVec 32 := 1#32
  let arg14 : BitVec 32 := Scf.iv c0_i32_359 c1_i32_361 k2_t107
  let c8_i32_504 : BitVec 32 := 8#32
  let v292 : BitVec 32 := Scalar.remsi arg14 c8_i32_504
  let c16_i32_505 : BitVec 32 := 16#32
  let v293 : BitVec 32 := Scalar.muli v292 c16_i32_505
  v293
def k2_off109 (k2_t107 : Fin k2_t107_loop.trips) : Fin 2 → Nat :=
  let c0_i32_359 : BitVec 32 := 0#32
  let c1_i32_361 : BitVec 32 := 1#32
  let arg14 : BitVec 32 := Scf.iv c0_i32_359 c1_i32_361 k2_t107
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk107 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx107_inb : ∀ (i : grid2.Coords) (v310 : IVec S16 32) (v312 : IVec S16 32) (k2_hw107 : k2_chk107 i v310 v312), ∀ (k2_h2 : k2_cond2 i = 1#1), ∀ a x, ((![v310, v312] : Fin 2 → IVec S16 32) a x).toNat < S8x4096.size a := fun i v310 v312 k2_hw107 k2_h2 => k2_hw107 k2_h2
@[reducible] def k2_t108_loop : Scf.Loop 32 :=
  let c0_i32_364 : BitVec 32 := 0#32
  let c128_i32_365 : BitVec 32 := 128#32
  let v211 : BitVec 32 := Scalar.addi c0_i32_364 c128_i32_365
  let c1_i32_366 : BitVec 32 := 1#32
  ⟨c0_i32_364, v211, c1_i32_366⟩
def k2_mult108 (k2_t108 : Fin k2_t108_loop.trips) : BitVec 32 :=
  let c0_i32_364 : BitVec 32 := 0#32
  let c1_i32_366 : BitVec 32 := 1#32
  let arg14 : BitVec 32 := Scf.iv c0_i32_364 c1_i32_366 k2_t108
  let c8_i32_504 : BitVec 32 := 8#32
  let v292 : BitVec 32 := Scalar.remsi arg14 c8_i32_504
  let c16_i32_505 : BitVec 32 := 16#32
  let v293 : BitVec 32 := Scalar.muli v292 c16_i32_505
  v293
def k2_off110 (k2_t108 : Fin k2_t108_loop.trips) : Fin 2 → Nat :=
  let c0_i32_364 : BitVec 32 := 0#32
  let c1_i32_366 : BitVec 32 := 1#32
  let arg14 : BitVec 32 := Scf.iv c0_i32_364 c1_i32_366 k2_t108
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk108 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx108_inb : ∀ (i : grid2.Coords) (v310 : IVec S16 32) (v312 : IVec S16 32) (k2_hw108 : k2_chk108 i v310 v312), ∀ (k2_h2 : k2_cond2 i = 1#1), ∀ a x, ((![v310, v312] : Fin 2 → IVec S16 32) a x).toNat < S8x4096.size a := fun i v310 v312 k2_hw108 k2_h2 => k2_hw108 k2_h2
@[reducible] def k2_t109_loop : Scf.Loop 32 :=
  let c0_i32_375 : BitVec 32 := 0#32
  let c128_i32_376 : BitVec 32 := 128#32
  let v218 : BitVec 32 := Scalar.addi c0_i32_375 c128_i32_376
  let c1_i32_377 : BitVec 32 := 1#32
  ⟨c0_i32_375, v218, c1_i32_377⟩
def k2_mult109 (k2_t109 : Fin k2_t109_loop.trips) : BitVec 32 :=
  let c0_i32_375 : BitVec 32 := 0#32
  let c1_i32_377 : BitVec 32 := 1#32
  let arg14 : BitVec 32 := Scf.iv c0_i32_375 c1_i32_377 k2_t109
  let c8_i32_504 : BitVec 32 := 8#32
  let v292 : BitVec 32 := Scalar.remsi arg14 c8_i32_504
  let c16_i32_505 : BitVec 32 := 16#32
  let v293 : BitVec 32 := Scalar.muli v292 c16_i32_505
  v293
def k2_off111 (k2_t109 : Fin k2_t109_loop.trips) : Fin 2 → Nat :=
  let c0_i32_375 : BitVec 32 := 0#32
  let c1_i32_377 : BitVec 32 := 1#32
  let arg14 : BitVec 32 := Scf.iv c0_i32_375 c1_i32_377 k2_t109
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk109 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx109_inb : ∀ (i : grid2.Coords) (v310 : IVec S16 32) (v312 : IVec S16 32) (k2_hw109 : k2_chk109 i v310 v312), ∀ (k2_h2 : k2_cond2 i = 1#1), ∀ a x, ((![v310, v312] : Fin 2 → IVec S16 32) a x).toNat < S8x4096.size a := fun i v310 v312 k2_hw109 k2_h2 => k2_hw109 k2_h2
@[reducible] def k2_t110_loop : Scf.Loop 32 :=
  let c0_i32_380 : BitVec 32 := 0#32
  let c128_i32_381 : BitVec 32 := 128#32
  let v220 : BitVec 32 := Scalar.addi c0_i32_380 c128_i32_381
  let c1_i32_382 : BitVec 32 := 1#32
  ⟨c0_i32_380, v220, c1_i32_382⟩
def k2_mult110 (k2_t110 : Fin k2_t110_loop.trips) : BitVec 32 :=
  let c0_i32_380 : BitVec 32 := 0#32
  let c1_i32_382 : BitVec 32 := 1#32
  let arg14 : BitVec 32 := Scf.iv c0_i32_380 c1_i32_382 k2_t110
  let c8_i32_504 : BitVec 32 := 8#32
  let v292 : BitVec 32 := Scalar.remsi arg14 c8_i32_504
  let c16_i32_505 : BitVec 32 := 16#32
  let v293 : BitVec 32 := Scalar.muli v292 c16_i32_505
  v293
def k2_off112 (k2_t110 : Fin k2_t110_loop.trips) : Fin 2 → Nat :=
  let c0_i32_380 : BitVec 32 := 0#32
  let c1_i32_382 : BitVec 32 := 1#32
  let arg14 : BitVec 32 := Scf.iv c0_i32_380 c1_i32_382 k2_t110
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk110 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx110_inb : ∀ (i : grid2.Coords) (v310 : IVec S16 32) (v312 : IVec S16 32) (k2_hw110 : k2_chk110 i v310 v312), ∀ (k2_h2 : k2_cond2 i = 1#1), ∀ a x, ((![v310, v312] : Fin 2 → IVec S16 32) a x).toNat < S8x4096.size a := fun i v310 v312 k2_hw110 k2_h2 => k2_hw110 k2_h2
@[reducible] def k2_t111_loop : Scf.Loop 32 :=
  let c0_i32_391 : BitVec 32 := 0#32
  let c128_i32_392 : BitVec 32 := 128#32
  let v227 : BitVec 32 := Scalar.addi c0_i32_391 c128_i32_392
  let c1_i32_393 : BitVec 32 := 1#32
  ⟨c0_i32_391, v227, c1_i32_393⟩
def k2_mult111 (k2_t111 : Fin k2_t111_loop.trips) : BitVec 32 :=
  let c0_i32_391 : BitVec 32 := 0#32
  let c1_i32_393 : BitVec 32 := 1#32
  let arg14 : BitVec 32 := Scf.iv c0_i32_391 c1_i32_393 k2_t111
  let c8_i32_504 : BitVec 32 := 8#32
  let v292 : BitVec 32 := Scalar.remsi arg14 c8_i32_504
  let c16_i32_505 : BitVec 32 := 16#32
  let v293 : BitVec 32 := Scalar.muli v292 c16_i32_505
  v293
def k2_off113 (k2_t111 : Fin k2_t111_loop.trips) : Fin 2 → Nat :=
  let c0_i32_391 : BitVec 32 := 0#32
  let c1_i32_393 : BitVec 32 := 1#32
  let arg14 : BitVec 32 := Scf.iv c0_i32_391 c1_i32_393 k2_t111
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk111 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx111_inb : ∀ (i : grid2.Coords) (v310 : IVec S16 32) (v312 : IVec S16 32) (k2_hw111 : k2_chk111 i v310 v312), ∀ (k2_h2 : k2_cond2 i = 1#1), ∀ a x, ((![v310, v312] : Fin 2 → IVec S16 32) a x).toNat < S8x4096.size a := fun i v310 v312 k2_hw111 k2_h2 => k2_hw111 k2_h2
@[reducible] def k2_t112_loop : Scf.Loop 32 :=
  let c0_i32_396 : BitVec 32 := 0#32
  let c128_i32_397 : BitVec 32 := 128#32
  let v229 : BitVec 32 := Scalar.addi c0_i32_396 c128_i32_397
  let c1_i32_398 : BitVec 32 := 1#32
  ⟨c0_i32_396, v229, c1_i32_398⟩
def k2_mult112 (k2_t112 : Fin k2_t112_loop.trips) : BitVec 32 :=
  let c0_i32_396 : BitVec 32 := 0#32
  let c1_i32_398 : BitVec 32 := 1#32
  let arg14 : BitVec 32 := Scf.iv c0_i32_396 c1_i32_398 k2_t112
  let c8_i32_504 : BitVec 32 := 8#32
  let v292 : BitVec 32 := Scalar.remsi arg14 c8_i32_504
  let c16_i32_505 : BitVec 32 := 16#32
  let v293 : BitVec 32 := Scalar.muli v292 c16_i32_505
  v293
def k2_off114 (k2_t112 : Fin k2_t112_loop.trips) : Fin 2 → Nat :=
  let c0_i32_396 : BitVec 32 := 0#32
  let c1_i32_398 : BitVec 32 := 1#32
  let arg14 : BitVec 32 := Scf.iv c0_i32_396 c1_i32_398 k2_t112
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk112 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx112_inb : ∀ (i : grid2.Coords) (v310 : IVec S16 32) (v312 : IVec S16 32) (k2_hw112 : k2_chk112 i v310 v312), ∀ (k2_h2 : k2_cond2 i = 1#1), ∀ a x, ((![v310, v312] : Fin 2 → IVec S16 32) a x).toNat < S8x4096.size a := fun i v310 v312 k2_hw112 k2_h2 => k2_hw112 k2_h2
@[reducible] def k2_t113_loop : Scf.Loop 32 :=
  let c0_i32_407 : BitVec 32 := 0#32
  let c128_i32_408 : BitVec 32 := 128#32
  let v236 : BitVec 32 := Scalar.addi c0_i32_407 c128_i32_408
  let c1_i32_409 : BitVec 32 := 1#32
  ⟨c0_i32_407, v236, c1_i32_409⟩
def k2_mult113 (k2_t113 : Fin k2_t113_loop.trips) : BitVec 32 :=
  let c0_i32_407 : BitVec 32 := 0#32
  let c1_i32_409 : BitVec 32 := 1#32
  let arg14 : BitVec 32 := Scf.iv c0_i32_407 c1_i32_409 k2_t113
  let c8_i32_504 : BitVec 32 := 8#32
  let v292 : BitVec 32 := Scalar.remsi arg14 c8_i32_504
  let c16_i32_505 : BitVec 32 := 16#32
  let v293 : BitVec 32 := Scalar.muli v292 c16_i32_505
  v293
def k2_off115 (k2_t113 : Fin k2_t113_loop.trips) : Fin 2 → Nat :=
  let c0_i32_407 : BitVec 32 := 0#32
  let c1_i32_409 : BitVec 32 := 1#32
  let arg14 : BitVec 32 := Scf.iv c0_i32_407 c1_i32_409 k2_t113
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk113 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx113_inb : ∀ (i : grid2.Coords) (v310 : IVec S16 32) (v312 : IVec S16 32) (k2_hw113 : k2_chk113 i v310 v312), ∀ (k2_h2 : k2_cond2 i = 1#1), ∀ a x, ((![v310, v312] : Fin 2 → IVec S16 32) a x).toNat < S8x4096.size a := fun i v310 v312 k2_hw113 k2_h2 => k2_hw113 k2_h2
@[reducible] def k2_t114_loop : Scf.Loop 32 :=
  let c0_i32_412 : BitVec 32 := 0#32
  let c128_i32_413 : BitVec 32 := 128#32
  let v238 : BitVec 32 := Scalar.addi c0_i32_412 c128_i32_413
  let c1_i32_414 : BitVec 32 := 1#32
  ⟨c0_i32_412, v238, c1_i32_414⟩
def k2_mult114 (k2_t114 : Fin k2_t114_loop.trips) : BitVec 32 :=
  let c0_i32_412 : BitVec 32 := 0#32
  let c1_i32_414 : BitVec 32 := 1#32
  let arg14 : BitVec 32 := Scf.iv c0_i32_412 c1_i32_414 k2_t114
  let c8_i32_504 : BitVec 32 := 8#32
  let v292 : BitVec 32 := Scalar.remsi arg14 c8_i32_504
  let c16_i32_505 : BitVec 32 := 16#32
  let v293 : BitVec 32 := Scalar.muli v292 c16_i32_505
  v293
def k2_off116 (k2_t114 : Fin k2_t114_loop.trips) : Fin 2 → Nat :=
  let c0_i32_412 : BitVec 32 := 0#32
  let c1_i32_414 : BitVec 32 := 1#32
  let arg14 : BitVec 32 := Scf.iv c0_i32_412 c1_i32_414 k2_t114
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk114 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx114_inb : ∀ (i : grid2.Coords) (v310 : IVec S16 32) (v312 : IVec S16 32) (k2_hw114 : k2_chk114 i v310 v312), ∀ (k2_h2 : k2_cond2 i = 1#1), ∀ a x, ((![v310, v312] : Fin 2 → IVec S16 32) a x).toNat < S8x4096.size a := fun i v310 v312 k2_hw114 k2_h2 => k2_hw114 k2_h2
@[reducible] def k2_t115_loop : Scf.Loop 32 :=
  let c0_i32_423 : BitVec 32 := 0#32
  let c128_i32_424 : BitVec 32 := 128#32
  let v245 : BitVec 32 := Scalar.addi c0_i32_423 c128_i32_424
  let c1_i32_425 : BitVec 32 := 1#32
  ⟨c0_i32_423, v245, c1_i32_425⟩
def k2_mult115 (k2_t115 : Fin k2_t115_loop.trips) : BitVec 32 :=
  let c0_i32_423 : BitVec 32 := 0#32
  let c1_i32_425 : BitVec 32 := 1#32
  let arg14 : BitVec 32 := Scf.iv c0_i32_423 c1_i32_425 k2_t115
  let c8_i32_504 : BitVec 32 := 8#32
  let v292 : BitVec 32 := Scalar.remsi arg14 c8_i32_504
  let c16_i32_505 : BitVec 32 := 16#32
  let v293 : BitVec 32 := Scalar.muli v292 c16_i32_505
  v293
def k2_off117 (k2_t115 : Fin k2_t115_loop.trips) : Fin 2 → Nat :=
  let c0_i32_423 : BitVec 32 := 0#32
  let c1_i32_425 : BitVec 32 := 1#32
  let arg14 : BitVec 32 := Scf.iv c0_i32_423 c1_i32_425 k2_t115
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk115 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx115_inb : ∀ (i : grid2.Coords) (v310 : IVec S16 32) (v312 : IVec S16 32) (k2_hw115 : k2_chk115 i v310 v312), ∀ (k2_h2 : k2_cond2 i = 1#1), ∀ a x, ((![v310, v312] : Fin 2 → IVec S16 32) a x).toNat < S8x4096.size a := fun i v310 v312 k2_hw115 k2_h2 => k2_hw115 k2_h2
@[reducible] def k2_t116_loop : Scf.Loop 32 :=
  let c0_i32_428 : BitVec 32 := 0#32
  let c128_i32_429 : BitVec 32 := 128#32
  let v247 : BitVec 32 := Scalar.addi c0_i32_428 c128_i32_429
  let c1_i32_430 : BitVec 32 := 1#32
  ⟨c0_i32_428, v247, c1_i32_430⟩
def k2_mult116 (k2_t116 : Fin k2_t116_loop.trips) : BitVec 32 :=
  let c0_i32_428 : BitVec 32 := 0#32
  let c1_i32_430 : BitVec 32 := 1#32
  let arg14 : BitVec 32 := Scf.iv c0_i32_428 c1_i32_430 k2_t116
  let c8_i32_504 : BitVec 32 := 8#32
  let v292 : BitVec 32 := Scalar.remsi arg14 c8_i32_504
  let c16_i32_505 : BitVec 32 := 16#32
  let v293 : BitVec 32 := Scalar.muli v292 c16_i32_505
  v293
def k2_off118 (k2_t116 : Fin k2_t116_loop.trips) : Fin 2 → Nat :=
  let c0_i32_428 : BitVec 32 := 0#32
  let c1_i32_430 : BitVec 32 := 1#32
  let arg14 : BitVec 32 := Scf.iv c0_i32_428 c1_i32_430 k2_t116
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk116 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx116_inb : ∀ (i : grid2.Coords) (v310 : IVec S16 32) (v312 : IVec S16 32) (k2_hw116 : k2_chk116 i v310 v312), ∀ (k2_h2 : k2_cond2 i = 1#1), ∀ a x, ((![v310, v312] : Fin 2 → IVec S16 32) a x).toNat < S8x4096.size a := fun i v310 v312 k2_hw116 k2_h2 => k2_hw116 k2_h2
@[reducible] def k2_t117_loop : Scf.Loop 32 :=
  let c0_i32_439 : BitVec 32 := 0#32
  let c128_i32_440 : BitVec 32 := 128#32
  let v254 : BitVec 32 := Scalar.addi c0_i32_439 c128_i32_440
  let c1_i32_441 : BitVec 32 := 1#32
  ⟨c0_i32_439, v254, c1_i32_441⟩
def k2_mult117 (k2_t117 : Fin k2_t117_loop.trips) : BitVec 32 :=
  let c0_i32_439 : BitVec 32 := 0#32
  let c1_i32_441 : BitVec 32 := 1#32
  let arg14 : BitVec 32 := Scf.iv c0_i32_439 c1_i32_441 k2_t117
  let c8_i32_504 : BitVec 32 := 8#32
  let v292 : BitVec 32 := Scalar.remsi arg14 c8_i32_504
  let c16_i32_505 : BitVec 32 := 16#32
  let v293 : BitVec 32 := Scalar.muli v292 c16_i32_505
  v293
def k2_off119 (k2_t117 : Fin k2_t117_loop.trips) : Fin 2 → Nat :=
  let c0_i32_439 : BitVec 32 := 0#32
  let c1_i32_441 : BitVec 32 := 1#32
  let arg14 : BitVec 32 := Scf.iv c0_i32_439 c1_i32_441 k2_t117
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk117 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx117_inb : ∀ (i : grid2.Coords) (v310 : IVec S16 32) (v312 : IVec S16 32) (k2_hw117 : k2_chk117 i v310 v312), ∀ (k2_h2 : k2_cond2 i = 1#1), ∀ a x, ((![v310, v312] : Fin 2 → IVec S16 32) a x).toNat < S8x4096.size a := fun i v310 v312 k2_hw117 k2_h2 => k2_hw117 k2_h2
@[reducible] def k2_t118_loop : Scf.Loop 32 :=
  let c0_i32_444 : BitVec 32 := 0#32
  let c128_i32_445 : BitVec 32 := 128#32
  let v256 : BitVec 32 := Scalar.addi c0_i32_444 c128_i32_445
  let c1_i32_446 : BitVec 32 := 1#32
  ⟨c0_i32_444, v256, c1_i32_446⟩
def k2_mult118 (k2_t118 : Fin k2_t118_loop.trips) : BitVec 32 :=
  let c0_i32_444 : BitVec 32 := 0#32
  let c1_i32_446 : BitVec 32 := 1#32
  let arg14 : BitVec 32 := Scf.iv c0_i32_444 c1_i32_446 k2_t118
  let c8_i32_504 : BitVec 32 := 8#32
  let v292 : BitVec 32 := Scalar.remsi arg14 c8_i32_504
  let c16_i32_505 : BitVec 32 := 16#32
  let v293 : BitVec 32 := Scalar.muli v292 c16_i32_505
  v293
def k2_off120 (k2_t118 : Fin k2_t118_loop.trips) : Fin 2 → Nat :=
  let c0_i32_444 : BitVec 32 := 0#32
  let c1_i32_446 : BitVec 32 := 1#32
  let arg14 : BitVec 32 := Scf.iv c0_i32_444 c1_i32_446 k2_t118
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk118 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx118_inb : ∀ (i : grid2.Coords) (v310 : IVec S16 32) (v312 : IVec S16 32) (k2_hw118 : k2_chk118 i v310 v312), ∀ (k2_h2 : k2_cond2 i = 1#1), ∀ a x, ((![v310, v312] : Fin 2 → IVec S16 32) a x).toNat < S8x4096.size a := fun i v310 v312 k2_hw118 k2_h2 => k2_hw118 k2_h2
@[reducible] def k2_t119_loop : Scf.Loop 32 :=
  let c0_i32_455 : BitVec 32 := 0#32
  let c128_i32_456 : BitVec 32 := 128#32
  let v263 : BitVec 32 := Scalar.addi c0_i32_455 c128_i32_456
  let c1_i32_457 : BitVec 32 := 1#32
  ⟨c0_i32_455, v263, c1_i32_457⟩
def k2_mult119 (k2_t119 : Fin k2_t119_loop.trips) : BitVec 32 :=
  let c0_i32_455 : BitVec 32 := 0#32
  let c1_i32_457 : BitVec 32 := 1#32
  let arg14 : BitVec 32 := Scf.iv c0_i32_455 c1_i32_457 k2_t119
  let c8_i32_504 : BitVec 32 := 8#32
  let v292 : BitVec 32 := Scalar.remsi arg14 c8_i32_504
  let c16_i32_505 : BitVec 32 := 16#32
  let v293 : BitVec 32 := Scalar.muli v292 c16_i32_505
  v293
def k2_off121 (k2_t119 : Fin k2_t119_loop.trips) : Fin 2 → Nat :=
  let c0_i32_455 : BitVec 32 := 0#32
  let c1_i32_457 : BitVec 32 := 1#32
  let arg14 : BitVec 32 := Scf.iv c0_i32_455 c1_i32_457 k2_t119
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk119 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx119_inb : ∀ (i : grid2.Coords) (v310 : IVec S16 32) (v312 : IVec S16 32) (k2_hw119 : k2_chk119 i v310 v312), ∀ (k2_h2 : k2_cond2 i = 1#1), ∀ a x, ((![v310, v312] : Fin 2 → IVec S16 32) a x).toNat < S8x4096.size a := fun i v310 v312 k2_hw119 k2_h2 => k2_hw119 k2_h2
@[reducible] def k2_t120_loop : Scf.Loop 32 :=
  let c0_i32_460 : BitVec 32 := 0#32
  let c128_i32_461 : BitVec 32 := 128#32
  let v265 : BitVec 32 := Scalar.addi c0_i32_460 c128_i32_461
  let c1_i32_462 : BitVec 32 := 1#32
  ⟨c0_i32_460, v265, c1_i32_462⟩
def k2_mult120 (k2_t120 : Fin k2_t120_loop.trips) : BitVec 32 :=
  let c0_i32_460 : BitVec 32 := 0#32
  let c1_i32_462 : BitVec 32 := 1#32
  let arg14 : BitVec 32 := Scf.iv c0_i32_460 c1_i32_462 k2_t120
  let c8_i32_504 : BitVec 32 := 8#32
  let v292 : BitVec 32 := Scalar.remsi arg14 c8_i32_504
  let c16_i32_505 : BitVec 32 := 16#32
  let v293 : BitVec 32 := Scalar.muli v292 c16_i32_505
  v293
def k2_off122 (k2_t120 : Fin k2_t120_loop.trips) : Fin 2 → Nat :=
  let c0_i32_460 : BitVec 32 := 0#32
  let c1_i32_462 : BitVec 32 := 1#32
  let arg14 : BitVec 32 := Scf.iv c0_i32_460 c1_i32_462 k2_t120
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk120 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx120_inb : ∀ (i : grid2.Coords) (v310 : IVec S16 32) (v312 : IVec S16 32) (k2_hw120 : k2_chk120 i v310 v312), ∀ (k2_h2 : k2_cond2 i = 1#1), ∀ a x, ((![v310, v312] : Fin 2 → IVec S16 32) a x).toNat < S8x4096.size a := fun i v310 v312 k2_hw120 k2_h2 => k2_hw120 k2_h2
@[reducible] def k2_t121_loop : Scf.Loop 32 :=
  let c0_i32_471 : BitVec 32 := 0#32
  let c128_i32_472 : BitVec 32 := 128#32
  let v272 : BitVec 32 := Scalar.addi c0_i32_471 c128_i32_472
  let c1_i32_473 : BitVec 32 := 1#32
  ⟨c0_i32_471, v272, c1_i32_473⟩
def k2_mult121 (k2_t121 : Fin k2_t121_loop.trips) : BitVec 32 :=
  let c0_i32_471 : BitVec 32 := 0#32
  let c1_i32_473 : BitVec 32 := 1#32
  let arg14 : BitVec 32 := Scf.iv c0_i32_471 c1_i32_473 k2_t121
  let c8_i32_504 : BitVec 32 := 8#32
  let v292 : BitVec 32 := Scalar.remsi arg14 c8_i32_504
  let c16_i32_505 : BitVec 32 := 16#32
  let v293 : BitVec 32 := Scalar.muli v292 c16_i32_505
  v293
def k2_off123 (k2_t121 : Fin k2_t121_loop.trips) : Fin 2 → Nat :=
  let c0_i32_471 : BitVec 32 := 0#32
  let c1_i32_473 : BitVec 32 := 1#32
  let arg14 : BitVec 32 := Scf.iv c0_i32_471 c1_i32_473 k2_t121
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk121 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx121_inb : ∀ (i : grid2.Coords) (v310 : IVec S16 32) (v312 : IVec S16 32) (k2_hw121 : k2_chk121 i v310 v312), ∀ (k2_h2 : k2_cond2 i = 1#1), ∀ a x, ((![v310, v312] : Fin 2 → IVec S16 32) a x).toNat < S8x4096.size a := fun i v310 v312 k2_hw121 k2_h2 => k2_hw121 k2_h2
@[reducible] def k2_t122_loop : Scf.Loop 32 :=
  let c0_i32_476 : BitVec 32 := 0#32
  let c128_i32_477 : BitVec 32 := 128#32
  let v274 : BitVec 32 := Scalar.addi c0_i32_476 c128_i32_477
  let c1_i32_478 : BitVec 32 := 1#32
  ⟨c0_i32_476, v274, c1_i32_478⟩
def k2_mult122 (k2_t122 : Fin k2_t122_loop.trips) : BitVec 32 :=
  let c0_i32_476 : BitVec 32 := 0#32
  let c1_i32_478 : BitVec 32 := 1#32
  let arg14 : BitVec 32 := Scf.iv c0_i32_476 c1_i32_478 k2_t122
  let c8_i32_504 : BitVec 32 := 8#32
  let v292 : BitVec 32 := Scalar.remsi arg14 c8_i32_504
  let c16_i32_505 : BitVec 32 := 16#32
  let v293 : BitVec 32 := Scalar.muli v292 c16_i32_505
  v293
def k2_off124 (k2_t122 : Fin k2_t122_loop.trips) : Fin 2 → Nat :=
  let c0_i32_476 : BitVec 32 := 0#32
  let c1_i32_478 : BitVec 32 := 1#32
  let arg14 : BitVec 32 := Scf.iv c0_i32_476 c1_i32_478 k2_t122
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk122 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx122_inb : ∀ (i : grid2.Coords) (v310 : IVec S16 32) (v312 : IVec S16 32) (k2_hw122 : k2_chk122 i v310 v312), ∀ (k2_h2 : k2_cond2 i = 1#1), ∀ a x, ((![v310, v312] : Fin 2 → IVec S16 32) a x).toNat < S8x4096.size a := fun i v310 v312 k2_hw122 k2_h2 => k2_hw122 k2_h2
@[reducible] def k2_t123_loop : Scf.Loop 32 :=
  let c0_i32_487 : BitVec 32 := 0#32
  let c128_i32_488 : BitVec 32 := 128#32
  let v281 : BitVec 32 := Scalar.addi c0_i32_487 c128_i32_488
  let c1_i32_489 : BitVec 32 := 1#32
  ⟨c0_i32_487, v281, c1_i32_489⟩
def k2_mult123 (k2_t123 : Fin k2_t123_loop.trips) : BitVec 32 :=
  let c0_i32_487 : BitVec 32 := 0#32
  let c1_i32_489 : BitVec 32 := 1#32
  let arg14 : BitVec 32 := Scf.iv c0_i32_487 c1_i32_489 k2_t123
  let c8_i32_504 : BitVec 32 := 8#32
  let v292 : BitVec 32 := Scalar.remsi arg14 c8_i32_504
  let c16_i32_505 : BitVec 32 := 16#32
  let v293 : BitVec 32 := Scalar.muli v292 c16_i32_505
  v293
def k2_off125 (k2_t123 : Fin k2_t123_loop.trips) : Fin 2 → Nat :=
  let c0_i32_487 : BitVec 32 := 0#32
  let c1_i32_489 : BitVec 32 := 1#32
  let arg14 : BitVec 32 := Scf.iv c0_i32_487 c1_i32_489 k2_t123
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk123 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx123_inb : ∀ (i : grid2.Coords) (v310 : IVec S16 32) (v312 : IVec S16 32) (k2_hw123 : k2_chk123 i v310 v312), ∀ (k2_h2 : k2_cond2 i = 1#1), ∀ a x, ((![v310, v312] : Fin 2 → IVec S16 32) a x).toNat < S8x4096.size a := fun i v310 v312 k2_hw123 k2_h2 => k2_hw123 k2_h2
@[reducible] def k2_t124_loop : Scf.Loop 32 :=
  let c0_i32_492 : BitVec 32 := 0#32
  let c128_i32_493 : BitVec 32 := 128#32
  let v283 : BitVec 32 := Scalar.addi c0_i32_492 c128_i32_493
  let c1_i32_494 : BitVec 32 := 1#32
  ⟨c0_i32_492, v283, c1_i32_494⟩
def k2_mult124 (k2_t124 : Fin k2_t124_loop.trips) : BitVec 32 :=
  let c0_i32_492 : BitVec 32 := 0#32
  let c1_i32_494 : BitVec 32 := 1#32
  let arg14 : BitVec 32 := Scf.iv c0_i32_492 c1_i32_494 k2_t124
  let c8_i32_504 : BitVec 32 := 8#32
  let v292 : BitVec 32 := Scalar.remsi arg14 c8_i32_504
  let c16_i32_505 : BitVec 32 := 16#32
  let v293 : BitVec 32 := Scalar.muli v292 c16_i32_505
  v293
def k2_off126 (k2_t124 : Fin k2_t124_loop.trips) : Fin 2 → Nat :=
  let c0_i32_492 : BitVec 32 := 0#32
  let c1_i32_494 : BitVec 32 := 1#32
  let arg14 : BitVec 32 := Scf.iv c0_i32_492 c1_i32_494 k2_t124
  let c8_i32_503 : BitVec 32 := 8#32
  let v291 : BitVec 32 := Scalar.divsi arg14 c8_i32_503
  let v295 : Index := Scalar.indexCast v291
  let c8_i32_504 : BitVec 32 := 8#32
  let v292 : BitVec 32 := Scalar.remsi arg14 c8_i32_504
  let c16_i32_505 : BitVec 32 := 16#32
  let v293 : BitVec 32 := Scalar.muli v292 c16_i32_505
  let v294 : BitVec 32 := v293
  let v296 : Index := Scalar.indexCast v294
  ![v295.toNat, v296.toNat]

def k2_chk124 (i : grid2.Coords) (v310 : IVec S16 32) (v312 : IVec S16 32) : Prop :=
  (∀ (k2_h2 : k2_cond2 i = 1#1), ∀ a x, ((![v310, v312] : Fin 2 → IVec S16 32) a x).toNat < S8x4096.size a)
theorem k2_idx124_inb : ∀ (i : grid2.Coords) (v310 : IVec S16 32) (v312 : IVec S16 32) (k2_hw124 : k2_chk124 i v310 v312), ∀ (k2_h2 : k2_cond2 i = 1#1), ∀ a x, ((![v310, v312] : Fin 2 → IVec S16 32) a x).toNat < S8x4096.size a := fun i v310 v312 k2_hw124 k2_h2 => k2_hw124 k2_h2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x4096 : Shape := ⟨2, ![1024, 4096]⟩
abbrev S4096x4096 : Shape := ⟨2, ![4096, 4096]⟩
abbrev S1024x2 : Shape := ⟨2, ![1024, 2]⟩
abbrev S_ : Shape := ⟨0, ![]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S1024x4096, .i32⟩
  | .hbm, ⟨4, _⟩ => ⟨S1024x4096, .f32⟩
  | .hbm, ⟨5, _⟩ => ⟨S1024x4096, .i32⟩
  | .hbm, ⟨6, _⟩ => ⟨S1024x2, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S1024x2, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S_, .i32⟩
  | .hbm, ⟨16, _⟩ => ⟨S4096x4096, .f32⟩
  | .hbm, ⟨17, _⟩ => ⟨S4096x4096, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x1, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x1, .i32⟩
  | .hbm, ⟨53, _⟩ => ⟨S_, .i32⟩
  | .hbm, ⟨54, _⟩ => ⟨S4096x4096, .i32⟩
  | .hbm, ⟨55, _⟩ => ⟨S4096x4096, .i1⟩
  | .hbm, ⟨56, _⟩ => ⟨S4096x4096, .i32⟩
  | .hbm, ⟨57, _⟩ => ⟨S4096x4096, .i1⟩
  | .hbm, ⟨58, _⟩ => ⟨S4096x4096, .i1⟩
  | .hbm, ⟨59, _⟩ => ⟨S4096x4096, .i32⟩
  | .hbm, ⟨60, _⟩ => ⟨S4096x4096, .i1⟩
  | .hbm, ⟨61, _⟩ => ⟨S4096x4096, .i32⟩
  | .hbm, ⟨62, _⟩ => ⟨S4096x4096, .i1⟩
  | .hbm, ⟨63, _⟩ => ⟨S4096x4096, .i1⟩
  | .hbm, ⟨64, _⟩ => ⟨S4096x4096, .i1⟩
  | .hbm, ⟨65, _⟩ => ⟨S_, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .i32⟩
  | .hbm, ⟨74, _⟩ => ⟨S4096x4096, .i1⟩
  | .hbm, ⟨75, _⟩ => ⟨S4096x4096, .i32⟩
  | .hbm, ⟨76, _⟩ => ⟨S4096x4096, .i1⟩
  | .hbm, ⟨77, _⟩ => ⟨S4096x4096, .i1⟩
  | .hbm, ⟨78, _⟩ => ⟨S_, .f32⟩
  | .hbm, ⟨79, _⟩ => ⟨S4096x4096, .f32⟩
  | .hbm, ⟨80, _⟩ => ⟨S4096x4096, .i1⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096x4096, .f32⟩
  | .hbm, ⟨86, _⟩ => ⟨S4096x4096, .i1⟩
  | .hbm, ⟨87, _⟩ => ⟨S4096x4096, .i1⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S_, .i32⟩
  | .hbm, ⟨93, _⟩ => ⟨S_, .i32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_while0c_c_7 : Ref sig .tc := ⟨.hbm, 18, rfl⟩
abbrev main_while0c_v5 : Ref sig .tc := ⟨.hbm, 19, rfl⟩
abbrev main_while0b_c_7 : Ref sig .tc := ⟨.hbm, 20, rfl⟩
abbrev main_while0b_v5 : Ref sig .tc := ⟨.hbm, 21, rfl⟩
abbrev main_while0b_v6 : Ref sig .tc := ⟨.hbm, 22, rfl⟩
abbrev main_while0b_c_8 : Ref sig .tc := ⟨.hbm, 23, rfl⟩
abbrev main_while0b_v7 : Ref sig .tc := ⟨.hbm, 24, rfl⟩
abbrev main_while0b_c_9 : Ref sig .tc := ⟨.hbm, 25, rfl⟩
abbrev main_while0b_v8 : Ref sig .tc := ⟨.hbm, 26, rfl⟩
abbrev main_while0b_v9 : Ref sig .tc := ⟨.hbm, 27, rfl⟩
abbrev main_while0b_c_10 : Ref sig .tc := ⟨.hbm, 28, rfl⟩
abbrev main_while0b_c_11 : Ref sig .tc := ⟨.hbm, 29, rfl⟩
abbrev main_while0b_v10 : Ref sig .tc := ⟨.hbm, 30, rfl⟩
abbrev main_while0b_c_12 : Ref sig .tc := ⟨.hbm, 31, rfl⟩
abbrev main_while0b_c_13 : Ref sig .tc := ⟨.hbm, 32, rfl⟩
abbrev main_while0b_v11 : Ref sig .tc := ⟨.hbm, 33, rfl⟩
abbrev main_while0b_c_14 : Ref sig .tc := ⟨.hbm, 34, rfl⟩
abbrev main_while0b_v12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_c_15 : Ref sig .tc := ⟨.hbm, 39, rfl⟩
abbrev main_while0b_v16 : Ref sig .tc := ⟨.hbm, 40, rfl⟩
abbrev main_while0b_c_16 : Ref sig .tc := ⟨.hbm, 41, rfl⟩
abbrev main_while0b_v17 : Ref sig .tc := ⟨.hbm, 42, rfl⟩
abbrev main_while0b_v18 : Ref sig .tc := ⟨.hbm, 43, rfl⟩
abbrev main_while0b_c_17 : Ref sig .tc := ⟨.hbm, 44, rfl⟩
abbrev main_while0b_c_18 : Ref sig .tc := ⟨.hbm, 45, rfl⟩
abbrev main_while0b_v19 : Ref sig .tc := ⟨.hbm, 46, rfl⟩
abbrev main_while0b_c_19 : Ref sig .tc := ⟨.hbm, 47, rfl⟩
abbrev main_while0b_c_20 : Ref sig .tc := ⟨.hbm, 48, rfl⟩
abbrev main_while0b_v20 : Ref sig .tc := ⟨.hbm, 49, rfl⟩
abbrev main_while0b_c_21 : Ref sig .tc := ⟨.hbm, 50, rfl⟩
abbrev main_while0b_v21 : Ref sig .tc := ⟨.hbm, 51, rfl⟩
abbrev main_while0b_v22 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_cst : Ref sig .tc := ⟨.hbm, 65, rfl⟩
abbrev main_while0b_call1_v0 : Ref sig .tc := ⟨.hbm, 66, rfl⟩
abbrev main_while0b_call1_v1 : Ref sig .tc := ⟨.hbm, 67, rfl⟩
abbrev main_while0b_v35 : Ref sig .tc := ⟨.hbm, 68, rfl⟩
abbrev main_while0b_cst_22 : Ref sig .tc := ⟨.hbm, 69, rfl⟩
abbrev main_while0b_call2_v0 : Ref sig .tc := ⟨.hbm, 70, rfl⟩
abbrev main_while0b_call2_v1 : Ref sig .tc := ⟨.hbm, 71, rfl⟩
abbrev main_while0b_v36 : Ref sig .tc := ⟨.hbm, 72, rfl⟩
abbrev main_while0b_v37 : Ref sig .tc := ⟨.hbm, 73, rfl⟩
abbrev main_while0b_v38 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_cst_23 : Ref sig .tc := ⟨.hbm, 78, rfl⟩
abbrev main_while0b_v42 : Ref sig .tc := ⟨.hbm, 79, rfl⟩
abbrev main_while0b_v43 : Ref sig .tc := ⟨.hbm, 80, rfl⟩
abbrev main_while0b_v44 : Ref sig .tc := ⟨.hbm, 81, rfl⟩
abbrev main_while0b_v45 : Ref sig .tc := ⟨.hbm, 82, rfl⟩
abbrev main_while0b_v46 : Ref sig .tc := ⟨.hbm, 83, rfl⟩
abbrev main_while0b_cst_24 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_cst_25 : Ref sig .tc := ⟨.hbm, 88, rfl⟩
abbrev main_while0b_call4_v0 : Ref sig .tc := ⟨.hbm, 89, rfl⟩
abbrev main_while0b_call4_v1 : Ref sig .tc := ⟨.hbm, 90, rfl⟩
abbrev main_while0b_v50 : Ref sig .tc := ⟨.hbm, 91, rfl⟩
abbrev main_while0b_c_26 : Ref sig .tc := ⟨.hbm, 92, rfl⟩
abbrev main_while0b_v51 : Ref sig .tc := ⟨.hbm, 93, rfl⟩

abbrev nD : Nat := 1
abbrev τ : Topo := Topo.v7x

variable {F : FTy → Type} [FloatOps F]

abbrev main_while0_count : Scf.Loop 32 := ⟨0#32, 1024#32, 1#32⟩
-- ==== Proof.Rolled.lean ====
/-
  The SparseCore kernel's body with its repeated text written once.

  The printed body runs two copies of one program, the first (on SparseCore 0) for the matrix of connections,
  the second (on SparseCore 1) for the matrix of ages. Each is a sequence of 32 slabs of eight rows, written out
  slab by slab. Here the two passes over the list of entries (`setPass`, `zeroPass`), one step of the double
  buffer (`k2_step`: two slabs) and the whole branch (`k2_branch`) are definitions over the slab's number, and
  `body_eq` says that the printed body is them.
-/
module

public import proofs.«01_k».proof.Proof.Gen.KernelIdeal

@[expose] public section

noncomputable section

namespace Cert.Proof.Tile

open Cert.KernelIdeal Cert.KernelIdeal.Gen
open Idealize.ShloMosaic Idealize.SL.Sem

variable {F : FTy → Type} [FloatOps F]

/-- The first row of a tile's part of a matrix, as the kernel computes it. -/
def rowW (i : grid2.Coords) : BitVec 32 := Scalar.muli (BitVec.ofNat 32 (i 1).val) 256#32

/-- The first row of slab `k` of a tile's part. -/
def slabW (i : grid2.Coords) (k : ℕ) : BitVec 32 := Scalar.addi (rowW i) (BitVec.ofNat 32 (8 * k))

/-- The row, counted from row `b`, that each of sixteen packed positions names. -/
def lrow (b : BitVec 32) (w : IVec S16 32) : IVec S16 32 := subi (shrui w (broadcast S16 12#32)) (broadcast S16 b)
/-- Which of the sixteen lie in the eight rows from row `b`. -/
def hit (b : BitVec 32) (w : IVec S16 32) : IVec S16 1 :=
  andi (cmpi .sge (lrow b w) (broadcast S16 0#32)) (cmpi .slt (lrow b w) (broadcast S16 8#32))
/-- The row to write at, zero for one that lies elsewhere. -/
def selR (b : BitVec 32) (w : IVec S16 32) : IVec S16 32 := select (hit b w) (lrow b w) (broadcast S16 0#32)
/-- The column to write at, zero for one that lies elsewhere. -/
def selC (b : BitVec 32) (w : IVec S16 32) : IVec S16 32 := select (hit b w) (andi w (broadcast S16 4095#32)) (broadcast S16 0#32)

/-- The condition the indexed stores assume of their indices. -/
def chkG (cnd : BitVec 1) (a b : IVec S16 32) : Prop :=
  ∀ (_ : cnd = 1#1), ∀ x y, ((![a, b] : Fin 2 → IVec S16 32) x y).toNat < S8x4096.size x
instance chkG.dec (cnd : BitVec 1) (a b : IVec S16 32) : Decidable (chkG cnd a b) := decidable_of_iff' _ (Iff.of_eq (chkG.eq_1 cnd a b))

theorem grp_ok : k2_t1_loop.OK := k2_t1_ok (fun | 0 => (0 : Fin 2) | 1 => (0 : Fin 16)) (by decide)
theorem grp_inb (t : Fin k2_t1_loop.trips) : ∀ a, (k2_off1 t) a + S1x16.size a ≤ S16x128.size a :=
  k2_off1_inb (fun | 0 => (0 : Fin 2) | 1 => (0 : Fin 16)) t (by decide)
theorem slab_inb (i : grid2.Coords) (k : ℕ) (hk : k < 32) :
    ∀ a, (k2_off2 i (BitVec.ofNat 32 (8 * k))) a + S8x4096.size a ≤ S4096x4096.size a :=
  k2_off2_inb (fun | 0 => (0 : Fin 2) | 1 => i 1) (show k2_cond1 (fun | 0 => (0 : Fin 2) | 1 => i 1) = 1#1 from (by decide : k2_cond1 (fun | 0 => (0 : Fin 2) | 1 => (0 : Fin 16)) = 1#1)) ⟨k, hk⟩

/-- Sixteen entries of the list, the `t`-th group of sixteen. -/
abbrev grp (t : Fin k2_t1_loop.trips) : Rect S16x128 := Rect.unit (s := S16x128) (k2_off1 t) S1x16.size (grp_inb t)

/-- Slab `k` of a tile's part of the matrix `o`. -/
abbrev slab (i : grid2.Coords) (o : Memref sig .scVector .hbm S4096x4096 .f32) (k : ℕ) (hk : k < 32) : Memref sig .scVector .hbm S8x4096 .f32 :=
  o.slice (Rect.unit (s := S4096x4096) (k2_off2 i (BitVec.ofNat 32 (8 * k))) S8x4096.size (slab_inb i k hk)) (fun _ => rfl)

/-- A tile's program. -/
abbrev TileProg (F : FTy → Type) (i : grid2.Coords) : Type 1 :=
  Prog (TpuEff nD τ sig (Elt F) Λ₀ (.scVector ((i 0).castLE hcore2) ((i 1).castLE hsub2))) PUnit

section
variable (i : grid2.Coords) (cnd : BitVec 1) (h : cnd = 1#1)

/-- One trip of the setting pass. -/
def setTrip (buf : Memref sig .scVector .vmem S8x4096 .f32) (ix : Memref sig .scVector .vmem S16x128 .i32) (vl : Memref sig .scVector .vmem S16x128 .f32)
    (b : BitVec 32) (t : Fin k2_t1_loop.trips) : TileProg F i := do
  let w0 : Vec F S1x16 .i32 ← Prog.lift (.load ix (grp t).toLoadRect (View.loadsAt_vmem h_S1x16))
  have w : Vec F S16 .i32 := shapeCast S16 w0 shapeCasts_S1x16_S16
  have hw : chkG cnd (selR b w) (selC b w) := (← Prog.lift (TpuEff.assume (chkG cnd (selR b w) (selC b w)) (chkG.dec cnd (selR b w) (selC b w)))).down
  let u0 : Vec F S1x16 .f32 ← Prog.lift (.load vl (grp t).toLoadRect (View.loadsAt_vmem h_S1x16))
  SparseCore.vectorStoreIdx buf ![selR b w, selC b w] (shapeCast S16 u0 shapeCasts_S1x16_S16) (hit b w) false (hw h) (View.stores_vmem_bits_univ h_S8x4096 rfl)
  pure ⟨⟩

/-- One trip of the zeroing pass. -/
def zeroTrip (buf : Memref sig .scVector .vmem S8x4096 .f32) (ix : Memref sig .scVector .vmem S16x128 .i32)
    (b : BitVec 32) (t : Fin k2_t1_loop.trips) : TileProg F i := do
  let w0 : Vec F S1x16 .i32 ← Prog.lift (.load ix (grp t).toLoadRect (View.loadsAt_vmem h_S1x16))
  have w : Vec F S16 .i32 := shapeCast S16 w0 shapeCasts_S1x16_S16
  have hw : chkG cnd (selR b w) (selC b w) := (← Prog.lift (TpuEff.assume (chkG cnd (selR b w) (selC b w)) (chkG.dec cnd (selR b w) (selC b w)))).down
  SparseCore.vectorStoreIdx buf ![selR b w, selC b w] (broadcast S16 (Scalar.ofBits .f32 0x00000000#32 : F .f32)) (hit b w) false (hw h) (View.stores_vmem_bits_univ h_S8x4096 rfl)
  pure ⟨⟩

/-- The setting pass over slab `k`: the list's entries that lie in it are written into the buffer. -/
def setPass (buf : Memref sig .scVector .vmem S8x4096 .f32) (ix : Memref sig .scVector .vmem S16x128 .i32) (vl : Memref sig .scVector .vmem S16x128 .f32)
    (k : ℕ) : TileProg F i :=
  Scf.Loop.for k2_t1_loop grp_ok ⟨⟩ fun t _ => setTrip i cnd h buf ix vl (slabW i k) t

/-- The zeroing pass over slab `k`: zero is written into the buffer where the list has an entry. -/
def zeroPass (buf : Memref sig .scVector .vmem S8x4096 .f32) (ix : Memref sig .scVector .vmem S16x128 .i32) (k : ℕ) : TileProg F i :=
  Scf.Loop.for k2_t1_loop grp_ok ⟨⟩ fun t _ => zeroTrip i cnd h buf ix (slabW i k) t

variable (o : Memref sig .scVector .hbm S4096x4096 .f32)
variable (b0 : Memref sig .scVector .vmem S8x4096 .f32) (hb0 : b0.IsWhole) (b1 : Memref sig .scVector .vmem S8x4096 .f32) (hb1 : b1.IsWhole)
variable (ix : Memref sig .scVector .vmem S16x128 .i32) (vl : Memref sig .scVector .vmem S16x128 .f32) (s0 s1 : DmaSems sig S_)

/-- The start of the copy of a buffer to slab `k`. -/
abbrev sendE (b : Memref sig .scVector .vmem S8x4096 .f32) (hb : b.IsWhole) (s : DmaSems sig S_) (k : ℕ) (hk : k < 32) :
    TpuEff nD τ sig (Elt F) Λ₀ (.scVector ((i 0).castLE hcore2) ((i 1).castLE hsub2)) PUnit :=
  .enqueueDma b (.here (slab i o k hk)) (.dma s.sem) hb.wordExact (View.wordExact_bits rfl) ⟨Or.inl rfl, trivial⟩
/-- The wait for that copy. -/
abbrev doneE (b : Memref sig .scVector .vmem S8x4096 .f32) (hb : b.IsWhole) (s : DmaSems sig S_) (k : ℕ) (hk : k < 32) :
    TpuEff nD τ sig (Elt F) Λ₀ (.scVector ((i 0).castLE hcore2) ((i 1).castLE hsub2)) PUnit :=
  .waitDma2 s.sem b (slab i o k hk) hb.wordExact (View.wordExact_bits rfl)

/-- Two slabs: with slab `k` ready in the first buffer and slab `k - 1` on its way from the second, send `k`,
    turn the second buffer over to slab `k + 1`, send that, and turn the first over to slab `k + 2`. -/
def step (j k k' k'' : ℕ) (hj : j < 32) (hk : k < 32) (hk' : k' < 32) : TileProg F i := do
  Prog.lift (sendE i o b0 hb0 s0 k hk)
  Prog.lift (doneE i o b1 hb1 s1 j hj)
  zeroPass i cnd h b1 ix j
  setPass i cnd h b1 ix vl k'
  Prog.lift (sendE i o b1 hb1 s1 k' hk')
  Prog.lift (doneE i o b0 hb0 s0 k hk)
  zeroPass i cnd h b0 ix k
  setPass i cnd h b0 ix vl k''
  pure ⟨⟩

/-- The first part of a branch: the list's values fetched, the first two slabs sent, the first buffer turned over
    to slab 2. -/
def first (val : Memref sig .scVector .hbm S16x128 .f32) (hval : val.IsWhole) (hvl : vl.IsWhole) (sv : DmaSems sig S_) : TileProg F i := do
  Prog.lift (.enqueueDma val (.here vl) (.dma sv.sem) hval.wordExact hvl.wordExact ⟨Or.inl rfl, trivial⟩)
  Prog.lift (.waitDma2 sv.sem val vl hval.wordExact hvl.wordExact)
  setPass i cnd h b0 ix vl 0
  Prog.lift (sendE i o b0 hb0 s0 0 (by decide))
  setPass i cnd h b1 ix vl 1
  Prog.lift (sendE i o b1 hb1 s1 1 (by decide))
  Prog.lift (doneE i o b0 hb0 s0 0 (by decide))
  zeroPass i cnd h b0 ix 0
  setPass i cnd h b0 ix vl 2
  pure ⟨⟩

/-- The last part of a branch, slabs 30 and 31 sent and waited for, then `rest`. -/
def last (rest : TileProg F i) : TileProg F i := do
  Prog.lift (sendE i o b0 hb0 s0 30 (by decide))
  Prog.lift (doneE i o b1 hb1 s1 29 (by decide))
  zeroPass i cnd h b1 ix 29
  setPass i cnd h b1 ix vl 31
  Prog.lift (sendE i o b1 hb1 s1 31 (by decide))
  Prog.lift (doneE i o b0 hb0 s0 30 (by decide))
  Prog.lift (doneE i o b1 hb1 s1 31 (by decide))
  rest

/-- `n` steps from the one that finds slab `j` on its way, then `last`. -/
def steps (rest : TileProg F i) : (n j : ℕ) → j + 2 * n ≤ 29 → TileProg F i
  | 0, _, _ => last i cnd h o b0 hb0 b1 hb1 ix vl s0 s1 rest
  | n + 1, j, hj => do
    step i cnd h o b0 hb0 b1 hb1 ix vl s0 s1 j (j + 1) (j + 2) (j + 3) (by omega) (by omega) (by omega)
    steps rest n (j + 2) (by omega)

/-- A whole branch, the matrix `o` from the list's positions `ix` and the values `val`, then `rest`. -/
def branch (rest : TileProg F i) (val : Memref sig .scVector .hbm S16x128 .f32) (hval : val.IsWhole) (hvl : vl.IsWhole) (sv : DmaSems sig S_) : TileProg F i := do
  first i cnd h o b0 hb0 b1 hb1 ix vl s0 s1 val hval hvl sv
  steps i cnd h o b0 hb0 b1 hb1 ix vl s0 s1 rest 14 1 (by decide)

end

section
variable (i : grid2.Coords) (arg2 : Memref sig .scVector .hbm S16x128 .i32) (harg2 : arg2.IsWhole) (arg3 : Memref sig .scVector .hbm S16x128 .f32) (harg3 : arg3.IsWhole)
  (arg4 : Memref sig .scVector .hbm S16x128 .f32) (harg4 : arg4.IsWhole) (arg5 : Memref sig .scVector .hbm S8x4096 .f32) (harg5 : arg5.IsWhole)
  (arg6 : Memref sig .scVector .hbm S4096x4096 .f32) (harg6 : arg6.IsWhole) (arg7 : Memref sig .scVector .hbm S4096x4096 .f32) (harg7 : arg7.IsWhole)
  (arg8 : Memref sig .scVector .vmem S8x4096 .f32) (harg8 : arg8.IsWhole) (arg9 : Memref sig .scVector .vmem S8x4096 .f32) (harg9 : arg9.IsWhole)
  (arg10 : Memref sig .scVector .vmem S16x128 .i32) (harg10 : arg10.IsWhole) (arg11 : Memref sig .scVector .vmem S16x128 .f32) (harg11 : arg11.IsWhole)
  (arg12 : DmaSems sig S_) (arg13 : DmaSems sig S_) (r0 r1 r2 r3 r4 : DmaSems sig S_)

/-- What follows the first branch: the second, on SparseCore 1. -/
def body2 : TileProg F i :=
  if h : k2_cond2 i = 1#1 then
    branch i (k2_cond2 i) h arg7 arg8 harg8 arg9 harg9 arg10 arg11 arg12 arg13 (pure ⟨⟩) arg4 harg4 harg11 r4
  else pure ⟨⟩

/-- The body: zeros into both buffers, the list's positions fetched, and this SparseCore's branch. -/
def body : TileProg F i := do
  Prog.lift (.enqueueDma arg5 (.here arg8) (.dma r0.sem) harg5.wordExact harg8.wordExact ⟨Or.inl rfl, trivial⟩)
  Prog.lift (.waitDma2 r0.sem arg5 arg8 harg5.wordExact harg8.wordExact)
  Prog.lift (.enqueueDma arg5 (.here arg9) (.dma r1.sem) harg5.wordExact harg9.wordExact ⟨Or.inl rfl, trivial⟩)
  Prog.lift (.waitDma2 r1.sem arg5 arg9 harg5.wordExact harg9.wordExact)
  Prog.lift (.enqueueDma arg2 (.here arg10) (.dma r2.sem) harg2.wordExact harg10.wordExact ⟨Or.inl rfl, trivial⟩)
  Prog.lift (.waitDma2 r2.sem arg2 arg10 harg2.wordExact harg10.wordExact)
  if h : k2_cond1 i = 1#1 then
    branch i (k2_cond1 i) h arg6 arg8 harg8 arg9 harg9 arg10 arg11 arg12 arg13
      (body2 i arg4 harg4 arg7 arg8 harg8 arg9 harg9 arg10 arg11 harg11 arg12 arg13 r4) arg3 harg3 harg11 r3
  else body2 i arg4 harg4 arg7 arg8 harg8 arg9 harg9 arg10 arg11 harg11 arg12 arg13 r4

set_option maxRecDepth 65536 in
set_option maxHeartbeats 4000000 in
/-- The printed body is this one. -/
theorem body_eq :
    cc2__sc_body (F := F) i arg2 harg2 arg3 harg3 arg4 harg4 arg5 harg5 arg6 harg6 arg7 harg7 arg8 harg8 arg9 harg9 arg10 harg10 arg11 harg11 arg12 arg13 r0 r1 r2 r3 r4
      = body i arg2 harg2 arg3 harg3 arg4 harg4 arg5 harg5 arg6 arg7 arg8 harg8 arg9 harg9 arg10 harg10 arg11 harg11 arg12 arg13 r0 r1 r2 r3 r4 := rfl
end

end Cert.Proof.Tile

end
-- ==== Proof.Entries.lean ====
/-
  What the SparseCore kernel leaves in a matrix, as a function of its list: the list has 2048 entries, a position
  (4096 · row + column) and a value each, and an element of the matrix holds the value of the last entry at its
  position, zero if there is none (`lastAt`). The two passes over the list, sixteen entries at a time, are this
  function one group further (`trip_val`, `lastAt_clear`).
-/
module

public import proofs.«01_k».proof.Proof.Rolled
public import Idealize.ShloMosaic.Lib.Pipeline.Value
public import Idealize.ShloMosaic.Lib.Pipeline.ValueKit.Geometry

@[expose] public section

noncomputable section

namespace Cert.Proof.Tile

open Cert.KernelIdeal Cert.KernelIdeal.Gen
open Idealize.ShloMosaic Idealize.SL.Sem

variable {F : FTy → Type} [FloatOps F]

/-- Entry `n` of the list, as an index of the 16 × 128 array it is kept in. -/
def ent (n : ℕ) : S16x128.Idx := fun
  | ⟨0, _⟩ => (⟨n / 128 % 16, Nat.mod_lt _ (by decide)⟩ : Fin 16)
  | ⟨1, _⟩ => (⟨n % 128, Nat.mod_lt _ (by decide)⟩ : Fin 128)

/-- The value at position `p` after the list's first `n` entries, from `z`: the last entry's there. -/
def lastAt {α : Type} (I : S16x128.Idx → BitVec 32) (V : S16x128.Idx → α) (z : α) (p : ℕ) : ℕ → α
  | 0 => z
  | n + 1 => if (I (ent n)).toNat = p then V (ent n) else lastAt I V z p n

/-- Zero written over every entry leaves zero where there was zero or an entry. -/
theorem lastAt_clear {α : Type} (I : S16x128.Idx → BitVec 32) (V : S16x128.Idx → α) (z : α) (p n : ℕ) :
    lastAt I (fun _ => z) (lastAt I V z p n) p n = z := by
  have key : ∀ x, (∃ k < n, (I (ent k)).toNat = p) ∨ (lastAt I V z p n = z ∧ lastAt I (fun _ => z) x p n = x) := by
    intro x
    induction n with
    | zero => right; exact ⟨rfl, rfl⟩
    | succ n ih =>
      by_cases h : (I (ent n)).toNat = p
      · left; exact ⟨n, Nat.lt_succ_self n, h⟩
      · rcases ih with ⟨k, hk, hp⟩ | ⟨h1, h2⟩
        · left; exact ⟨k, Nat.lt_succ_of_lt hk, hp⟩
        · right; simp only [lastAt, if_neg h]; exact ⟨h1, h2⟩
  have hit : ∀ x m, (∃ k < m, (I (ent k)).toNat = p) → lastAt I (fun _ => z) x p m = z := by
    intro x m
    induction m with
    | zero => rintro ⟨k, hk, -⟩; omega
    | succ m ih =>
      rintro ⟨k, hk, hp⟩
      simp only [lastAt]
      split
      · rfl
      · rename_i h
        refine ih ⟨k, ?_, hp⟩
        rcases Nat.lt_succ_iff_lt_or_eq.mp hk with h' | rfl
        · exact h'
        · exact absurd hp h
  rcases key (lastAt I V z p n) with h | ⟨h1, h2⟩
  · exact hit _ n h
  · rw [h2, h1]

/-! ## The words -/

theorem rowW_toNat (i : grid2.Coords) : (rowW i).toNat = 256 * (i 1).val := by
  have h : (i 1).val < 16 := (i 1).isLt
  unfold rowW Scalar.muli IntOp.muli
  rw [BitVec.toNat_mul, BitVec.toNat_ofNat, BitVec.toNat_ofNat]
  omega

theorem slabW_toNat (i : grid2.Coords) (k : ℕ) (hk : k < 32) : (slabW i k).toNat = 256 * (i 1).val + 8 * k := by
  have h : (i 1).val < 16 := (i 1).isLt
  unfold slabW Scalar.addi IntOp.addi
  rw [BitVec.toNat_add, rowW_toNat, BitVec.toNat_ofNat]
  omega

section
variable (b : BitVec 32) (hb : b.toNat ≤ 4088) (w : IVec S16 32) (l : S16.Idx)

theorem shr_toNat : (IntOp.shrui .vector (w l) 12#32).toNat = (w l).toNat / 4096 := by
  unfold IntOp.shrui
  rw [if_pos (by decide), BitVec.ushiftRight_eq', BitVec.toNat_ushiftRight, Nat.shiftRight_eq_div_pow]
  rfl

include hb in
theorem lrow_spec : ((lrow b w l).toInt = ((w l).toNat / 4096 : ℕ) - (b.toNat : ℤ))
    ∧ (b.toNat ≤ (w l).toNat / 4096 → (lrow b w l).toNat = (w l).toNat / 4096 - b.toNat) := by
  have hl : lrow b w l = IntOp.shrui .vector (w l) 12#32 - b := rfl
  have hs := shr_toNat w l
  have hw : (w l).toNat < 2 ^ 32 := (w l).isLt
  have h0 : (lrow b w l).toNat = (2 ^ 32 - b.toNat + (w l).toNat / 4096) % 2 ^ 32 := by rw [hl, BitVec.toNat_sub, hs]
  refine ⟨?_, fun h => by omega⟩
  rw [BitVec.toInt_eq_toNat_cond]
  split <;> omega

include hb in
theorem hit_iff : hit b w l = 1 ↔ b.toNat ≤ (w l).toNat / 4096 ∧ (w l).toNat / 4096 < b.toNat + 8 := by
  obtain ⟨h1, -⟩ := lrow_spec b hb w l
  have e : hit b w l = IntOp.andi (IntOp.cmpi .sge (lrow b w l) 0#32) (IntOp.cmpi .slt (lrow b w l) 8#32) := rfl
  rw [e]
  unfold IntOp.andi IntOp.cmpi
  simp only [BitVec.sle, BitVec.slt, h1]
  have h8 : (8#32 : BitVec 32).toInt = 8 := by decide
  have h00 : (0#32 : BitVec 32).toInt = 0 := by decide
  rw [h8, h00]
  by_cases ha : (0 : ℤ) ≤ ((w l).toNat / 4096 : ℕ) - (b.toNat : ℤ) <;>
    by_cases hc : (((w l).toNat / 4096 : ℕ) - (b.toNat : ℤ)) < 8 <;> simp only [ha, hc, decide_true, decide_false] <;>
    first
      | (refine iff_of_true (by decide) ?_; omega)
      | (refine iff_of_false (by decide) ?_; omega)

include hb in
theorem selR_spec : (selR b w l).toNat < 8 ∧ (hit b w l = 1 → (selR b w l).toNat = (w l).toNat / 4096 - b.toNat) := by
  have e : selR b w l = if hit b w l = 1 then lrow b w l else 0#32 := rfl
  rw [e]
  split
  · rename_i h
    have hh := (hit_iff b hb w l).mp h
    have := (lrow_spec b hb w l).2 hh.1
    exact ⟨by omega, fun _ => this⟩
  · rename_i h; exact ⟨by decide, fun h' => absurd h' h⟩

theorem selC_spec : (selC b w l).toNat < 4096 ∧ (hit b w l = 1 → (selC b w l).toNat = (w l).toNat % 4096) := by
  have e : selC b w l = if hit b w l = 1 then w l &&& 4095#32 else 0#32 := rfl
  rw [e]
  have hm : (w l &&& 4095#32).toNat = (w l).toNat % 4096 := by
    rw [BitVec.toNat_and]; exact Nat.and_two_pow_sub_one_eq_mod _ 12
  split
  · rw [hm]; exact ⟨Nat.mod_lt _ (by decide), fun _ => rfl⟩
  · rename_i h; exact ⟨by decide, fun h' => absurd h' h⟩

end

/-! ## One group of sixteen entries -/

/-- Lane `l` of sixteen. -/
abbrev lane (l : Fin 16) : S16.Idx := Shape.ofLane (d := ![16]) l

/-- A fold that changes a function step by step, at one argument. -/
theorem foldl_at {ι β γ : Type} (st : (ι → γ) → β → ι → γ) (st' : γ → β → γ) (j : ι) (hst : ∀ g k, st g k j = st' (g j) k)
    (L : List β) (f : ι → γ) : L.foldl st f j = L.foldl st' (f j) := by
  induction L generalizing f with
  | nil => rfl
  | cons k L ih => rw [List.foldl_cons, List.foldl_cons, ih, hst]

/-- An indexed store of sixteen lanes, at one element: the value of the last lane whose position is the element's. -/
theorem storeIdx_at (b : BitVec 32) (hb : b.toNat ≤ 4088) (w : IVec S16 32) (u f) (h) (j : S8x4096.Idx) :
    storeIdx (F := F) (s := S8x4096) (e := .f32) f ![selR b w, selC b w] u (hit b w) false h j
      = (List.finRange 16).foldl (fun a l => if (w (lane l)).toNat = (b.toNat + (j 0).val) * 4096 + (j 1).val
          then u (lane l) else a) (f j) := by
  unfold storeIdx
  refine foldl_at _ _ j (fun g l => ?_) (List.finRange 16) f
  have hj0 : (j 0).val < 8 := (j 0).isLt
  have hj1 : (j 1).val < 4096 := (j 1).isLt
  have hh := hit_iff b hb w (lane l)
  have hR := (selR_spec b hb w (lane l)).2
  have hC := (selC_spec b w (lane l)).2
  by_cases hm : hit b w (lane l) = 1
  · have hm' := hh.mp hm
    have e0 := hR hm
    have e1 := hC hm
    have hq : (∀ a : Fin S8x4096.rank, (j a).val = (idxAt (s := S8x4096) ![selR b w, selC b w] h (lane l) a).val)
        ↔ (w (lane l)).toNat = (b.toNat + (j 0).val) * 4096 + (j 1).val := by
      constructor
      · intro hq
        have q0 : (j 0).val = (selR b w (lane l)).toNat := hq 0
        have q1 : (j 1).val = (selC b w (lane l)).toNat := hq 1
        omega
      · intro hq a
        fin_cases a
        · show (j 0).val = (selR b w (lane l)).toNat
          omega
        · show (j 1).val = (selC b w (lane l)).toNat
          omega
    simp only [if_pos hm, Bool.false_eq_true, if_false]
    exact if_congr hq rfl rfl
  · simp only [if_neg hm]
    rw [if_neg]
    intro hq
    exact hm (hh.mpr (by omega))

/-- The list's next `m` entries, folded in. -/
theorem lastAt_foldl {α : Type} (I : S16x128.Idx → BitVec 32) (V : S16x128.Idx → α) (z : α) (p n m : ℕ) :
    (List.finRange m).foldl (fun a l => if (I (ent (n + l.val))).toNat = p then V (ent (n + l.val)) else a) (lastAt I V z p n)
      = lastAt I V z p (n + m) := by
  induction m with
  | zero => rfl
  | succ m ih =>
    rw [List.finRange_succ_last, List.foldl_append, List.foldl_map]
    simp only [Fin.val_castSucc, ih, List.foldl_cons, List.foldl_nil, Fin.val_last]
    rfl

/-- Where the `t`-th group of sixteen entries lies. -/
theorem grp_off : ∀ t : Fin k2_t1_loop.trips, k2_off1 t = ![t.val / 8, t.val % 8 * 16] := by decide +kernel
theorem trips_eq : k2_t1_loop.trips = 128 := by decide +kernel

/-- Lane `l` of that group is entry `16 t + l`. -/
theorem grp_cast {α : Type} (I : S16x128.Idx → α) (t : Fin k2_t1_loop.trips) (l : Fin 16) :
    shapeCast S16 (fun x : (grp t).shape.Idx => I ((grp t).emb x)) shapeCasts_S1x16_S16 (lane l) = I (ent (16 * t.val + l.val)) := by
  have ht : t.val < 128 := lt_of_lt_of_eq t.isLt trips_eq
  have hl : l.val < 16 := l.isLt
  refine (shapeCast_dropUnit_apply ![16] (fun x : (grp t).shape.Idx => I ((grp t).emb x)) shapeCasts_S1x16_S16 _).trans ?_
  congr 1
  funext a
  apply Fin.ext
  have h0 : k2_off1 t 0 = t.val / 8 := congrFun (grp_off t) 0
  have h1 : k2_off1 t 1 = t.val % 8 * 16 := congrFun (grp_off t) 1
  refine (ValueKit.rect_emb_unit_val (s := S16x128) (k2_off1 t) S1x16.size (grp_inb t) _ a).trans ?_
  fin_cases a
  · show k2_off1 t 0 + 0 = (16 * t.val + l.val) / 128 % 16
    omega
  · show k2_off1 t 1 + l.val = (16 * t.val + l.val) % 128
    omega

/-- The position of element `j` of the eight rows from row `R`. -/
abbrev posAt (R : ℕ) (j : S8x4096.Idx) : ℕ := (R + (j 0).val) * 4096 + (j 1).val

/-- One trip of a pass: the buffer's elements, one group of sixteen entries further. -/
theorem trip_val (b : BitVec 32) (hb : b.toNat ≤ 4088) (I : S16x128.Idx → BitVec 32) (V : S16x128.Idx → F .f32) (z : S8x4096.Idx → F .f32)
    (t : Fin k2_t1_loop.trips) (w : IVec S16 32) (hw : ∀ l : Fin 16, w (lane l) = I (ent (16 * t.val + l.val)))
    (u : FVec F S16 .f32) (hu : ∀ l : Fin 16, u (lane l) = V (ent (16 * t.val + l.val))) (h) :
    storeIdx (F := F) (s := S8x4096) (e := .f32) (fun j => lastAt I V (z j) (posAt b.toNat j) (16 * t.val)) ![selR b w, selC b w] u (hit b w) false h
      = fun j => lastAt I V (z j) (posAt b.toNat j) (16 * (t.val + 1)) := by
  funext j
  rw [storeIdx_at b hb, show 16 * (t.val + 1) = 16 * t.val + 16 by omega, ← lastAt_foldl]
  simp only [hw, hu]

end Cert.Proof.Tile

end
-- ==== Proof.Setup.lean ====
/-
  The program as the launch theorem sees it, and the resource algebra of the proof.
-/
module

public import proofs.«01_k».proof.Proof.Entries
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UPL : Type := URounds (GSem nD τ sig) Unit
/-- The handshakes' rounds, the pipelines' and the copies' counters. -/
abbrev UU : Type := UH × (UPL × Counters)

/-- The handshakes' rounds in the whole algebra. -/
abbrev EH : Emb UH (MT nD τ sig (HIx 1) (Elt F) ℕ UU ℕ) := embL

end Cert.Proof.Tile

end
-- ==== Proof.Tile.lean ====
/-
  A tile's program run: what each pass does to a buffer, each copy to its slab, and the whole branch to the tile's
  part of the matrix.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The tile at grid point `i`. -/
abbrev thr (d : Dev nD) (i : grid2.Coords) : Thread nD τ := V d ((i 0).castLE hcore2) ((i 1).castLE hsub2)

/-- The memref's elements held at share `q`, and what they read. -/
def has (c : Thread nD τ) {sp : Space} {s : Shape} {e : EltTy} (m : Memref sig c.2.kind sp s e) (q : PosShare TreeShare) (X : s.Idx → Elt F e) : sProp 𝕄 :=
  iprop(∃ f, ⌜m.view.read (Elt F) f = X⌝ ∗ m.view.loc c ↦[m.view.set]{q} f)

theorem access_whole_set {κ : Kind} {sp : Space} {s : Shape} {e : EltTy} (m : Memref sig κ sp s e) : (m.access (.whole s)).set = m.view.set := by
  show (m.view.slice (.whole s)).set = _
  rw [View.set_slice, Rect.set_whole]; rfl

theorem access_read {κ : Kind} {sp : Space} {s : Shape} {e : EltTy} (m : Memref sig κ sp s e) (r : Rect s) (f : m.view.ty.Contents (Elt F)) :
    (m.access r).read (Elt F) f = fun x => m.view.read (Elt F) f (r.emb x) := rfl

theorem access_whole_read {κ : Kind} {sp : Space} {s : Shape} {e : EltTy} (m : Memref sig κ sp s e) (f : m.view.ty.Contents (Elt F)) :
    (m.access (.whole s)).read (Elt F) f = m.view.read (Elt F) f := by
  rw [access_read]; funext x
  rw [Rect.emb_whole_apply]

theorem access_whole_write {κ : Kind} {sp : Space} {s : Shape} {e : EltTy} (m : Memref sig κ sp s e) (f : m.view.ty.Contents (Elt F)) (w : s.Idx → Elt F e) :
    m.view.read (Elt F) ((m.access (.whole s)).write (Elt F) f w Finset.univ) = w :=
  (access_whole_read m _).symm.trans (View.read_write_univ _ _)

theorem has_written (c : Thread nD τ) {sp : Space} {s : Shape} {e : EltTy} (m : Memref sig c.2.kind sp s e) (q : PosShare TreeShare)
    (f : m.view.ty.Contents (Elt F)) (w X : s.Idx → Elt F e) :
    ((m.access (.whole s)).loc c ↦[(m.access (.whole s)).set]{q} ((m.access (.whole s)).write (Elt F) f w Finset.univ) : sProp 𝕄)
      ⊢ iprop(⌜w = X⌝ -∗ ∃ f, ⌜m.view.read (Elt F) f = X⌝ ∗ m.view.loc c ↦[m.view.set]{q} f) := by
  rw [access_whole_set]
  iintro H %hX
  iexists _; isplitr [H]
  rotate_left; · iexact H
  ipureintro; rw [← hX]; exact access_whole_write m f w

/-- The word `0`. -/
abbrev zf : F .f32 := Scalar.ofBits .f32 0x00000000#32

theorem group_val {e : EltTy} (I : S16x128.Idx → Elt F e) (t : Fin k2_t1_loop.trips) (l : Fin 16) :
    shapeCast S16 (fun x : (grp t).shape.Idx => I ((grp t).emb x)) shapeCasts_S1x16_S16 (lane l) = I (ent (16 * t.val + l.val)) := grp_cast I t l

section
variable (d : Dev nD) (i : grid2.Coords) (cnd : BitVec 1) (h : cnd = 1#1)
variable (buf : Memref sig .scVector .vmem S8x4096 .f32) (ix : Memref sig .scVector .vmem S16x128 .i32) (vl : Memref sig .scVector .vmem S16x128 .f32)
variable (I : S16x128.Idx → BitVec 32) (W : S16x128.Idx → F .f32) (X : S8x4096.Idx → F .f32) (qi qv : PosShare TreeShare)

theorem chk_ok (b : BitVec 32) (hb : b.toNat ≤ 4088) (w : IVec S16 32) : chkG cnd (selR b w) (selC b w) := by
  intro _ a x
  obtain ⟨l, rfl⟩ : ∃ l : Fin 16, x = lane l := ⟨x 0, by funext a; fin_cases a; rfl⟩
  fin_cases a
  · exact (selR_spec b hb w (lane l)).1
  · exact (selC_spec b w (lane l)).1

theorem wp_setTrip (b : BitVec 32) (hb : b.toNat ≤ 4088) (t : Fin k2_t1_loop.trips) :
    iprop(has (thr d i) ix qi I ∗ has (thr d i) vl qv W ∗ has (thr d i) buf fullShare (fun j => lastAt I W (X j) (posAt b.toNat j) (16 * t.val)))
      ⊢ wp frame (wpE (defs₀ (F := F)) 𝒱₀ (thr d i) none) Set.univ (setTrip i cnd h buf ix vl b t)
          (fun _ => iprop(has (thr d i) ix qi I ∗ has (thr d i) vl qv W
            ∗ has (thr d i) buf fullShare (fun j => lastAt I W (X j) (posAt b.toNat j) (16 * (t.val + 1))))) := by
  unfold setTrip has
  simp only [Prog.lift, Prog.bind_op, Prog.bind_ret, Prog.pure_eq_ret]
  iintro ⟨⟨%fi, %hi, Hi⟩, ⟨%fv, %hv, Hv⟩, ⟨%fb, %hfb, Hb⟩⟩
  iapply (wp_load_rect (defs := defs₀ (F := F)) 𝒱₀ (thr d i) none Set.univ (m := ix) (r := grp t) (q := qi) (f := fi) (View.set_slice_subset _ _)) $$ Hi
  iintro Hi
  rw [wp_assume_of _ _ _ _ (chk_ok cnd b hb _)]
  iapply (wp_load_rect (defs := defs₀ (F := F)) 𝒱₀ (thr d i) none Set.univ (m := vl) (r := grp t) (q := qv) (f := fv) (View.set_slice_subset _ _)) $$ Hv
  iintro Hv
  iapply (SparseCore.wp_vectorStoreIdx (defs := defs₀ (F := F)) 𝒱₀ (thr d i) none Set.univ (base := buf) (f := fb)) $$ [Hb]
  · rw [access_whole_set]; iexact Hb
  iintro Hb
  rw [wp_ret]
  imodintro
  isplitl [Hi]
  · iexists fi; isplitr; · ipureintro; exact hi
    iexact Hi
  isplitl [Hv]
  · iexists fv; isplitr; · ipureintro; exact hv
    iexact Hv
  iapply (has_written (thr d i) buf fullShare fb) $$ Hb
  ipureintro
  rw [access_whole_read, hfb]
  refine trip_val b hb I W X t _ (fun l => ?_) _ (fun l => ?_) _
  · rw [access_read, hi]; exact group_val (F := F) (e := .i32) I t l
  · rw [access_read, hv]; exact group_val (F := F) (e := .f32) W t l

theorem wp_zeroTrip (b : BitVec 32) (hb : b.toNat ≤ 4088) (t : Fin k2_t1_loop.trips) :
    iprop(has (thr d i) ix qi I ∗ has (thr d i) buf fullShare (fun j => lastAt I (fun _ => zf) (X j) (posAt b.toNat j) (16 * t.val)))
      ⊢ wp frame (wpE (defs₀ (F := F)) 𝒱₀ (thr d i) none) Set.univ (zeroTrip i cnd h buf ix b t)
          (fun _ => iprop(has (thr d i) ix qi I
            ∗ has (thr d i) buf fullShare (fun j => lastAt I (fun _ => zf) (X j) (posAt b.toNat j) (16 * (t.val + 1))))) := by
  unfold zeroTrip has
  simp only [Prog.lift, Prog.bind_op, Prog.bind_ret, Prog.pure_eq_ret]
  iintro ⟨⟨%fi, %hi, Hi⟩, ⟨%fb, %hfb, Hb⟩⟩
  iapply (wp_load_rect (defs := defs₀ (F := F)) 𝒱₀ (thr d i) none Set.univ (m := ix) (r := grp t) (q := qi) (f := fi) (View.set_slice_subset _ _)) $$ Hi
  iintro Hi
  rw [wp_assume_of _ _ _ _ (chk_ok cnd b hb _)]
  iapply (SparseCore.wp_vectorStoreIdx (defs := defs₀ (F := F)) 𝒱₀ (thr d i) none Set.univ (base := buf) (f := fb)) $$ [Hb]
  · rw [access_whole_set]; iexact Hb
  iintro Hb
  rw [wp_ret]
  imodintro
  isplitl [Hi]
  · iexists fi; isplitr; · ipureintro; exact hi
    iexact Hi
  iapply (has_written (thr d i) buf fullShare fb) $$ Hb
  ipureintro
  rw [access_whole_read, hfb]
  refine trip_val b hb I (fun _ => zf) X t _ (fun l => ?_) _ (fun l => rfl) _
  rw [access_read, hi]; exact group_val (F := F) (e := .i32) I t l

/-- What the whole list writes into slab `k` of a tile's part, over zeros. -/
def slabVal (k : ℕ) : S8x4096.Idx → F .f32 := fun j => lastAt I W zf (posAt (slabW i k).toNat j) 2048

theorem slabW_le (k : ℕ) (hk : k < 32) : (slabW i k).toNat ≤ 4088 := by
  have h : (i 1).val < 16 := (i 1).isLt
  rw [slabW_toNat i k hk]; omega

/-- The setting pass turns a buffer of zeros into the slab. -/
theorem wp_setPass (k : ℕ) (hk : k < 32) (kk : PUnit → TileProg F i) (Q : PUnit → sProp 𝕄) :
    iprop(has (thr d i) ix qi I ∗ has (thr d i) vl qv W ∗ has (thr d i) buf fullShare (fun _ => zf))
      ⊢ iprop((iprop(has (thr d i) ix qi I ∗ has (thr d i) vl qv W ∗ has (thr d i) buf fullShare (slabVal i I W k))
            -∗ wp frame (wpE (defs₀ (F := F)) 𝒱₀ (thr d i) none) Set.univ (kk ⟨⟩) Q)
          -∗ wp frame (wpE (defs₀ (F := F)) 𝒱₀ (thr d i) none) Set.univ (setPass i cnd h buf ix vl k >>= kk) Q) := by
  unfold setPass
  show iprop(has (thr d i) ix qi I ∗ has (thr d i) vl qv W ∗ has (thr d i) buf fullShare (fun j => lastAt I W zf (posAt (slabW i k).toNat j) (16 * 0))) ⊢ _
  iintro H Hk
  iapply (Scf.wp_for_bind frame (wpE (defs₀ (F := F)) 𝒱₀ (thr d i) none) Set.univ k2_t1_loop.lb k2_t1_loop.ub k2_t1_loop.st grp_ok (⟨⟩ : PUnit) (fun t _ => setTrip i cnd h buf ix vl (slabW i k) t)
    (fun n _ => iprop(has (thr d i) ix qi I ∗ has (thr d i) vl qv W ∗ has (thr d i) buf fullShare (fun j => lastAt I W zf (posAt (slabW i k).toNat j) (16 * n))))
    (fun t _ => wp_setTrip d i cnd h buf ix vl I W (fun _ => zf) qi qv (slabW i k) (slabW_le i k hk) t)) $$ H
  iintro %acc H
  iapply Hk
  have e : k2_t1_loop.trips = 128 := trips_eq
  have e' : Scf.trips k2_t1_loop.lb k2_t1_loop.ub k2_t1_loop.st = 128 := e
  rw [e']; iexact H

/-- The zeroing pass turns the slab back into zeros. -/
theorem wp_zeroPass (k : ℕ) (hk : k < 32) (kk : PUnit → TileProg F i) (Q : PUnit → sProp 𝕄) :
    iprop(has (thr d i) ix qi I ∗ has (thr d i) buf fullShare (slabVal i I W k))
      ⊢ iprop((iprop(has (thr d i) ix qi I ∗ has (thr d i) buf fullShare (fun _ => zf))
            -∗ wp frame (wpE (defs₀ (F := F)) 𝒱₀ (thr d i) none) Set.univ (kk ⟨⟩) Q)
          -∗ wp frame (wpE (defs₀ (F := F)) 𝒱₀ (thr d i) none) Set.univ (zeroPass i cnd h buf ix k >>= kk) Q) := by
  unfold zeroPass
  show iprop(has (thr d i) ix qi I ∗ has (thr d i) buf fullShare (fun j => lastAt I (fun _ => zf) (slabVal i I W k j) (posAt (slabW i k).toNat j) (16 * 0))) ⊢ _
  iintro H Hk
  iapply (Scf.wp_for_bind frame (wpE (defs₀ (F := F)) 𝒱₀ (thr d i) none) Set.univ k2_t1_loop.lb k2_t1_loop.ub k2_t1_loop.st grp_ok (⟨⟩ : PUnit) (fun t _ => zeroTrip i cnd h buf ix (slabW i k) t)
    (fun n _ => iprop(has (thr d i) ix qi I ∗ has (thr d i) buf fullShare (fun j => lastAt I (fun _ => zf) (slabVal i I W k j) (posAt (slabW i k).toNat j) (16 * n))))
    (fun t _ => wp_zeroTrip d i cnd h buf ix I (slabVal i I W k) qi (slabW i k) (slabW_le i k hk) t)) $$ H
  iintro %acc H
  iapply Hk
  have e : k2_t1_loop.trips = 128 := trips_eq
  have e' : Scf.trips k2_t1_loop.lb k2_t1_loop.ub k2_t1_loop.st = 128 := e
  rw [e', show (fun j => lastAt I (fun _ => (zf : F .f32)) (slabVal i I W k j) (posAt (slabW i k).toNat j) (16 * 128)) = fun _ => zf from
    funext fun j => lastAt_clear I W zf _ 2048]
  iexact H

end

/-! ## Copies -/

/-- The copies' counters in the whole algebra. -/
abbrev EC : UEmb Counters (MT nD τ sig (HIx 1) (Elt F) ℕ UU ℕ) := countersEmb

/-- The memref's elements held in full, whatever they read. -/
def any (c : Thread nD τ) {sp : Space} {s : Shape} {e : EltTy} (m : Memref sig c.2.kind sp s e) : sProp 𝕄 := iprop(∃ X, has c m fullShare X)

/-- The waits a tile has recorded: those it came with and its own copies'. -/
def owed (c : Thread nD τ) (O : CellTallies nD τ sig (HIx 1)) (W : Waits sig (HIx 1)) : sProp 𝕄 :=
  iprop(∃ W', ⌜∀ p ∈ W', p ∈ W ∨ p.2 = none⌝ ∗ owes c O W')

/-- A copy under way, which will hand back the target at what the source reads, and the source. -/
abbrev under (c : Thread nD τ) {sp sp' : Space} {s : Shape} {e : EltTy} (src : Memref sig c.2.kind sp s e) (dst : Memref sig c.2.kind sp' s e)
    (sm : DmaSem sig) (q : PosShare TreeShare) (X : s.Idx → Elt F e) : sProp 𝕄 :=
  Transfers.Flight EC c (.dma sm) none dst.view.dmaCredit iprop(has c dst fullShare X ∗ has c src q X)

section
variable (c : Thread nD τ) {sp sp' : Space} {s : Shape} {e : EltTy} (src : Memref sig c.2.kind sp s e) (dst : Memref sig c.2.kind sp' s e)
  (sm : DmaSem sig) (q : PosShare TreeShare) (X : s.Idx → Elt F e)

/-- What a copy hands back, in the terms of `has`. -/
theorem deliver (fs : Buf (Elt F) (src.view.loc c)) (fd : Buf (Elt F) (dst.view.loc c)) (hs : src.view.read (Elt F) fs = X) :
    iprop((dst.view.loc c ↦[dst.view.set]{fullShare} (dst.view.write (Elt F) fd (ReadAs.same.apply (src.view.read (Elt F) fs)) Finset.univ))
        ∗ (src.view.loc c ↦[src.view.set]{q} fs) : sProp 𝕄)
      ⊢ iprop(has c dst fullShare X ∗ has c src q X) := by
  unfold has
  iintro ⟨H1, H2⟩
  isplitl [H1]
  · iexists _; isplitr [H1]
    rotate_left; · iexact H1
    ipureintro; rw [View.read_write_univ]; exact hs
  · iexists fs; isplitr; · ipureintro; exact hs
    iexact H2

/-- A copy's start. -/
theorem wp_send (k : PUnit → Prog (TpuEff nD τ sig (Elt F) Λ₀ c.2) PUnit) (Q : PUnit → sProp 𝕄) (hpos : 0 < s.numel) {hsrc : src.view.WordExact} {hdst : dst.view.WordExact} {hsem : DmaTarget.Typed (nD := nD) sp (.dma sm) (.here dst)} :
    iprop(has c src q X ∗ any c dst ∗ semVal (c, .dma sm) 0)
      ⊢ iprop((under c src dst sm q X -∗ wp frame (wpE (defs₀ (F := F)) 𝒱₀ c none) Set.univ (k ⟨⟩) Q)
          -∗ wp frame (wpE (defs₀ (F := F)) 𝒱₀ c none) Set.univ (.op (.enqueueDmaAs src (.here dst) .same (.dma sm) hsrc hdst hsem) k) Q) := by
  unfold any has
  iintro ⟨⟨%fs, %hs, Hs⟩, ⟨%Y, %fd, %hd, Hd⟩, Hv⟩ Hk
  iapply (Transfers.wp_dmaLocal (defs := defs₀ (F := F)) EC 𝒱₀ c none none dst.view.dmaCredit (View.amount_dma _ _) (View.dmaCredit_pos _ hpos) (Finset.Subset.refl _)) $$ [Hs Hd Hv]
  · isplitl [Hs]; · iexact Hs
    isplitl [Hd]; · iexact Hd
    iexact Hv
  iintro HF
  iapply Hk
  iapply (Transfers.Flight_mono EC c (deliver c src dst q X fs fd hs)) $$ HF

/-- The wait for it. -/
theorem wp_done (k : PUnit → Prog (TpuEff nD τ sig (Elt F) Λ₀ c.2) PUnit) (Q : PUnit → sProp 𝕄) {spw : Space} {sw : Shape} {ew : EltTy} {srcw : Memref sig c.2.kind spw sw ew} {hsrc : srcw.view.WordExact} {hdst : dst.view.WordExact} (Dl : sProp 𝕄)
    (O : CellTallies nD τ sig (HIx 1)) (W : Waits sig (HIx 1)) :
    iprop(Transfers.MayWaits c none O ∗ Transfers.Flight EC c (.dma sm) none dst.view.dmaCredit Dl ∗ owed c O W)
      ⊢ iprop((iprop(Dl ∗ semVal (c, .dma sm) 0 ∗ owed c O W) -∗ wp frame (wpE (defs₀ (F := F)) 𝒱₀ c none) Set.univ (k ⟨⟩) Q)
          -∗ wp frame (wpE (defs₀ (F := F)) 𝒱₀ c none) Set.univ (.op (.waitDma2 sm srcw dst hsrc hdst) k) Q) := by
  unfold owed
  iintro ⟨#HM, HF, ⟨%W', %hW', HO⟩⟩ Hk
  iapply (Transfers.wp_waitLocalO (defs := defs₀ (F := F)) EC 𝒱₀ c none none rfl) $$ [HF HO]
  · isplitl [HF]; · iexact HF
    isplitl [HO]; · iexact HO
    iapply (Transfers.MayWaits.elim (.dma sm)) $$ HM
  iintro ⟨HD, Hv, HO⟩
  iapply Hk
  isplitl [HD]; · iexact HD
  isplitl [Hv]; · iexact Hv
  iexists _; isplitr [HO]
  rotate_left; · iexact HO
  ipureintro
  intro p hp
  rcases Finset.mem_insert.mp hp with rfl | hp
  · exact Or.inr rfl
  · exact hW' p hp
end

/-- `n` slabs from slab `k` on, each in the state `A` says. -/
def slabs (A : (k : ℕ) → k < 32 → sProp 𝕄) : (n k : ℕ) → k + n ≤ 32 → sProp 𝕄
  | 0, _, _ => iprop(emp)
  | n + 1, k, h => iprop(A k (by omega) ∗ slabs A n (k + 1) (by omega))

theorem slabs_zero (A : (k : ℕ) → k < 32 → sProp 𝕄) (k : ℕ) (h : k + 0 ≤ 32) : slabs A 0 k h = iprop(emp) := rfl
theorem slabs_two (A : (k : ℕ) → k < 32 → sProp 𝕄) (n k : ℕ) (h : k + (n + 2) ≤ 32) :
    slabs A (n + 2) k h = iprop(A k (by omega) ∗ A (k + 1) (by omega) ∗ slabs A n (k + 2) (by omega)) := rfl

section
variable (d : Dev nD) (i : grid2.Coords) (cnd : BitVec 1) (h : cnd = 1#1)
variable (o : Memref sig .scVector .hbm S4096x4096 .f32)
variable (b0 : Memref sig .scVector .vmem S8x4096 .f32) (hb0 : b0.IsWhole) (b1 : Memref sig .scVector .vmem S8x4096 .f32) (hb1 : b1.IsWhole)
variable (ix : Memref sig .scVector .vmem S16x128 .i32) (vl : Memref sig .scVector .vmem S16x128 .f32) (s0 s1 : DmaSems sig S_)
variable (I : S16x128.Idx → BitVec 32) (W : S16x128.Idx → F .f32) (qi qv : PosShare TreeShare)
variable (O : CellTallies nD τ sig (HIx 1)) (Ws : Waits sig (HIx 1))

/-- Slab `k` of the tile's part, held whatever it reads. -/
abbrev anyS (k : ℕ) (hk : k < 32) : sProp 𝕄 := any (F := F) (thr d i) (slab i o k hk)
/-- Slab `k` of the tile's part, written. -/
abbrev outS (k : ℕ) (hk : k < 32) : sProp 𝕄 := has (F := F) (thr d i) (slab i o k hk) fullShare (slabVal i I W k)

theorem slab_pos : 0 < S8x4096.numel := by decide
theorem list_pos : 0 < S16x128.numel := by decide

/-- The state a step starts in: the first buffer ready with slab `k`, the second's copy of slab `j` under way. -/
def mid (j k : ℕ) (hj : j < 32) : sProp 𝕄 :=
  iprop(Transfers.MayWaits (thr d i) none O ∗ has (thr d i) ix qi I ∗ has (thr d i) vl qv W ∗ has (thr d i) b0 fullShare (slabVal i I W k) ∗ semVal (thr d i, .dma s0.sem) 0
    ∗ under (thr d i) b1 (slab i o j hj) s1.sem fullShare (slabVal i I W j) ∗ owed (thr d i) O Ws)

theorem wp_step (j k k' k'' : ℕ) (hj : j < 32) (hk : k < 32) (hk' : k' < 32) (hk'' : k'' < 32) (kk : PUnit → TileProg F i) (Q : PUnit → sProp 𝕄) :
    iprop(mid d i o b0 b1 ix vl s0 s1 I W qi qv O Ws j k hj ∗ anyS d i o k hk ∗ anyS d i o k' hk')
      ⊢ iprop((iprop(mid d i o b0 b1 ix vl s0 s1 I W qi qv O Ws k' k'' hk' ∗ outS d i o I W j hj ∗ outS d i o I W k hk)
            -∗ wp frame (wpE (defs₀ (F := F)) 𝒱₀ (thr d i) none) Set.univ (kk ⟨⟩) Q)
          -∗ wp frame (wpE (defs₀ (F := F)) 𝒱₀ (thr d i) none) Set.univ (step i cnd h o b0 hb0 b1 hb1 ix vl s0 s1 j k k' k'' hj hk hk' >>= kk) Q) := by
  unfold step mid
  simp only [Prog.lift, Prog.bind_op, Prog.bind_ret, Prog.pure_eq_ret, Prog.bind_assoc]
  iintro ⟨⟨#HM, Hi, Hv, Hb0, Hs0, Hf1, HO⟩, Hk, Hk'⟩ Hkk
  iapply (wp_send (thr d i) b0 (slab i o k hk) s0.sem fullShare (slabVal i I W k) (hpos := slab_pos)) $$ [Hb0 Hk Hs0]
  · isplitl [Hb0]; · iexact Hb0
    isplitl [Hk]; · iexact Hk
    iexact Hs0
  iintro Hf0
  iapply (wp_done (thr d i) (slab i o j hj) s1.sem (Dl := iprop(has (thr d i) (slab i o j hj) fullShare (slabVal i I W j) ∗ has (thr d i) b1 fullShare (slabVal i I W j))) (O := O) (W := Ws)) $$ [Hf1 HO]
  · isplitr; · iexact HM
    isplitl [Hf1]; · iexact Hf1
    iexact HO
  iintro ⟨⟨Hj, Hb1⟩, Hs1, HO⟩
  iapply (wp_zeroPass d i cnd h b1 ix I W qi j hj) $$ [Hi Hb1]
  · isplitl [Hi]; · iexact Hi
    iexact Hb1
  iintro ⟨Hi, Hb1⟩
  iapply (wp_setPass d i cnd h b1 ix vl I W qi qv k' hk') $$ [Hi Hv Hb1]
  · isplitl [Hi]; · iexact Hi
    isplitl [Hv]; · iexact Hv
    iexact Hb1
  iintro ⟨Hi, Hv, Hb1⟩
  iapply (wp_send (thr d i) b1 (slab i o k' hk') s1.sem fullShare (slabVal i I W k') (hpos := slab_pos)) $$ [Hb1 Hk' Hs1]
  · isplitl [Hb1]; · iexact Hb1
    isplitl [Hk']; · iexact Hk'
    iexact Hs1
  iintro Hf1
  iapply (wp_done (thr d i) (slab i o k hk) s0.sem (Dl := iprop(has (thr d i) (slab i o k hk) fullShare (slabVal i I W k) ∗ has (thr d i) b0 fullShare (slabVal i I W k))) (O := O) (W := Ws)) $$ [Hf0 HO]
  · isplitr; · iexact HM
    isplitl [Hf0]; · iexact Hf0
    iexact HO
  iintro ⟨⟨Hk, Hb0⟩, Hs0, HO⟩
  iapply (wp_zeroPass d i cnd h b0 ix I W qi k hk) $$ [Hi Hb0]
  · isplitl [Hi]; · iexact Hi
    iexact Hb0
  iintro ⟨Hi, Hb0⟩
  iapply (wp_setPass d i cnd h b0 ix vl I W qi qv k'' hk'') $$ [Hi Hv Hb0]
  · isplitl [Hi]; · iexact Hi
    isplitl [Hv]; · iexact Hv
    iexact Hb0
  iintro ⟨Hi, Hv, Hb0⟩
  iapply Hkk
  isplitr [Hj Hk]
  · isplitr; · iexact HM
    isplitl [Hi]; · iexact Hi
    isplitl [Hv]; · iexact Hv
    isplitl [Hb0]; · iexact Hb0
    isplitl [Hs0]; · iexact Hs0
    isplitl [Hf1]; · iexact Hf1
    iexact HO
  isplitl [Hj]; · iexact Hj
  iexact Hk

/-- What a branch leaves beside its slabs. -/
def leftover : sProp 𝕄 :=
  iprop(has (thr d i) ix qi I ∗ has (thr d i) vl qv W ∗ any (F := F) (thr d i) b0 ∗ any (F := F) (thr d i) b1
    ∗ semVal (thr d i, .dma s0.sem) 0 ∗ semVal (thr d i, .dma s1.sem) 0 ∗ owed (thr d i) O Ws)

theorem wp_last (rest : TileProg F i) (Q : PUnit → sProp 𝕄) :
    iprop(mid d i o b0 b1 ix vl s0 s1 I W qi qv O Ws 29 30 (by decide) ∗ anyS d i o 30 (by decide) ∗ anyS d i o 31 (by decide))
      ⊢ iprop((iprop(leftover d i b0 b1 ix vl s0 s1 I W qi qv O Ws ∗ outS d i o I W 29 (by decide) ∗ outS d i o I W 30 (by decide) ∗ outS d i o I W 31 (by decide))
            -∗ wp frame (wpE (defs₀ (F := F)) 𝒱₀ (thr d i) none) Set.univ rest Q)
          -∗ wp frame (wpE (defs₀ (F := F)) 𝒱₀ (thr d i) none) Set.univ (last i cnd h o b0 hb0 b1 hb1 ix vl s0 s1 rest) Q) := by
  unfold last mid leftover
  simp only [Prog.lift, Prog.bind_op, Prog.bind_ret, Prog.pure_eq_ret, Prog.bind_assoc]
  have q29 : 29 < 32 := by decide
  have q30 : 30 < 32 := by decide
  have q31 : 31 < 32 := by decide
  iintro ⟨⟨#HM, Hi, Hv, Hb0, Hs0, Hf1, HO⟩, Hk, Hk'⟩ Hkk
  iapply (wp_send (thr d i) b0 (slab i o 30 q30) s0.sem fullShare (slabVal i I W 30) (hpos := slab_pos)) $$ [Hb0 Hk Hs0]
  · isplitl [Hb0]; · iexact Hb0
    isplitl [Hk]; · iexact Hk
    iexact Hs0
  iintro Hf0
  iapply (wp_done (thr d i) (slab i o 29 q29) s1.sem (Dl := iprop(has (thr d i) (slab i o 29 q29) fullShare (slabVal i I W 29) ∗ has (thr d i) b1 fullShare (slabVal i I W 29))) (O := O) (W := Ws)) $$ [Hf1 HO]
  · isplitr; · iexact HM
    isplitl [Hf1]; · iexact Hf1
    iexact HO
  iintro ⟨⟨Hj, Hb1⟩, Hs1, HO⟩
  iapply (wp_zeroPass d i cnd h b1 ix I W qi 29 q29) $$ [Hi Hb1]
  · isplitl [Hi]; · iexact Hi
    iexact Hb1
  iintro ⟨Hi, Hb1⟩
  iapply (wp_setPass d i cnd h b1 ix vl I W qi qv 31 q31) $$ [Hi Hv Hb1]
  · isplitl [Hi]; · iexact Hi
    isplitl [Hv]; · iexact Hv
    iexact Hb1
  iintro ⟨Hi, Hv, Hb1⟩
  iapply (wp_send (thr d i) b1 (slab i o 31 q31) s1.sem fullShare (slabVal i I W 31) (hpos := slab_pos)) $$ [Hb1 Hk' Hs1]
  · isplitl [Hb1]; · iexact Hb1
    isplitl [Hk']; · iexact Hk'
    iexact Hs1
  iintro Hf1
  iapply (wp_done (thr d i) (slab i o 30 q30) s0.sem (Dl := iprop(has (thr d i) (slab i o 30 q30) fullShare (slabVal i I W 30) ∗ has (thr d i) b0 fullShare (slabVal i I W 30))) (O := O) (W := Ws)) $$ [Hf0 HO]
  · isplitr; · iexact HM
    isplitl [Hf0]; · iexact Hf0
    iexact HO
  iintro ⟨⟨Hk, Hb0⟩, Hs0, HO⟩
  iapply (wp_done (thr d i) (slab i o 31 q31) s1.sem (Dl := iprop(has (thr d i) (slab i o 31 q31) fullShare (slabVal i I W 31) ∗ has (thr d i) b1 fullShare (slabVal i I W 31))) (O := O) (W := Ws)) $$ [Hf1 HO]
  · isplitr; · iexact HM
    isplitl [Hf1]; · iexact Hf1
    iexact HO
  iintro ⟨⟨Hk', Hb1⟩, Hs1, HO⟩
  iapply Hkk
  isplitr [Hj Hk Hk']
  · isplitl [Hi]; · iexact Hi
    isplitl [Hv]; · iexact Hv
    isplitl [Hb0]; · unfold any; iexists _; iexact Hb0
    isplitl [Hb1]; · unfold any; iexists _; iexact Hb1
    isplitl [Hs0]; · iexact Hs0
    isplitl [Hs1]; · iexact Hs1
    iexact HO
  isplitl [Hj]; · iexact Hj
  isplitl [Hk]; · iexact Hk
  iexact Hk'

theorem steps_zero (rest : TileProg F i) (j : ℕ) (hj : j + 2 * 0 ≤ 29) :
    steps i cnd h o b0 hb0 b1 hb1 ix vl s0 s1 rest 0 j hj = last i cnd h o b0 hb0 b1 hb1 ix vl s0 s1 rest := rfl
theorem steps_succ (rest : TileProg F i) (n j : ℕ) (hj : j + 2 * (n + 1) ≤ 29) (h0 : j < 32) (h1 : j + 1 < 32) (h2 : j + 2 < 32) (h3 : j + 2 + 2 * n ≤ 29) :
    steps i cnd h o b0 hb0 b1 hb1 ix vl s0 s1 rest (n + 1) j hj
      = (step i cnd h o b0 hb0 b1 hb1 ix vl s0 s1 j (j + 1) (j + 2) (j + 3) h0 h1 h2 >>= fun _ =>
          steps i cnd h o b0 hb0 b1 hb1 ix vl s0 s1 rest n (j + 2) h3) := rfl

theorem wp_steps (rest : TileProg F i) (Q : PUnit → sProp 𝕄) (n : ℕ) : ∀ (j : ℕ) (hj : j + 2 * n ≤ 29) (he : j + 2 * n = 29),
    iprop(mid d i o b0 b1 ix vl s0 s1 I W qi qv O Ws j (j + 1) (by omega) ∗ slabs (anyS d i o) (2 * n + 2) (j + 1) (by omega))
      ⊢ iprop((iprop(leftover d i b0 b1 ix vl s0 s1 I W qi qv O Ws ∗ outS d i o I W j (by omega) ∗ slabs (outS d i o I W) (2 * n + 2) (j + 1) (by omega))
            -∗ wp frame (wpE (defs₀ (F := F)) 𝒱₀ (thr d i) none) Set.univ rest Q)
          -∗ wp frame (wpE (defs₀ (F := F)) 𝒱₀ (thr d i) none) Set.univ (steps i cnd h o b0 hb0 b1 hb1 ix vl s0 s1 rest n j hj) Q) := by
  induction n with
  | zero =>
    intro j hj he
    obtain rfl : j = 29 := by omega
    rw [steps_zero]
    simp only [Nat.mul_zero]
    rw [slabs_two, slabs_two, slabs_zero, slabs_zero]
    iintro ⟨Hm, H30, H31, -⟩ Hk
    iapply (wp_last d i cnd h o b0 hb0 b1 hb1 ix vl s0 s1 I W qi qv O Ws rest Q) $$ [Hm H30 H31]
    · isplitl [Hm]; · iexact Hm
      isplitl [H30]; · iexact H30
      iexact H31
    iintro ⟨Hl, H29, H30, H31⟩
    iapply Hk
    isplitl [Hl]; · iexact Hl
    isplitl [H29]; · iexact H29
    isplitl [H30]; · iexact H30
    isplitl [H31]; · iexact H31
    iempintro
  | succ n ih =>
    intro j hj he
    have h0 : j < 32 := by omega
    have h1 : j + 1 < 32 := by omega
    have h2 : j + 2 < 32 := by omega
    have h3 : j + 3 < 32 := by omega
    have h4 : j + 2 + 2 * n ≤ 29 := by omega
    have h5 : j + 2 + 2 * n = 29 := by omega
    rw [steps_succ i cnd h o b0 hb0 b1 hb1 ix vl s0 s1 rest n j hj h0 h1 h2 h4, slabs_two, slabs_two]
    iintro ⟨Hm, H1, H2, H⟩ Hk
    iapply (wp_step d i cnd h o b0 hb0 b1 hb1 ix vl s0 s1 I W qi qv O Ws j (j + 1) (j + 2) (j + 3) h0 h1 h2 h3) $$ [Hm H1 H2]
    · isplitl [Hm]; · iexact Hm
      isplitl [H1]; · iexact H1
      iexact H2
    iintro ⟨Hm, Hj, Hj1⟩
    iapply (ih (j + 2) h4 h5) $$ [Hm H]
    · isplitl [Hm]; · iexact Hm
      iexact H
    iintro ⟨Hl, Hj2, H⟩
    iapply Hk
    isplitl [Hl]; · iexact Hl
    isplitl [Hj]; · iexact Hj
    isplitl [Hj1]; · iexact Hj1
    isplitl [Hj2]; · iexact Hj2
    iexact H

/-- The first part of a branch. -/
theorem wp_first (val : Memref sig .scVector .hbm S16x128 .f32) (hval : val.IsWhole) (hvl : vl.IsWhole) (sv : DmaSems sig S_) (q : PosShare TreeShare)
    (kk : PUnit → TileProg F i) (Q : PUnit → sProp 𝕄) :
    iprop(Transfers.MayWaits (thr d i) none O ∗ has (thr d i) ix qi I ∗ has (thr d i) val q W ∗ any (F := F) (thr d i) vl
        ∗ has (thr d i) b0 fullShare (fun _ => zf) ∗ has (thr d i) b1 fullShare (fun _ => zf)
        ∗ semVal (thr d i, .dma s0.sem) 0 ∗ semVal (thr d i, .dma s1.sem) 0 ∗ semVal (thr d i, .dma sv.sem) 0 ∗ owed (thr d i) O Ws
        ∗ anyS d i o 0 (by decide) ∗ anyS d i o 1 (by decide))
      ⊢ iprop((iprop(mid d i o b0 b1 ix vl s0 s1 I W qi fullShare O Ws 1 2 (by decide) ∗ has (thr d i) val q W ∗ semVal (thr d i, .dma sv.sem) 0
              ∗ outS d i o I W 0 (by decide))
            -∗ wp frame (wpE (defs₀ (F := F)) 𝒱₀ (thr d i) none) Set.univ (kk ⟨⟩) Q)
          -∗ wp frame (wpE (defs₀ (F := F)) 𝒱₀ (thr d i) none) Set.univ (first i cnd h o b0 hb0 b1 hb1 ix vl s0 s1 val hval hvl sv >>= kk) Q) := by
  unfold first
  simp only [Prog.lift, Prog.bind_op, Prog.bind_ret, Prog.pure_eq_ret, Prog.bind_assoc]
  have w1 : 1 + 2 * 14 ≤ 29 := by decide
  have w2 : 1 + 2 * 14 = 29 := by decide
  have q0 : 0 < 32 := by decide
  have q1 : 1 < 32 := by decide
  have q2 : 2 < 32 := by decide
  iintro ⟨#HM, Hi, Hval, Hvl, Hb0, Hb1, Hs0, Hs1, Hsv, HO, H0, H1⟩ Hk
  iapply (wp_send (thr d i) val vl sv.sem q W (hpos := list_pos)) $$ [Hval Hvl Hsv]
  · isplitl [Hval]; · iexact Hval
    isplitl [Hvl]; · iexact Hvl
    iexact Hsv
  iintro Hf
  iapply (wp_done (thr d i) vl sv.sem (Dl := iprop(has (thr d i) vl fullShare W ∗ has (thr d i) val q W)) (O := O) (W := Ws)) $$ [Hf HO]
  · isplitr; · iexact HM
    isplitl [Hf]; · iexact Hf
    iexact HO
  iintro ⟨⟨Hv, Hval⟩, Hsv, HO⟩
  iapply (wp_setPass d i cnd h b0 ix vl I W qi fullShare 0 q0) $$ [Hi Hv Hb0]
  · isplitl [Hi]; · iexact Hi
    isplitl [Hv]; · iexact Hv
    iexact Hb0
  iintro ⟨Hi, Hv, Hb0⟩
  iapply (wp_send (thr d i) b0 (slab i o 0 q0) s0.sem fullShare (slabVal i I W 0) (hpos := slab_pos)) $$ [Hb0 H0 Hs0]
  · isplitl [Hb0]; · iexact Hb0
    isplitl [H0]; · iexact H0
    iexact Hs0
  iintro Hf0
  iapply (wp_setPass d i cnd h b1 ix vl I W qi fullShare 1 q1) $$ [Hi Hv Hb1]
  · isplitl [Hi]; · iexact Hi
    isplitl [Hv]; · iexact Hv
    iexact Hb1
  iintro ⟨Hi, Hv, Hb1⟩
  iapply (wp_send (thr d i) b1 (slab i o 1 q1) s1.sem fullShare (slabVal i I W 1) (hpos := slab_pos)) $$ [Hb1 H1 Hs1]
  · isplitl [Hb1]; · iexact Hb1
    isplitl [H1]; · iexact H1
    iexact Hs1
  iintro Hf1
  iapply (wp_done (thr d i) (slab i o 0 q0) s0.sem (Dl := iprop(has (thr d i) (slab i o 0 q0) fullShare (slabVal i I W 0) ∗ has (thr d i) b0 fullShare (slabVal i I W 0))) (O := O) (W := Ws)) $$ [Hf0 HO]
  · isplitr; · iexact HM
    isplitl [Hf0]; · iexact Hf0
    iexact HO
  iintro ⟨⟨H0, Hb0⟩, Hs0, HO⟩
  iapply (wp_zeroPass d i cnd h b0 ix I W qi 0 q0) $$ [Hi Hb0]
  · isplitl [Hi]; · iexact Hi
    iexact Hb0
  iintro ⟨Hi, Hb0⟩
  iapply (wp_setPass d i cnd h b0 ix vl I W qi fullShare 2 q2) $$ [Hi Hv Hb0]
  · isplitl [Hi]; · iexact Hi
    isplitl [Hv]; · iexact Hv
    iexact Hb0
  iintro ⟨Hi, Hv, Hb0⟩
  iapply Hk
  isplitr [Hval Hsv H0]
  · unfold mid
    isplitr; · iexact HM
    isplitl [Hi]; · iexact Hi
    isplitl [Hv]; · iexact Hv
    isplitl [Hb0]; · iexact Hb0
    isplitl [Hs0]; · iexact Hs0
    isplitl [Hf1]; · iexact Hf1
    iexact HO
  isplitl [Hval]; · iexact Hval
  isplitl [Hsv]; · iexact Hsv
  iexact H0

/-- The whole branch: the tile's part of the matrix is what the list writes over zeros. -/
theorem wp_branch (rest : TileProg F i) (val : Memref sig .scVector .hbm S16x128 .f32) (hval : val.IsWhole) (hvl : vl.IsWhole) (sv : DmaSems sig S_) (q : PosShare TreeShare)
    (Q : PUnit → sProp 𝕄) :
    iprop(Transfers.MayWaits (thr d i) none O ∗ has (thr d i) ix qi I ∗ has (thr d i) val q W ∗ any (F := F) (thr d i) vl
        ∗ has (thr d i) b0 fullShare (fun _ => zf) ∗ has (thr d i) b1 fullShare (fun _ => zf)
        ∗ semVal (thr d i, .dma s0.sem) 0 ∗ semVal (thr d i, .dma s1.sem) 0 ∗ semVal (thr d i, .dma sv.sem) 0 ∗ owed (thr d i) O Ws
        ∗ anyS d i o 0 (by decide) ∗ anyS d i o 1 (by decide) ∗ slabs (anyS d i o) (2 * 14 + 2) 2 (by decide))
      ⊢ iprop((iprop(leftover d i b0 b1 ix vl s0 s1 I W qi fullShare O Ws ∗ has (thr d i) val q W ∗ semVal (thr d i, .dma sv.sem) 0
              ∗ outS d i o I W 0 (by decide) ∗ outS d i o I W 1 (by decide) ∗ slabs (outS d i o I W) (2 * 14 + 2) 2 (by decide))
            -∗ wp frame (wpE (defs₀ (F := F)) 𝒱₀ (thr d i) none) Set.univ rest Q)
          -∗ wp frame (wpE (defs₀ (F := F)) 𝒱₀ (thr d i) none) Set.univ (branch i cnd h o b0 hb0 b1 hb1 ix vl s0 s1 rest val hval hvl sv) Q) := by
  have w1 : 1 + 2 * 14 ≤ 29 := by decide
  have w2 : 1 + 2 * 14 = 29 := by decide
  unfold branch
  iintro ⟨#HM, Hi, Hval, Hvl, Hb0, Hb1, Hs0, Hs1, Hsv, HO, H0, H1, H⟩ Hk
  iapply (wp_first d i cnd h o b0 hb0 b1 hb1 ix vl s0 s1 I W qi O Ws val hval hvl sv q) $$ [Hi Hval Hvl Hb0 Hb1 Hs0 Hs1 Hsv HO H0 H1]
  · isplitr; · iexact HM
    isplitl [Hi]; · iexact Hi
    isplitl [Hval]; · iexact Hval
    isplitl [Hvl]; · iexact Hvl
    isplitl [Hb0]; · iexact Hb0
    isplitl [Hb1]; · iexact Hb1
    isplitl [Hs0]; · iexact Hs0
    isplitl [Hs1]; · iexact Hs1
    isplitl [Hsv]; · iexact Hsv
    isplitl [HO]; · iexact HO
    isplitl [H0]; · iexact H0
    iexact H1
  iintro ⟨Hm, Hval, Hsv, H0⟩
  iapply (wp_steps d i cnd h o b0 hb0 b1 hb1 ix vl s0 s1 I W qi fullShare O Ws rest Q 14 1 w1 w2) $$ [Hm H]
  · isplitl [Hm]; · iexact Hm
    iexact H
  iintro ⟨Hl, H1, H⟩
  iapply Hk
  isplitl [Hl]; · iexact Hl
  isplitl [Hval]; · iexact Hval
  isplitl [Hsv]; · iexact Hsv
  isplitl [H0]; · iexact H0
  isplitl [H1]; · iexact H1
  iexact H

end

/-! ## The body -/

section
variable (d : Dev nD) (i : grid2.Coords)
variable (arg2 : Memref sig .scVector .hbm S16x128 .i32) (harg2 : arg2.IsWhole) (arg3 : Memref sig .scVector .hbm S16x128 .f32) (harg3 : arg3.IsWhole)
  (arg4 : Memref sig .scVector .hbm S16x128 .f32) (harg4 : arg4.IsWhole) (arg5 : Memref sig .scVector .hbm S8x4096 .f32) (harg5 : arg5.IsWhole)
  (arg6 : Memref sig .scVector .hbm S4096x4096 .f32) (arg7 : Memref sig .scVector .hbm S4096x4096 .f32)
  (arg8 : Memref sig .scVector .vmem S8x4096 .f32) (harg8 : arg8.IsWhole) (arg9 : Memref sig .scVector .vmem S8x4096 .f32) (harg9 : arg9.IsWhole)
  (arg10 : Memref sig .scVector .vmem S16x128 .i32) (harg10 : arg10.IsWhole) (arg11 : Memref sig .scVector .vmem S16x128 .f32) (harg11 : arg11.IsWhole)
  (arg12 : DmaSems sig S_) (arg13 : DmaSems sig S_) (r0 r1 r2 r3 r4 : DmaSems sig S_)
variable (I : S16x128.Idx → BitVec 32) (W : S16x128.Idx → F .f32) (q2 q3 q5 : PosShare TreeShare)
variable (O : CellTallies nD τ sig (HIx 1)) (Ws : Waits sig (HIx 1))

/-- The tile's part of a matrix, all 32 slabs in the state `A` says. -/
def parts (A : (k : ℕ) → k < 32 → sProp 𝕄) : sProp 𝕄 := iprop(A 0 (by decide) ∗ A 1 (by decide) ∗ slabs A (2 * 14 + 2) 2 (by decide))

/-- What a tile holds when its body begins and when it ends, beside its part of the matrix. -/
def around (val : Memref sig .scVector .hbm S16x128 .f32) (rv : DmaSems sig S_) : sProp 𝕄 :=
  iprop(has (thr d i) arg2 q2 I ∗ has (thr d i) val q3 W ∗ has (thr d i) arg5 q5 (fun _ => zf)
    ∗ any (F := F) (thr d i) arg8 ∗ any (F := F) (thr d i) arg9 ∗ any (F := F) (thr d i) arg10 ∗ any (F := F) (thr d i) arg11
    ∗ semVal (thr d i, .dma arg12.sem) 0 ∗ semVal (thr d i, .dma arg13.sem) 0
    ∗ semVal (thr d i, .dma r0.sem) 0 ∗ semVal (thr d i, .dma r1.sem) 0 ∗ semVal (thr d i, .dma r2.sem) 0 ∗ semVal (thr d i, .dma rv.sem) 0
    ∗ owed (thr d i) O Ws)

/-- The three copies a body begins with: zeros into both buffers, the list's positions. -/
def fetch (kk : PUnit → TileProg F i) : TileProg F i := do
  Prog.lift (.enqueueDma arg5 (.here arg8) (.dma r0.sem) harg5.wordExact harg8.wordExact ⟨Or.inl rfl, trivial⟩)
  Prog.lift (.waitDma2 r0.sem arg5 arg8 harg5.wordExact harg8.wordExact)
  Prog.lift (.enqueueDma arg5 (.here arg9) (.dma r1.sem) harg5.wordExact harg9.wordExact ⟨Or.inl rfl, trivial⟩)
  Prog.lift (.waitDma2 r1.sem arg5 arg9 harg5.wordExact harg9.wordExact)
  Prog.lift (.enqueueDma arg2 (.here arg10) (.dma r2.sem) harg2.wordExact harg10.wordExact ⟨Or.inl rfl, trivial⟩)
  Prog.lift (.waitDma2 r2.sem arg2 arg10 harg2.wordExact harg10.wordExact)
  kk ⟨⟩

/-- The fetches and one branch over matrix `o` with values `val`, returning. -/
theorem wp_fetch_branch (o : Memref sig .scVector .hbm S4096x4096 .f32) (val : Memref sig .scVector .hbm S16x128 .f32) (hval : val.IsWhole) (rv : DmaSems sig S_)
    (cnd : BitVec 1) (h : cnd = 1#1) :
    iprop(Transfers.MayWaits (thr d i) none O ∗ around d i arg2 arg5 arg8 arg9 arg10 arg11 arg12 arg13 r0 r1 r2 I W q2 q3 q5 O Ws val rv ∗ parts (anyS d i o))
      ⊢ wp frame (wpE (defs₀ (F := F)) 𝒱₀ (thr d i) none) Set.univ
          (fetch i arg2 harg2 arg5 harg5 arg8 harg8 arg9 harg9 arg10 harg10 r0 r1 r2 fun _ =>
            branch i cnd h o arg8 harg8 arg9 harg9 arg10 arg11 arg12 arg13 (pure ⟨⟩) val hval harg11 rv)
          (fun _ => iprop(around d i arg2 arg5 arg8 arg9 arg10 arg11 arg12 arg13 r0 r1 r2 I W q2 q3 q5 O Ws val rv ∗ parts (outS d i o I W))) := by
  unfold fetch around parts
  simp only [Prog.lift, Prog.bind_op, Prog.bind_ret, Prog.pure_eq_ret, Prog.bind_assoc]
  iintro ⟨#HM, ⟨Hi, Hval, Hz, Hb0, Hb1, Hix, Hvl, Hs0, Hs1, Hr0, Hr1, Hr2, Hsv, HO⟩, H0, H1, H⟩
  iapply (wp_send (thr d i) arg5 arg8 r0.sem q5 (fun _ => zf) (hpos := slab_pos)) $$ [Hz Hb0 Hr0]
  · isplitl [Hz]; · iexact Hz
    isplitl [Hb0]; · iexact Hb0
    iexact Hr0
  iintro Hf
  iapply (wp_done (thr d i) arg8 r0.sem (Dl := iprop(has (thr d i) arg8 fullShare (fun _ => zf) ∗ has (thr d i) arg5 q5 (fun _ => zf))) (O := O) (W := Ws)) $$ [Hf HO]
  · isplitr; · iexact HM
    isplitl [Hf]; · iexact Hf
    iexact HO
  iintro ⟨⟨Hb0, Hz⟩, Hr0, HO⟩
  iapply (wp_send (thr d i) arg5 arg9 r1.sem q5 (fun _ => zf) (hpos := slab_pos)) $$ [Hz Hb1 Hr1]
  · isplitl [Hz]; · iexact Hz
    isplitl [Hb1]; · iexact Hb1
    iexact Hr1
  iintro Hf
  iapply (wp_done (thr d i) arg9 r1.sem (Dl := iprop(has (thr d i) arg9 fullShare (fun _ => zf) ∗ has (thr d i) arg5 q5 (fun _ => zf))) (O := O) (W := Ws)) $$ [Hf HO]
  · isplitr; · iexact HM
    isplitl [Hf]; · iexact Hf
    iexact HO
  iintro ⟨⟨Hb1, Hz⟩, Hr1, HO⟩
  iapply (wp_send (thr d i) arg2 arg10 r2.sem q2 I (hpos := list_pos)) $$ [Hi Hix Hr2]
  · isplitl [Hi]; · iexact Hi
    isplitl [Hix]; · iexact Hix
    iexact Hr2
  iintro Hf
  iapply (wp_done (thr d i) arg10 r2.sem (Dl := iprop(has (thr d i) arg10 fullShare I ∗ has (thr d i) arg2 q2 I)) (O := O) (W := Ws)) $$ [Hf HO]
  · isplitr; · iexact HM
    isplitl [Hf]; · iexact Hf
    iexact HO
  iintro ⟨⟨Hix, Hi⟩, Hr2, HO⟩
  iapply (wp_branch d i cnd h o arg8 harg8 arg9 harg9 arg10 arg11 arg12 arg13 I W fullShare O Ws (.ret ⟨⟩) val hval harg11 rv q3) $$ [Hix Hval Hvl Hb0 Hb1 Hs0 Hs1 Hsv HO H0 H1 H]
  · isplitr; · iexact HM
    isplitl [Hix]; · iexact Hix
    isplitl [Hval]; · iexact Hval
    isplitl [Hvl]; · iexact Hvl
    isplitl [Hb0]; · iexact Hb0
    isplitl [Hb1]; · iexact Hb1
    isplitl [Hs0]; · iexact Hs0
    isplitl [Hs1]; · iexact Hs1
    isplitl [Hsv]; · iexact Hsv
    isplitl [HO]; · iexact HO
    isplitl [H0]; · iexact H0
    isplitl [H1]; · iexact H1
    iexact H
  unfold leftover
  iintro ⟨⟨Hix, Hvl, Hb0, Hb1, Hs0, Hs1, HO⟩, Hval, Hsv, H0, H1, H⟩
  rw [wp_ret]
  imodintro
  isplitr [H0 H1 H]
  · isplitl [Hi]; · iexact Hi
    isplitl [Hval]; · iexact Hval
    isplitl [Hz]; · iexact Hz
    isplitl [Hb0]; · iexact Hb0
    isplitl [Hb1]; · iexact Hb1
    isplitl [Hix]; · unfold any; iexists _; iexact Hix
    isplitl [Hvl]; · unfold any; iexists _; iexact Hvl
    isplitl [Hs0]; · iexact Hs0
    isplitl [Hs1]; · iexact Hs1
    isplitl [Hr0]; · iexact Hr0
    isplitl [Hr1]; · iexact Hr1
    isplitl [Hr2]; · iexact Hr2
    isplitl [Hsv]; · iexact Hsv
    iexact HO
  isplitl [H0]; · iexact H0
  isplitl [H1]; · iexact H1
  iexact H

/-- On SparseCore 0 the body is the fetches and the first branch. -/
theorem body_zero (h : k2_cond1 i = 1#1) (h' : ¬ k2_cond2 i = 1#1) :
    body (F := F) i arg2 harg2 arg3 harg3 arg4 harg4 arg5 harg5 arg6 arg7 arg8 harg8 arg9 harg9 arg10 harg10 arg11 harg11 arg12 arg13 r0 r1 r2 r3 r4
      = fetch i arg2 harg2 arg5 harg5 arg8 harg8 arg9 harg9 arg10 harg10 r0 r1 r2 fun _ =>
          branch i (k2_cond1 i) h arg6 arg8 harg8 arg9 harg9 arg10 arg11 arg12 arg13 (pure ⟨⟩) arg3 harg3 harg11 r3 := by
  unfold body fetch body2
  simp only [dif_pos h, dif_neg h']

/-- On SparseCore 1 the body is the fetches and the second branch. -/
theorem body_one (h : ¬ k2_cond1 i = 1#1) (h' : k2_cond2 i = 1#1) :
    body (F := F) i arg2 harg2 arg3 harg3 arg4 harg4 arg5 harg5 arg6 arg7 arg8 harg8 arg9 harg9 arg10 harg10 arg11 harg11 arg12 arg13 r0 r1 r2 r3 r4
      = fetch i arg2 harg2 arg5 harg5 arg8 harg8 arg9 harg9 arg10 harg10 r0 r1 r2 fun _ =>
          branch i (k2_cond2 i) h' arg7 arg8 harg8 arg9 harg9 arg10 arg11 arg12 arg13 (pure ⟨⟩) arg4 harg4 harg11 r4 := by
  unfold body fetch body2
  simp only [dif_neg h, dif_pos h']

end

end Cert.Proof.Tile

end
-- ==== Proof.Pieces.lean ====
/-
  A matrix dealt to the tiles and each tile's part to its slabs; a tile's own buffers and semaphores; and a tile's
  task from what it is handed to what it hands back.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The rows of a matrix -/

/-- The matrix's rows from `8 a` to `8 b`. -/
def rows (a b : ℕ) : Finset S4096x4096.Idx := Finset.univ.filter fun x => 8 * a ≤ (x 0).val ∧ (x 0).val < 8 * b

theorem mem_rows {a b : ℕ} {x : S4096x4096.Idx} : x ∈ rows a b ↔ 8 * a ≤ (x 0).val ∧ (x 0).val < 8 * b := by simp [rows]

theorem rows_nil (a : ℕ) : rows a a = ∅ := by
  ext x; simp only [mem_rows, Finset.notMem_empty, iff_false]; omega
theorem rows_cons (a n : ℕ) : rows a (a + (n + 1)) = rows a (a + 1) ∪ rows (a + 1) (a + 1 + n) := by
  ext x; simp only [mem_rows, Finset.mem_union]; omega
theorem rows_disjoint (a b n : ℕ) : Disjoint (rows a b) (rows b n) :=
  Finset.disjoint_left.mpr fun x h h' => by rw [mem_rows] at h h'; omega

/-- Tile `s`'s rows. -/
abbrev tileRows (s : Fin 16) : Finset S4096x4096.Idx := rows (32 * s.val) (32 * s.val + 32)

theorem tileRows_disjoint : ∀ s ∈ (Finset.univ : Finset (Fin 16)), ∀ s' ∈ (Finset.univ : Finset (Fin 16)), s ≠ s' → Disjoint (tileRows s) (tileRows s') := by
  intro s _ s' _ h
  refine Finset.disjoint_left.mpr fun x h1 h2 => h (Fin.ext ?_)
  rw [mem_rows] at h1 h2; omega

theorem tileRows_cover : (Finset.univ : Finset (Fin 16)).biUnion tileRows = Finset.univ := by
  ext x
  have hx : (x 0).val < 4096 := (x 0).isLt
  simp only [Finset.mem_biUnion, Finset.mem_univ, true_and, iff_true, mem_rows]
  exact ⟨⟨(x 0).val / 256, by omega⟩, by show 8 * (32 * ((x 0).val / 256)) ≤ _; omega, by show _ < 8 * (32 * ((x 0).val / 256) + 32); omega⟩

/-- The value a list of entries leaves at an element of the matrix. -/
def spread (I : S16x128.Idx → BitVec 32) (W : S16x128.Idx → F .f32) : S4096x4096.Idx → F .f32 :=
  fun x => lastAt I W zf ((x 0).val * 4096 + (x 1).val) 2048

/-! ## The two matrices -/

/-- The list's positions and values, the zeros and the two matrices, as locations of device `d`. -/
abbrev iLoc (d : Dev nD) : Loc nD τ sig := (SparseCore.T d).loc main_v1_0
abbrev vcLoc (d : Dev nD) : Loc nD τ sig := (SparseCore.T d).loc main_v1_1
abbrev vgLoc (d : Dev nD) : Loc nD τ sig := (SparseCore.T d).loc main_v1_2
abbrev zLoc (d : Dev nD) : Loc nD τ sig := (SparseCore.T d).loc main_v2
abbrev cLoc (d : Dev nD) : Loc nD τ sig := (SparseCore.T d).loc main_v3_0
abbrev aLoc (d : Dev nD) : Loc nD τ sig := (SparseCore.T d).loc main_v3_1

/-- Matrix `c`'s elements `Q` at contents `X`. -/
def outP (d : Dev nD) (c : ℕ) (Q : Finset S4096x4096.Idx) (X : S4096x4096.Idx → F .f32) : sProp 𝕄 :=
  match c with
  | 0 => cLoc d ↦[Q]{fullShare} X
  | _ + 1 => aLoc d ↦[Q]{fullShare} X

/-- Matrix `c`'s list of values, at share `q`. -/
def valP (d : Dev nD) (c : ℕ) (q : PosShare TreeShare) (W : S16x128.Idx → F .f32) : sProp 𝕄 :=
  match c with
  | 0 => vcLoc d ↦{q} W
  | _ + 1 => vgLoc d ↦{q} W

instance outP_storable (d : Dev nD) (c : ℕ) (Q : Finset S4096x4096.Idx) (X : S4096x4096.Idx → F .f32) :
    BI.Storable (upEmb : UEmb _ 𝕄) (outP d c Q X) := by
  cases c <;> (unfold outP; infer_instance)
instance valP_storable (d : Dev nD) (c : ℕ) (q : PosShare TreeShare) (W : S16x128.Idx → F .f32) :
    BI.Storable (upEmb : UEmb _ 𝕄) (valP d c q W) := by
  cases c <;> (unfold valP; infer_instance)

theorem outP_nil (d : Dev nD) (c a : ℕ) (X : S4096x4096.Idx → F .f32) : (outP d c (rows a a) X : sProp 𝕄) = iprop(emp) := by
  rw [rows_nil]; cases c
  · exact pointsTo_empty (ℓ := cLoc d)
  · exact pointsTo_empty (ℓ := aLoc d)

theorem outP_cons (d : Dev nD) (c a n : ℕ) (X : S4096x4096.Idx → F .f32) :
    (outP d c (rows a (a + (n + 1))) X : sProp 𝕄) = iprop(outP d c (rows a (a + 1)) X ∗ outP d c (rows (a + 1) (a + 1 + n)) X) := by
  rw [rows_cons]; cases c
  · exact (fun h => BI.equiv_iff.mp ⟨h.1, h.2⟩) (show (cLoc d ↦[rows a (a + 1) ∪ rows (a + 1) (a + 1 + n)]{fullShare} X : sProp 𝕄) ⊣⊢ _ from pointsTo_union (rows_disjoint a (a + 1) (a + 1 + n)))
  · exact (fun h => BI.equiv_iff.mp ⟨h.1, h.2⟩) (show (aLoc d ↦[rows a (a + 1) ∪ rows (a + 1) (a + 1 + n)]{fullShare} X : sProp 𝕄) ⊣⊢ _ from pointsTo_union (rows_disjoint a (a + 1) (a + 1 + n)))

theorem outP_tiles (d : Dev nD) (c : ℕ) (X : S4096x4096.Idx → F .f32) :
    (outP d c Finset.univ X : sProp 𝕄) = bigSep Finset.univ fun s : Fin 16 => outP d c (tileRows s) X := by
  rw [← tileRows_cover]; cases c
  · exact pointsTo_biUnion (ℓ := cLoc d) Finset.univ tileRows tileRows_disjoint
  · exact pointsTo_biUnion (ℓ := aLoc d) Finset.univ tileRows tileRows_disjoint

/-- A tile's rows are its slabs. -/
theorem outP_slabs (d : Dev nD) (c b : ℕ) (X : S4096x4096.Idx → F .f32) (n k : ℕ) (h : k + n ≤ 32) :
    (outP d c (rows (b + k) (b + k + n)) X : sProp 𝕄) = slabs (fun k _ => outP d c (rows (b + k) (b + k + 1)) X) n k h := by
  induction n generalizing k with
  | zero => exact outP_nil d c _ X
  | succ n ih =>
    have hh : k + 1 + n ≤ 32 := by omega
    rw [outP_cons d c (b + k) n X, Nat.add_assoc b k 1, ih (k + 1) hh]
    rfl

theorem outP_parts (d : Dev nD) (c : ℕ) (s : Fin 16) (X : S4096x4096.Idx → F .f32) :
    (outP d c (tileRows s) X : sProp 𝕄) = parts (fun k _ => outP d c (rows (32 * s.val + k) (32 * s.val + k + 1)) X) := by
  have h := outP_slabs d c (32 * s.val) X (2 * 14 + 2 + 2) 0 (by decide)
  rw [slabs_two] at h
  exact h

theorem slabs_mono {A B : (k : ℕ) → k < 32 → sProp 𝕄} (hAB : ∀ k hk, A k hk ⊢ B k hk) (n k : ℕ) (h : k + n ≤ 32) : slabs A n k h ⊢ slabs B n k h := by
  induction n generalizing k with
  | zero => exact BI.Entails.refl _
  | succ n ih =>
    exact BI.sep_mono (hAB _ _) (ih _ _)

theorem parts_mono {A B : (k : ℕ) → k < 32 → sProp 𝕄} (hAB : ∀ k hk, A k hk ⊢ B k hk) : parts A ⊢ parts B :=
  BI.sep_mono (hAB _ _) (BI.sep_mono (hAB _ _) (slabs_mono hAB _ _ _))

/-! ## A tile's views of the matrices -/

section
variable (d : Dev nD) (i : grid2.Coords)

theorem slab_set (k : ℕ) (hk : k < 32) :
    (Rect.unit (s := S4096x4096) (k2_off2 i (BitVec.ofNat 32 (8 * k))) S8x4096.size (slab_inb i k hk)).set
      = rows (32 * (i 1).val + k) (32 * (i 1).val + k + 1) := by
  ext x
  have hx : (x 1).val < 4096 := (x 1).isLt
  have e0 : k2_off2 i (BitVec.ofNat 32 (8 * k)) 0 = 256 * (i 1).val + 8 * k := slabW_toNat i k hk
  have e1 : k2_off2 i (BitVec.ofNat 32 (8 * k)) 1 = 0 := rfl
  rw [Rect.mem_set_unit, mem_rows, Fin.forall_fin_two, e0, e1]
  show (_ ≤ (x 0).val ∧ (x 0).val < _ + 8) ∧ (0 ≤ (x 1).val ∧ (x 1).val < 0 + 4096) ↔ _
  omega

theorem slab_emb (k : ℕ) (hk : k < 32) (x : S4096x4096.Idx)
    (hx : x ∈ (Rect.unit (s := S4096x4096) (k2_off2 i (BitVec.ofNat 32 (8 * k))) S8x4096.size (slab_inb i k hk)).set) :
    ∃ j : S8x4096.Idx, (Rect.unit (s := S4096x4096) (k2_off2 i (BitVec.ofNat 32 (8 * k))) S8x4096.size (slab_inb i k hk)).emb j = x
      ∧ posAt (slabW i k).toNat j = (x 0).val * 4096 + (x 1).val := by
  rw [← Rect.map_emb_univ] at hx
  obtain ⟨j, -, rfl⟩ := Finset.mem_map.mp hx
  refine ⟨j, rfl, ?_⟩
  have e0 : k2_off2 i (BitVec.ofNat 32 (8 * k)) 0 = 256 * (i 1).val + 8 * k := slabW_toNat i k hk
  have e1 : k2_off2 i (BitVec.ofNat 32 (8 * k)) 1 = 0 := rfl
  rw [slabW_toNat i k hk]
  show (256 * (i 1).val + 8 * k + (j 0).val) * 4096 + (j 1).val
    = (k2_off2 i (BitVec.ofNat 32 (8 * k)) 0 + 1 * (j 0).val) * 4096 + (k2_off2 i (BitVec.ofNat 32 (8 * k)) 1 + 1 * (j 1).val)
  rw [e0, e1]; omega

/-- The memref a tile names matrix `c` by. -/
def outM : ℕ → Memref sig .scVector .hbm S4096x4096 .f32
  | 0 => Memref.whole main_v3_0_scv
  | _ + 1 => Memref.whole main_v3_1_scv

/-- The rectangle slab `k` is. -/
abbrev slabR (k : ℕ) (hk : k < 32) : Rect S4096x4096 := Rect.unit (s := S4096x4096) (k2_off2 i (BitVec.ofNat 32 (8 * k))) S8x4096.size (slab_inb i k hk)

theorem slab_view_zero (k : ℕ) (hk : k < 32) : (slab i (outM 0) k hk).view.set = (slabR i k hk).set := by
  show ((View.whole (main_v3_0_scv : Ref sig .scVector)).slice (slabR i k hk)).set = _
  rw [View.set_slice]; exact Finset.map_refl
theorem slab_view_one (n k : ℕ) (hk : k < 32) : (slab i (outM (n + 1)) k hk).view.set = (slabR i k hk).set := by
  show ((View.whole (main_v3_1_scv : Ref sig .scVector)).slice (slabR i k hk)).set = _
  rw [View.set_slice]; exact Finset.map_refl

theorem slab_pts_zero (k : ℕ) (hk : k < 32) (X : S4096x4096.Idx → F .f32) :
    ((slab i (outM 0) k hk).view.loc (thr d i) ↦[(slab i (outM 0) k hk).view.set]{fullShare} X : sProp 𝕄)
      = outP d 0 (rows (32 * (i 1).val + k) (32 * (i 1).val + k + 1)) X := by
  rw [slab_view_zero, ← slab_set i k hk]; rfl
theorem slab_pts_one (n k : ℕ) (hk : k < 32) (X : S4096x4096.Idx → F .f32) :
    ((slab i (outM (n + 1)) k hk).view.loc (thr d i) ↦[(slab i (outM (n + 1)) k hk).view.set]{fullShare} X : sProp 𝕄)
      = outP d (n + 1) (rows (32 * (i 1).val + k) (32 * (i 1).val + k + 1)) X := by
  rw [slab_view_one, ← slab_set i k hk]; rfl

theorem slab_take (c k : ℕ) (hk : k < 32) (X : S4096x4096.Idx → F .f32) :
    (outP d c (rows (32 * (i 1).val + k) (32 * (i 1).val + k + 1)) X : sProp 𝕄) ⊢ anyS d i (outM c) k hk := by
  cases c with
  | zero =>
    rw [← slab_pts_zero]; unfold anyS any has
    iintro H
    iexists ((slab i (outM 0) k hk).view.read (Elt F) X); iexists X
    isplitr; · ipureintro; rfl
    iexact H
  | succ n =>
    rw [← slab_pts_one]; unfold anyS any has
    iintro H
    iexists ((slab i (outM (n + 1)) k hk).view.read (Elt F) X); iexists X
    isplitr; · ipureintro; rfl
    iexact H

theorem slab_give (I : S16x128.Idx → BitVec 32) (W : S16x128.Idx → F .f32) (c k : ℕ) (hk : k < 32) :
    (outS d i (outM c) I W k hk : sProp 𝕄) ⊢ outP d c (rows (32 * (i 1).val + k) (32 * (i 1).val + k + 1)) (spread I W) := by
  cases c with
  | zero =>
    rw [← slab_pts_zero d i k hk]; unfold outS has
    iintro ⟨%f, %hf, H⟩
    have e : ∀ x ∈ (slab i (outM 0) k hk).view.set, f x = spread I W x := by
      intro x hx
      rw [slab_view_zero] at hx
      obtain ⟨j, rfl, hj⟩ := slab_emb i k hk x hx
      have h := congrFun hf j
      unfold slabVal at h
      rw [hj] at h
      exact h
    have q : ((slab i (outM 0) k hk).view.loc (thr d i) ↦[(slab i (outM 0) k hk).view.set]{fullShare} f : sProp 𝕄)
        = ((slab i (outM 0) k hk).view.loc (thr d i) ↦[(slab i (outM 0) k hk).view.set]{fullShare} (spread I W)) := pointsTo_congr e
    iapply (Entails.of_eq q) $$ H
  | succ n =>
    rw [← slab_pts_one d i n k hk]; unfold outS has
    iintro ⟨%f, %hf, H⟩
    have e : ∀ x ∈ (slab i (outM (n + 1)) k hk).view.set, f x = spread I W x := by
      intro x hx
      rw [slab_view_one] at hx
      obtain ⟨j, rfl, hj⟩ := slab_emb i k hk x hx
      have h := congrFun hf j
      unfold slabVal at h
      rw [hj] at h
      exact h
    have q : ((slab i (outM (n + 1)) k hk).view.loc (thr d i) ↦[(slab i (outM (n + 1)) k hk).view.set]{fullShare} f : sProp 𝕄)
        = ((slab i (outM (n + 1)) k hk).view.loc (thr d i) ↦[(slab i (outM (n + 1)) k hk).view.set]{fullShare} (spread I W)) := pointsTo_congr e
    iapply (Entails.of_eq q) $$ H
end

end Cert.Proof.Tile

end
-- ==== Proof.Task.lean ====
/-
  A tile's own buffers and semaphores, and its task from what it is handed to what it hands back.
-/
module

public import proofs.«01_k».proof.Proof.Pieces

@[expose] public section

noncomputable section

namespace Cert.Proof.Tile

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A tile's own buffers and semaphores -/

/-- The kernel's semaphores, as a vector subcore has them. -/
def semSet : Finset (SemLoc sig) :=
  {.dma cc2_scratch4.sem, .dma cc2_scratch5.sem, .dma cc2_scoped0.sem, .dma cc2_scoped1.sem, .dma cc2_scoped2.sem, .dma cc2_scoped3.sem, .dma cc2_scoped4.sem}

/-- The kernel's buffers, as a vector subcore names them. -/
def refSet : Finset (Ref sig .scVector) := {cc2_scratch0, cc2_scratch1, cc2_scratch2, cc2_scratch3}

section
variable (d : Dev nD) (i : grid2.Coords)

theorem semSet_sub : semSet.image (fun sm => ((thr d i, sm) : GSem nD τ sig)) ⊆ ownCells (thr d i) := by
  intro g hg
  obtain ⟨sm, hs, rfl⟩ := Finset.mem_image.mp hg
  exact mem_ownCells.mpr ⟨rfl, (by decide : ∀ sm ∈ semSet, (sm : SemLoc sig).isScoped .scVector = true) sm hs⟩

theorem refSet_sub : refSet.image (fun r => (thr d i).2.devRef r) ⊆ ownRefs (thr d i).2 := by
  intro b hb
  obtain ⟨r, hr, rfl⟩ := Finset.mem_image.mp hb
  unfold refSet at hr
  simp only [Finset.mem_insert, Finset.mem_singleton] at hr
  rcases hr with rfl | rfl | rfl | rfl <;> exact SparseCore.Cfg.mem_ownRefs_of_owner rfl

/-- What is left of a tile's own semaphores and buffers. -/
def semRest : sProp 𝕄 := bigSep (ownCells (thr d i) \ semSet.image (fun sm => ((thr d i, sm) : GSem nD τ sig))) fun g => semVal g 0
def refRest : sProp 𝕄 := bigSep (ownRefs (thr d i).2 \ refSet.image (fun r => (thr d i).2.devRef r)) fun b => iprop(∃ f, ((d, b) : Loc nD τ sig) ↦{fullShare} f)

theorem ownSems_eq : (ownSems0 (thr d i) : sProp 𝕄)
    = iprop((semVal (thr d i, .dma cc2_scratch4.sem) 0 ∗ semVal (thr d i, .dma cc2_scratch5.sem) 0 ∗ semVal (thr d i, .dma cc2_scoped0.sem) 0
        ∗ semVal (thr d i, .dma cc2_scoped1.sem) 0 ∗ semVal (thr d i, .dma cc2_scoped2.sem) 0 ∗ semVal (thr d i, .dma cc2_scoped3.sem) 0
        ∗ semVal (thr d i, .dma cc2_scoped4.sem) 0) ∗ semRest d i) := by
  unfold SparseCore.Cfg.ownSems0 semRest
  rw [SparseCore.bigSep_sdiff_split' (semSet_sub d i), SparseCore.bigSep_image_of_injOn (fun a _ b _ e => (Prod.mk.inj e).2)]
  unfold semSet
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem ownBufs_eq : (ownBufs (thr d i) : sProp 𝕄)
    = iprop(((∃ f, (thr d i).loc cc2_scratch0 ↦{fullShare} f) ∗ (∃ f, (thr d i).loc cc2_scratch1 ↦{fullShare} f)
        ∗ (∃ f, (thr d i).loc cc2_scratch2 ↦{fullShare} f) ∗ (∃ f, (thr d i).loc cc2_scratch3 ↦{fullShare} f)) ∗ refRest d i) := by
  unfold SparseCore.Cfg.ownBufs refRest
  rw [SparseCore.bigSep_sdiff_split' (refSet_sub d i), SparseCore.bigSep_image_of_injOn (fun a _ b _ e => Proc.devRef_injective _ e)]
  unfold refSet
  rw [SparseCore.bigSep_insert' (by decide : (cc2_scratch0 : Ref sig .scVector) ∉ ({cc2_scratch1, cc2_scratch2, cc2_scratch3} : Finset (Ref sig .scVector))),
    SparseCore.bigSep_insert' (by decide : (cc2_scratch1 : Ref sig .scVector) ∉ ({cc2_scratch2, cc2_scratch3} : Finset (Ref sig .scVector))),
    SparseCore.bigSep_insert' (by decide : (cc2_scratch2 : Ref sig .scVector) ∉ ({cc2_scratch3} : Finset (Ref sig .scVector))), bigSep_singleton]

/-- A whole buffer held, as a memref's elements and what they read. -/
theorem has_of_whole {s : Shape} {e : EltTy} {sp : Space} (m : Memref sig .scVector sp s e) (q : PosShare TreeShare) (f : m.view.ty.Contents (Elt F))
    (X : s.Idx → Elt F e) (hX : m.view.read (Elt F) f = X) (hm : m.view.set = Finset.univ) :
    (m.view.loc (thr d i) ↦{q} f : sProp 𝕄) ⊢ has (thr d i) m q X := by
  unfold has
  rw [hm]
  iintro H
  iexists f
  isplitr; · ipureintro; exact hX
  iexact H

theorem any_of_whole {s : Shape} {e : EltTy} {sp : Space} (m : Memref sig .scVector sp s e) (hm : m.view.set = Finset.univ) :
    (iprop(∃ f, m.view.loc (thr d i) ↦{fullShare} f) : sProp 𝕄) ⊢ any (F := F) (thr d i) m := by
  iintro ⟨%f, H⟩
  unfold any
  iexists (m.view.read (Elt F) f)
  iapply (has_of_whole d i m fullShare f _ rfl hm) $$ H

theorem whole_of_any {s : Shape} {e : EltTy} {sp : Space} (m : Memref sig .scVector sp s e) (hm : m.view.set = Finset.univ) :
    (any (F := F) (thr d i) m : sProp 𝕄) ⊢ iprop(∃ f, m.view.loc (thr d i) ↦{fullShare} f) := by
  unfold any has
  rw [hm]
  iintro ⟨%X, %f, -, H⟩
  iexists f; iexact H

end

/-! ## The task -/

section
variable (d : Dev nD) (i : grid2.Coords) (I : S16x128.Idx → BitVec 32) (W : S16x128.Idx → F .f32) (q2 q3 q5 : PosShare TreeShare)

/-- The kernel at a grid point, as the program calls it. -/
abbrev taskProg : TileProg F i :=
  cc2__sc_body i (Memref.whole main_v1_0_scv) (Memref.isWhole_whole _) (Memref.whole main_v1_1_scv) (Memref.isWhole_whole _)
    (Memref.whole main_v1_2_scv) (Memref.isWhole_whole _) (Memref.whole main_v2_scv) (Memref.isWhole_whole _)
    (Memref.whole main_v3_0_scv) (Memref.isWhole_whole _) (Memref.whole main_v3_1_scv) (Memref.isWhole_whole _)
    (Memref.whole cc2_scratch0) (Memref.isWhole_whole _) (Memref.whole cc2_scratch1) (Memref.isWhole_whole _)
    (Memref.whole cc2_scratch2) (Memref.isWhole_whole _) (Memref.whole cc2_scratch3) (Memref.isWhole_whole _)
    cc2_scratch4 cc2_scratch5 cc2_scoped0 cc2_scoped1 cc2_scoped2 cc2_scoped3 cc2_scoped4

abbrev valM : ℕ → Memref sig .scVector .hbm S16x128 .f32
  | 0 => Memref.whole main_v1_1_scv
  | _ + 1 => Memref.whole main_v1_2_scv
abbrev valS : ℕ → DmaSems sig S_
  | 0 => cc2_scoped3
  | _ + 1 => cc2_scoped4

/-- What surrounds matrix `c`'s branch at the kernel's own operands. -/
abbrev aroundM (c : ℕ) (O : CellTallies nD τ sig (HIx 1)) (Ws : Waits sig (HIx 1)) : sProp 𝕄 :=
  around d i (Memref.whole main_v1_0_scv) (Memref.whole main_v2_scv) (Memref.whole cc2_scratch0) (Memref.whole cc2_scratch1)
    (Memref.whole cc2_scratch2) (Memref.whole cc2_scratch3) cc2_scratch4 cc2_scratch5 cc2_scoped0 cc2_scoped1 cc2_scoped2 I W q2 q3 q5 O Ws (valM c) (valS c)

theorem cond_of_zero (h : (i 0).val = 0) : k2_cond1 i = 1#1 ∧ ¬ k2_cond2 i = 1#1 := by
  have e : i 0 = (0 : Fin 2) := Fin.ext h
  show k2_cond1 (fun | 0 => i 0 | 1 => (0 : Fin 16)) = 1#1 ∧ ¬ k2_cond2 (fun | 0 => i 0 | 1 => (0 : Fin 16)) = 1#1
  rw [e]; decide
theorem cond_of_one (h : (i 0).val = 1) : ¬ k2_cond1 i = 1#1 ∧ k2_cond2 i = 1#1 := by
  have e : i 0 = (1 : Fin 2) := Fin.ext h
  show ¬ k2_cond1 (fun | 0 => i 0 | 1 => (0 : Fin 16)) = 1#1 ∧ k2_cond2 (fun | 0 => i 0 | 1 => (0 : Fin 16)) = 1#1
  rw [e]; decide

theorem wp_taskProg (c : ℕ) (hc : (i 0).val = c) (O : CellTallies nD τ sig (HIx 1)) (Ws : Waits sig (HIx 1)) :
    iprop(Transfers.MayWaits (thr d i) none O ∗ aroundM d i I W q2 q3 q5 c O Ws ∗ parts (anyS d i (outM c)))
      ⊢ wp frame (wpE (defs₀ (F := F)) 𝒱₀ (thr d i) none) Set.univ (taskProg i)
          (fun _ => iprop(aroundM d i I W q2 q3 q5 c O Ws ∗ parts (outS d i (outM c) I W))) := by
  unfold taskProg
  rw [body_eq]
  have h2 : (i 0).val < 2 := (i 0).isLt
  match c, hc with
  | 0, hc =>
    rw [body_zero.{0} (h := (cond_of_zero i hc).1) (h' := (cond_of_zero i hc).2)]
    exact wp_fetch_branch.{0} d i _ _ _ _ _ _ _ _ _ _ _ _ _ _ _ _ _ I W q2 q3 q5 O Ws _ _ _ _ _ (cond_of_zero i hc).1
  | 1, hc =>
    rw [body_one.{0} (h := (cond_of_one i hc).1) (h' := (cond_of_one i hc).2)]
    exact wp_fetch_branch.{0} d i _ _ _ _ _ _ _ _ _ _ _ _ _ _ _ _ _ I W q2 q3 q5 O Ws _ _ _ _ _ (cond_of_one i hc).2
  | n + 2, hc => exact absurd h2 (by omega)

theorem has_val (c : ℕ) : (valP d c q3 W : sProp 𝕄) ⊢ has (thr d i) (valM c) q3 W := by
  cases c with
  | zero => exact has_of_whole d i (Memref.whole main_v1_1_scv) q3 W W rfl (View.set_whole _)
  | succ n => exact has_of_whole d i (Memref.whole main_v1_2_scv) q3 W W rfl (View.set_whole _)

/-- The other matrix's semaphore, which the task leaves alone. -/
abbrev offS : ℕ → DmaSems sig S_
  | 0 => cc2_scoped4
  | _ + 1 => cc2_scoped3

theorem sems_in (c : ℕ) : (iprop(semVal (thr d i, .dma cc2_scoped3.sem) 0 ∗ semVal (thr d i, .dma cc2_scoped4.sem) 0) : sProp 𝕄)
    ⊢ iprop(semVal (thr d i, .dma (valS c).sem) 0 ∗ semVal (thr d i, .dma (offS c).sem) 0) := by
  cases c with
  | zero => exact BI.Entails.refl _
  | succ n => iintro ⟨H3, H4⟩; isplitl [H4] <;> iassumption
theorem sems_out (c : ℕ) : (iprop(semVal (thr d i, .dma (valS c).sem) 0 ∗ semVal (thr d i, .dma (offS c).sem) 0) : sProp 𝕄)
    ⊢ iprop(semVal (thr d i, .dma cc2_scoped3.sem) 0 ∗ semVal (thr d i, .dma cc2_scoped4.sem) 0) := by
  cases c with
  | zero => exact BI.Entails.refl _
  | succ n => iintro ⟨H3, H4⟩; isplitl [H4] <;> iassumption

/-- What the task leaves alone. -/
abbrev aside (c : ℕ) : sProp 𝕄 := iprop(refRest d i ∗ semRest d i ∗ semVal (thr d i, .dma (offS c).sem) 0)

/-- The task: from shares of the list and of the zeros and its rows of the matrix, whatever they hold, to those rows
    holding what the list says. -/
theorem tile_body (c : ℕ) (s : Fin 16) (hc : (i 0).val = c) (hs : (i 1).val = s.val) (O : CellTallies nD τ sig (HIx 1)) (Ws : Waits sig (HIx 1)) (hO : ∀ g, O g none = 0)
    (X : S4096x4096.Idx → F .f32) :
    iprop(levAts (K (F := F)).L (K (F := F)).lev ∗ ((iLoc d ↦{q2} I) ∗ (zLoc d ↦{q5} (fun _ => zf)) ∗ valP d c q3 W ∗ outP d c (tileRows s) X)
        ∗ scopedBufs (thr d i) ∗ scopedSems0 (thr d i) ∗ owes (thr d i) O Ws)
      ⊢ wp frame (wpE (defs₀ (F := F)) 𝒱₀ (thr d i) none) Set.univ (taskProg i)
          (fun _ => iprop(outP d c (tileRows s) (spread I W) ∗ scopedBufs (thr d i) ∗ scopedSems0 (thr d i)
            ∗ ∃ W', ⌜∀ p ∈ W', p ∈ Ws ∨ p.2 = none⌝ ∗ owes (thr d i) O W')) := by
  have hparts : (outP d c (tileRows s) X : sProp 𝕄) ⊢ parts (anyS d i (outM c)) := by
    rw [outP_parts, ← hs]; exact parts_mono fun k hk => slab_take d i c k hk X
  have hback : (parts (outS d i (outM c) I W) : sProp 𝕄) ⊢ outP d c (tileRows s) (spread I W) := by
    rw [outP_parts, ← hs]; exact parts_mono fun k hk => slab_give d i I W c k hk
  rw [(K (F := F)).scopedBufs_V facts d _ _, SparseCore.Cfg.scopedSems0_V (Val := Elt F) d _ _, ownSems_eq, ownBufs_eq]
  refine (BI.Entails.trans ?pre (wp_frame_r (Q := fun _ => iprop(aroundM d i I W q2 q3 q5 c O Ws ∗ parts (outS d i (outM c) I W))) (R := aside d i c) frame (wpE (defs₀ (F := F)) 𝒱₀ (thr d i) none) Set.univ)).trans (wp_mono frame _ _ fun _ => ?post)
  case pre =>
    refine BI.Entails.trans ?_ (sep_mono_left (wp_taskProg d i I W q2 q3 q5 c hc O Ws))
    show (_ : sProp 𝕄) ⊢ (_ : sProp 𝕄)
    iintro ⟨#Hlv, ⟨Hi, Hz, Hv, Ho⟩, ⟨⟨Hb0, Hb1, Hb2, Hb3⟩, Hbr⟩, ⟨⟨Hs4, Hs5, Hr0, Hr1, Hr2, Hr3, Hr4⟩, Hsr⟩, HO⟩
    ihave Hp := hparts $$ Ho
    ihave Hv := (has_val d i W q3 c) $$ Hv
    ihave Hb0 := (any_of_whole d i (Memref.whole cc2_scratch0) (View.set_whole _)) $$ Hb0
    ihave Hb1 := (any_of_whole d i (Memref.whole cc2_scratch1) (View.set_whole _)) $$ Hb1
    ihave Hb2 := (any_of_whole d i (Memref.whole cc2_scratch2) (View.set_whole _)) $$ Hb2
    ihave Hb3 := (any_of_whole d i (Memref.whole cc2_scratch3) (View.set_whole _)) $$ Hb3
    ihave Hs := (sems_in d i c) $$ [Hr3 Hr4]
    · isplitl [Hr3] <;> iassumption
    icases Hs with ⟨Hv3, Hv4⟩
    isplitr [Hbr Hsr Hv4]
    · isplitr
      · iapply ((K (F := F)).mayWaits_none hO) $$ Hlv
      unfold aroundM around
      isplitr [Hp]
      · isplitl [Hi]
        · iapply (has_of_whole d i (Memref.whole main_v1_0_scv) q2 I I rfl (View.set_whole _)) $$ Hi
        isplitl [Hv]; · iexact Hv
        isplitl [Hz]
        · iapply (has_of_whole d i (Memref.whole main_v2_scv) q5 (fun _ => zf) (fun _ => zf) rfl (View.set_whole _)) $$ Hz
        isplitl [Hb0]; · iexact Hb0
        isplitl [Hb1]; · iexact Hb1
        isplitl [Hb2]; · iexact Hb2
        isplitl [Hb3]; · iexact Hb3
        isplitl [Hs4]; · iexact Hs4
        isplitl [Hs5]; · iexact Hs5
        isplitl [Hr0]; · iexact Hr0
        isplitl [Hr1]; · iexact Hr1
        isplitl [Hr2]; · iexact Hr2
        isplitl [Hv3]; · iexact Hv3
        unfold owed
        iexists Ws; isplitr; · ipureintro; exact fun p hp => .inl hp
        iexact HO
      iexact Hp
    isplitl [Hbr]; · iexact Hbr
    isplitl [Hsr]; · iexact Hsr
    iexact Hv4
  case post =>
    unfold aroundM around owed
    iintro ⟨⟨⟨-, -, -, Hb0, Hb1, Hb2, Hb3, Hs4, Hs5, Hr0, Hr1, Hr2, Hv3, HO⟩, Hp⟩, Hbr, Hsr, Hv4⟩
    ihave Hs := (sems_out d i c) $$ [Hv3 Hv4]
    · isplitl [Hv3] <;> iassumption
    icases Hs with ⟨Hr3, Hr4⟩
    isplitl [Hp]; · iapply hback $$ Hp
    isplitl [Hb0 Hb1 Hb2 Hb3 Hbr]
    · isplitr [Hbr]
      · isplitl [Hb0]; · iapply (whole_of_any d i (Memref.whole cc2_scratch0) (View.set_whole _)) $$ Hb0
        isplitl [Hb1]; · iapply (whole_of_any d i (Memref.whole cc2_scratch1) (View.set_whole _)) $$ Hb1
        isplitl [Hb2]; · iapply (whole_of_any d i (Memref.whole cc2_scratch2) (View.set_whole _)) $$ Hb2
        iapply (whole_of_any d i (Memref.whole cc2_scratch3) (View.set_whole _)) $$ Hb3
      iexact Hbr
    isplitr [HO]
    · isplitr [Hsr]
      · isplitl [Hs4]; · iexact Hs4
        isplitl [Hs5]; · iexact Hs5
        isplitl [Hr0]; · iexact Hr0
        isplitl [Hr1]; · iexact Hr1
        isplitl [Hr2]; · iexact Hr2
        isplitl [Hr3]; · iexact Hr3
        iexact Hr4
      iexact Hsr
    iexact HO

end

end Cert.Proof.Tile

end
-- ==== Proof.Launch.lean ====
/-
  What the SparseCore call's handshakes carry, and the launch theorem's obligations of the tiles.
-/
module

public import proofs.«01_k».proof.Proof.Task

@[expose] public section

noncomputable section

namespace Cert.Proof.Tile

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The lists a device's call is given: the entries' positions, and their values for the two matrices. -/
structure Lists (F : FTy → Type) where
  I : S16x128.Idx → BitVec 32
  C : S16x128.Idx → F .f32
  G : S16x128.Idx → F .f32

/-- The values for matrix `c`. -/
def Lists.val (t : Lists F) : ℕ → S16x128.Idx → F .f32
  | 0 => t.C
  | _ + 1 => t.G

variable (t : Dev nD → Lists F)

/-- SparseCore `c`'s share of what both read, and its tile `s`'s. -/
abbrev shC (c : ℕ) : PosShare TreeShare := Transfers.shareTokN fullShare c
abbrev shT (c s : ℕ) : PosShare TreeShare := Transfers.shareTokN (shC c) s

/-- Shares of the lists and the zeros. -/
def readP (d : Dev nD) (c : ℕ) (q : PosShare TreeShare) : sProp 𝕄 :=
  iprop((iLoc d ↦{q} (t d).I) ∗ (zLoc d ↦{q} (fun _ => zf)) ∗ valP d c q ((t d).val c))

instance readP_storable (d : Dev nD) (c : ℕ) (q : PosShare TreeShare) : BI.Storable (upEmb : UEmb _ 𝕄) (readP t d c q) := by
  unfold readP; infer_instance

theorem readP_toks (d : Dev nD) (c : ℕ) (q : PosShare TreeShare) (n : ℕ) :
    (readP t d c q : sProp 𝕄) ⊢ bigSep Finset.univ fun s : Fin n => readP t d c (Transfers.shareTokN q s.val) := by
  unfold readP
  rw [bigSep_sep', bigSep_sep']
  iintro ⟨Hi, Hz, Hv⟩
  ihave Hi := (Transfers.pointsTo_toks_split (ℓ := iLoc d) q n) $$ Hi
  ihave Hz := (Transfers.pointsTo_toks_split (ℓ := zLoc d) q n) $$ Hz
  icases Hi with ⟨-, Hi⟩
  icases Hz with ⟨-, Hz⟩
  isplitl [Hi]; · iexact Hi
  isplitl [Hz]; · iexact Hz
  cases c with
  | zero =>
    unfold valP
    ihave Hv := (Transfers.pointsTo_toks_split (ℓ := vcLoc d) q n) $$ Hv
    icases Hv with ⟨-, Hv⟩
    iexact Hv
  | succ c =>
    unfold valP
    ihave Hv := (Transfers.pointsTo_toks_split (ℓ := vgLoc d) q n) $$ Hv
    icases Hv with ⟨-, Hv⟩
    iexact Hv

/-- The one call takes shares of the lists and of the zeros and a matrix a SparseCore, a tile its part of each, and brings
    the matrices back. -/
def P : (K (F := F)).Pay (nD := nD) (Val := Elt F) (Name := ℕ) (U := UU) where
  st := fun q d c => match q with | 0 => iprop(readP t d c.val (shC c.val) ∗ ∃ X, outP d c.val Finset.univ X)
  dn := fun q d c => match q with | 0 => outP d c.val Finset.univ (spread (t d).I ((t d).val c.val))
  go := fun q d c s => match q with | 0 => iprop(readP t d c.val (shT c.val s.val) ∗ ∃ X, outP d c.val (tileRows ⟨s.val, s.isLt⟩) X)
  td := fun q d c s => match q with | 0 => outP d c.val (tileRows ⟨s.val, s.isLt⟩) (spread (t d).I ((t d).val c.val))
  x := fun _ _ => iprop(emp)

instance P_storable : (P (F := F) t).IsStorable where
  st q d c := match q with
    | 0 => (inferInstance : BI.Storable (upEmb : UEmb _ 𝕄) iprop(readP t d c.val (shC c.val) ∗ ∃ X, outP d c.val Finset.univ X))
  dn q d c := match q with
    | 0 => (inferInstance : BI.Storable (upEmb : UEmb _ 𝕄) (outP d c.val Finset.univ (spread (t d).I ((t d).val c.val))))
  go q d c s := match q with
    | 0 => (inferInstance : BI.Storable (upEmb : UEmb _ 𝕄) iprop(readP t d c.val (shT c.val s.val) ∗ ∃ X, outP d c.val (tileRows ⟨s.val, s.isLt⟩) X))
  td q d c s := match q with
    | 0 => (inferInstance : BI.Storable (upEmb : UEmb _ 𝕄) (outP d c.val (tileRows ⟨s.val, s.isLt⟩) (spread (t d).I ((t d).val c.val))))

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 () = SparseCore.onTile hcore2 hsub2 (fun c s => taskProg (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_go (d : Dev nD) (i : grid2.Coords) (c : ℕ) (s : Fin 16) (hc : (i 0).val = c) (hs : (i 1).val = s.val) (O : CellTallies nD τ sig (HIx 1))
    (Ws : Waits sig (HIx 1)) (hO : ∀ g, O g none = 0) :
    iprop(levAts (K (F := F)).L (K (F := F)).lev ∗ emp ∗ (readP t d c (shT c s.val) ∗ ∃ X, outP d c (tileRows s) X)
        ∗ scopedBufs (thr d i) ∗ scopedSems0 (thr d i) ∗ owes (thr d i) O Ws)
      ⊢ wp frame (wpE (defs₀ (F := F)) 𝒱₀ (thr d i) none) Set.univ (taskProg i)
          (fun _ => iprop(outP d c (tileRows s) (spread (t d).I ((t d).val c)) ∗ scopedBufs (thr d i) ∗ scopedSems0 (thr d i)
            ∗ ∃ W', ⌜∀ p ∈ W', p ∈ Ws ∨ p.2 = none⌝ ∗ owes (thr d i) O W')) := by
  unfold readP
  iintro ⟨Hlv, -, ⟨⟨Hi, Hz, Hv⟩, ⟨%X, Ho⟩⟩, Hb, Hs, HO⟩
  iapply (tile_body d i (t d).I ((t d).val c) (shT c s.val) (shT c s.val) (shT c s.val) c s hc hs O Ws hO X)
  isplitl [Hlv]; · iexact Hlv
  isplitl [Hi Hz Hv Ho]
  · isplitl [Hi]; · iexact Hi
    isplitl [Hz]; · iexact Hz
    isplitl [Hv]; · iexact Hv
    iexact Ho
  isplitl [Hb]; · iexact Hb
  isplitl [Hs]; · iexact Hs
  iexact HO

theorem tileObl : (K (F := F)).TileObl (D (F := F)) 𝒱 (P t) v₀ 0 := by
  intro d c i O W hO _ _
  simp only [show (P t).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_go t d (coordsV ⟨_, hc.1⟩ ⟨_, hc.2⟩) c.val ⟨i.val, i.isLt⟩ rfl rfl O W hO).trans (wp_mono frame _ _ fun _ => obl_post)

theorem nSub_zero : (K (F := F)).nSub 0 = 16 := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem outs_any (d : Dev nD) (c : ℕ) (X : S4096x4096.Idx → F .f32) :
    (outP d c Finset.univ X : sProp 𝕄) ⊢ bigSep Finset.univ fun s : Fin 16 => iprop(∃ X, outP d c (tileRows s) X) := by
  rw [outP_tiles]
  exact bigSep_mono fun s _ => show (_ : sProp 𝕄) ⊢ (_ : sProp 𝕄) by iintro H; iexists X; iexact H

theorem vecSplit : (K (F := F)).VecSplit' (P t) 0 := by
  intro d c
  show iprop(readP t d c.val (shC c.val) ∗ ∃ X, outP d c.val Finset.univ X) ⊢ |={Set.univ}=> iprop(
      (bigSep Finset.univ fun i : Fin ((K (F := F)).nSub 0) =>
        iprop(readP t d c.val (shT c.val (Fin.cast nSub_zero i).val) ∗ ∃ X, outP d c.val (tileRows (Fin.cast nSub_zero i)) X))
      ∗ ((bigSep Finset.univ fun i : Fin ((K (F := F)).nSub 0) => outP d c.val (tileRows (Fin.cast nSub_zero i)) (spread (t d).I ((t d).val c.val)))
          -∗ outP d c.val Finset.univ (spread (t d).I ((t d).val c.val))))
  rw [bigSep_tasks (F := F) (fun i => iprop(readP t d c.val (shT c.val i.val) ∗ ∃ X, outP d c.val (tileRows i) X)),
    bigSep_tasks (F := F) (fun i => outP d c.val (tileRows i) (spread (t d).I ((t d).val c.val))), ← outP_tiles, bigSep_sep']
  iintro ⟨Hr, ⟨%X, Ho⟩⟩
  imodintro
  isplitl [Hr Ho]
  · isplitl [Hr]
    · iapply (readP_toks t d c.val (shC c.val) 16) $$ Hr
    iapply (outs_any d c.val X) $$ Ho
  iintro H; iexact H

end Cert.Proof.Tile

end
-- ==== Proof.Calls.lean ====
/-
  The two TensorCore bodies, each run once: the first writes the two nearest columns of every row of its block, as a
  column and as a row each; the second the lists of positions, edges and ages of all the pairs.
-/
module

public import proofs.«01_k».proof.Proof.Launch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.VecWindow

@[expose] public section

noncomputable section

namespace Cert.Proof.Tile

open Cert.KernelIdeal Cert.KernelIdeal.Gen
open Idealize.ShloMosaic
open Idealize.ShloMosaic.TcCoe Idealize.ShloMosaic.Tactic
open Idealize.ShloMosaic.StableHlo (held wp_hlo_within)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem top2 (c : Dev nD) (i : grid0.Coords) (M0 : Memref sig .tc .vmem S128x4096 .f32) (h0 : M0.IsWhole) (M1 : Memref sig .tc .vmem S128x1 .i32) (h1 : M1.IsWhole)
    (M2 : Memref sig .tc .vmem S128x1 .i32) (h2 : M2.IsWhole) (M3 : Memref sig .tc .vmem S1x128 .i32) (h3 : M3.IsWhole) (M4 : Memref sig .tc .vmem S1x128 .i32) (h4 : M4.IsWhole)
    (f0 : Bf (F := F) c M0) (f1 : Bf (F := F) c M1) (f2 : Bf (F := F) c M2) (f3 : Bf (F := F) c M3) (f4 : Bf (F := F) c M4) (E : Set ℕ) (Q : PUnit → sProp 𝕄) :
        iprop(pt c M0 f0 ∗ pt c M1 f1 ∗ pt c M2 f2 ∗ pt c M3 f3 ∗ pt c M4 f4
          ∗ ((∃ w1 w2 w3 w4, ⌜M1.view.read (Elt F) w1 = k0_pay1 (M0.view.read (Elt F) f0) ∧ M2.view.read (Elt F) w2 = k0_pay2 (M0.view.read (Elt F) f0)
              ∧ M3.view.read (Elt F) w3 = k0_pay3 (M0.view.read (Elt F) f0) ∧ M4.view.read (Elt F) w4 = k0_pay4 (M0.view.read (Elt F) f0)⌝
              ∗ pt c M0 f0 ∗ pt c M1 w1 ∗ pt c M2 w2 ∗ pt c M3 w3 ∗ pt c M4 w4) -∗ Q ⟨⟩))
          ⊢ wp frame (wpE (defs₀ (F := F)) 𝒱₀ c none) E (cc0__top2_body i M0 h0 M1 h1 M2 h2 M3 h3 M4 h4) Q := by
  rw [cc0__top2_body_eq_skeleton]; unfold cc0__top2_body_skel
  iintro ⟨H0, H1, H2, H3, H4, Hk⟩
  sl_exec!
  sl_step
  iapply Hk
  iexists _, _, _, _
  isplitr; swap
  · isplitl [H0]; · iexact H0
    isplitl [H1]; · iexact H1
    isplitl [H2]; · iexact H2
    isplitl [H3]; · iexact H3
    iexact H4
  ipureintro
  refine ⟨?_, ?_, ?_, ?_⟩
  · unfold top2.sl.H1_1; rw [View.read_writes_full, View.readAt_full]
  · unfold top2.sl.H2_1; rw [View.read_writes_full, View.readAt_full]
  · unfold top2.sl.H3_1; rw [View.read_writes_full, View.readAt_full]
  · unfold top2.sl.H4_1; rw [View.read_writes_full, View.readAt_full]

/-- Two blocks of eight rows, one above the other. -/
def halves {e : EltTy} (lo hi : S8x128.Idx → Elt F e) : S16x128.Idx → Elt F e := fun y =>
  if h : (y 0).val < 8 then lo (Rect.unitLocal (s := S16x128) (off := ![0, 0]) (size := S8x128.size) y (fun a => by
    fin_cases a
    · exact ⟨Nat.zero_le _, h⟩
    · exact ⟨Nat.zero_le _, (y 1).isLt⟩))
  else hi (Rect.unitLocal (s := S16x128) (off := ![8, 0]) (size := S8x128.size) y (fun a => by
    fin_cases a
    · exact ⟨Nat.not_lt.mp h, (y 0).isLt⟩
    · exact ⟨Nat.zero_le _, (y 1).isLt⟩))

theorem read_halves {e : EltTy} (v : View sig .tc .vmem S16x128 e) (f : v.ty.Contents (Elt F)) (lo hi : S8x128.Idx → Elt F e) :
    v.read (Elt F) (v.writes (Elt F) f [⟨Rect.unit (s := S16x128) ![8, 0] S8x128.size inb_S16x128_S8x128_8_0, hi⟩, ⟨Rect.unit (s := S16x128) ![0, 0] S8x128.size inb_S16x128_S8x128_0_0, lo⟩])
      = halves lo hi := by
  funext y
  rw [View.read_writes_cons_unit v _ inb_S16x128_S8x128_8_0 hi _ y rfl, View.read_writes_cons_unit v _ inb_S16x128_S8x128_0_0 lo _ y rfl]
  unfold halves
  by_cases h : (y 0).val < 8
  · rw [dif_neg (fun H => absurd (H 0).1 (Nat.not_le.mpr h)), dif_pos (fun a => by
      fin_cases a
      · exact ⟨Nat.zero_le _, h⟩
      · exact ⟨Nat.zero_le _, (y 1).isLt⟩), dif_pos h]
  · rw [dif_pos (fun a => by
      fin_cases a
      · exact ⟨Nat.not_lt.mp h, (y 0).isLt⟩
      · exact ⟨Nat.zero_le _, (y 1).isLt⟩), dif_neg h]

/-- The list of positions. -/
def lI (v0 v2 : Vec F S1024x1 .i32) : Vec F S16x128 .i32 := halves (F := F) (e := .i32) (k1_pay9 (k1_pay1 v0) (k1_pay2 v2)) (k1_pay10 (k1_pay1 v0) (k1_pay2 v2))
/-- The list of edge values. -/
def lC (v0 v2 : Vec F S1024x1 .i32) (v4 v6 : Vec F S1x1024 .i32) : Vec F S16x128 .f32 :=
  halves (F := F) (e := .f32) (k1_pay11 (k1_pay6 v0 v2 v4 v6)) (k1_pay12 (k1_pay7 v0 v2 v4 v6))
/-- The list of ages. -/
def lG (v0 v2 : Vec F S1024x1 .i32) (v4 v6 : Vec F S1x1024 .i32) : Vec F S16x128 .f32 :=
  halves (F := F) (e := .f32) (k1_pay13 (k1_pay6 v0 v2 v4 v6)) (k1_pay14 (k1_pay7 v0 v2 v4 v6))

theorem pairs (c : Dev nD) (M0 : Memref sig .tc .vmem S1024x1 .i32) (h0 : M0.IsWhole) (M1 : Memref sig .tc .vmem S1024x1 .i32) (h1 : M1.IsWhole)
    (M2 : Memref sig .tc .vmem S1x1024 .i32) (h2 : M2.IsWhole) (M3 : Memref sig .tc .vmem S1x1024 .i32) (h3 : M3.IsWhole)
    (M4 : Memref sig .tc .vmem S16x128 .i32) (h4 : M4.IsWhole) (M5 : Memref sig .tc .vmem S16x128 .f32) (h5 : M5.IsWhole) (M6 : Memref sig .tc .vmem S16x128 .f32) (h6 : M6.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6)
    (E : Set ℕ) (Q : PUnit → sProp 𝕄) :
        iprop(pt c M0 f0 ∗ pt c M1 f1 ∗ pt c M2 f2 ∗ pt c M3 f3 ∗ pt c M4 f4 ∗ pt c M5 f5 ∗ pt c M6 f6
          ∗ ((∃ w4 w5 w6, ⌜M4.view.read (Elt F) w4 = lI (M0.view.read (Elt F) f0) (M1.view.read (Elt F) f1)
                ∧ M5.view.read (Elt F) w5 = lC (M0.view.read (Elt F) f0) (M1.view.read (Elt F) f1) (M2.view.read (Elt F) f2) (M3.view.read (Elt F) f3)
                ∧ M6.view.read (Elt F) w6 = lG (M0.view.read (Elt F) f0) (M1.view.read (Elt F) f1) (M2.view.read (Elt F) f2) (M3.view.read (Elt F) f3)⌝
              ∗ pt c M0 f0 ∗ pt c M1 f1 ∗ pt c M2 f2 ∗ pt c M3 f3 ∗ pt c M4 w4 ∗ pt c M5 w5 ∗ pt c M6 w6) -∗ Q ⟨⟩))
          ⊢ wp frame (wpE (defs₀ (F := F)) 𝒱₀ c none) E (cc1__pairstats_body M0 h0 M1 h1 M2 h2 M3 h3 M4 h4 M5 h5 M6 h6) Q := by
  rw [cc1__pairstats_body_eq_skeleton]; unfold cc1__pairstats_body_skel
  rw [k1_part1_eq_skeleton, k1_part2_eq_skeleton]; unfold k1_part1_skel k1_part2_skel
  iintro ⟨H0, H1, H2, H3, H4, H5, H6, Hk⟩
  sl_exec!
  sl_step
  iapply Hk
  iexists _, _, _
  isplitr; swap
  · isplitl [H0]; · iexact H0
    isplitl [H1]; · iexact H1
    isplitl [H2]; · iexact H2
    isplitl [H3]; · iexact H3
    isplitl [H4]; · iexact H4
    isplitl [H5]; · iexact H5
    iexact H6
  ipureintro
  have e0 : View.readAt (Elt F) M0.view (Rect.unit (s := S1024x1) ![0, 0] ![1024, 1] inb_S1024x1_S1024x1_0_0).toLoadRect f0 = M0.view.read (Elt F) f0 := View.readAt_full ..
  have e1 : View.readAt (Elt F) M1.view (Rect.unit (s := S1024x1) ![0, 0] ![1024, 1] inb_S1024x1_S1024x1_0_0).toLoadRect f1 = M1.view.read (Elt F) f1 := View.readAt_full ..
  have e2 : View.readAt (Elt F) M2.view (Rect.unit (s := S1x1024) ![0, 0] ![1, 1024] inb_S1x1024_S1x1024_0_0).toLoadRect f2 = M2.view.read (Elt F) f2 := View.readAt_full ..
  have e3 : View.readAt (Elt F) M3.view (Rect.unit (s := S1x1024) ![0, 0] ![1, 1024] inb_S1x1024_S1x1024_0_0).toLoadRect f3 = M3.view.read (Elt F) f3 := View.readAt_full ..
  refine ⟨?_, ?_, ?_⟩
  · unfold pairs.sl.H4_2 lI; rw [read_halves, e0, e1]
  · unfold pairs.sl.H5_2 lC; rw [read_halves, e0, e1, e2, e3]
  · unfold pairs.sl.H6_2 lG; rw [read_halves, e0, e1, e2, e3]

end Cert.Proof.Tile
end
-- ==== Proof.Regions.lean ====
/- The proof data of the two TensorCore calls, and each body's obligation at a grid point. -/
module

public import proofs.«01_k».proof.Proof.Calls

@[expose] public section

noncomputable section

namespace Cert.Proof.Tile

open Cert.KernelIdeal Cert.KernelIdeal.Gen
open Idealize.ShloMosaic
open Idealize.ShloMosaic.TcCoe Idealize.ShloMosaic.Tactic
open Idealize.ShloMosaic.StableHlo (held wp_hlo_within)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem owns_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, rfl, rfl, rfl, hb⟩ := h
  obtain rfl := eq_of_heq hb
  unfold owns; simp only [Memref.view_whole, View.set_whole]

abbrev adm : (p : Fin 2) → (pcfgs (F := F) p).Adm := fun p => (cfgs p).toPCfg_adm

/-- A bound on what the TensorCore's waits have recorded before the call. -/
abbrev rec0 (c : Dev nD) : Set (SemLoc sig × HIx 1) := {p | (K (F := F)).lev (SparseCore.T c, p.1) p.2 ≤ 8 * 0}

variable (V : (c : Dev nD) → (b : Ref sig .tc) → Buf (Elt F) ((c : Thread nD τ).loc b))

/-! ## The first call -/

abbrev blk0 (c : Dev nD) (t : Fin cfg0.N) : S128x4096.Idx → Elt F .f32 := ((cfg0.win 0).blk t).view.read (Elt F) (V c main_arg0)

def dat0 (c : Dev nD) : Dat τ (Elt F) (HIx 1) ℕ UU ℕ cfg0 c where
  A w := V c (Pipeline.arrRef spec0 w)
  after w t := match w with
    | ⟨0, _⟩ => blk0 V c t
    | ⟨1, _⟩ => k0_pay1 (blk0 V c t)
    | ⟨2, _⟩ => k0_pay2 (blk0 V c t)
    | ⟨3, _⟩ => k0_pay3 (blk0 V c t)
    | ⟨4, _⟩ => k0_pay4 (blk0 V c t)
  Φ _ := Pipeline.scopedRest (Ix := HIx 1) (Name := ℕ) (U := UU) (Lvl := ℕ) (Val := Elt F) spec0 c
  q _ := fullShare
  owed _ := (K (F := F)).Otc c 0
  recorded _ := rec0 (F := F) c

theorem before0 (c : Dev nD) (t : Fin cfg0.N) (d : (cfg0.win 0).block.Idx → Elt F (cfg0.win 0).elt) : (dat0 V c).before 0 t d = blk0 V c t := by
  unfold Dat.before; rw [if_pos (fetch0_0 t)]; rfl

theorem after0_1 (c : Dev nD) (t : Fin cfg0.N) : (dat0 V c).after 1 t = k0_pay1 (blk0 V c t) := by dsimp only [dat0]
theorem after0_2 (c : Dev nD) (t : Fin cfg0.N) : (dat0 V c).after 2 t = k0_pay2 (blk0 V c t) := by dsimp only [dat0]
theorem after0_3 (c : Dev nD) (t : Fin cfg0.N) : (dat0 V c).after 3 t = k0_pay3 (blk0 V c t) := by dsimp only [dat0]
theorem after0_4 (c : Dev nD) (t : Fin cfg0.N) : (dat0 V c).after 4 t = k0_pay4 (blk0 V c t) := by dsimp only [dat0]

theorem body0 (c : Dev nD) : BodyObligation (dat0 V c) (defs₀ (F := F)) 𝒱₀ none Set.univ := fun t => by
  rw [bigSep_W0, bigSep_W0]
  dsimp only
  rw [show (dat0 V c).Φ t.succ = (dat0 V c).Φ t.castSucc from rfl,
    show (dat0 V c).owesAt none t.succ = (dat0 V c).owesAt none t.castSucc from rfl]
  have e0 := fun s X => owns_whole (F := F) c _ (hstage0_0 s) X
  have e1 := fun s X => owns_whole (F := F) c _ (hstage0_1 s) X
  have e2 := fun s X => owns_whole (F := F) c _ (hstage0_2 s) X
  have e3 := fun s X => owns_whole (F := F) c _ (hstage0_3 s) X
  have e4 := fun s X => owns_whole (F := F) c _ (hstage0_4 s) X
  simp only [e0, e1, e2, e3, e4]
  iintro ⟨HΦ, Ho, ⟨%d0, %f0, %hf0, H0⟩, ⟨%d1, %f1, -, H1⟩, ⟨%d2, %f2, -, H2⟩, ⟨%d3, %f3, -, H3⟩, ⟨%d4, %f4, -, H4⟩⟩
  rw [before0] at hf0
  iapply (top2 c (grid0.coords t) (st0_0 t) (hstage0_0 _) (st0_1 t) (hstage0_1 _) (st0_2 t) (hstage0_2 _) (st0_3 t) (hstage0_3 _) (st0_4 t) (hstage0_4 _) f0 f1 f2 f3 f4 Set.univ _)
  isplitl [H0]; · iexact H0
  isplitl [H1]; · iexact H1
  isplitl [H2]; · iexact H2
  isplitl [H3]; · iexact H3
  isplitl [H4]; · iexact H4
  iintro ⟨%w1, %w2, %w3, %w4, %hw, H0, H1, H2, H3, H4⟩
  obtain ⟨hw1, hw2, hw3, hw4⟩ := hw
  rw [hf0] at hw1 hw2 hw3 hw4
  isplitl [HΦ]; · iexact HΦ
  isplitl [Ho]; · iexact Ho
  isplitl [H0]; · iexists _; isplitr; swap; (· iexact H0); ipureintro; exact hf0
  isplitl [H1]; · iexists _; isplitr; swap; (· iexact H1); ipureintro; exact hw1.trans (after0_1 V c t).symm
  isplitl [H2]; · iexists _; isplitr; swap; (· iexact H2); ipureintro; exact hw2.trans (after0_2 V c t).symm
  isplitl [H3]; · iexists _; isplitr; swap; (· iexact H3); ipureintro; exact hw3.trans (after0_3 V c t).symm
  iexists _; isplitr; swap; (· iexact H4); ipureintro; exact hw4.trans (after0_4 V c t).symm

/-! ## The second call -/

/-- The lists the second call makes. -/
abbrev mI (c : Dev nD) : S16x128.Idx → Elt F .i32 := lI (V c main_v0_0) (V c main_v0_1)
abbrev mC (c : Dev nD) : S16x128.Idx → Elt F .f32 := lC (V c main_v0_0) (V c main_v0_1) (V c main_v0_2) (V c main_v0_3)
abbrev mG (c : Dev nD) : S16x128.Idx → Elt F .f32 := lG (V c main_v0_0) (V c main_v0_1) (V c main_v0_2) (V c main_v0_3)

def dat1 (c : Dev nD) : Dat τ (Elt F) (HIx 1) ℕ UU ℕ cfg1 c where
  A w := V c (Pipeline.arrRef spec1 w)
  after w t := match w with
    | ⟨0, _⟩ => (V c main_v0_0 : S1024x1.Idx → Elt F .i32)
    | ⟨1, _⟩ => (V c main_v0_1 : S1024x1.Idx → Elt F .i32)
    | ⟨2, _⟩ => (V c main_v0_2 : S1x1024.Idx → Elt F .i32)
    | ⟨3, _⟩ => (V c main_v0_3 : S1x1024.Idx → Elt F .i32)
    | ⟨4, _⟩ => mI V c
    | ⟨5, _⟩ => mC V c
    | ⟨6, _⟩ => mG V c
  Φ _ := Pipeline.scopedRest (Ix := HIx 1) (Name := ℕ) (U := UU) (Lvl := ℕ) (Val := Elt F) spec1 c
  q _ := fullShare
  owed _ := (K (F := F)).Otc c 0
  recorded _ := rec0 (F := F) c

theorem before1_0 (c : Dev nD) (d : (cfg1.win 0).block.Idx → Elt F (cfg1.win 0).elt) : (dat1 V c).before 0 t1_0 d = (V c main_v0_0 : S1024x1.Idx → Elt F .i32) := by
  unfold Dat.before; rw [if_pos (fetch1_0 t1_0)]; funext y
  exact congrArg (V c main_v0_0) (funext fun a => by fin_cases a <;> exact Fin.ext (by simp [Pipeline.Window.blk]; decide))

theorem before1_1 (c : Dev nD) (d : (cfg1.win 1).block.Idx → Elt F (cfg1.win 1).elt) : (dat1 V c).before 1 t1_0 d = (V c main_v0_1 : S1024x1.Idx → Elt F .i32) := by
  unfold Dat.before; rw [if_pos (fetch1_1 t1_0)]; funext y
  exact congrArg (V c main_v0_1) (funext fun a => by fin_cases a <;> exact Fin.ext (by simp [Pipeline.Window.blk]; decide))

theorem before1_2 (c : Dev nD) (d : (cfg1.win 2).block.Idx → Elt F (cfg1.win 2).elt) : (dat1 V c).before 2 t1_0 d = (V c main_v0_2 : S1x1024.Idx → Elt F .i32) := by
  unfold Dat.before; rw [if_pos (fetch1_2 t1_0)]; funext y
  exact congrArg (V c main_v0_2) (funext fun a => by fin_cases a <;> exact Fin.ext (by simp [Pipeline.Window.blk]; decide))

theorem before1_3 (c : Dev nD) (d : (cfg1.win 3).block.Idx → Elt F (cfg1.win 3).elt) : (dat1 V c).before 3 t1_0 d = (V c main_v0_3 : S1x1024.Idx → Elt F .i32) := by
  unfold Dat.before; rw [if_pos (fetch1_3 t1_0)]; funext y
  exact congrArg (V c main_v0_3) (funext fun a => by fin_cases a <;> exact Fin.ext (by simp [Pipeline.Window.blk]; decide))

theorem body1 (c : Dev nD) : BodyObligation (dat1 V c) (defs₀ (F := F)) 𝒱₀ none Set.univ := fun t => by
  obtain rfl := fin_N1 t
  rw [bigSep_W1, bigSep_W1]
  dsimp only
  rw [show (dat1 V c).Φ t1_0.succ = (dat1 V c).Φ t1_0.castSucc from rfl,
    show (dat1 V c).owesAt none t1_0.succ = (dat1 V c).owesAt none t1_0.castSucc from rfl]
  simp only [owns_whole_eq]
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩⟩
  rw [before1_0] at hf0
  rw [before1_1] at hf1
  rw [before1_2] at hf2
  rw [before1_3] at hf3
  iapply (pairs c (st1_0 t1_0) _ (st1_1 t1_0) _ (st1_2 t1_0) _ (st1_3 t1_0) _ (st1_4 t1_0) _ (st1_5 t1_0) _ (st1_6 t1_0) _ f0 f1 f2 f3 f4 f5 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨%w4, %w5, %w6, %hw, H0, H1, H2, H3, H4, H5, H6⟩
  obtain ⟨hw4, hw5, hw6⟩ := hw
  subst hf0 hf1 hf2 hf3
  isplitl [HΦ]; · iexact HΦ
  isplitl [Ho]; · iexact Ho
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact hw4
  isplitl [H5]; · iexists _; isplitr; swap; (· iexact H5); ipureintro; exact hw5
  iexists _; isplitr; swap; (· iexact H6); ipureintro; exact hw6

end Cert.Proof.Tile
end
-- ==== Proof.Segs.lean ====
/-
  The two TensorCore calls as regions of @main, over every unscoped buffer of the TensorCore at a valuation.
-/
module

public import proofs.«01_k».proof.Proof.Regions
public import Idealize.ShloMosaic.Lib.Pipeline.RegionsLoop

@[expose] public section

noncomputable section

namespace Cert.Proof.Tile

open Cert.KernelIdeal Cert.KernelIdeal.Gen
open Idealize.ShloMosaic
open Idealize.ShloMosaic.TcCoe Idealize.ShloMosaic.Tactic
open Idealize.ShloMosaic.StableHlo (held wp_hlo_within)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V V' : (c : Dev nD) → (b : Ref sig .tc) → Buf (Elt F) ((c : Thread nD τ).loc b))

/-- The proof data of the two calls: the first's from valuation `V`, the second's from `V'`. -/
def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V' c

/-- What the first call leaves. -/
def next0 (c : Dev nD) : (b : Ref sig .tc) → Buf (Elt F) ((c : Thread nD τ).loc b) :=
  Function.update (Function.update (Function.update (Function.update (V c) main_v0_0 ((dat0 V c).arrAt 1 cfg0.N))
    main_v0_1 ((dat0 V c).arrAt 2 cfg0.N)) main_v0_2 ((dat0 V c).arrAt 3 cfg0.N)) main_v0_3 ((dat0 V c).arrAt 4 cfg0.N)

/-- What the second call leaves. -/
def next1 (c : Dev nD) : (b : Ref sig .tc) → Buf (Elt F) ((c : Thread nD τ).loc b) :=
  Function.update (Function.update (Function.update (V c) main_v1_0 ((dat1 V c).arrAt 4 cfg1.N))
    main_v1_1 ((dat1 V c).arrAt 5 cfg1.N)) main_v1_2 ((dat1 V c).arrAt 6 cfg1.N)

theorem next0_0 (c : Dev nD) : next0 V c main_v0_0 = (dat0 V c).arrAt 1 cfg0.N := by
  unfold next0
  rw [Function.update_of_ne (by decide), Function.update_of_ne (by decide), Function.update_of_ne (by decide), Function.update_self]
theorem next0_1 (c : Dev nD) : next0 V c main_v0_1 = (dat0 V c).arrAt 2 cfg0.N := by
  unfold next0
  rw [Function.update_of_ne (by decide), Function.update_of_ne (by decide), Function.update_self]
theorem next0_2 (c : Dev nD) : next0 V c main_v0_2 = (dat0 V c).arrAt 3 cfg0.N := by
  unfold next0
  rw [Function.update_of_ne (by decide), Function.update_self]
theorem next0_3 (c : Dev nD) : next0 V c main_v0_3 = (dat0 V c).arrAt 4 cfg0.N := by
  unfold next0
  rw [Function.update_self]
theorem next0_of (c : Dev nD) (b : Ref sig .tc) (h0 : b ≠ main_v0_0) (h1 : b ≠ main_v0_1) (h2 : b ≠ main_v0_2) (h3 : b ≠ main_v0_3) : next0 V c b = V c b := by
  unfold next0
  rw [Function.update_of_ne h3, Function.update_of_ne h2, Function.update_of_ne h1, Function.update_of_ne h0]

theorem next1_0 (c : Dev nD) : next1 V c main_v1_0 = (dat1 V c).arrAt 4 cfg1.N := by
  unfold next1
  rw [Function.update_of_ne (by decide), Function.update_of_ne (by decide), Function.update_self]
theorem next1_1 (c : Dev nD) : next1 V c main_v1_1 = (dat1 V c).arrAt 5 cfg1.N := by
  unfold next1
  rw [Function.update_of_ne (by decide), Function.update_self]
theorem next1_2 (c : Dev nD) : next1 V c main_v1_2 = (dat1 V c).arrAt 6 cfg1.N := by
  unfold next1
  rw [Function.update_self]
theorem next1_of (c : Dev nD) (b : Ref sig .tc) (h0 : b ≠ main_v1_0) (h1 : b ≠ main_v1_1) (h2 : b ≠ main_v1_2) : next1 V c b = V c b := by
  unfold next1
  rw [Function.update_of_ne h2, Function.update_of_ne h1, Function.update_of_ne h0]

/-- The TensorCore's `owes` before the SparseCore call. -/
abbrev due (c : Dev nD) : sProp 𝕄 :=
  iprop(∃ W, ⌜(K (F := F)).WBelow (SparseCore.T c) W (8 * 0)⌝ ∗ owes (SparseCore.T c) ((K (F := F)).Otc c 0) W)

theorem due_in {cfg : Cfg sig Λ₀} (c : Dev nD) (dt : Dat τ (Elt F) (HIx 1) ℕ UU ℕ cfg c) (t : Fin (cfg.N + 1))
    (ho : dt.owed t = (K (F := F)).Otc c 0) (hr : dt.recorded t = rec0 (F := F) c) : (due c : sProp 𝕄) ⊢ dt.owesAt none t := by
  unfold Pipeline.Dat.owesAt Pipeline.owesWithin Pipeline.Dat.bound
  rw [ho, hr]
  iintro ⟨%W, %hW, HO⟩; iexists W; isplitr
  · ipureintro; exact fun p hp => Or.inl (hW p hp)
  iexact HO

theorem due_out {cfg : Cfg sig Λ₀} (c : Dev nD) (dt : Dat τ (Elt F) (HIx 1) ℕ UU ℕ cfg c) (t : Fin (cfg.N + 1))
    (ho : dt.owed t = (K (F := F)).Otc c 0) (hr : dt.recorded t = rec0 (F := F) c) : dt.owesAt none t ⊢ (due c : sProp 𝕄) := by
  unfold Pipeline.Dat.owesAt Pipeline.owesWithin Pipeline.Dat.bound
  rw [ho, hr]
  iintro ⟨%W, %hW, HO⟩; iexists W; isplitr
  · ipureintro
    intro p hp
    rcases hW hp with h | ⟨w, s, h⟩
    · exact h
    · rw [h]; exact le_of_eq ((K (F := F)).lev_none _)
  iexact HO

set_option backward.isDefEq.respectTransparency.types false in
def reg0 : Pipeline.RegionSeg (pcfgs (F := F)) adm (pdats V V') none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V c).loose
  hwaits c := Pipeline.cellsWaits_of_cut (Pipeline.pin (pcfgs (F := F)) adm) (pdats V V') none 0 c 0 ((K (F := F)).Otc c 0) (fun _ => rfl)
    (fun _ _ => Finset.mem_univ _) (fun _ _ => le_of_eq ((K (F := F)).lev_none _))
    (fun g i h => ⟨Finset.mem_univ _, by have := (K (F := F)).lev_of_Otc_pos h; omega⟩)
  pre c := iprop(unscopedBufs c (V c) ∗ due c)
  post c := iprop(unscopedBufs c (next0 V c) ∗ due c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (V c) fun _ => rfl
    have hd := due_in c (pdats V V' 0 c) 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hd; iexact HO
    isplitr; · iempintro
    iexact Hrest
  hin c := by
    rw [show (pdats V V' 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V V' 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V V') ((pdats V V' 0 c).share_full fun _ => rfl) (V c) (next0 V c) ((pdats V V' 0 c).arrAt · cfg0.N)
      (fun w => by
        fin_cases w
        · exact ((pdats V V' 0 c).arrAt_in 0 rfl _).trans (next0_of V c main_arg0 (by decide) (by decide) (by decide) (by decide)).symm
        · exact (next0_0 V c).symm
        · exact (next0_1 V c).symm
        · exact (next0_2 V c).symm
        · exact (next0_3 V c).symm)
      (fun b hb => next0_of V c b (fun h => hb (h ▸ Finset.mem_image.mpr ⟨1, Finset.mem_univ _, rfl⟩)) (fun h => hb (h ▸ Finset.mem_image.mpr ⟨2, Finset.mem_univ _, rfl⟩))
        (fun h => hb (h ▸ Finset.mem_image.mpr ⟨3, Finset.mem_univ _, rfl⟩)) (fun h => hb (h ▸ Finset.mem_image.mpr ⟨4, Finset.mem_univ _, rfl⟩)))
    have hd := due_out c (pdats V V' 0 c) (Fin.last _) rfl rfl
    iintro ⟨Ha, HO, -, Hrest⟩
    imodintro
    isplitl [Ha Hrest]
    · iapply hjoin; isplitl [Ha] <;> iassumption
    iapply hd; iexact HO

set_option backward.isDefEq.respectTransparency.types false in
def reg1 : Pipeline.RegionSeg (pcfgs (F := F)) adm (pdats V V') none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body1 V' c).loose
  hwaits c := Pipeline.cellsWaits_of_cut (Pipeline.pin (pcfgs (F := F)) adm) (pdats V V') none 1 c 0 ((K (F := F)).Otc c 0) (fun _ => rfl)
    (fun _ _ => Finset.mem_univ _) (fun _ _ => le_of_eq ((K (F := F)).lev_none _))
    (fun g i h => ⟨Finset.mem_univ _, by have := (K (F := F)).lev_of_Otc_pos h; omega⟩)
  pre c := iprop(unscopedBufs c (V' c) ∗ due c)
  post c := iprop(unscopedBufs c (next1 V' c) ∗ due c)
  X _ := BI.emp
  Y _ := BI.emp
  Z c := Pipeline.unscopedRest (Ix := HIx 1) (Name := ℕ) (U := UU) (Lvl := ℕ) spec1 c (V' c)
  hentry c := by
    rw [Pipeline.ownSems0_none]
    have hsplit := Pipeline.arrays_of_unscopedBufs (p := 1) (pcfgs (F := F)) adm (pdats V V') launch1.win launch1.arr_whole c
      ((pdats V V' 1 c).share_full fun _ => rfl) (V' c) fun _ => rfl
    have hd := due_in c (pdats V V' 1 c) 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hd; iexact HO
    isplitr; · iempintro
    iexact Hrest
  hin c := by
    rw [show (pdats V V' 1 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V V' 1 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch1.win launch1.arr_whole c
      (pdats V V') ((pdats V V' 1 c).share_full fun _ => rfl) (V' c) (next1 V' c) ((pdats V V' 1 c).arrAt · cfg1.N)
      (fun w => by
        fin_cases w
        · exact ((pdats V V' 1 c).arrAt_in 0 rfl _).trans (next1_of V' c main_v0_0 (by decide) (by decide) (by decide)).symm
        · exact ((pdats V V' 1 c).arrAt_in 1 rfl _).trans (next1_of V' c main_v0_1 (by decide) (by decide) (by decide)).symm
        · exact ((pdats V V' 1 c).arrAt_in 2 rfl _).trans (next1_of V' c main_v0_2 (by decide) (by decide) (by decide)).symm
        · exact ((pdats V V' 1 c).arrAt_in 3 rfl _).trans (next1_of V' c main_v0_3 (by decide) (by decide) (by decide)).symm
        · exact (next1_0 V' c).symm
        · exact (next1_1 V' c).symm
        · exact (next1_2 V' c).symm)
      (fun b hb => next1_of V' c b (fun h => hb (h ▸ Finset.mem_image.mpr ⟨4, Finset.mem_univ _, rfl⟩)) (fun h => hb (h ▸ Finset.mem_image.mpr ⟨5, Finset.mem_univ _, rfl⟩))
        (fun h => hb (h ▸ Finset.mem_image.mpr ⟨6, Finset.mem_univ _, rfl⟩)))
    have hd := due_out c (pdats V V' 1 c) (Fin.last _) rfl rfl
    iintro ⟨Ha, HO, -, Hrest⟩
    imodintro
    isplitl [Ha Hrest]
    · iapply hjoin; isplitl [Ha] <;> iassumption
    iapply hd; iexact HO

end Cert.Proof.Tile

end
-- ==== Proof.Ghost.lean ====
/-
  The pipelines' share of the resource algebra, and the two TensorCore calls as steps of @main.
-/
module

public import proofs.«01_k».proof.Proof.Segs
public import proofs.«01_k».proof.Proof.Launch

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipelines' rounds in the whole algebra. -/
def EP : Emb UPL (MT nD τ sig (HIx 1) (Elt F) ℕ UU ℕ) := (Emb.inl : Emb UPL (UPL × Counters)).trans embR

instance EP_landsIn : (EP : Emb UPL 𝕄).LandsIn (upEmb : UEmb _ 𝕄) := by unfold EP; infer_instance

/-- What pipeline `p` needs at its call on device `d`. -/
abbrev fuel (p : Fin 2) (d : Dev nD) : sProp 𝕄 :=
  iprop(Pipeline.cellsGhost (Pipeline.pin (pcfgs (F := F)) adm) EP p d ∗ Pipeline.toksInit (Pipeline.pin (pcfgs (F := F)) adm) EP p d)

def plElem : UPL := initOf (Pipeline.cells (nD := nD) (τ := τ) cfgs cellOf_inj) (Pipeline.launchToks cfgs cellOf_inj)

def u₀ : UU := (initOf (K (F := F)).hsCells (K (F := F)).hsToks, (plElem, 1))

theorem emps {J : Type} (s : Finset J) : (bigSep s fun _ => iprop(emp)) = (iprop(emp) : sProp 𝕄) := bigSep_emp_const s

theorem fuel_all : (BI.own (EP plElem) : sProp 𝕄) ⊢ iprop(|==> bigSep Finset.univ fun d : Dev nD => iprop(fuel (F := F) 0 d ∗ fuel (F := F) 1 d)) := by
  refine (Pipeline.fund_ghost (Pipeline.pin (pcfgs (F := F)) adm) EP cellOf_inj).trans (bupd_mono ?_)
  rw [← bigSep_sep']
  refine Entails.of_eq (bigSep_congr fun d _ => ?_)
  rw [← bigSep_sep', show (Finset.univ : Finset (Fin 2)) = {0, 1} by decide, SparseCore.bigSep_insert' (by decide), bigSep_singleton]

theorem hu₀ (t : Dev nD → Lists F) : (ownU (u₀ (F := F)) : sProp 𝕄)
    ⊢ |={Set.univ}=> iprop(BI.own (EH (initOf (K (F := F)).hsCells (K (F := F)).hsToks))
        ∗ (bigSep Finset.univ fun d : Dev nD => iprop(fuel (F := F) 0 d ∗ fuel (F := F) 1 d))
        ∗ bigSep Finset.univ fun thr : Thread nD τ => bigSep Finset.univ fun q : Fin 1 => (P t).x q thr) := by
  unfold u₀
  iintro Hu
  ihave H := (ownU_pair _ _) $$ Hu
  icases H with ⟨HH, HR⟩
  ihave HR := (own_pair_emb embR plElem 1) $$ HR
  icases HR with ⟨HP, -⟩
  ihave HP := (show (BI.own (((Emb.inl : Emb UPL (UPL × Counters)).trans embR) plElem) : sProp 𝕄) ⊢ _ from fuel_all (F := F)) $$ HP
  imod HP
  imodintro
  isplitl [HH]; · iexact HH
  isplitl [HP]; · iexact HP
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

variable (V V' : (c : Dev nD) → (b : Ref sig .tc) → Buf (Elt F) ((c : Thread nD τ).loc b))

theorem lifted (p : Fin 2) : (SparseCore.liftProg (.op (.customCall (Pipeline.entry p) ()) .ret) : Prog (TpuEff nD τ sig (Elt F) (SparseCore.Sig (ΛP (F := F)) 1) .tc) PUnit)
    = Prog.lift (.customCall (SparseCore.inner (Pipeline.entry p)) ()) := rfl

theorem call0 (d : Dev nD) (Q : PUnit → sProp 𝕄) :
    iprop((iprop(boundary (SparseCore.T d) ∗ (unscopedBufs d (next0 V d) ∗ due d)) -∗ Q ⟨⟩)
        ∗ boundary (SparseCore.T d) ∗ (unscopedBufs d (V d) ∗ due d) ∗ levAts (K (F := F)).L (K (F := F)).lev ∗ fuel 0 d)
      ⊢ wp frame (wpE ((K (F := F)).defs (D (F := F))) 𝒱 (SparseCore.T d) none) Set.univ
          (Prog.lift (.customCall (SparseCore.inner (Pipeline.entry 0)) ())) Q := by
  refine BI.Entails.trans ?_ (by rw [← lifted]; exact (K (F := F)).wp_liftProg (D (F := F)) 𝒱 (SparseCore.T d) Set.univ none (.op (.customCall (Pipeline.entry 0) ()) .ret) Q)
  refine BI.Entails.trans ?_ (Pipeline.RegionSeg.wp (pcfgs (F := F)) adm (pdats V V) none cellOf_inj EP defs₀ 𝒱₀ _ _ (reg0 V V) d none (by simp) .ret Q)
  show (_ : sProp 𝕄) ⊢ (_ : sProp 𝕄)
  iintro ⟨Hk, H⟩
  isplitl [Hk]
  · iintro H
    rw [wp_ret]; imodintro
    iapply Hk; iexact H
  iexact H

theorem call1 (d : Dev nD) (Q : PUnit → sProp 𝕄) :
    iprop((iprop(boundary (SparseCore.T d) ∗ (unscopedBufs d (next1 V d) ∗ due d)) -∗ Q ⟨⟩)
        ∗ boundary (SparseCore.T d) ∗ (unscopedBufs d (V d) ∗ due d) ∗ levAts (K (F := F)).L (K (F := F)).lev ∗ fuel 1 d)
      ⊢ wp frame (wpE ((K (F := F)).defs (D (F := F))) 𝒱 (SparseCore.T d) none) Set.univ
          (Prog.lift (.customCall (SparseCore.inner (Pipeline.entry 1)) ())) Q := by
  refine BI.Entails.trans ?_ (by rw [← lifted]; exact (K (F := F)).wp_liftProg (D (F := F)) 𝒱 (SparseCore.T d) Set.univ none (.op (.customCall (Pipeline.entry 1) ()) .ret) Q)
  refine BI.Entails.trans ?_ (Pipeline.RegionSeg.wp (pcfgs (F := F)) adm (pdats V V) none cellOf_inj EP defs₀ 𝒱₀ _ _ (reg1 V V) d none (by simp) .ret Q)
  show (_ : sProp 𝕄) ⊢ (_ : sProp 𝕄)
  iintro ⟨Hk, H⟩
  isplitl [Hk]
  · iintro H
    rw [wp_ret]; imodintro
    iapply Hk; iexact H
  iexact H

end Cert.Proof.Tile

end
-- ==== Proof.Run.lean ====
/-
  The whole program's run: every execution ends with each matrix at the entries its list leaves, the arguments as they
  were and every semaphore at zero.
-/
module

public import proofs.«01_k».proof.Proof.Ghost

@[expose] public section

noncomputable section

namespace Cert.Proof.Tile

open Cert.KernelIdeal Cert.KernelIdeal.Gen
open Idealize.ShloMosaic
open Idealize.ShloMosaic.StableHlo (held wp_hlo_within)
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Call

variable (t : Dev nD → Lists F)

/-- What the TensorCore keeps of an array both SparseCores read. -/
abbrev kept : PosShare TreeShare := Transfers.shareDrop fullShare 2

theorem nCore_zero : (K (F := F)).nCore 0 = 2 := rfl

theorem two_eq (Φ : ℕ → sProp 𝕄) : (bigSep Finset.univ fun c : Fin 2 => Φ c.val) = iprop(Φ 0 ∗ Φ 1) := by
  rw [show (Finset.univ : Finset (Fin 2)) = {0, 1} by decide, SparseCore.bigSep_insert' (by decide), bigSep_singleton]
  rfl

theorem st_eq (d : Dev nD) : (bigSep Finset.univ fun c : Fin ((K (F := F)).nCore 0) => (P t).st 0 d c)
    = iprop((readP t d 0 (shC 0) ∗ ∃ X, outP d 0 Finset.univ X) ∗ (readP t d 1 (shC 1) ∗ ∃ X, outP d 1 Finset.univ X)) :=
  two_eq (F := F) fun c => iprop(readP t d c (shC c) ∗ ∃ X, outP d c Finset.univ X)

theorem dn_eq (d : Dev nD) : (bigSep Finset.univ fun c : Fin ((K (F := F)).nCore 0) => (P t).dn 0 d c)
    = iprop((cLoc d ↦{fullShare} spread (t d).I (t d).C) ∗ (aLoc d ↦{fullShare} spread (t d).I (t d).G)) :=
  two_eq (F := F) fun c => outP d c Finset.univ (spread (t d).I ((t d).val c))

theorem toks_two {ℓ : Loc nD τ sig} (f : Buf (Elt F) ℓ) :
    (ℓ ↦{fullShare} f : sProp 𝕄) ⊢ iprop((ℓ ↦{kept} f) ∗ (ℓ ↦{shC 0} f) ∗ (ℓ ↦{shC 1} f)) := by
  rw [← two_eq (F := F) fun c => iprop(ℓ ↦{shC c} f)]
  exact Transfers.pointsTo_toks_split fullShare 2

/-- The lists, the zeros and the matrices are what the call takes, beside what the TensorCore keeps of the lists. -/
theorem st_of (d : Dev nD) (X Y : S4096x4096.Idx → F .f32) :
    iprop((iLoc d ↦{fullShare} (t d).I) ∗ (vcLoc d ↦{fullShare} (t d).C) ∗ (vgLoc d ↦{fullShare} (t d).G)
        ∗ (zLoc d ↦{fullShare} (fun _ => zf)) ∗ (cLoc d ↦{fullShare} X) ∗ (aLoc d ↦{fullShare} Y))
      ⊢ iprop(((iLoc d ↦{kept} (t d).I) ∗ (vcLoc d ↦{kept} (t d).C) ∗ (vgLoc d ↦{kept} (t d).G))
        ∗ (bigSep Finset.univ fun c : Fin ((K (F := F)).nCore 0) => (P t).st 0 d c)) := by
  rw [st_eq]
  unfold readP outP valP Lists.val
  iintro ⟨Hi, Hc, Hg, Hz, HX, HY⟩
  ihave Hi := (toks_two (ℓ := iLoc d) (t d).I) $$ Hi
  ihave Hc := (toks_two (ℓ := vcLoc d) (t d).C) $$ Hc
  ihave Hg := (toks_two (ℓ := vgLoc d) (t d).G) $$ Hg
  ihave Hz := (toks_two (ℓ := zLoc d) (fun _ => zf)) $$ Hz
  icases Hi with ⟨Hi, Hi0, Hi1⟩
  icases Hc with ⟨Hc, Hc0, -⟩
  icases Hg with ⟨Hg, -, Hg1⟩
  icases Hz with ⟨-, Hz0, Hz1⟩
  isplitl [Hi Hc Hg]
  · isplitl [Hi]; · iexact Hi
    isplitl [Hc]; · iexact Hc
    iexact Hg
  isplitl [Hi0 Hz0 Hc0 HX]
  · isplitl [Hi0 Hz0 Hc0]
    · isplitl [Hi0]; · iexact Hi0
      isplitl [Hz0]; · iexact Hz0
      iexact Hc0
    iexists X; iexact HX
  isplitl [Hi1 Hz1 Hg1]
  · isplitl [Hi1]; · iexact Hi1
    isplitl [Hz1]; · iexact Hz1
    iexact Hg1
  iexists Y; iexact HY

end Call

variable (m : (ℓ : Loc nD τ sig) → Buf (Elt F) ℓ) (ρ : Dev nD → PrngReg)

/-! ## The arrays as @main goes on -/

/-- The TensorCore's buffers at the launch, -/
def at0 (d : Dev nD) (b : Ref sig .tc) : Buf (Elt F) ((SparseCore.T d : Thread nD τ).loc b) := m ((SparseCore.T d).loc b)
/-- after the first call, -/
def at1 : (d : Dev nD) → (b : Ref sig .tc) → Buf (Elt F) ((SparseCore.T d : Thread nD τ).loc b) := next0 (at0 m)
/-- after the second. -/
def at2 : (d : Dev nD) → (b : Ref sig .tc) → Buf (Elt F) ((SparseCore.T d : Thread nD τ).loc b) := next1 (at1 m)

/-- The lists the second call leaves. -/
def lists (d : Dev nD) : Lists F := ⟨at2 m d main_v1_0, at2 m d main_v1_1, at2 m d main_v1_2⟩

/-- A valuation of the device's buffers from one of the TensorCore's. -/
def ext (d : Dev nD) (X : (b : Ref sig .tc) → Buf (Elt F) ((SparseCore.T d : Thread nD τ).loc b)) : Valuation τ sig (Elt F) := fun b => by
  classical exact if h : ∃ r : Ref sig .tc, Proc.devRef .tc r = b then h.choose_spec ▸ X h.choose else m (d, b)

theorem ext_tc (d : Dev nD) (X : (b : Ref sig .tc) → Buf (Elt F) ((SparseCore.T d : Thread nD τ).loc b)) (r : Ref sig .tc) :
    ext m d X (Proc.devRef .tc r) = X r := by
  have key : ∀ (r' : Ref sig .tc) (h : (Proc.devRef .tc r' : DevRef τ sig) = Proc.devRef .tc r), (h ▸ X r' : Buf (Elt F) (d, (Proc.devRef .tc r : DevRef τ sig))) = X r := by
    intro r' h
    obtain rfl := Proc.devRef_injective _ h
    rfl
  have hx : ∃ r' : Ref sig .tc, (Proc.devRef .tc r' : DevRef τ sig) = Proc.devRef .tc r := ⟨r, rfl⟩
  unfold ext
  rw [dif_pos hx]
  exact key _ _

/-! ## @main on the TensorCore -/

abbrev dD : DevRef τ sig := Proc.devRef .tc (main_arg0 : Ref sig .tc)
abbrev dM : DevRef τ sig := Proc.devRef .tc (main_arg1 : Ref sig .tc)
abbrev dA : DevRef τ sig := Proc.devRef .tc (main_arg2 : Ref sig .tc)
abbrev dP0 : DevRef τ sig := Proc.devRef .tc (main_v0_0 : Ref sig .tc)
abbrev dP1 : DevRef τ sig := Proc.devRef .tc (main_v0_1 : Ref sig .tc)
abbrev dP2 : DevRef τ sig := Proc.devRef .tc (main_v0_2 : Ref sig .tc)
abbrev dP3 : DevRef τ sig := Proc.devRef .tc (main_v0_3 : Ref sig .tc)
abbrev dI : DevRef τ sig := Proc.devRef .tc (main_v1_0 : Ref sig .tc)
abbrev dC : DevRef τ sig := Proc.devRef .tc (main_v1_1 : Ref sig .tc)
abbrev dG : DevRef τ sig := Proc.devRef .tc (main_v1_2 : Ref sig .tc)
abbrev dK : DevRef τ sig := Proc.devRef .tc (main_cst : Ref sig .tc)
abbrev dZ : DevRef τ sig := Proc.devRef .tc (main_v2 : Ref sig .tc)
abbrev dX : DevRef τ sig := Proc.devRef .tc (main_v3_0 : Ref sig .tc)
abbrev dY : DevRef τ sig := Proc.devRef .tc (main_v3_1 : Ref sig .tc)
/-- The TensorCore's arrays. -/
def arrays : Finset (DevRef τ sig) := {dD, dM, dA, dP0, dP1, dP2, dP3, dI, dC, dG, dK, dZ, dX, dY}

abbrev opK : HloOp τ sig (Elt F) := StableHlo.nullary main_cst (constant S_ .f32 0x00000000#32)
abbrev opZ : HloOp τ sig (Elt F) :=
  StableHlo.unary main_cst main_v2 (broadcastInDim S8x4096 ![] bcast_S_S8x4096 : (⟨S_, .f32⟩ : BufTy).Contents (Elt F) → (⟨S8x4096, .f32⟩ : BufTy).Contents (Elt F))

theorem opK_in : (opK (F := F)).bufs ⊆ arrays := show ({dK} : Finset (DevRef τ sig)) ⊆ arrays by decide
theorem opZ_in : (opZ (F := F)).bufs ⊆ arrays := show ({dK, dZ} : Finset (DevRef τ sig)) ⊆ arrays by decide

theorem held_arrays (d : Dev nD) (W : Valuation τ sig (Elt F)) :
    (held (SparseCore.T d) arrays W : sProp 𝕄)
      = iprop(((SparseCore.T d).loc main_arg0 ↦{fullShare} W dD) ∗ ((SparseCore.T d).loc main_arg1 ↦{fullShare} W dM) ∗ ((SparseCore.T d).loc main_arg2 ↦{fullShare} W dA)
          ∗ ((SparseCore.T d).loc main_v0_0 ↦{fullShare} W dP0) ∗ ((SparseCore.T d).loc main_v0_1 ↦{fullShare} W dP1) ∗ ((SparseCore.T d).loc main_v0_2 ↦{fullShare} W dP2)
          ∗ ((SparseCore.T d).loc main_v0_3 ↦{fullShare} W dP3)
          ∗ (iLoc d ↦{fullShare} W dI) ∗ (vcLoc d ↦{fullShare} W dC) ∗ (vgLoc d ↦{fullShare} W dG)
          ∗ ((SparseCore.T d).loc main_cst ↦{fullShare} W dK) ∗ (zLoc d ↦{fullShare} W dZ) ∗ (cLoc d ↦{fullShare} W dX) ∗ (aLoc d ↦{fullShare} W dY)) := by
  unfold held arrays
  iterate 13 rw [SparseCore.bigSep_insert' (by decide)]
  rw [bigSep_singleton]

theorem unscoped_held (d : Dev nD) (X : (b : Ref sig .tc) → Buf (Elt F) ((SparseCore.T d : Thread nD τ).loc b)) :
    (unscopedBufs d X : sProp 𝕄) = held (SparseCore.T d) arrays (ext m d X) := by
  unfold unscopedBufs
  rw [show (Finset.univ.filter fun b : Ref sig .tc => ¬ b.isScoped) = {main_arg0, main_arg1, main_arg2, main_v0_0, main_v0_1, main_v0_2, main_v0_3, main_v1_0, main_v1_1, main_v1_2, main_cst, main_v2, main_v3_0, main_v3_1} by decide]
  iterate 13 rw [SparseCore.bigSep_insert' (by decide)]
  rw [bigSep_singleton, held_arrays, show ext m d X dD = X main_arg0 from ext_tc m d X main_arg0, show ext m d X dM = X main_arg1 from ext_tc m d X main_arg1, show ext m d X dA = X main_arg2 from ext_tc m d X main_arg2, show ext m d X dP0 = X main_v0_0 from ext_tc m d X main_v0_0, show ext m d X dP1 = X main_v0_1 from ext_tc m d X main_v0_1, show ext m d X dP2 = X main_v0_2 from ext_tc m d X main_v0_2, show ext m d X dP3 = X main_v0_3 from ext_tc m d X main_v0_3, show ext m d X dI = X main_v1_0 from ext_tc m d X main_v1_0, show ext m d X dC = X main_v1_1 from ext_tc m d X main_v1_1, show ext m d X dG = X main_v1_2 from ext_tc m d X main_v1_2, show ext m d X dK = X main_cst from ext_tc m d X main_cst, show ext m d X dZ = X main_v2 from ext_tc m d X main_v2, show ext m d X dX = X main_v3_0 from ext_tc m d X main_v3_0, show ext m d X dY = X main_v3_1 from ext_tc m d X main_v3_1]

/-- The arrays before the SparseCore call. -/
def ready (d : Dev nD) : Valuation τ sig (Elt F) := (opZ (F := F)).result ((opK (F := F)).result (ext m d (at2 m d)))

theorem ready_of {b : DevRef τ sig} (d : Dev nD) (hK : b ∉ ({dK} : Finset (DevRef τ sig))) (hZ : b ∉ ({dZ} : Finset (DevRef τ sig))) :
    ready m d b = ext m d (at2 m d) b := by
  unfold ready
  rw [(opZ (F := F)).result_of_not_mem _ hZ, (opK (F := F)).result_of_not_mem _ hK]

theorem ready_zeros (d : Dev nD) : ready m d dZ = fun _ => zf := by
  unfold ready
  refine (StableHlo.unary_result _ _ _ _ _ _).trans ?_
  rw [show (opK (F := F)).result (ext m d (at2 m d)) dK = constant S_ .f32 0x00000000#32 from StableHlo.nullary_result _ _ _ _]
  rfl

theorem at2_arg (d : Dev nD) (b : Ref sig .tc) (h : b = main_arg0 ∨ b = main_arg1 ∨ b = main_arg2) : at2 m d b = m ((SparseCore.T d).loc b) := by
  unfold at2 at1
  rcases h with rfl | rfl | rfl
  all_goals
    rw [next1_of _ _ _ (by decide) (by decide) (by decide), next0_of _ _ _ (by decide) (by decide) (by decide) (by decide)]
    rfl

/-- The device's arguments, as they were. -/
abbrev args (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)))

/-- What @main leaves the claims: the arguments and the matrices. -/
abbrev FIN (d : Dev nD) : sProp 𝕄 :=
  iprop(args m d ∗ (cLoc d ↦{fullShare} spread (lists m d).I (lists m d).C) ∗ (aLoc d ↦{fullShare} spread (lists m d).I (lists m d).G))

theorem ready_held (d : Dev nD) :
    (held (SparseCore.T d) arrays ((opZ (F := F)).result ((opK (F := F)).result (ext m d (at2 m d)))) : sProp 𝕄)
      ⊢ iprop(args m d ∗ ((iLoc d ↦{fullShare} (lists m d).I) ∗ (vcLoc d ↦{fullShare} (lists m d).C) ∗ (vgLoc d ↦{fullShare} (lists m d).G)
        ∗ (zLoc d ↦{fullShare} (fun _ => zf)) ∗ (cLoc d ↦{fullShare} ready m d dX) ∗ (aLoc d ↦{fullShare} ready m d dY))) := by
  show (held (SparseCore.T d) arrays (ready m d) : sProp 𝕄) ⊢ _
  rw [held_arrays, ready_of m d (b := dD) (by decide) (by decide), ready_of m d (b := dM) (by decide) (by decide), ready_of m d (b := dA) (by decide) (by decide),
    ready_of m d (b := dI) (by decide) (by decide), ready_of m d (b := dC) (by decide) (by decide),
    ready_of m d (b := dG) (by decide) (by decide), ready_zeros]
  rw [show ext m d (at2 m d) dD = at2 m d main_arg0 from ext_tc m d (at2 m d) main_arg0, show ext m d (at2 m d) dM = at2 m d main_arg1 from ext_tc m d (at2 m d) main_arg1, show ext m d (at2 m d) dA = at2 m d main_arg2 from ext_tc m d (at2 m d) main_arg2, show ext m d (at2 m d) dI = at2 m d main_v1_0 from ext_tc m d (at2 m d) main_v1_0, show ext m d (at2 m d) dC = at2 m d main_v1_1 from ext_tc m d (at2 m d) main_v1_1, show ext m d (at2 m d) dG = at2 m d main_v1_2 from ext_tc m d (at2 m d) main_v1_2]
  rw [at2_arg m d main_arg0 (by simp), at2_arg m d main_arg1 (by simp), at2_arg m d main_arg2 (by simp)]
  iintro ⟨Ha, Hb, Hc', -, -, -, -, Hi, Hc, Hg, -, Hz, HX, HY⟩
  isplitl [Ha Hb Hc']
  · isplitl [Ha]; · iexact Ha
    isplitl [Hb]; · iexact Hb
    iexact Hc'
  isplitl [Hi]; · iexact Hi
  isplitl [Hc]; · iexact Hc
  isplitl [Hg]; · iexact Hg
  isplitl [Hz]; · iexact Hz
  isplitl [HX]; · iexact HX
  iexact HY

theorem hmain (κ : GSem nD τ sig → ℕ) (d : Dev nD) :
    iprop((K (F := F)).ctx EH (P (lists m)) κ ∗ (K (F := F)).tcSt EH d 0 ∗ (K (F := F)).tcRes m ρ d ∗ (fuel 0 d ∗ fuel 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  have hlev := (K (F := F)).ctx_levAts (EH := EH) (P := P (lists m)) κ (lv := (K (F := F)).lev)
  obtain ⟨R, hR⟩ : ∃ R : sProp 𝕄, (K (F := F)).tcSt EH d 0 = iprop(due d ∗ R) := ⟨_, rfl⟩
  unfold SparseCore.Cfg.tcRes SparseCore.Cfg.tcEnd
  simp only [main, wp_bind, wp_pure]
  iintro ⟨#Hctx, Hst, ⟨Hb, Hub, Hts, -⟩, Hf0, Hf1⟩
  ihave Hst := (Entails.of_eq hR) $$ Hst
  icases Hst with ⟨Hdue, Hst⟩
  ihave #Hlev := hlev $$ Hctx
  iapply (call0 (at0 m) d) $$ [$Hlev Hdue Hst Hb Hub Hts Hf0 Hf1]
  isplitr [Hb Hub Hdue Hf0]
  swap
  · isplitl [Hb]; · iexact Hb
    isplitl [Hub Hdue]
    · isplitl [Hub]; · iexact Hub
      iexact Hdue
    iexact Hf0
  iintro ⟨Hb, Hub, Hdue⟩
  iapply (call1 (at1 m) d) $$ [$Hlev Hdue Hst Hb Hub Hts Hf1]
  isplitr [Hb Hub Hdue Hf1]
  swap
  · isplitl [Hb]; · iexact Hb
    isplitl [Hub Hdue]
    · isplitl [Hub]; · iexact Hub
      iexact Hdue
    iexact Hf1
  iintro ⟨Hb, Hub, Hdue⟩
  ihave Hheld := (Entails.of_eq (show (unscopedBufs d (next1 (at1 m) d) : sProp 𝕄) = _ from unscoped_held m d (at2 m d))) $$ Hub
  iapply (wp_hlo_within 𝒱 (SparseCore.T d) none Set.univ (op := opK) (S := arrays) opK_in (V := ext m d (at2 m d))) $$ [Hb Hheld]
  · isplitl [Hb] <;> iassumption
  iintro ⟨Hb, Hheld⟩
  rw [wp_ret]; imodintro
  iapply (wp_hlo_within 𝒱 (SparseCore.T d) none Set.univ (op := opZ) (S := arrays) opZ_in (V := (opK (F := F)).result (ext m d (at2 m d)))) $$ [Hb Hheld]
  · isplitl [Hb] <;> iassumption
  iintro ⟨Hb, Hheld⟩
  rw [wp_ret]; imodintro
  ihave Hh := (ready_held m d) $$ Hheld
  icases Hh with ⟨Hargs, Hh⟩
  ihave Hh := (st_of (lists m) d _ _) $$ Hh
  icases Hh with ⟨-, Hgo⟩
  ihave Hst := (Entails.of_eq hR.symm) $$ [Hdue Hst]
  · isplitl [Hdue] <;> iassumption
  iapply ((K (F := F)).wp_run (D (F := F)) 𝒱 (EH := EH) (P := P (lists m)) κ d 0) $$ [Hst Hgo Hargs Hb Hts]
  isplitr; · iexact Hctx
  isplitl [Hst]; · iexact Hst
  isplitl [Hgo]; · iexact Hgo
  iintro ⟨Hst, Hdn⟩
  ihave Hdn := (Entails.of_eq (dn_eq (lists m) d)) $$ Hdn
  imodintro
  isplitl [Hst]; · iexact Hst
  isplitl [Hargs Hdn]
  · isplitl [Hargs]; · iexact Hargs
    iexact Hdn
  isplitl [Hb] <;> iassumption

/-- What a final state shows of device `d`. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
      ∧ s'.mem.mem ((SparseCore.T d).loc main_arg2) = m ((SparseCore.T d).loc main_arg2))
    ∧ s'.mem.mem (cLoc d) = spread (lists m d).I (lists m d).C ∧ s'.mem.mem (aLoc d) = spread (lists m d).I (lists m d).G

/-- An array held at any share reads in the memory as it is held. -/
theorem read_back {ℓ : Loc nD τ sig} {q : PosShare TreeShare} {f : Buf (Elt F) ℓ} (s' : Phys nD τ sig (Elt F)) :
    iprop((ℓ ↦{q} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := q) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨⟨Hi, Hc, Hg⟩, HX, HY⟩, HSI⟩
  ihave H := (read_back (F := F) (ℓ := (SparseCore.T d).loc main_arg0) s') $$ [HSI Hi]
  · isplitl [Hi] <;> iassumption
  icases H with ⟨%h1, HSI⟩
  ihave H := (read_back (F := F) (ℓ := (SparseCore.T d).loc main_arg1) s') $$ [HSI Hc]
  · isplitl [Hc] <;> iassumption
  icases H with ⟨%h2, HSI⟩
  ihave H := (read_back (F := F) (ℓ := (SparseCore.T d).loc main_arg2) s') $$ [HSI Hg]
  · isplitl [Hg] <;> iassumption
  icases H with ⟨%h3, HSI⟩
  ihave H := (read_back (F := F) (ℓ := cLoc d) s') $$ [HSI HX]
  · isplitl [HX] <;> iassumption
  icases H with ⟨%h4, HSI⟩
  ihave H := (read_back (F := F) (ℓ := aLoc d) s') $$ [HSI HY]
  · isplitl [HY] <;> iassumption
  icases H with ⟨%h5, HSI⟩
  ipureintro; exact ⟨⟨h1, h2, h3⟩, h4, h5⟩

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
      ∧ r.2.mem ((SparseCore.T d).loc main_arg2) = m ((SparseCore.T d).loc main_arg2))
    ∧ r.2.mem (cLoc d) = spread (lists m d).I (lists m d).C ∧ r.2.mem (aLoc d) = spread (lists m d).I (lists m d).G)
  ∧ r.2.sem = fun _ => 0

/-- Every execution ends, each matrix at the entries its list leaves, the arguments unchanged, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (lists m)) (A := ∅) facts v₀
    (fun q hq => match q with | 0 => nomatch hq)
    (fun q _ => match q with | 0 => tileObl (lists m))
    (fun q _ => match q with | 0 => SparseCore.Cfg.VecSplit.of_plain (vecSplit (lists m)))
    m ρ main (fun d => iprop(fuel (F := F) 0 d ∗ fuel (F := F) 1 d)) (FIN m) (u₀ (F := F)) (sep_elim_left.trans (hu₀ (lists m))) (hmain m ρ) (fq m) (hfin m) (QC m) (fun _ h hz => ⟨h, hz⟩)

end Cert.Proof.Tile

end
-- ==== Proof.Words.lean ====
/- Words that hold positions, and the bits of comparing them. -/
module

public import Idealize.ShloMosaic.Lib.IdealHost
public import Idealize.ShloMosaic.Lib.ValueIdx
public import Idealize.ShloMosaic.Lib.WordCmp

@[expose] public section

noncomputable section

namespace Cert.Proof.Words

open Idealize.ShloMosaic

/-- The bit of a proposition. -/
abbrev bit (p : Prop) [Decidable p] : BitVec 1 := BitVec.ofBool (decide p)

theorem ori_bit (p q : Prop) [Decidable p] [Decidable q] : IntOp.ori (bit p) (bit q) = bit (p ∨ q) := by
  by_cases hp : p <;> by_cases hq : q <;> simp [IntOp.ori, bit, hp, hq]

theorem andi_bit (p q : Prop) [Decidable p] [Decidable q] : IntOp.andi (bit p) (bit q) = bit (p ∧ q) := by
  by_cases hp : p <;> by_cases hq : q <;> simp [IntOp.andi, bit, hp, hq]

theorem select_bit {α : Type} (p : Prop) [Decidable p] (x y : α) : Scalar.select (bit p) x y = if p then x else y := by
  by_cases hp : p <;> simp [Scalar.select, bit, hp]

/-- The word of a number. -/
abbrev wd (n : ℕ) : BitVec 32 := BitVec.ofNat 32 n

theorem wd_inj (a b : ℕ) (ha : a < 2 ^ 32) (hb : b < 2 ^ 32) : wd a = wd b ↔ a = b := by
  constructor
  · intro h
    have := congrArg BitVec.toNat h
    simp only [BitVec.toNat_ofNat] at this
    omega
  · rintro rfl; rfl

theorem toNat_wd (a : ℕ) (ha : a < 2 ^ 32) : (wd a).toNat = a := by
  rw [BitVec.toNat_ofNat]; omega

theorem toInt_wd (a : ℕ) (ha : a < 2 ^ 31) : (wd a).toInt = a := by
  rw [BitVec.toInt_eq_toNat_of_lt] <;> rw [toNat_wd a (by omega)]
  omega

/-- Words of two small positions are equal exactly when the positions are. -/
theorem eq_bit {n : ℕ} (hn : n ≤ 2 ^ 32) (a b : Fin n) : IntOp.cmpi .eq (wd a.val) (wd b.val) = bit (a = b) := by
  have ha := a.isLt
  have hb := b.isLt
  rw [WordCmp.cmpi_eq_eq]
  exact congrArg BitVec.ofBool (decide_eq_decide.2 ((wd_inj _ _ (by omega) (by omega)).trans Fin.ext_iff.symm))

theorem one_word : Ideal.ofBits .f32 0x3F800000#32 = 1 := Ideal.ofBits_one_f32

theorem fifty_word : Ideal.ofBits .f32 0x42480000#32 = ((50 : ℕ) : EReal) := by
  rw [show ((50 : ℕ) : EReal) = ((50 : ℝ) : EReal) by norm_cast]
  simp [Ideal.ofBits, Ideal.ieee, -EReal.coe_mul]; norm_num

theorem top_word : Ideal.ofBits .f32 0x7F800000#32 = ⊤ := by
  simp [Ideal.ofBits, Ideal.ieee]

end Cert.Proof.Words

end
-- ==== Proof.Folds.lean ====
/- Reductions along a row, and layouts of a column and a row. -/
module

public import proofs.«01_k».proof.Proof.Words
public import Idealize.ShloMosaic.PureOps.Reduce
public import Idealize.ShloMosaic.Lib.WordSum
public import Idealize.ShloMosaic.Lib.SortNet.Extract
public import Idealize.ShloMosaic.Lib.ValueLayout

@[expose] public section

noncomputable section

namespace Cert.Proof.Folds

open Idealize.ShloMosaic Idealize.ShloMosaic.ValueIdx
open Cert.Proof.Words

section Fold
variable {ι : Type} [DecidableEq ι]

/-- The signed minimum of words of which one is least. -/
theorem fold_minsi (S : Finset ι) (g : ι → BitVec 32) (z : BitVec 32) (p : ι) (hp : p ∈ S)
    (h : ∀ k ∈ S, (g p).toInt ≤ (g k).toInt) (hz : (g p).toInt ≤ z.toInt) : S.fold IntOp.minsi z g = g p := by
  have key : ∀ T : Finset ι, (T.fold IntOp.minsi z g).toInt = T.fold min z.toInt fun k => (g k).toInt := by
    intro T
    induction T using Finset.induction_on with
    | empty => rfl
    | insert a T ha ih => rw [Finset.fold_insert ha, Finset.fold_insert ha, SortNet.toInt_minsi, ih]
  apply BitVec.eq_of_toInt_eq
  rw [key]
  exact le_antisymm (Finset.fold_min_le _ |>.2 (.inr ⟨p, hp, le_rfl⟩)) (Finset.le_fold_min _ |>.2 ⟨hz, h⟩)

/-- The signed maximum of words of which one is greatest. -/
theorem fold_maxsi (S : Finset ι) (g : ι → BitVec 32) (z : BitVec 32) (p : ι) (hp : p ∈ S)
    (h : ∀ k ∈ S, (g k).toInt ≤ (g p).toInt) (hz : z.toInt ≤ (g p).toInt) : S.fold IntOp.maxsi z g = g p := by
  have key : ∀ T : Finset ι, (T.fold IntOp.maxsi z g).toInt = T.fold max z.toInt fun k => (g k).toInt := by
    intro T
    induction T using Finset.induction_on with
    | empty => rfl
    | insert a T ha ih => rw [Finset.fold_insert ha, Finset.fold_insert ha, SortNet.toInt_maxsi, ih]
  apply BitVec.eq_of_toInt_eq
  rw [key]
  exact le_antisymm (Finset.fold_max_le _ |>.2 ⟨hz, h⟩) (Finset.le_fold_max _ |>.2 (.inr ⟨p, hp, le_rfl⟩))

end Fold

section Row
variable {n m : ℕ} (h : (⟨2, ![n, m]⟩ : Shape).Reduces [1] (⟨1, ![n]⟩ : Shape))

theorem lift_row (i : Fin n) (k : Fin m) : h.lift (ix1 i) k = ix2 i k := by
  funext c
  apply Fin.ext
  fin_cases c <;> rfl

/-- A row's signed minimum. -/
theorem minsi_row (x : (⟨2, ![n, m]⟩ : Shape).Idx → BitVec 32) (z : BitVec 32) (hz : z = IKind.minsi.neutral) (i : Fin n) (p : Fin m)
    (hp : ∀ k : Fin m, (x (ix2 i p)).toInt ≤ (x (ix2 i k)).toInt) (hpz : (x (ix2 i p)).toInt ≤ z.toInt) :
    multiReductionI .minsi [1] (⟨1, ![n]⟩ : Shape) x z h hz (ix1 i) = x (ix2 i p) := by
  classical
  rw [multiReductionI_eq_fold]
  refine (h.fold_filter_drop_single _ _ _ _).trans ?_
  have e : (x ∘ h.lift (ix1 i)) = fun k : Fin m => x (ix2 i k) := funext fun k => congrArg x (lift_row h i k)
  rw [e]
  exact fold_minsi (Finset.univ : Finset (Fin m)) (fun k => x (ix2 i k)) z p (Finset.mem_univ _) (fun k _ => hp k) hpz

/-- A row's signed maximum. -/
theorem maxsi_row (x : (⟨2, ![n, m]⟩ : Shape).Idx → BitVec 32) (z : BitVec 32) (hz : z = IKind.maxsi.neutral) (i : Fin n) (p : Fin m)
    (hp : ∀ k : Fin m, (x (ix2 i k)).toInt ≤ (x (ix2 i p)).toInt) (hpz : z.toInt ≤ (x (ix2 i p)).toInt) :
    multiReductionI .maxsi [1] (⟨1, ![n]⟩ : Shape) x z h hz (ix1 i) = x (ix2 i p) := by
  classical
  rw [multiReductionI_eq_fold]
  refine (h.fold_filter_drop_single _ _ _ _).trans ?_
  have e : (x ∘ h.lift (ix1 i)) = fun k : Fin m => x (ix2 i k) := funext fun k => congrArg x (lift_row h i k)
  rw [e]
  exact fold_maxsi (Finset.univ : Finset (Fin m)) (fun k => x (ix2 i k)) z p (Finset.mem_univ _) (fun k _ => hp k) hpz

/-- A row's sum. -/
theorem add_row (x : (⟨2, ![n, m]⟩ : Shape).Idx → BitVec 32) (hz : (0#32 : BitVec 32) = IKind.add.neutral) (i : Fin n) (g : Fin m → ℕ)
    (hg : ∀ k, (x (ix2 i k)).toNat = g k) (hb : ∑ k, g k < 2 ^ 32) :
    multiReductionI .add [1] (⟨1, ![n]⟩ : Shape) x 0#32 h hz (ix1 i) = wd (∑ k, g k) := by
  have e : ∑ j ∈ Finset.univ.filter (fun j => h.drop j = ix1 i), (x j).toNat = ∑ k, g k := by
    rw [h.sum_filter_drop_single]
    exact Finset.sum_congr rfl fun k _ => by rw [lift_row h i k]; exact hg k
  apply BitVec.eq_of_toNat_eq
  rw [WordSum.toNat_multiReductionI_add _ _ _ _ (by rw [e]; exact hb), e, toNat_wd _ hb]

/-- A row's least value. -/
theorem min_row (x : (⟨2, ![n, m]⟩ : Shape).Idx → EReal) (hφ : FKind.Formats .f32) (hz : (0x7F800000#32 : BitVec 32) = FKind.minimumf.neutral .f32 hφ) (i : Fin n) (p : Fin m)
    (hp : ∀ k : Fin m, x (ix2 i p) ≤ x (ix2 i k)) :
    multiReduction (F := Ideal) (φ := .f32) .minimumf [1] (⟨1, ![n]⟩ : Shape) x 0x7F800000#32 h hφ hz (ix1 i) = x (ix2 i p) := by
  classical
  rw [multiReduction_minimumf_eq_fold]
  refine (h.fold_filter_drop_single _ _ _ _).trans ?_
  have e : (x ∘ h.lift (ix1 i)) = fun k : Fin m => x (ix2 i k) := funext fun k => congrArg x (lift_row h i k)
  rw [e]
  show (Finset.univ : Finset (Fin m)).fold (min : EReal → EReal → EReal) (Ideal.ofBits .f32 0x7F800000#32) (fun k => x (ix2 i k)) = _
  rw [top_word]
  exact le_antisymm (Finset.fold_min_le _ |>.2 (.inr ⟨p, Finset.mem_univ _, le_rfl⟩)) (Finset.le_fold_min _ |>.2 ⟨le_top, fun k _ => hp k⟩)

end Row

section Layouts
variable {n m : ℕ} {α : Type}

theorem col_ap (x : (⟨1, ![n]⟩ : Shape).Idx → α) (h : (⟨1, ![n]⟩ : Shape).ShapeCasts (⟨2, ![n, 1]⟩ : Shape)) (i : Fin n) (k : Fin 1) :
    shapeCast (⟨2, ![n, 1]⟩ : Shape) x h (ix2 i k) = x (ix1 i) := by
  unfold shapeCast
  refine congrArg x (Shape.reshapeEquiv_eq_of_rowMajor _ ?_)
  rw [Shape.rowMajor_val_one, Shape.rowMajor_val_two]
  show i.val = i.val * 1 + k.val
  omega

theorem turn_ap (x : (⟨2, ![n, 1]⟩ : Shape).Idx → α) (h : (⟨2, ![n, 1]⟩ : Shape).ShapeCasts (⟨2, ![1, n]⟩ : Shape)) (k : Fin 1) (i : Fin n) :
    shapeCast (⟨2, ![1, n]⟩ : Shape) x h (ix2 k i) = x (ix2 i 0) := by
  unfold shapeCast
  refine congrArg x (Shape.reshapeEquiv_eq_of_rowMajor _ ?_)
  rw [Shape.rowMajor_val_two, Shape.rowMajor_val_two]
  show i.val * 1 + 0 = k.val * n + i.val
  have : k.val = 0 := by omega
  rw [this]; omega

theorem spread_col (x : (⟨2, ![n, 1]⟩ : Shape).Idx → α) (h : (⟨2, ![n, 1]⟩ : Shape).Broadcasts (⟨2, ![n, m]⟩ : Shape)) (hn : n ≠ 1) (i : Fin n) (k : Fin m) :
    broadcastTo (⟨2, ![n, m]⟩ : Shape) x h (ix2 i k) = x (ix2 i 0) := by
  refine broadcastTo_apply x h (ix2 i k) (ix2 i (0 : Fin 1)) fun a => ?_
  match a with
  | ⟨0, _⟩ => exact (if_neg hn).symm
  | ⟨1, _⟩ => rfl

theorem spread_row (x : (⟨2, ![1, m]⟩ : Shape).Idx → α) (h : (⟨2, ![1, m]⟩ : Shape).Broadcasts (⟨2, ![n, m]⟩ : Shape)) (i : Fin n) (k : Fin m) :
    broadcastTo (⟨2, ![n, m]⟩ : Shape) x h (ix2 i k) = x (ix2 0 k) := broadcastTo_1b_ab_apply x h i k

end Layouts

end Cert.Proof.Folds

end
-- ==== Proof.RefLists.lean ====
/- The reference's program as lists of operations: what it runs before its loop, the loop's condition, and one trip. -/
module

public import proofs.«01_k».proof.Proof.Gen.ReferenceIdeal
public import Idealize.ShloMosaic.Lib.StableHlo.Run
public import Idealize.ShloMosaic.Lib.StableHlo.RunLoop

@[expose] public section

noncomputable section

namespace Cert.ReferenceIdeal.Loop

open Cert.ReferenceIdeal Cert.ReferenceIdeal.Gen Idealize.ShloMosaic Idealize.ShloMosaic.TcCoe Idealize.SL.Sem Idealize.ShloMosaic.StableHlo

variable {F : FTy → Type} [FloatOps F]

/-- Stretch 0 of what @main runs before its loop. -/
abbrev pre0 : List (HloOp τ sig (Elt F)) :=
  [ nullary main_call0_v0 (iotaInDim S1024x4096 32 1),
    binary main_arg0 main_call0_v0 main_call0_v1_0 ((fun x y => (Host.sort2 S1024x4096 1 comparator_f32_i32_d1 x y).1) : (⟨S1024x4096, .f32⟩ : BufTy).Contents (Elt F) → (⟨S1024x4096, .i32⟩ : BufTy).Contents (Elt F) → (⟨S1024x4096, .f32⟩ : BufTy).Contents (Elt F)),
    binary main_arg0 main_call0_v0 main_v0 ((fun x y => (Host.sort2 S1024x4096 1 comparator_f32_i32_d1 x y).2) : (⟨S1024x4096, .f32⟩ : BufTy).Contents (Elt F) → (⟨S1024x4096, .i32⟩ : BufTy).Contents (Elt F) → (⟨S1024x4096, .i32⟩ : BufTy).Contents (Elt F)) ]

theorem pre0_sub : (pre0 : List (HloOp τ sig (Elt F))).Forall fun op => op.bufs ⊆ tcRefs τ sig :=
  ⟨nullary_bufs_sub .., binary_bufs_sub .., binary_bufs_sub ..⟩

theorem pre0_keep (X : Valuation τ sig (Elt F)) (b : Ref sig .tc) (h : b ∉ [main_call0_v0, main_call0_v1_0, main_v0]) :
    after pre0 X b = X b := by
  simp only [List.mem_cons, List.not_mem_nil, or_false, not_or] at h
  obtain ⟨h0, h1, h2⟩ := h
  rw [after_cons, after_cons, after_cons, after_nil,
    binary_result_ne (h := h2), binary_result_ne (h := h1), nullary_result_ne (h := h0)]

/-- Stretch 1 of what @main runs before its loop. -/
abbrev pre1 : List (HloOp τ sig (Elt F)) :=
  [ unary main_v0 main_v1 ((extractStridedSlice S1024x2 ![0, 0] · slices_S1024x4096_S1024x2_0_0) : (⟨S1024x4096, .i32⟩ : BufTy).Contents (Elt F) → (⟨S1024x2, .i32⟩ : BufTy).Contents (Elt F)),
    nullary main_v2 (iotaInDim S4096x4096 32 0),
    nullary main_v3 (iotaInDim S4096x4096 32 1),
    nullary main_c (constantI S_ 32 0#32),
    nullary main_c_0 (constantI S_ 32 0#32),
    unary main_v1 main_v4_0 id,
    unary main_v2 main_v4_1 id,
    unary main_v3 main_v4_2 id,
    unary main_c_0 main_v4_3 id,
    unary main_c main_v4_4 id,
    unary main_arg1 main_v4_5 id,
    unary main_arg2 main_v4_6 id ]

theorem pre1_sub : (pre1 : List (HloOp τ sig (Elt F))).Forall fun op => op.bufs ⊆ tcRefs τ sig :=
  ⟨unary_bufs_sub .., nullary_bufs_sub .., nullary_bufs_sub .., nullary_bufs_sub .., nullary_bufs_sub .., unary_bufs_sub .., unary_bufs_sub .., unary_bufs_sub .., unary_bufs_sub .., unary_bufs_sub .., unary_bufs_sub .., unary_bufs_sub ..⟩

theorem pre1_keep (X : Valuation τ sig (Elt F)) (b : Ref sig .tc) (h : b ∉ [main_v1, main_v2, main_v3, main_c, main_c_0, main_v4_0, main_v4_1, main_v4_2, main_v4_3, main_v4_4, main_v4_5, main_v4_6]) :
    after pre1 X b = X b := by
  simp only [List.mem_cons, List.not_mem_nil, or_false, not_or] at h
  obtain ⟨h0, h1, h2, h3, h4, h5, h6, h7, h8, h9, h10, h11⟩ := h
  rw [after_cons, after_cons, after_cons, after_cons, after_cons, after_cons, after_cons, after_cons, after_cons, after_cons, after_cons, after_cons, after_nil,
    unary_result_ne (h := h11), unary_result_ne (h := h10), unary_result_ne (h := h9), unary_result_ne (h := h8), unary_result_ne (h := h7), unary_result_ne (h := h6), unary_result_ne (h := h5), nullary_result_ne (h := h4), nullary_result_ne (h := h3), nullary_result_ne (h := h2), nullary_result_ne (h := h1), unary_result_ne (h := h0)]

/-- The loop's condition. -/
abbrev test0 : List (HloOp τ sig (Elt F)) :=
  [ nullary main_while0c_c_7 (constantI S_ 32 1024#32),
    binary main_v4_3 main_while0c_c_7 main_while0c_v5 (cmpi .slt : (⟨S_, .i32⟩ : BufTy).Contents (Elt F) → (⟨S_, .i32⟩ : BufTy).Contents (Elt F) → (⟨S_, .i1⟩ : BufTy).Contents (Elt F)) ]

theorem test0_sub : (test0 : List (HloOp τ sig (Elt F))).Forall fun op => op.bufs ⊆ tcRefs τ sig :=
  ⟨nullary_bufs_sub .., binary_bufs_sub ..⟩

theorem test0_keep (X : Valuation τ sig (Elt F)) (b : Ref sig .tc) (h : b ∉ [main_while0c_c_7, main_while0c_v5]) :
    after test0 X b = X b := by
  simp only [List.mem_cons, List.not_mem_nil, or_false, not_or] at h
  obtain ⟨h0, h1⟩ := h
  rw [after_cons, after_cons, after_nil,
    binary_result_ne (h := h1), nullary_result_ne (h := h0)]

/-- Stretch 0 of one trip of the loop. -/
abbrev step0 : List (HloOp τ sig (Elt F)) :=
  [ nullary main_while0b_c_7 (constantI S_ 32 1#32),
    binary main_v4_4 main_while0b_c_7 main_while0b_v5 (addi : (⟨S_, .i32⟩ : BufTy).Contents (Elt F) → (⟨S_, .i32⟩ : BufTy).Contents (Elt F) → (⟨S_, .i32⟩ : BufTy).Contents (Elt F)),
    unary main_v4_4 main_while0b_v6 (id : (⟨S_, .i32⟩ : BufTy).Contents (Elt F) → (⟨S_, .i32⟩ : BufTy).Contents (Elt F)),
    nullary main_while0b_c_8 (constantI S_ 32 0#32),
    binary main_while0b_v6 main_while0b_c_8 main_while0b_v7 (cmpi .slt : (⟨S_, .i32⟩ : BufTy).Contents (Elt F) → (⟨S_, .i32⟩ : BufTy).Contents (Elt F) → (⟨S_, .i1⟩ : BufTy).Contents (Elt F)),
    nullary main_while0b_c_9 (constantI S_ 32 1024#32),
    binary main_while0b_v6 main_while0b_c_9 main_while0b_v8 (addi : (⟨S_, .i32⟩ : BufTy).Contents (Elt F) → (⟨S_, .i32⟩ : BufTy).Contents (Elt F) → (⟨S_, .i32⟩ : BufTy).Contents (Elt F)),
    ternary main_while0b_v7 main_while0b_v8 main_while0b_v6 main_while0b_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_10 (constantI S_ 32 0#32),
    nullary main_while0b_c_11 (constantI S_ 32 0#32),
    binary main_while0b_c_10 main_while0b_c_11 main_while0b_v10 (cmpi .slt : (⟨S_, .i32⟩ : BufTy).Contents (Elt F) → (⟨S_, .i32⟩ : BufTy).Contents (Elt F) → (⟨S_, .i1⟩ : BufTy).Contents (Elt F)),
    nullary main_while0b_c_12 (constantI S_ 32 0#32),
    nullary main_while0b_c_13 (constantI S_ 32 2#32),
    binary main_while0b_c_12 main_while0b_c_13 main_while0b_v11 (addi : (⟨S_, .i32⟩ : BufTy).Contents (Elt F) → (⟨S_, .i32⟩ : BufTy).Contents (Elt F) → (⟨S_, .i32⟩ : BufTy).Contents (Elt F)),
    nullary main_while0b_c_14 (constantI S_ 32 0#32),
    ternary main_while0b_v10 main_while0b_v11 main_while0b_c_14 main_while0b_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

theorem step0_sub : (step0 : List (HloOp τ sig (Elt F))).Forall fun op => op.bufs ⊆ tcRefs τ sig :=
  ⟨nullary_bufs_sub .., binary_bufs_sub .., unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub ..⟩

theorem step0_keep (X : Valuation τ sig (Elt F)) (b : Ref sig .tc) (h : b ∉ [main_while0b_c_7, main_while0b_v5, main_while0b_v6, main_while0b_c_8, main_while0b_v7, main_while0b_c_9, main_while0b_v8, main_while0b_v9, main_while0b_c_10, main_while0b_c_11, main_while0b_v10, main_while0b_c_12, main_while0b_c_13, main_while0b_v11, main_while0b_c_14, main_while0b_v12]) :
    after step0 X b = X b := by
  simp only [List.mem_cons, List.not_mem_nil, or_false, not_or] at h
  obtain ⟨h0, h1, h2, h3, h4, h5, h6, h7, h8, h9, h10, h11, h12, h13, h14, h15⟩ := h
  rw [after_cons, after_cons, after_cons, after_cons, after_cons, after_cons, after_cons, after_cons, after_cons, after_cons, after_cons, after_cons, after_cons, after_cons, after_cons, after_cons, after_nil,
    ternary_result_ne (h := h15), nullary_result_ne (h := h14), binary_result_ne (h := h13), nullary_result_ne (h := h12), nullary_result_ne (h := h11), binary_result_ne (h := h10), nullary_result_ne (h := h9), nullary_result_ne (h := h8), ternary_result_ne (h := h7), binary_result_ne (h := h6), nullary_result_ne (h := h5), binary_result_ne (h := h4), nullary_result_ne (h := h3), unary_result_ne (h := h2), binary_result_ne (h := h1), nullary_result_ne (h := h0)]

/-- Stretch 1 of one trip of the loop. -/
abbrev step1 : List (HloOp τ sig (Elt F)) :=
  [ unaryIndexed main_v4_0 ![main_while0b_v9, main_while0b_v12] ⟨S_, .i32⟩ main_while0b_v13 ((fun x i => Host.dynamicSlice S1x1 x (fun k => (i k (Shape.Idx.first h_S_)).toInt) sliceFits_S1024x2_S1x1) : (⟨S1024x2, .i32⟩ : BufTy).Contents (Elt F) → (Fin 2 → (⟨S_, .i32⟩ : BufTy).Contents (Elt F)) → (⟨S1x1, .i32⟩ : BufTy).Contents (Elt F)),
    reshape main_while0b_v13 main_while0b_v14 (rfl : (.i32 : EltTy) = .i32) shapeCasts_S1x1_S_ ]

theorem step1_sub : (step1 : List (HloOp τ sig (Elt F))).Forall fun op => op.bufs ⊆ tcRefs τ sig :=
  ⟨unaryIndexed_bufs_sub .., reshape_bufs_sub ..⟩

theorem step1_keep (X : Valuation τ sig (Elt F)) (b : Ref sig .tc) (h : b ∉ [main_while0b_v13, main_while0b_v14]) :
    after step1 X b = X b := by
  simp only [List.mem_cons, List.not_mem_nil, or_false, not_or] at h
  obtain ⟨h0, h1⟩ := h
  rw [after_cons, after_cons, after_nil,
    reshape_result_ne (h := h1), unaryIndexed_result_ne (h := h0)]

/-- Stretch 2 of one trip of the loop. -/
abbrev step2 : List (HloOp τ sig (Elt F)) :=
  [ unary main_v4_4 main_while0b_v15 (id : (⟨S_, .i32⟩ : BufTy).Contents (Elt F) → (⟨S_, .i32⟩ : BufTy).Contents (Elt F)),
    nullary main_while0b_c_15 (constantI S_ 32 0#32),
    binary main_while0b_v15 main_while0b_c_15 main_while0b_v16 (cmpi .slt : (⟨S_, .i32⟩ : BufTy).Contents (Elt F) → (⟨S_, .i32⟩ : BufTy).Contents (Elt F) → (⟨S_, .i1⟩ : BufTy).Contents (Elt F)),
    nullary main_while0b_c_16 (constantI S_ 32 1024#32),
    binary main_while0b_v15 main_while0b_c_16 main_while0b_v17 (addi : (⟨S_, .i32⟩ : BufTy).Contents (Elt F) → (⟨S_, .i32⟩ : BufTy).Contents (Elt F) → (⟨S_, .i32⟩ : BufTy).Contents (Elt F)),
    ternary main_while0b_v16 main_while0b_v17 main_while0b_v15 main_while0b_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_17 (constantI S_ 32 1#32),
    nullary main_while0b_c_18 (constantI S_ 32 0#32),
    binary main_while0b_c_17 main_while0b_c_18 main_while0b_v19 (cmpi .slt : (⟨S_, .i32⟩ : BufTy).Contents (Elt F) → (⟨S_, .i32⟩ : BufTy).Contents (Elt F) → (⟨S_, .i1⟩ : BufTy).Contents (Elt F)),
    nullary main_while0b_c_19 (constantI S_ 32 1#32),
    nullary main_while0b_c_20 (constantI S_ 32 2#32),
    binary main_while0b_c_19 main_while0b_c_20 main_while0b_v20 (addi : (⟨S_, .i32⟩ : BufTy).Contents (Elt F) → (⟨S_, .i32⟩ : BufTy).Contents (Elt F) → (⟨S_, .i32⟩ : BufTy).Contents (Elt F)),
    nullary main_while0b_c_21 (constantI S_ 32 1#32),
    ternary main_while0b_v19 main_while0b_v20 main_while0b_c_21 main_while0b_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

theorem step2_sub : (step2 : List (HloOp τ sig (Elt F))).Forall fun op => op.bufs ⊆ tcRefs τ sig :=
  ⟨unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub ..⟩

theorem step2_keep (X : Valuation τ sig (Elt F)) (b : Ref sig .tc) (h : b ∉ [main_while0b_v15, main_while0b_c_15, main_while0b_v16, main_while0b_c_16, main_while0b_v17, main_while0b_v18, main_while0b_c_17, main_while0b_c_18, main_while0b_v19, main_while0b_c_19, main_while0b_c_20, main_while0b_v20, main_while0b_c_21, main_while0b_v21]) :
    after step2 X b = X b := by
  simp only [List.mem_cons, List.not_mem_nil, or_false, not_or] at h
  obtain ⟨h0, h1, h2, h3, h4, h5, h6, h7, h8, h9, h10, h11, h12, h13⟩ := h
  rw [after_cons, after_cons, after_cons, after_cons, after_cons, after_cons, after_cons, after_cons, after_cons, after_cons, after_cons, after_cons, after_cons, after_cons, after_nil,
    ternary_result_ne (h := h13), nullary_result_ne (h := h12), binary_result_ne (h := h11), nullary_result_ne (h := h10), nullary_result_ne (h := h9), binary_result_ne (h := h8), nullary_result_ne (h := h7), nullary_result_ne (h := h6), ternary_result_ne (h := h5), binary_result_ne (h := h4), nullary_result_ne (h := h3), binary_result_ne (h := h2), nullary_result_ne (h := h1), unary_result_ne (h := h0)]

/-- Stretch 3 of one trip of the loop. -/
abbrev step3 : List (HloOp τ sig (Elt F)) :=
  [ unaryIndexed main_v4_0 ![main_while0b_v18, main_while0b_v21] ⟨S_, .i32⟩ main_while0b_v22 ((fun x i => Host.dynamicSlice S1x1 x (fun k => (i k (Shape.Idx.first h_S_)).toInt) sliceFits_S1024x2_S1x1) : (⟨S1024x2, .i32⟩ : BufTy).Contents (Elt F) → (Fin 2 → (⟨S_, .i32⟩ : BufTy).Contents (Elt F)) → (⟨S1x1, .i32⟩ : BufTy).Contents (Elt F)),
    reshape main_while0b_v22 main_while0b_v23 (rfl : (.i32 : EltTy) = .i32) shapeCasts_S1x1_S_ ]

theorem step3_sub : (step3 : List (HloOp τ sig (Elt F))).Forall fun op => op.bufs ⊆ tcRefs τ sig :=
  ⟨unaryIndexed_bufs_sub .., reshape_bufs_sub ..⟩

theorem step3_keep (X : Valuation τ sig (Elt F)) (b : Ref sig .tc) (h : b ∉ [main_while0b_v22, main_while0b_v23]) :
    after step3 X b = X b := by
  simp only [List.mem_cons, List.not_mem_nil, or_false, not_or] at h
  obtain ⟨h0, h1⟩ := h
  rw [after_cons, after_cons, after_nil,
    reshape_result_ne (h := h1), unaryIndexed_result_ne (h := h0)]

/-- Stretch 4 of one trip of the loop. -/
abbrev step4 : List (HloOp τ sig (Elt F)) :=
  [ unary main_while0b_v14 main_while0b_v24 (broadcastInDim S4096x4096 ![] bcast_S_S4096x4096 : (⟨S_, .i32⟩ : BufTy).Contents (Elt F) → (⟨S4096x4096, .i32⟩ : BufTy).Contents (Elt F)),
    binary main_v4_1 main_while0b_v24 main_while0b_v25 (cmpi .eq : (⟨S4096x4096, .i32⟩ : BufTy).Contents (Elt F) → (⟨S4096x4096, .i32⟩ : BufTy).Contents (Elt F) → (⟨S4096x4096, .i1⟩ : BufTy).Contents (Elt F)),
    unary main_while0b_v23 main_while0b_v26 (broadcastInDim S4096x4096 ![] bcast_S_S4096x4096 : (⟨S_, .i32⟩ : BufTy).Contents (Elt F) → (⟨S4096x4096, .i32⟩ : BufTy).Contents (Elt F)),
    binary main_v4_2 main_while0b_v26 main_while0b_v27 (cmpi .eq : (⟨S4096x4096, .i32⟩ : BufTy).Contents (Elt F) → (⟨S4096x4096, .i32⟩ : BufTy).Contents (Elt F) → (⟨S4096x4096, .i1⟩ : BufTy).Contents (Elt F)),
    binary main_while0b_v25 main_while0b_v27 main_while0b_v28 (andi : (⟨S4096x4096, .i1⟩ : BufTy).Contents (Elt F) → (⟨S4096x4096, .i1⟩ : BufTy).Contents (Elt F) → (⟨S4096x4096, .i1⟩ : BufTy).Contents (Elt F)),
    unary main_while0b_v23 main_while0b_v29 (broadcastInDim S4096x4096 ![] bcast_S_S4096x4096 : (⟨S_, .i32⟩ : BufTy).Contents (Elt F) → (⟨S4096x4096, .i32⟩ : BufTy).Contents (Elt F)),
    binary main_v4_1 main_while0b_v29 main_while0b_v30 (cmpi .eq : (⟨S4096x4096, .i32⟩ : BufTy).Contents (Elt F) → (⟨S4096x4096, .i32⟩ : BufTy).Contents (Elt F) → (⟨S4096x4096, .i1⟩ : BufTy).Contents (Elt F)),
    unary main_while0b_v14 main_while0b_v31 (broadcastInDim S4096x4096 ![] bcast_S_S4096x4096 : (⟨S_, .i32⟩ : BufTy).Contents (Elt F) → (⟨S4096x4096, .i32⟩ : BufTy).Contents (Elt F)),
    binary main_v4_2 main_while0b_v31 main_while0b_v32 (cmpi .eq : (⟨S4096x4096, .i32⟩ : BufTy).Contents (Elt F) → (⟨S4096x4096, .i32⟩ : BufTy).Contents (Elt F) → (⟨S4096x4096, .i1⟩ : BufTy).Contents (Elt F)),
    binary main_while0b_v30 main_while0b_v32 main_while0b_v33 (andi : (⟨S4096x4096, .i1⟩ : BufTy).Contents (Elt F) → (⟨S4096x4096, .i1⟩ : BufTy).Contents (Elt F) → (⟨S4096x4096, .i1⟩ : BufTy).Contents (Elt F)),
    binary main_while0b_v28 main_while0b_v33 main_while0b_v34 (ori : (⟨S4096x4096, .i1⟩ : BufTy).Contents (Elt F) → (⟨S4096x4096, .i1⟩ : BufTy).Contents (Elt F) → (⟨S4096x4096, .i1⟩ : BufTy).Contents (Elt F)),
    nullary main_while0b_cst (constant S_ .f32 0x3F800000#32) ]

theorem step4_sub : (step4 : List (HloOp τ sig (Elt F))).Forall fun op => op.bufs ⊆ tcRefs τ sig :=
  ⟨unary_bufs_sub .., binary_bufs_sub .., unary_bufs_sub .., binary_bufs_sub .., binary_bufs_sub .., unary_bufs_sub .., binary_bufs_sub .., unary_bufs_sub .., binary_bufs_sub .., binary_bufs_sub .., binary_bufs_sub .., nullary_bufs_sub ..⟩

theorem step4_keep (X : Valuation τ sig (Elt F)) (b : Ref sig .tc) (h : b ∉ [main_while0b_v24, main_while0b_v25, main_while0b_v26, main_while0b_v27, main_while0b_v28, main_while0b_v29, main_while0b_v30, main_while0b_v31, main_while0b_v32, main_while0b_v33, main_while0b_v34, main_while0b_cst]) :
    after step4 X b = X b := by
  simp only [List.mem_cons, List.not_mem_nil, or_false, not_or] at h
  obtain ⟨h0, h1, h2, h3, h4, h5, h6, h7, h8, h9, h10, h11⟩ := h
  rw [after_cons, after_cons, after_cons, after_cons, after_cons, after_cons, after_cons, after_cons, after_cons, after_cons, after_cons, after_cons, after_nil,
    nullary_result_ne (h := h11), binary_result_ne (h := h10), binary_result_ne (h := h9), binary_result_ne (h := h8), unary_result_ne (h := h7), binary_result_ne (h := h6), unary_result_ne (h := h5), binary_result_ne (h := h4), binary_result_ne (h := h3), unary_result_ne (h := h2), binary_result_ne (h := h1), unary_result_ne (h := h0)]

/-- Stretch 5 of one trip of the loop. -/
abbrev step5 : List (HloOp τ sig (Elt F)) :=
  [ unary main_while0b_cst main_while0b_call1_v0 (id : (⟨S_, .f32⟩ : BufTy).Contents (Elt F) → (⟨S_, .f32⟩ : BufTy).Contents (Elt F)),
    unary main_while0b_call1_v0 main_while0b_call1_v1 (broadcastInDim S4096x4096 ![] bcast_S_S4096x4096 : (⟨S_, .f32⟩ : BufTy).Contents (Elt F) → (⟨S4096x4096, .f32⟩ : BufTy).Contents (Elt F)),
    ternary main_while0b_v34 main_while0b_call1_v1 main_v4_5 main_while0b_v35 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

theorem step5_sub : (step5 : List (HloOp τ sig (Elt F))).Forall fun op => op.bufs ⊆ tcRefs τ sig :=
  ⟨unary_bufs_sub .., unary_bufs_sub .., ternary_bufs_sub ..⟩

theorem step5_keep (X : Valuation τ sig (Elt F)) (b : Ref sig .tc) (h : b ∉ [main_while0b_call1_v0, main_while0b_call1_v1, main_while0b_v35]) :
    after step5 X b = X b := by
  simp only [List.mem_cons, List.not_mem_nil, or_false, not_or] at h
  obtain ⟨h0, h1, h2⟩ := h
  rw [after_cons, after_cons, after_cons, after_nil,
    ternary_result_ne (h := h2), unary_result_ne (h := h1), unary_result_ne (h := h0)]

/-- Stretch 6 of one trip of the loop. -/
abbrev step6 : List (HloOp τ sig (Elt F)) :=
  [ nullary main_while0b_cst_22 (constant S_ .f32 0x00000000#32) ]

theorem step6_sub : (step6 : List (HloOp τ sig (Elt F))).Forall fun op => op.bufs ⊆ tcRefs τ sig :=
  nullary_bufs_sub ..

theorem step6_keep (X : Valuation τ sig (Elt F)) (b : Ref sig .tc) (h : b ∉ [main_while0b_cst_22]) :
    after step6 X b = X b := by
  simp only [List.mem_cons, List.not_mem_nil, or_false, not_or] at h
  rw [after_cons, after_nil,
    nullary_result_ne (h := h)]

/-- Stretch 7 of one trip of the loop. -/
abbrev step7 : List (HloOp τ sig (Elt F)) :=
  [ unary main_while0b_cst_22 main_while0b_call2_v0 (id : (⟨S_, .f32⟩ : BufTy).Contents (Elt F) → (⟨S_, .f32⟩ : BufTy).Contents (Elt F)),
    unary main_while0b_call2_v0 main_while0b_call2_v1 (broadcastInDim S4096x4096 ![] bcast_S_S4096x4096 : (⟨S_, .f32⟩ : BufTy).Contents (Elt F) → (⟨S4096x4096, .f32⟩ : BufTy).Contents (Elt F)),
    ternary main_while0b_v34 main_while0b_call2_v1 main_v4_6 main_while0b_v36 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

theorem step7_sub : (step7 : List (HloOp τ sig (Elt F))).Forall fun op => op.bufs ⊆ tcRefs τ sig :=
  ⟨unary_bufs_sub .., unary_bufs_sub .., ternary_bufs_sub ..⟩

theorem step7_keep (X : Valuation τ sig (Elt F)) (b : Ref sig .tc) (h : b ∉ [main_while0b_call2_v0, main_while0b_call2_v1, main_while0b_v36]) :
    after step7 X b = X b := by
  simp only [List.mem_cons, List.not_mem_nil, or_false, not_or] at h
  obtain ⟨h0, h1, h2⟩ := h
  rw [after_cons, after_cons, after_cons, after_nil,
    ternary_result_ne (h := h2), unary_result_ne (h := h1), unary_result_ne (h := h0)]

/-- Stretch 8 of one trip of the loop. -/
abbrev step8 : List (HloOp τ sig (Elt F)) :=
  [ unary main_while0b_v14 main_while0b_v37 (broadcastInDim S4096x4096 ![] bcast_S_S4096x4096 : (⟨S_, .i32⟩ : BufTy).Contents (Elt F) → (⟨S4096x4096, .i32⟩ : BufTy).Contents (Elt F)),
    binary main_v4_1 main_while0b_v37 main_while0b_v38 (cmpi .eq : (⟨S4096x4096, .i32⟩ : BufTy).Contents (Elt F) → (⟨S4096x4096, .i32⟩ : BufTy).Contents (Elt F) → (⟨S4096x4096, .i1⟩ : BufTy).Contents (Elt F)),
    unary main_while0b_v23 main_while0b_v39 (broadcastInDim S4096x4096 ![] bcast_S_S4096x4096 : (⟨S_, .i32⟩ : BufTy).Contents (Elt F) → (⟨S4096x4096, .i32⟩ : BufTy).Contents (Elt F)),
    binary main_v4_1 main_while0b_v39 main_while0b_v40 (cmpi .eq : (⟨S4096x4096, .i32⟩ : BufTy).Contents (Elt F) → (⟨S4096x4096, .i32⟩ : BufTy).Contents (Elt F) → (⟨S4096x4096, .i1⟩ : BufTy).Contents (Elt F)),
    binary main_while0b_v38 main_while0b_v40 main_while0b_v41 (ori : (⟨S4096x4096, .i1⟩ : BufTy).Contents (Elt F) → (⟨S4096x4096, .i1⟩ : BufTy).Contents (Elt F) → (⟨S4096x4096, .i1⟩ : BufTy).Contents (Elt F)),
    nullary main_while0b_cst_23 (constant S_ .f32 0x3F800000#32),
    unary main_while0b_cst_23 main_while0b_v42 (broadcastInDim S4096x4096 ![] bcast_S_S4096x4096 : (⟨S_, .f32⟩ : BufTy).Contents (Elt F) → (⟨S4096x4096, .f32⟩ : BufTy).Contents (Elt F)),
    binary main_while0b_v35 main_while0b_v42 main_while0b_v43 (cmpf .oeq : (⟨S4096x4096, .f32⟩ : BufTy).Contents (Elt F) → (⟨S4096x4096, .f32⟩ : BufTy).Contents (Elt F) → (⟨S4096x4096, .i1⟩ : BufTy).Contents (Elt F)),
    unary main_while0b_v43 main_while0b_v44 (uitofp .f32 : (⟨S4096x4096, .i1⟩ : BufTy).Contents (Elt F) → (⟨S4096x4096, .f32⟩ : BufTy).Contents (Elt F)),
    binary main_while0b_v36 main_while0b_v44 main_while0b_v45 (addf : (⟨S4096x4096, .f32⟩ : BufTy).Contents (Elt F) → (⟨S4096x4096, .f32⟩ : BufTy).Contents (Elt F) → (⟨S4096x4096, .f32⟩ : BufTy).Contents (Elt F)) ]

theorem step8_sub : (step8 : List (HloOp τ sig (Elt F))).Forall fun op => op.bufs ⊆ tcRefs τ sig :=
  ⟨unary_bufs_sub .., binary_bufs_sub .., unary_bufs_sub .., binary_bufs_sub .., binary_bufs_sub .., nullary_bufs_sub .., unary_bufs_sub .., binary_bufs_sub .., unary_bufs_sub .., binary_bufs_sub ..⟩

theorem step8_keep (X : Valuation τ sig (Elt F)) (b : Ref sig .tc) (h : b ∉ [main_while0b_v37, main_while0b_v38, main_while0b_v39, main_while0b_v40, main_while0b_v41, main_while0b_cst_23, main_while0b_v42, main_while0b_v43, main_while0b_v44, main_while0b_v45]) :
    after step8 X b = X b := by
  simp only [List.mem_cons, List.not_mem_nil, or_false, not_or] at h
  obtain ⟨h0, h1, h2, h3, h4, h5, h6, h7, h8, h9⟩ := h
  rw [after_cons, after_cons, after_cons, after_cons, after_cons, after_cons, after_cons, after_cons, after_cons, after_cons, after_nil,
    binary_result_ne (h := h9), unary_result_ne (h := h8), binary_result_ne (h := h7), unary_result_ne (h := h6), nullary_result_ne (h := h5), binary_result_ne (h := h4), binary_result_ne (h := h3), unary_result_ne (h := h2), binary_result_ne (h := h1), unary_result_ne (h := h0)]

/-- Stretch 9 of one trip of the loop. -/
abbrev step9 : List (HloOp τ sig (Elt F)) :=
  [ ternary main_while0b_v41 main_while0b_v45 main_while0b_v36 main_while0b_v46 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

theorem step9_sub : (step9 : List (HloOp τ sig (Elt F))).Forall fun op => op.bufs ⊆ tcRefs τ sig :=
  ternary_bufs_sub ..

theorem step9_keep (X : Valuation τ sig (Elt F)) (b : Ref sig .tc) (h : b ∉ [main_while0b_v46]) :
    after step9 X b = X b := by
  simp only [List.mem_cons, List.not_mem_nil, or_false, not_or] at h
  rw [after_cons, after_nil,
    ternary_result_ne (h := h)]

/-- Stretch 10 of one trip of the loop. -/
abbrev step10 : List (HloOp τ sig (Elt F)) :=
  [ nullary main_while0b_cst_24 (constant S_ .f32 0x42480000#32),
    unary main_while0b_cst_24 main_while0b_v47 (broadcastInDim S4096x4096 ![] bcast_S_S4096x4096 : (⟨S_, .f32⟩ : BufTy).Contents (Elt F) → (⟨S4096x4096, .f32⟩ : BufTy).Contents (Elt F)),
    binary main_while0b_v46 main_while0b_v47 main_while0b_v48 (cmpf .ogt : (⟨S4096x4096, .f32⟩ : BufTy).Contents (Elt F) → (⟨S4096x4096, .f32⟩ : BufTy).Contents (Elt F) → (⟨S4096x4096, .i1⟩ : BufTy).Contents (Elt F)),
    binary main_while0b_v41 main_while0b_v48 main_while0b_v49 (andi : (⟨S4096x4096, .i1⟩ : BufTy).Contents (Elt F) → (⟨S4096x4096, .i1⟩ : BufTy).Contents (Elt F) → (⟨S4096x4096, .i1⟩ : BufTy).Contents (Elt F)),
    nullary main_while0b_cst_25 (constant S_ .f32 0x00000000#32) ]

theorem step10_sub : (step10 : List (HloOp τ sig (Elt F))).Forall fun op => op.bufs ⊆ tcRefs τ sig :=
  ⟨nullary_bufs_sub .., unary_bufs_sub .., binary_bufs_sub .., binary_bufs_sub .., nullary_bufs_sub ..⟩

theorem step10_keep (X : Valuation τ sig (Elt F)) (b : Ref sig .tc) (h : b ∉ [main_while0b_cst_24, main_while0b_v47, main_while0b_v48, main_while0b_v49, main_while0b_cst_25]) :
    after step10 X b = X b := by
  simp only [List.mem_cons, List.not_mem_nil, or_false, not_or] at h
  obtain ⟨h0, h1, h2, h3, h4⟩ := h
  rw [after_cons, after_cons, after_cons, after_cons, after_cons, after_nil,
    nullary_result_ne (h := h4), binary_result_ne (h := h3), binary_result_ne (h := h2), unary_result_ne (h := h1), nullary_result_ne (h := h0)]

/-- Stretch 11 of one trip of the loop. -/
abbrev step11 : List (HloOp τ sig (Elt F)) :=
  [ unary main_while0b_cst_25 main_while0b_call4_v0 (id : (⟨S_, .f32⟩ : BufTy).Contents (Elt F) → (⟨S_, .f32⟩ : BufTy).Contents (Elt F)),
    unary main_while0b_call4_v0 main_while0b_call4_v1 (broadcastInDim S4096x4096 ![] bcast_S_S4096x4096 : (⟨S_, .f32⟩ : BufTy).Contents (Elt F) → (⟨S4096x4096, .f32⟩ : BufTy).Contents (Elt F)),
    ternary main_while0b_v49 main_while0b_call4_v1 main_while0b_v35 main_while0b_v50 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

theorem step11_sub : (step11 : List (HloOp τ sig (Elt F))).Forall fun op => op.bufs ⊆ tcRefs τ sig :=
  ⟨unary_bufs_sub .., unary_bufs_sub .., ternary_bufs_sub ..⟩

theorem step11_keep (X : Valuation τ sig (Elt F)) (b : Ref sig .tc) (h : b ∉ [main_while0b_call4_v0, main_while0b_call4_v1, main_while0b_v50]) :
    after step11 X b = X b := by
  simp only [List.mem_cons, List.not_mem_nil, or_false, not_or] at h
  obtain ⟨h0, h1, h2⟩ := h
  rw [after_cons, after_cons, after_cons, after_nil,
    ternary_result_ne (h := h2), unary_result_ne (h := h1), unary_result_ne (h := h0)]

/-- Stretch 12 of one trip of the loop. -/
abbrev step12 : List (HloOp τ sig (Elt F)) :=
  [ nullary main_while0b_c_26 (constantI S_ 32 1#32),
    binary main_v4_3 main_while0b_c_26 main_while0b_v51 (addi : (⟨S_, .i32⟩ : BufTy).Contents (Elt F) → (⟨S_, .i32⟩ : BufTy).Contents (Elt F) → (⟨S_, .i32⟩ : BufTy).Contents (Elt F)),
    unary main_while0b_v51 main_v4_3 id,
    unary main_while0b_v5 main_v4_4 id,
    unary main_while0b_v50 main_v4_5 id,
    unary main_while0b_v46 main_v4_6 id ]

theorem step12_sub : (step12 : List (HloOp τ sig (Elt F))).Forall fun op => op.bufs ⊆ tcRefs τ sig :=
  ⟨nullary_bufs_sub .., binary_bufs_sub .., unary_bufs_sub .., unary_bufs_sub .., unary_bufs_sub .., unary_bufs_sub ..⟩

theorem step12_keep (X : Valuation τ sig (Elt F)) (b : Ref sig .tc) (h : b ∉ [main_while0b_c_26, main_while0b_v51, main_v4_3, main_v4_4, main_v4_5, main_v4_6]) :
    after step12 X b = X b := by
  simp only [List.mem_cons, List.not_mem_nil, or_false, not_or] at h
  obtain ⟨h0, h1, h2, h3, h4, h5⟩ := h
  rw [after_cons, after_cons, after_cons, after_cons, after_cons, after_cons, after_nil,
    unary_result_ne (h := h5), unary_result_ne (h := h4), unary_result_ne (h := h3), unary_result_ne (h := h2), binary_result_ne (h := h1), nullary_result_ne (h := h0)]

/-- What runs before the loop. -/
abbrev preI : List (List (HloOp τ sig (Elt F))) := [pre0, pre1]

/-- One trip of the loop. -/
abbrev bodyI : List (List (HloOp τ sig (Elt F))) := [step0, step1, step2, step3, step4, step5, step6, step7, step8, step9, step10, step11, step12]

theorem pre_plain : Plain (preI : List (List (HloOp τ sig (Elt F)))) :=
  .cons pre0_sub (.cons pre1_sub (.nil))

theorem body_plain : Plain (bodyI : List (List (HloOp τ sig (Elt F)))) :=
  .cons step0_sub (.cons step1_sub (.cons step2_sub (.cons step3_sub (.cons step4_sub (.cons step5_sub (.cons step6_sub (.cons step7_sub (.cons step8_sub (.cons step9_sub (.cons step10_sub (.cons step11_sub (.cons step12_sub (.nil)))))))))))))

theorem main_chain (c : Dev nD) :
    main (F := F) c = Pipeline.chain ((preI.map seq) ++ HostLoop.enter 0 :: ([] : List (List (HloOp τ sig (Elt F)))).map seq) := by
  chain_rfl

theorem body_chain : (main_while0_body (F := F)) = Pipeline.chain (bodyI.map seq) := by
  chain_rfl

end Cert.ReferenceIdeal.Loop

end
-- ==== Proof.RefVals.lean ====
/- What the reference's lists leave in its buffers, over any contents before them. -/
module

public import proofs.«01_k».proof.Proof.RefLists
public import Idealize.ShloMosaic.Lib.StableHlo.RunClose
public import Idealize.ShloMosaic.Lib.StableHlo.RunRead

@[expose] public section

noncomputable section

namespace Cert.ReferenceIdeal.Loop

open Cert.ReferenceIdeal Cert.ReferenceIdeal.Gen Idealize.ShloMosaic Idealize.ShloMosaic.TcCoe Idealize.SL.Sem Idealize.ShloMosaic.StableHlo

variable {F : FTy → Type} [FloatOps F]

/-- A word of the loop. -/
abbrev W0 (F : FTy → Type) := (⟨S_, .i32⟩ : BufTy).Contents (Elt F)

/-- A matrix of positions, of words and of values. -/
abbrev PosM (F : FTy → Type) := (⟨S1024x2, .i32⟩ : BufTy).Contents (Elt F)
abbrev IntM (F : FTy → Type) := (⟨S4096x4096, .i32⟩ : BufTy).Contents (Elt F)
abbrev BitM (F : FTy → Type) := (⟨S4096x4096, .i1⟩ : BufTy).Contents (Elt F)
abbrev FltM (F : FTy → Type) := (⟨S4096x4096, .f32⟩ : BufTy).Contents (Elt F)

/-- A position counted from the end when it is negative. -/
def wrap (t : W0 F) (n : BitVec 32) : W0 F :=
  select (cmpi .slt t (constantI S_ 32 0#32) : (⟨S_, .i1⟩ : BufTy).Contents (Elt F)) (addi t (constantI S_ 32 n)) t

/-- Entry `k` of row `t` of the pairs. -/
def pick (P : PosM F) (t k : W0 F) : W0 F :=
  shapeCast S_ (Host.dynamicSlice S1x1 P (fun a => ((![t, k] : Fin 2 → W0 F) a (Shape.Idx.first h_S_)).toInt) sliceFits_S1024x2_S1x1) shapeCasts_S1x1_S_

theorem pick_congr (P : PosM F) (t k : W0 F) (f : Fin 2 → W0 F) (h : f = ![t, k]) :
    shapeCast S_ (Host.dynamicSlice S1x1 P (fun a => (f a (Shape.Idx.first h_S_)).toInt) sliceFits_S1024x2_S1x1) shapeCasts_S1x1_S_ = pick (F := F) P t k := by
  rw [h]
  rfl

def hits (row col : IntM F) (i j : W0 F) : BitM F :=
  ori (andi (cmpi .eq row (broadcastInDim S4096x4096 ![] bcast_S_S4096x4096 i)) (cmpi .eq col (broadcastInDim S4096x4096 ![] bcast_S_S4096x4096 j)))
    (andi (cmpi .eq row (broadcastInDim S4096x4096 ![] bcast_S_S4096x4096 j)) (cmpi .eq col (broadcastInDim S4096x4096 ![] bcast_S_S4096x4096 i)))

def touches (row : IntM F) (i j : W0 F) : BitM F :=
  ori (cmpi .eq row (broadcastInDim S4096x4096 ![] bcast_S_S4096x4096 i)) (cmpi .eq row (broadcastInDim S4096x4096 ![] bcast_S_S4096x4096 j))

/-- One number everywhere. -/
def all (w : BitVec 32) : FltM F := broadcastInDim S4096x4096 ![] bcast_S_S4096x4096 (constant S_ .f32 w)

def older (T : BitM F) (c a : FltM F) : FltM F := select T (addf a (uitofp .f32 (cmpf .oeq c (all (F := F) 0x3F800000#32) : BitM F))) a

def cut (T : BitM F) (c a : FltM F) : FltM F := select (andi T (cmpf .ogt a (all (F := F) 0x42480000#32))) (all (F := F) 0x00000000#32) c

variable (X : Valuation τ sig (Elt F))

set_option maxHeartbeats 4000000

theorem s0_9 : after step0 X main_while0b_v9 = wrap (F := F) (X main_v4_4) 1024#32 := by after_results <;> rfl
theorem s0_12 : after step0 X main_while0b_v12 = wrap (F := F) (constantI S_ 32 0#32) 2#32 := by after_results <;> rfl
theorem s0_5 : after step0 X main_while0b_v5 = addi (X main_v4_4 : W0 F) (constantI S_ 32 1#32) := by after_results <;> rfl
theorem s1_14 : after step1 X main_while0b_v14 = pick (F := F) (X main_v4_0) (X main_while0b_v9) (X main_while0b_v12) := by
  rw [after_cons, after_cons, after_nil, reshape_result, unaryIndexed_result]
  exact pick_congr _ _ _ _ (by funext k; fin_cases k <;> rfl)
theorem s2_18 : after step2 X main_while0b_v18 = wrap (F := F) (X main_v4_4) 1024#32 := by after_results <;> rfl
theorem s2_21 : after step2 X main_while0b_v21 = wrap (F := F) (constantI S_ 32 1#32) 2#32 := by after_results <;> rfl
theorem s3_23 : after step3 X main_while0b_v23 = pick (F := F) (X main_v4_0) (X main_while0b_v18) (X main_while0b_v21) := by
  rw [after_cons, after_cons, after_nil, reshape_result, unaryIndexed_result]
  exact pick_congr _ _ _ _ (by funext k; fin_cases k <;> rfl)
theorem s4_34 : after step4 X main_while0b_v34 = hits (F := F) (X main_v4_1) (X main_v4_2) (X main_while0b_v14) (X main_while0b_v23) := by after_results <;> rfl
theorem s4_cst : after step4 X main_while0b_cst = constant S_ .f32 0x3F800000#32 := by after_results <;> rfl
theorem s5_35 : after step5 X main_while0b_v35 = select (X main_while0b_v34 : BitM F) (broadcastInDim S4096x4096 ![] bcast_S_S4096x4096 (X main_while0b_cst : (⟨S_, .f32⟩ : BufTy).Contents (Elt F))) (X main_v4_5 : FltM F) := by after_results <;> rfl
theorem s6_cst : after step6 X main_while0b_cst_22 = constant S_ .f32 0x00000000#32 := by after_results <;> rfl
theorem s7_36 : after step7 X main_while0b_v36 = select (X main_while0b_v34 : BitM F) (broadcastInDim S4096x4096 ![] bcast_S_S4096x4096 (X main_while0b_cst_22 : (⟨S_, .f32⟩ : BufTy).Contents (Elt F))) (X main_v4_6 : FltM F) := by after_results <;> rfl
theorem s8_41 : after step8 X main_while0b_v41 = touches (F := F) (X main_v4_1) (X main_while0b_v14) (X main_while0b_v23) := by after_results <;> rfl
theorem s8_45 : after step8 X main_while0b_v45 = addf (X main_while0b_v36 : FltM F) (uitofp .f32 (cmpf .oeq (X main_while0b_v35 : FltM F) (all (F := F) 0x3F800000#32) : BitM F)) := by after_results <;> rfl
theorem s9_46 : after step9 X main_while0b_v46 = select (X main_while0b_v41 : BitM F) (X main_while0b_v45 : FltM F) (X main_while0b_v36 : FltM F) := by after_results <;> rfl
theorem s10_49 : after step10 X main_while0b_v49 = andi (X main_while0b_v41 : BitM F) (cmpf .ogt (X main_while0b_v46 : FltM F) (all (F := F) 0x42480000#32)) := by after_results <;> rfl
theorem s10_cst : after step10 X main_while0b_cst_25 = constant S_ .f32 0x00000000#32 := by after_results <;> rfl
theorem s11_50 : after step11 X main_while0b_v50 = select (X main_while0b_v49 : BitM F) (broadcastInDim S4096x4096 ![] bcast_S_S4096x4096 (X main_while0b_cst_25 : (⟨S_, .f32⟩ : BufTy).Contents (Elt F))) (X main_while0b_v35 : FltM F) := by after_results <;> rfl
theorem s12_3 : after step12 X main_v4_3 = addi (X main_v4_3 : W0 F) (constantI S_ 32 1#32) := by after_results <;> rfl
theorem s12_4 : after step12 X main_v4_4 = (X main_while0b_v5 : W0 F) := by after_results <;> rfl
theorem s12_5 : after step12 X main_v4_5 = (X main_while0b_v50 : FltM F) := by after_results <;> rfl
theorem s12_6 : after step12 X main_v4_6 = (X main_while0b_v46 : FltM F) := by after_results <;> rfl

/-- One trip after the condition's operations. -/
def trip (X : Valuation τ sig (Elt F)) : Valuation τ sig (Elt F) := afterL bodyI (after test0 X)

/-- The two positions of the trip's pair. -/
def fst (P : PosM F) (t : W0 F) : W0 F := pick (F := F) P (wrap (F := F) t 1024#32) (wrap (F := F) (constantI S_ 32 0#32) 2#32)
def snd (P : PosM F) (t : W0 F) : W0 F := pick (F := F) P (wrap (F := F) t 1024#32) (wrap (F := F) (constantI S_ 32 1#32) 2#32)

/-- One trip's two matrices before the old are cut. -/
def midC (E : BitM F) (c : FltM F) : FltM F := select E (all (F := F) 0x3F800000#32) c
def midA (E : BitM F) (a : FltM F) : FltM F := select E (all (F := F) 0x00000000#32) a

theorem trip_0 : trip X main_v4_0 = X main_v4_0 := by
  unfold trip
  simp only [afterL_cons, afterL_nil]
  rw [step12_keep _ main_v4_0 (by decide), step11_keep _ main_v4_0 (by decide), step10_keep _ main_v4_0 (by decide), step9_keep _ main_v4_0 (by decide), step8_keep _ main_v4_0 (by decide), step7_keep _ main_v4_0 (by decide), step6_keep _ main_v4_0 (by decide), step5_keep _ main_v4_0 (by decide), step4_keep _ main_v4_0 (by decide), step3_keep _ main_v4_0 (by decide), step2_keep _ main_v4_0 (by decide), step1_keep _ main_v4_0 (by decide), step0_keep _ main_v4_0 (by decide), test0_keep _ main_v4_0 (by decide)]
theorem trip_1 : trip X main_v4_1 = X main_v4_1 := by
  unfold trip
  simp only [afterL_cons, afterL_nil]
  rw [step12_keep _ main_v4_1 (by decide), step11_keep _ main_v4_1 (by decide), step10_keep _ main_v4_1 (by decide), step9_keep _ main_v4_1 (by decide), step8_keep _ main_v4_1 (by decide), step7_keep _ main_v4_1 (by decide), step6_keep _ main_v4_1 (by decide), step5_keep _ main_v4_1 (by decide), step4_keep _ main_v4_1 (by decide), step3_keep _ main_v4_1 (by decide), step2_keep _ main_v4_1 (by decide), step1_keep _ main_v4_1 (by decide), step0_keep _ main_v4_1 (by decide), test0_keep _ main_v4_1 (by decide)]
theorem trip_2 : trip X main_v4_2 = X main_v4_2 := by
  unfold trip
  simp only [afterL_cons, afterL_nil]
  rw [step12_keep _ main_v4_2 (by decide), step11_keep _ main_v4_2 (by decide), step10_keep _ main_v4_2 (by decide), step9_keep _ main_v4_2 (by decide), step8_keep _ main_v4_2 (by decide), step7_keep _ main_v4_2 (by decide), step6_keep _ main_v4_2 (by decide), step5_keep _ main_v4_2 (by decide), step4_keep _ main_v4_2 (by decide), step3_keep _ main_v4_2 (by decide), step2_keep _ main_v4_2 (by decide), step1_keep _ main_v4_2 (by decide), step0_keep _ main_v4_2 (by decide), test0_keep _ main_v4_2 (by decide)]
theorem trip_3 : trip X main_v4_3 = addi (X main_v4_3 : W0 F) (constantI S_ 32 1#32) := by
  unfold trip
  simp only [afterL_cons, afterL_nil]
  rw [s12_3, step11_keep _ main_v4_3 (by decide), step10_keep _ main_v4_3 (by decide), step9_keep _ main_v4_3 (by decide), step8_keep _ main_v4_3 (by decide), step7_keep _ main_v4_3 (by decide), step6_keep _ main_v4_3 (by decide), step5_keep _ main_v4_3 (by decide), step4_keep _ main_v4_3 (by decide), step3_keep _ main_v4_3 (by decide), step2_keep _ main_v4_3 (by decide), step1_keep _ main_v4_3 (by decide), step0_keep _ main_v4_3 (by decide), test0_keep _ main_v4_3 (by decide)]
theorem trip_4 : trip X main_v4_4 = addi (X main_v4_4 : W0 F) (constantI S_ 32 1#32) := by
  unfold trip
  simp only [afterL_cons, afterL_nil]
  rw [s12_4, step11_keep _ main_while0b_v5 (by decide), step10_keep _ main_while0b_v5 (by decide), step9_keep _ main_while0b_v5 (by decide), step8_keep _ main_while0b_v5 (by decide), step7_keep _ main_while0b_v5 (by decide), step6_keep _ main_while0b_v5 (by decide), step5_keep _ main_while0b_v5 (by decide), step4_keep _ main_while0b_v5 (by decide), step3_keep _ main_while0b_v5 (by decide), step2_keep _ main_while0b_v5 (by decide), step1_keep _ main_while0b_v5 (by decide), s0_5, test0_keep _ main_v4_4 (by decide)]
theorem trip_6 : trip X main_v4_6 = older (F := F) (touches (F := F) (X main_v4_1) (fst (F := F) (X main_v4_0) (X main_v4_4)) (snd (F := F) (X main_v4_0) (X main_v4_4))) (midC (F := F) (hits (F := F) (X main_v4_1) (X main_v4_2) (fst (F := F) (X main_v4_0) (X main_v4_4)) (snd (F := F) (X main_v4_0) (X main_v4_4))) (X main_v4_5)) (midA (F := F) (hits (F := F) (X main_v4_1) (X main_v4_2) (fst (F := F) (X main_v4_0) (X main_v4_4)) (snd (F := F) (X main_v4_0) (X main_v4_4))) (X main_v4_6)) := by
  unfold trip
  simp only [afterL_cons, afterL_nil]
  rw [s12_6, step11_keep _ main_while0b_v46 (by decide), step10_keep _ main_while0b_v46 (by decide), s9_46, s8_41, s8_45, step8_keep _ main_while0b_v36 (by decide), step7_keep _ main_v4_1 (by decide), step7_keep _ main_while0b_v14 (by decide), step7_keep _ main_while0b_v23 (by decide), s7_36, step7_keep _ main_while0b_v35 (by decide), step6_keep _ main_v4_1 (by decide), step6_keep _ main_while0b_v14 (by decide), step6_keep _ main_while0b_v23 (by decide), step6_keep _ main_while0b_v34 (by decide), s6_cst, step6_keep _ main_v4_6 (by decide), step6_keep _ main_while0b_v35 (by decide), step5_keep _ main_v4_1 (by decide), step5_keep _ main_while0b_v14 (by decide), step5_keep _ main_while0b_v23 (by decide), step5_keep _ main_while0b_v34 (by decide), step5_keep _ main_v4_6 (by decide), s5_35, step4_keep _ main_v4_1 (by decide), step4_keep _ main_while0b_v14 (by decide), step4_keep _ main_while0b_v23 (by decide), s4_34, step4_keep _ main_v4_6 (by decide), s4_cst, step4_keep _ main_v4_5 (by decide), step3_keep _ main_v4_1 (by decide), step3_keep _ main_while0b_v14 (by decide), s3_23, step3_keep _ main_v4_2 (by decide), step3_keep _ main_v4_6 (by decide), step3_keep _ main_v4_5 (by decide), step2_keep _ main_v4_1 (by decide), step2_keep _ main_while0b_v14 (by decide), step2_keep _ main_v4_0 (by decide), s2_18, s2_21, step2_keep _ main_v4_2 (by decide), step2_keep _ main_v4_6 (by decide), step2_keep _ main_v4_5 (by decide), step1_keep _ main_v4_1 (by decide), s1_14, step1_keep _ main_v4_0 (by decide), step1_keep _ main_v4_4 (by decide), step1_keep _ main_v4_2 (by decide), step1_keep _ main_v4_6 (by decide), step1_keep _ main_v4_5 (by decide), step0_keep _ main_v4_1 (by decide), step0_keep _ main_v4_0 (by decide), s0_9, s0_12, step0_keep _ main_v4_4 (by decide), step0_keep _ main_v4_2 (by decide), step0_keep _ main_v4_6 (by decide), step0_keep _ main_v4_5 (by decide), test0_keep _ main_v4_1 (by decide), test0_keep _ main_v4_0 (by decide), test0_keep _ main_v4_4 (by decide), test0_keep _ main_v4_2 (by decide), test0_keep _ main_v4_6 (by decide), test0_keep _ main_v4_5 (by decide)]
  rfl
theorem trip_5 : trip X main_v4_5 = cut (F := F) (touches (F := F) (X main_v4_1) (fst (F := F) (X main_v4_0) (X main_v4_4)) (snd (F := F) (X main_v4_0) (X main_v4_4))) (midC (F := F) (hits (F := F) (X main_v4_1) (X main_v4_2) (fst (F := F) (X main_v4_0) (X main_v4_4)) (snd (F := F) (X main_v4_0) (X main_v4_4))) (X main_v4_5)) (older (F := F) (touches (F := F) (X main_v4_1) (fst (F := F) (X main_v4_0) (X main_v4_4)) (snd (F := F) (X main_v4_0) (X main_v4_4))) (midC (F := F) (hits (F := F) (X main_v4_1) (X main_v4_2) (fst (F := F) (X main_v4_0) (X main_v4_4)) (snd (F := F) (X main_v4_0) (X main_v4_4))) (X main_v4_5)) (midA (F := F) (hits (F := F) (X main_v4_1) (X main_v4_2) (fst (F := F) (X main_v4_0) (X main_v4_4)) (snd (F := F) (X main_v4_0) (X main_v4_4))) (X main_v4_6))) := by
  unfold trip
  simp only [afterL_cons, afterL_nil]
  rw [s12_5, s11_50, s10_49, s10_cst, step10_keep _ main_while0b_v35 (by decide), step9_keep _ main_while0b_v41 (by decide), s9_46, step9_keep _ main_while0b_v35 (by decide), s8_41, s8_45, step8_keep _ main_while0b_v36 (by decide), step8_keep _ main_while0b_v35 (by decide), step7_keep _ main_v4_1 (by decide), step7_keep _ main_while0b_v14 (by decide), step7_keep _ main_while0b_v23 (by decide), s7_36, step7_keep _ main_while0b_v35 (by decide), step6_keep _ main_v4_1 (by decide), step6_keep _ main_while0b_v14 (by decide), step6_keep _ main_while0b_v23 (by decide), step6_keep _ main_while0b_v34 (by decide), s6_cst, step6_keep _ main_v4_6 (by decide), step6_keep _ main_while0b_v35 (by decide), step5_keep _ main_v4_1 (by decide), step5_keep _ main_while0b_v14 (by decide), step5_keep _ main_while0b_v23 (by decide), step5_keep _ main_while0b_v34 (by decide), step5_keep _ main_v4_6 (by decide), s5_35, step4_keep _ main_v4_1 (by decide), step4_keep _ main_while0b_v14 (by decide), step4_keep _ main_while0b_v23 (by decide), s4_34, step4_keep _ main_v4_6 (by decide), s4_cst, step4_keep _ main_v4_5 (by decide), step3_keep _ main_v4_1 (by decide), step3_keep _ main_while0b_v14 (by decide), s3_23, step3_keep _ main_v4_2 (by decide), step3_keep _ main_v4_6 (by decide), step3_keep _ main_v4_5 (by decide), step2_keep _ main_v4_1 (by decide), step2_keep _ main_while0b_v14 (by decide), step2_keep _ main_v4_0 (by decide), s2_18, s2_21, step2_keep _ main_v4_2 (by decide), step2_keep _ main_v4_6 (by decide), step2_keep _ main_v4_5 (by decide), step1_keep _ main_v4_1 (by decide), s1_14, step1_keep _ main_v4_0 (by decide), step1_keep _ main_v4_4 (by decide), step1_keep _ main_v4_2 (by decide), step1_keep _ main_v4_6 (by decide), step1_keep _ main_v4_5 (by decide), step0_keep _ main_v4_1 (by decide), step0_keep _ main_v4_0 (by decide), s0_9, s0_12, step0_keep _ main_v4_4 (by decide), step0_keep _ main_v4_2 (by decide), step0_keep _ main_v4_6 (by decide), step0_keep _ main_v4_5 (by decide), test0_keep _ main_v4_1 (by decide), test0_keep _ main_v4_0 (by decide), test0_keep _ main_v4_4 (by decide), test0_keep _ main_v4_2 (by decide), test0_keep _ main_v4_6 (by decide), test0_keep _ main_v4_5 (by decide)]
  rfl

end Cert.ReferenceIdeal.Loop

end
-- ==== Proof.RefRun.lean ====
/- The reference's run: 1024 trips of its loop, each changing the two matrices as one step does. -/
module

public import proofs.«01_k».proof.Proof.RefVals
public import Idealize.ShloMosaic.Lib.Scf.Counter
public import Idealize.ShloMosaic.Lib.Scf.ExitTest

@[expose] public section

noncomputable section

namespace Cert.ReferenceIdeal.Loop

open Cert.ReferenceIdeal Cert.ReferenceIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (sub_ucRefs ucRefs)

variable {F : FTy → Type} [FloatOps F]

/-- The two nearest of each row. -/
def nearest (d : (⟨S1024x4096, .f32⟩ : BufTy).Contents (Elt F)) : PosM F :=
  extractStridedSlice S1024x2 ![0, 0] (Host.sort2 S1024x4096 1 (comparator_f32_i32_d1 (F := F)) d (iotaInDim S1024x4096 32 1)).2 slices_S1024x4096_S1024x2_0_0

/-- Row and column of every entry. -/
def rowOf : IntM F := iotaInDim S4096x4096 32 0
def colOf : IntM F := iotaInDim S4096x4096 32 1

/-- The counter before trip `k`. -/
def word (k : ℕ) : W0 F := fun _ => Scf.iv 0#32 1#32 k

/-- The two matrices before trip `k`. -/
def mats (P : PosM F) (c a : FltM F) : ℕ → FltM F × FltM F
  | 0 => (c, a)
  | k + 1 =>
    let i : W0 F := fst (F := F) P (word (F := F) k)
    let j : W0 F := snd (F := F) P (word (F := F) k)
    let C := midC (F := F) (hits (F := F) (rowOf (F := F)) (colOf (F := F)) i j) (mats P c a k).1
    let A := older (F := F) (touches (F := F) (rowOf (F := F)) i j) C (midA (F := F) (hits (F := F) (rowOf (F := F)) (colOf (F := F)) i j) (mats P c a k).2)
    (cut (F := F) (touches (F := F) (rowOf (F := F)) i j) C A, A)

section Entry
variable (X : Valuation τ sig (Elt F))

theorem p0_0 : after pre0 X main_v0 = (Host.sort2 S1024x4096 1 (comparator_f32_i32_d1 (F := F)) (X main_arg0) (iotaInDim S1024x4096 32 1)).2 := by after_results <;> rfl
theorem p1_0 : after pre1 X main_v4_0 = extractStridedSlice S1024x2 ![0, 0] (X main_v0 : (⟨S1024x4096, .i32⟩ : BufTy).Contents (Elt F)) slices_S1024x4096_S1024x2_0_0 := by after_results <;> rfl
theorem p1_1 : after pre1 X main_v4_1 = rowOf (F := F) := by after_results <;> rfl
theorem p1_2 : after pre1 X main_v4_2 = colOf (F := F) := by after_results <;> rfl
theorem p1_3 : after pre1 X main_v4_3 = constantI S_ 32 0#32 := by after_results <;> rfl
theorem p1_4 : after pre1 X main_v4_4 = constantI S_ 32 0#32 := by after_results <;> rfl
theorem p1_5 : after pre1 X main_v4_5 = (X main_arg1 : FltM F) := by after_results <;> rfl
theorem p1_6 : after pre1 X main_v4_6 = (X main_arg2 : FltM F) := by after_results <;> rfl

theorem in_0 : afterL preI X main_v4_0 = nearest (F := F) (X main_arg0) := by
  rw [afterL_cons, afterL_cons, afterL_nil, p1_0, p0_0]
  rfl
theorem in_5 : afterL preI X main_v4_5 = (X main_arg1 : FltM F) := by
  rw [afterL_cons, afterL_cons, afterL_nil, p1_5, pre0_keep _ main_arg1 (by decide)]
theorem in_6 : afterL preI X main_v4_6 = (X main_arg2 : FltM F) := by
  rw [afterL_cons, afterL_cons, afterL_nil, p1_6, pre0_keep _ main_arg2 (by decide)]

theorem trip_keep (b : Ref sig .tc) (h : b = main_arg0 ∨ b = main_arg1 ∨ b = main_arg2) : trip X b = X b := by
  unfold trip
  simp only [afterL_cons, afterL_nil]
  rcases h with rfl | rfl | rfl <;>
  rw [step12_keep _ _ (by decide), step11_keep _ _ (by decide), step10_keep _ _ (by decide), step9_keep _ _ (by decide), step8_keep _ _ (by decide), step7_keep _ _ (by decide), step6_keep _ _ (by decide), step5_keep _ _ (by decide), step4_keep _ _ (by decide), step3_keep _ _ (by decide), step2_keep _ _ (by decide), step1_keep _ _ (by decide), step0_keep _ _ (by decide), test0_keep _ _ (by decide)]

theorem in_keep (b : Ref sig .tc) (h : b = main_arg0 ∨ b = main_arg1 ∨ b = main_arg2) : afterL preI X b = X b := by
  simp only [afterL_cons, afterL_nil]
  rcases h with rfl | rfl | rfl <;>
  rw [pre1_keep _ _ (by decide), pre0_keep _ _ (by decide)]

end Entry

variable (m : (ℓ : Loc nD τ sig) → Buf (Elt F) ℓ) (c : Dev nD)

/-- The buffers before trip `k`. -/
abbrev Wk (k : ℕ) : Valuation τ sig (Elt F) := atTrip test0 bodyI (entryContents preI m) k c

theorem Wk_succ (k : ℕ) : Wk m c (k + 1) = trip (Wk m c k) := rfl

theorem word_succ (k : ℕ) : (addi (word (F := F) k) (constantI S_ 32 1#32) : W0 F) = word (F := F) (k + 1) := by
  funext i
  exact (Scf.iv_succ 0#32 1#32 k).symm

theorem word_zero : (constantI S_ 32 0#32 : W0 F) = word (F := F) 0 := by
  funext i
  exact (Scf.iv_zero 0#32 1#32).symm

theorem Wk_vals (k : ℕ) :
    Wk m c k main_v4_0 = nearest (F := F) (m ((c.tc : Thread nD τ).loc main_arg0)) ∧ Wk m c k main_v4_1 = rowOf (F := F)
    ∧ Wk m c k main_v4_2 = colOf (F := F) ∧ Wk m c k main_v4_3 = word (F := F) k ∧ Wk m c k main_v4_4 = word (F := F) k
    ∧ Wk m c k main_v4_5 = (mats (F := F) (nearest (F := F) (m ((c.tc : Thread nD τ).loc main_arg0))) (m ((c.tc : Thread nD τ).loc main_arg1)) (m ((c.tc : Thread nD τ).loc main_arg2)) k).1
    ∧ Wk m c k main_v4_6 = (mats (F := F) (nearest (F := F) (m ((c.tc : Thread nD τ).loc main_arg0))) (m ((c.tc : Thread nD τ).loc main_arg1)) (m ((c.tc : Thread nD τ).loc main_arg2)) k).2 := by
  induction k with
  | zero =>
    refine ⟨in_0 _, ?_, ?_, ?_, ?_, in_5 _, in_6 _⟩
    · exact p1_1 (F := F) _
    · exact p1_2 (F := F) _
    · exact (p1_3 _).trans (word_zero (F := F))
    · exact (p1_4 _).trans (word_zero (F := F))
  | succ k ih =>
    obtain ⟨h0, h1, h2, h3, h4, h5, h6⟩ := ih
    rw [Wk_succ]
    refine ⟨(trip_0 _).trans h0, (trip_1 _).trans h1, (trip_2 _).trans h2, ?_, ?_, ?_, ?_⟩
    · rw [trip_3, h3]; exact word_succ (F := F) k
    · rw [trip_4, h4]; exact word_succ (F := F) k
    · rw [trip_5, h0, h1, h2, h4, h5, h6]; rfl
    · rw [trip_6, h0, h1, h2, h4, h5, h6]; rfl

theorem Wk_keep (k : ℕ) (b : Ref sig .tc) (h : b = main_arg0 ∨ b = main_arg1 ∨ b = main_arg2) : Wk m c k b = m ((c.tc : Thread nD τ).loc b) := by
  induction k with
  | zero => exact in_keep _ b h
  | succ k ih => rw [Wk_succ, trip_keep _ b h, ih]

theorem pred_iff (k : ℕ) (hk : k ≤ 1024) : IntOp.cmpi .slt (Scf.iv 0#32 1#32 k) 1024#32 = 1#1 ↔ k < 1024 :=
  Scf.cmpi_slt_iv_ub_iff (lb := 0#32) (ub := 1024#32) (st := 1#32) main_while0_ok (show k ≤ Scf.trips 0#32 1024#32 1#32 from hk)

set_option backward.isDefEq.respectTransparency.types false in
theorem cond_spec [∀ e, Nonempty (Elt F e)] : CondSpec (pcfgs (F := F)) defs₀ loops main_while0_cond test0 bodyI (entryContents preI m) 1024 := by
  intro k hk c bd
  have hctr := (Wk_vals m c k).2.2.2.1
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m c k) main_v4_3 HostLoop.idx0)
        (HloOp.result _ (Wk m c k) main_while0c_c_7 HostLoop.idx0) = 1#1) (k < 1024)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

theorem run_main [∀ e, Nonempty (Elt F e)] (ρ : Dev nD → PrngReg) :
    θ_run (defs (F := F)) (onTc (τ := τ) (main (F := F))) ⟨m, fun _ => 0, ρ⟩ fun r => ∀ c : Dev nD,
      r.2.mem ((c.tc : Thread nD τ).loc main_v4_5) = (mats (F := F) (nearest (F := F) (m ((c.tc : Thread nD τ).loc main_arg0))) (m ((c.tc : Thread nD τ).loc main_arg1)) (m ((c.tc : Thread nD τ).loc main_arg2)) 1024).1
      ∧ r.2.mem ((c.tc : Thread nD τ).loc main_v4_6) = (mats (F := F) (nearest (F := F) (m ((c.tc : Thread nD τ).loc main_arg0))) (m ((c.tc : Thread nD τ).loc main_arg1)) (m ((c.tc : Thread nD τ).loc main_arg2)) 1024).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have H := run_loop (F := F) pcfgs defs₀ loops main 0 main_while0_cond main_while0_body rfl preI bodyI [] test0
    pre_plain body_plain Plain.nil main_chain body_chain 1024 m ρ (cond_spec m)
  refine (θ_run _ _ _).mono (fun r h c => ?_) H
  have fin : ∀ b : Ref sig .tc, (Proc.devRef .tc b : DevRef τ sig).isScoped = false → b ∉ [main_while0c_c_7, main_while0c_v5] →
      r.2.mem ((c.tc : Thread nD τ).loc b) = Wk m c 1024 b := fun b hb hn => by
    rw [h c b hb]
    exact test0_keep _ b hn
  refine ⟨?_, ?_, ?_, ?_, ?_⟩
  · exact (fin main_v4_5 rfl (by decide)).trans (Wk_vals m c 1024).2.2.2.2.2.1
  · exact (fin main_v4_6 rfl (by decide)).trans (Wk_vals m c 1024).2.2.2.2.2.2
  · exact (fin main_arg0 rfl (by decide)).trans (Wk_keep m c 1024 _ (.inl rfl))
  · exact (fin main_arg1 rfl (by decide)).trans (Wk_keep m c 1024 _ (.inr (.inl rfl)))
  · exact (fin main_arg2 rfl (by decide)).trans (Wk_keep m c 1024 _ (.inr (.inr rfl)))

end Cert.ReferenceIdeal.Loop

end
-- ==== Proof.Nearest.lean ====
/-
  The two first positions of a row sorted with ties kept in order: the least position of its least value, and the least
  position of the least value of the rest.
-/
module

public import proofs.«01_k».proof.Proof.RefRun
public import Idealize.ShloMosaic.Lib.SortPrefix
public import Idealize.ShloMosaic.Lib.SortFacts
public import Idealize.ShloMosaic.Lib.IdealHost
public import Idealize.ShloMosaic.Lib.ValueIdx

@[expose] public section

noncomputable section

namespace Cert.Proof.Nearest

open Cert.ReferenceIdeal Cert.ReferenceIdeal.Gen
open Idealize.ShloMosaic Idealize.ShloMosaic.ValueIdx

/-- `p` is the least position of the least value, `q` that of the rest. -/
structure Two {n : ℕ} (f : Fin n → EReal) (p q : Fin n) : Prop where
  fst : ∀ k, f p ≤ f k
  fst_least : ∀ k, f k = f p → p ≤ k
  ne : q ≠ p
  snd : ∀ k, k ≠ p → f q ≤ f k
  snd_least : ∀ k, k ≠ p → f k = f q → q ≤ k

theorem Two.unique {n : ℕ} {f : Fin n → EReal} {p q p' q' : Fin n} (h : Two f p q) (h' : Two f p' q') : p = p' ∧ q = q' := by
  have e : f p = f p' := le_antisymm (h.fst _) (h'.fst _)
  have hp : p = p' := le_antisymm (h.fst_least _ e.symm) (h'.fst_least _ e)
  subst hp
  have e' : f q = f q' := le_antisymm (h.snd _ h'.ne) (h'.snd _ h.ne)
  exact ⟨rfl, le_antisymm (h.snd_least _ h'.ne e'.symm) (h'.snd_least _ h.ne e')⟩

/-- The least position of the least value over a nonempty set of positions. -/
theorem exists_least {n : ℕ} (f : Fin n → EReal) (S : Finset (Fin n)) (hS : S.Nonempty) :
    ∃ p ∈ S, (∀ k ∈ S, f p ≤ f k) ∧ ∀ k ∈ S, f k = f p → p ≤ k := by
  obtain ⟨m, hm, hle⟩ := S.exists_min_image f hS
  obtain ⟨p, hp, hpl⟩ := (S.filter fun k => f k = f m).exists_min_image id ⟨m, Finset.mem_filter.2 ⟨hm, rfl⟩⟩
  obtain ⟨hpS, hpe⟩ := Finset.mem_filter.1 hp
  exact ⟨p, hpS, fun k hk => hpe ▸ hle k hk, fun k hk he => hpl k (Finset.mem_filter.2 ⟨hk, he.trans hpe⟩)⟩

theorem exists_two {n : ℕ} (hn : 2 ≤ n) (f : Fin n → EReal) : ∃ p q, Two f p q := by
  obtain ⟨p, -, hp, hpl⟩ := exists_least f Finset.univ ⟨⟨0, by omega⟩, Finset.mem_univ _⟩
  have hne : (Finset.univ.erase p).Nonempty := by
    rw [← Finset.card_pos, Finset.card_erase_of_mem (Finset.mem_univ _), Finset.card_univ, Fintype.card_fin]; omega
  obtain ⟨q, hq, hql, hqe⟩ := exists_least f _ hne
  exact ⟨p, q, fun k => hp k (Finset.mem_univ _), fun k => hpl k (Finset.mem_univ _), Finset.ne_of_mem_erase hq,
    fun k hk => hql k (Finset.mem_erase.2 ⟨hk, Finset.mem_univ _⟩), fun k hk => hqe k (Finset.mem_erase.2 ⟨hk, Finset.mem_univ _⟩)⟩

/-- On an increasing list a sort that keeps ties in order is one that breaks them by position. -/
theorem stableSort_ties {n : ℕ} (f : Fin n → EReal) (l : List (Fin n)) (hl : l.Pairwise (· < ·)) :
    stableSort (fun k k' => decide (f k < f k')) l
      = stableSort (fun k k' => decide (f k < f k') || (decide (f k = f k') && decide (k < k'))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.2 (hl.1 b hb').le
    simp [this]

/-- The two first positions of the sort. -/
theorem sortedFrom_two {n : ℕ} (f : Fin n → EReal) (p q : Fin n) (h : Two f p q) (hn : 2 ≤ n) :
    sortedFrom (fun k k' => decide (f k < f k')) ⟨0, by omega⟩ = p ∧ sortedFrom (fun k k' => decide (f k < f k')) ⟨1, by omega⟩ = q := by
  set R : Fin n → Fin n → Bool := fun k k' => decide (f k < f k') || (decide (f k = f k') && decide (k < k')) with hR
  have hT : StrictTotalBefore R := StrictTotalBefore.of_key_then_position (fun a b => decide (a < b)) f (fun a => by simp)
    (fun a b c hab hbc => by simp only [decide_eq_true_eq] at *; exact lt_trans hab hbc)
    (fun a b => by simp only [decide_eq_true_eq]; exact lt_trichotomy a b)
  have hs : ∀ k, sortedFrom (fun k k' => decide (f k < f k')) k = sortedFrom R k := by
    intro k
    unfold sortedFrom
    have e : sortPositions n (fun k k' => decide (f k < f k')) = sortPositions n R := stableSort_ties f _ (List.pairwise_lt_finRange n)
    simp only [List.get_eq_getElem, e, Fin.val_cast]
  have hpR : ∀ k, R k p = false := fun k => by
    rw [hR]
    simp only [Bool.or_eq_false_iff, Bool.and_eq_false_iff, decide_eq_false_iff_not]
    refine ⟨not_lt.2 (h.fst k), ?_⟩
    by_cases e : f k = f p
    · exact .inr (not_lt.2 (h.fst_least k e))
    · exact .inl e
  have hqR : ∀ k, k ≠ p → R k q = false := fun k hk => by
    rw [hR]
    simp only [Bool.or_eq_false_iff, Bool.and_eq_false_iff, decide_eq_false_iff_not]
    refine ⟨not_lt.2 (h.snd k hk), ?_⟩
    by_cases e : f k = f q
    · exact .inr (not_lt.2 (h.snd_least k hk e))
    · exact .inl e
  have key := hT.sortedFrom_eq_of_prefix (k := 2) hn ![p, q]
    (by
      intro i j hij
      fin_cases i <;> fin_cases j
      · rfl
      · exact absurd hij.symm h.ne
      · exact absurd hij h.ne
      · rfl)
    (by
      intro i j hij
      fin_cases i <;> fin_cases j
      · exact absurd hij (lt_irrefl _)
      · exact hpR q
      · exact absurd hij (by decide)
      · exact absurd hij (lt_irrefl _))
    (by
      intro i k hk
      fin_cases i
      · exact hpR k
      · exact hqR k (fun e => hk 0 e.symm))
  exact ⟨(hs _).trans (key 0), (hs _).trans (key 1)⟩

/-- The comparison of two values as the reference's sort makes it. -/
theorem before_eq (l r : Ideal .f32 × BitVec 32) : comparator_f32_i32_d1 (F := Ideal) l r = BitVec.ofBool (decide ((l.1 : EReal) < r.1)) := by
  have hz : ∀ x : EReal, Scalar.select (α := EReal) (FloatOps.cmpf (F := Ideal) (φ := .f32) .une x x) (FloatOps.ofBits (F := Ideal) .f32 0x7FC00000#32)
      (Scalar.select (α := EReal) (FloatOps.cmpf (F := Ideal) (φ := .f32) .oeq x (FloatOps.ofBits (F := Ideal) .f32 0x00000000#32)) (FloatOps.ofBits (F := Ideal) .f32 0x00000000#32) x) = x := by
    intro x
    have h1 : FloatOps.cmpf (F := Ideal) (φ := .f32) .une x x = 0#1 := by
      rw [Ideal.cmpf_def]; simp [Ideal.cmp]
    rw [h1]
    show Scalar.select (α := EReal) _ _ x = x
    unfold Scalar.select
    split
    · rename_i h
      rw [Ideal.cmpf_def] at h
      change BitVec.ofBool (decide (x = FloatOps.ofBits (F := Ideal) .f32 0x00000000#32)) = 1#1 at h
      by_cases e : x = FloatOps.ofBits (F := Ideal) .f32 0x00000000#32
      · exact e.symm
      · rw [decide_eq_false e] at h
        exact absurd h (by decide)
    · rfl
  unfold comparator_f32_i32_d1
  show FloatOps.cmpfTotal (F := Ideal) (φ := .f32) .lt _ _ = _
  rw [hz, hz, Ideal.cmpfTotal_def]
  rfl

/-- The values of row `t`. -/
abbrev row (d : S1024x4096.Idx → EReal) (t : Fin 1024) : Fin 4096 → EReal := fun k => d (ix2 t k)

/-- The reference's pair of row `t`. -/
theorem nearest_eq (d : S1024x4096.Idx → EReal) (t : Fin 1024) (p q : Fin 4096) (h : Two (row d t) p q) :
    Cert.ReferenceIdeal.Loop.nearest (F := Ideal) d (ix2 t 0) = BitVec.ofNat 32 p.val
    ∧ Cert.ReferenceIdeal.Loop.nearest (F := Ideal) d (ix2 t 1) = BitVec.ofNat 32 q.val := by
  have hal : ∀ (k : Fin 4096) (j : S1024x4096.Idx), j 0 = t → Shape.Idx.along j (1 : Fin 2) k = (ix2 t k : S1024x4096.Idx) := by
    intro k j hj
    funext a
    match a with
    | ⟨0, _⟩ => exact hj
    | ⟨1, _⟩ => rfl
  have gen : ∀ (j : S1024x4096.Idx), j 0 = t →
      (Host.sort2 S1024x4096 1 (comparator_f32_i32_d1 (F := Ideal)) d (iotaInDim S1024x4096 32 1)).2 j
        = BitVec.ofNat 32 (sortedFrom (fun k k' : Fin 4096 => decide (row d t k < row d t k')) (j 1)).val := by
    intro j hj
    unfold Host.sort2
    rw [dif_pos (show 1 < S1024x4096.rank by decide)]
    refine (congrArg (iotaInDim S1024x4096 32 1) (hal _ j hj)).trans ?_
    have e : (fun k k' : Fin 4096 => comparator_f32_i32_d1 (F := Ideal) (d (Shape.Idx.along j (1 : Fin 2) k), iotaInDim S1024x4096 32 1 (Shape.Idx.along j (1 : Fin 2) k))
        (d (Shape.Idx.along j (1 : Fin 2) k'), iotaInDim S1024x4096 32 1 (Shape.Idx.along j (1 : Fin 2) k')) == 1#1)
        = fun k k' : Fin 4096 => decide (row d t k < row d t k') := by
      funext k k'
      rw [before_eq, hal k j hj, hal k' j hj]
      by_cases hlt : row d t k < row d t k'
      · simp [hlt]
      · simp [hlt]
    exact congrArg (fun B => BitVec.ofNat 32 (sortedFrom B (j 1)).val) e
  obtain ⟨h0, h1⟩ := sortedFrom_two (row d t) p q h (by decide)
  constructor
  · unfold Cert.ReferenceIdeal.Loop.nearest
    refine (gen _ ?_).trans ?_
    · exact Fin.ext (by show 0 + t.val = t.val; omega)
    · exact congrArg (fun x : Fin 4096 => BitVec.ofNat 32 x.val) h0
  · unfold Cert.ReferenceIdeal.Loop.nearest
    refine (gen _ ?_).trans ?_
    · exact Fin.ext (by show 0 + t.val = t.val; omega)
    · exact congrArg (fun x : Fin 4096 => BitVec.ofNat 32 x.val) h1

end Cert.Proof.Nearest

end
-- ==== Proof.TopTwo.lean ====
/- A block of the first call's two columns of positions: the least values' of each row. -/
module

public import proofs.«01_k».proof.Proof.Folds
public import proofs.«01_k».proof.Proof.Nearest
public import proofs.«01_k».proof.Proof.Gen.KernelIdeal.Skeleton

@[expose] public section

noncomputable section

namespace Cert.Proof.TopTwo

open Cert.KernelIdeal Cert.KernelIdeal.Gen
open Idealize.ShloMosaic Idealize.ShloMosaic.ValueIdx
open Cert.Proof.Words Cert.Proof.Folds Cert.Proof.Nearest

abbrev cols : IVec S128x4096 32 := iota .tc S128x4096 32 [1] iota_S128x4096_d1_w32

/-- The least position of each row's least value, as the call computes it. -/
def least (v : S128x4096.Idx → EReal) : IVec S128x1 32 :=
  shapeCast S128x1 (multiReductionI .minsi [1] S128
    (select (cmpf (F := Ideal) (φ := .f32) .oeq v (broadcastTo S128x4096 (shapeCast S128x1 (multiReduction (F := Ideal) (φ := .f32) .minimumf [1] S128 v 0x7F800000#32 reduces_S128x4096_S128 (.inl rfl) rfl) shapeCasts_S128_S128x1) broadcasts_S128x1_S128x4096))
      cols (broadcast S128x4096 1073741824#32)) 2147483647#32 reduces_S128x4096_S128 rfl) shapeCasts_S128_S128x1

theorem cols_ap (i : Fin 128) (k : Fin 4096) : cols (ix2 i k) = wd k.val := by
  show BitVec.ofNat 32 (0 * 4096 + k.val) = _
  rw [Nat.zero_mul, Nat.zero_add]

theorem least_ap (v : S128x4096.Idx → EReal) (i : Fin 128) (p : Fin 4096) (hp : ∀ k : Fin 4096, v (ix2 i p) ≤ v (ix2 i k))
    (hl : ∀ k : Fin 4096, v (ix2 i k) = v (ix2 i p) → p ≤ k) (z : Fin 1) : least v (ix2 i z) = wd p.val := by
  unfold least
  refine (col_ap _ _ i z).trans ?_
  have hv : ∀ k : Fin 4096, (select (cmpf (F := Ideal) (φ := .f32) .oeq v (broadcastTo S128x4096 (shapeCast S128x1 (multiReduction (F := Ideal) (φ := .f32) .minimumf [1] S128 v 0x7F800000#32 reduces_S128x4096_S128 (.inl rfl) rfl) shapeCasts_S128_S128x1) broadcasts_S128x1_S128x4096))
      cols (broadcast S128x4096 1073741824#32) : IVec S128x4096 32) (ix2 i k) = if v (ix2 i k) = v (ix2 i p) then wd k.val else wd 1073741824 := by
    intro k
    have hm : broadcastTo S128x4096 (shapeCast S128x1 (multiReduction (F := Ideal) (φ := .f32) .minimumf [1] S128 v 0x7F800000#32 reduces_S128x4096_S128 (.inl rfl) rfl) shapeCasts_S128_S128x1) broadcasts_S128x1_S128x4096 (ix2 i k) = v (ix2 i p) :=
      (spread_col _ _ (by decide) i k).trans ((col_ap _ _ i 0).trans (min_row _ v _ _ i p hp))
    show Scalar.select (FloatOps.cmpf (F := Ideal) (φ := .f32) .oeq (v (ix2 i k)) (broadcastTo S128x4096 _ _ (ix2 i k))) (cols (ix2 i k)) (1073741824#32) = _
    rw [hm, cols_ap]
    exact select_bit (v (ix2 i k) = v (ix2 i p)) _ _
  have hp' : (if v (ix2 i p) = v (ix2 i p) then wd p.val else wd 1073741824) = wd p.val := if_pos rfl
  have hpb := p.isLt
  refine (minsi_row _ _ _ _ i p (fun k => ?_) ?_).trans ((hv p).trans hp')
  · rw [hv p, hv k, hp', toInt_wd _ (by omega)]
    split
    · rename_i h
      have := hl k h
      have hk := k.isLt
      rw [toInt_wd _ (by omega)]
      exact_mod_cast this
    · rw [toInt_wd _ (by omega)]; omega
  · rw [hv p, hp', toInt_wd _ (by omega)]
    have : (2147483647#32 : BitVec 32).toInt = 2147483647 := by decide
    omega

/-- The values with the least one's place taken out. -/
def rest (v : S128x4096.Idx → EReal) : S128x4096.Idx → EReal :=
  select (cmpi .eq cols (broadcastTo S128x4096 (k0_pay1 (F := Ideal) v) broadcasts_S128x1_S128x4096)) (broadcast S128x4096 (Ideal.ofBits .f32 0x7F800000#32)) v

theorem pay1_eq (v : S128x4096.Idx → EReal) : k0_pay1 (F := Ideal) v = least v := rfl
theorem pay2_eq (v : S128x4096.Idx → EReal) : k0_pay2 (F := Ideal) v = least (rest v) := rfl

/-- The two columns at a row. -/
theorem pays_ap (v : S128x4096.Idx → EReal) (hv : ∀ x, v x < ⊤) (i : Fin 128) (p q : Fin 4096) (h : Two (fun k : Fin 4096 => v (ix2 i k)) p q) (z : Fin 1) :
    k0_pay1 (F := Ideal) v (ix2 i z) = wd p.val ∧ k0_pay2 (F := Ideal) v (ix2 i z) = wd q.val := by
  have h1 : ∀ z : Fin 1, k0_pay1 (F := Ideal) v (ix2 i z) = wd p.val := fun z => (congrFun (pay1_eq v) _).trans (least_ap v i p h.fst h.fst_least z)
  refine ⟨h1 z, (congrFun (pay2_eq v) _).trans ?_⟩
  have hr : ∀ k : Fin 4096, rest v (ix2 i k) = if k = p then ⊤ else v (ix2 i k) := by
    intro k
    have hb : broadcastTo S128x4096 (k0_pay1 (F := Ideal) v) broadcasts_S128x1_S128x4096 (ix2 i k) = wd p.val :=
      (spread_col _ _ (by decide) i k).trans (h1 0)
    show Scalar.select (IntOp.cmpi .eq (cols (ix2 i k)) (broadcastTo S128x4096 (k0_pay1 (F := Ideal) v) broadcasts_S128x1_S128x4096 (ix2 i k))) (Ideal.ofBits .f32 0x7F800000#32) (v (ix2 i k)) = _
    rw [hb, cols_ap, eq_bit (by decide), select_bit, top_word]
  have hq : rest v (ix2 i q) = v (ix2 i q) := (hr q).trans (if_neg h.ne)
  refine least_ap _ i q (fun k => ?_) (fun k hk => ?_) z
  · rw [hq, hr k]
    split
    · exact le_top
    · rename_i hk; exact h.snd k hk
  · rw [hq, hr k] at hk
    split at hk
    · exact absurd hk.symm (hv _).ne
    · rename_i hne; exact h.snd_least k hne hk

end Cert.Proof.TopTwo

end
-- ==== Proof.Arrays.lean ====
/- What the two TensorCore calls leave in their results: the nearest pairs and the lists. -/
module

public import proofs.«01_k».proof.Proof.Segs
public import proofs.«01_k».proof.Proof.TopTwo
public import Idealize.ShloMosaic.Lib.Pipeline.ValueKit

@[expose] public section

noncomputable section

namespace Cert.Proof.Arrays

open Cert.KernelIdeal Cert.KernelIdeal.Gen
open Idealize.ShloMosaic hiding ix2 ix3 eq_ix2
open Idealize.ShloMosaic.ValueIdx
open Idealize.ShloMosaic.TcCoe
open Cert.Proof.Words Cert.Proof.Folds Cert.Proof.Nearest Cert.Proof.TopTwo
open Cert.Proof.Tile (dat0 dat1 blk0 mI mC mG)

variable (V : (c : Dev nD) → (b : Ref sig .tc) → Buf (Elt Ideal) ((c : Thread nD τ).loc b)) (c : Dev nD)

theorem arr1_4 : (dat1 V c).arrAt 4 cfg1.N = mI V c := by
  refine (dat1 V c).arrAt_eq_of_after_last 4 t1_0 (by decide +kernel) _ fun j => ?_
  rfl

theorem arr1_5 : (dat1 V c).arrAt 5 cfg1.N = mC V c := by
  refine (dat1 V c).arrAt_eq_of_after_last 5 t1_0 (by decide +kernel) _ fun j => ?_
  rfl

theorem arr1_6 : (dat1 V c).arrAt 6 cfg1.N = mG V c := by
  refine (dat1 V c).arrAt_eq_of_after_last 6 t1_0 (by decide +kernel) _ fun j => ?_
  rfl

variable (d : S1024x4096.Idx → EReal) (hd : ∀ x, d x < ⊤) (hV : V c main_arg0 = d) (a b : ℕ → Fin 4096) (hab : ∀ t : Fin 1024, Two (row d t) (a t.val) (b t.val))

theorem at0 : ∀ t : Fin cfg0.N, win0_0.index t 0 = t.val ∧ win0_0.index t 1 = 0 := by decide +kernel
theorem at1 : ∀ t : Fin cfg0.N, win0_1.index t 0 = t.val := by decide +kernel
theorem at2 : ∀ t : Fin cfg0.N, win0_2.index t 0 = t.val := by decide +kernel
theorem at3 : ∀ t : Fin cfg0.N, win0_3.index t 1 = t.val := by decide +kernel
theorem at4 : ∀ t : Fin cfg0.N, win0_4.index t 1 = t.val := by decide +kernel

theorem row_lt (t : Fin cfg0.N) (i : Fin 128) : t.val * 128 + i.val < 1024 := by
  have h : t.val < 8 := lt_of_lt_of_eq t.isLt N_0
  have := i.isLt
  omega

include hV in
/-- A block of the argument is its rows. -/
theorem blk_row (t : Fin cfg0.N) (i : Fin 128) (k : Fin 4096) : blk0 V c t (ix2 i k) = d (ix2 (⟨t.val * 128 + i.val, row_lt t i⟩ : Fin 1024) k) := by
  subst hV
  unfold blk0
  blk_simp
  refine congrArg (V c main_arg0) (funext fun z => Fin.ext ?_)
  fin_cases z
  · show ((win0_0.blk t).view.emb (ix2 i k) 0).val = t.val * 128 + i.val
    blk_simp
    rw [(at0 t).1]; rfl
  · show ((win0_0.blk t).view.emb (ix2 i k) 1).val = k.val
    blk_simp
    rw [(at0 t).2]; exact Nat.zero_add _

include hd hV hab

/-- The two columns the first call writes at a row of a point's block. -/
theorem pays (t : Fin cfg0.N) (i : Fin 128) (z : Fin 1) :
    k0_pay1 (F := Ideal) (blk0 V c t) (ix2 i z) = wd (a (t.val * 128 + i.val)).val ∧ k0_pay2 (F := Ideal) (blk0 V c t) (ix2 i z) = wd (b (t.val * 128 + i.val)).val := by
  have h1 : ∀ x : S128x4096.Idx, (blk0 V c t x : EReal) < ⊤ := fun x =>
    lt_of_eq_of_lt ((congrArg (blk0 V c t) (eq_ix2 x)).trans (blk_row V c d hV t (x 0) (x 1))) (hd _)
  have e : (fun k : Fin 4096 => (blk0 V c t (ix2 i k) : EReal)) = row d ⟨t.val * 128 + i.val, row_lt t i⟩ := funext fun k => blk_row V c d hV t i k
  have h2 : Two (fun k : Fin 4096 => (blk0 V c t (ix2 i k) : EReal)) (a (t.val * 128 + i.val)) (b (t.val * 128 + i.val)) := e ▸ hab ⟨t.val * 128 + i.val, row_lt t i⟩
  generalize blk0 V c t = X at h1 h2
  exact pays_ap X h1 i _ _ h2 z

theorem col1 (t : Fin cfg0.N) (y : S128x1.Idx) : k0_pay1 (F := Ideal) (blk0 V c t) y = wd (a (t.val * 128 + (y 0).val)).val :=
  (congrArg (k0_pay1 (F := Ideal) (blk0 V c t)) (eq_ix2 y)).trans (pays V c d hd hV a b hab t (y 0) (y 1)).1

theorem col2 (t : Fin cfg0.N) (y : S128x1.Idx) : k0_pay2 (F := Ideal) (blk0 V c t) y = wd (b (t.val * 128 + (y 0).val)).val :=
  (congrArg (k0_pay2 (F := Ideal) (blk0 V c t)) (eq_ix2 y)).trans (pays V c d hd hV a b hab t (y 0) (y 1)).2

theorem col3 (t : Fin cfg0.N) (y : S1x128.Idx) : k0_pay3 (F := Ideal) (blk0 V c t) y = wd (a (t.val * 128 + (y 1).val)).val := by
  have hX : k0_pay3 (F := Ideal) (blk0 V c t) = shapeCast S1x128 (k0_pay1 (F := Ideal) (blk0 V c t)) shapeCasts_S128x1_S1x128 := rfl
  have h := col1 V c d hd hV a b hab t (ix2 (y 1) 0)
  rw [hX]
  generalize k0_pay1 (F := Ideal) (blk0 V c t) = Z at h
  exact (congrArg (shapeCast S1x128 Z shapeCasts_S128x1_S1x128) (eq_ix2 y)).trans ((turn_ap Z shapeCasts_S128x1_S1x128 (y 0) (y 1)).trans h)

theorem col4 (t : Fin cfg0.N) (y : S1x128.Idx) : k0_pay4 (F := Ideal) (blk0 V c t) y = wd (b (t.val * 128 + (y 1).val)).val := by
  have hX : k0_pay4 (F := Ideal) (blk0 V c t) = shapeCast S1x128 (k0_pay2 (F := Ideal) (blk0 V c t)) shapeCasts_S128x1_S1x128 := rfl
  have h := col2 V c d hd hV a b hab t (ix2 (y 1) 0)
  rw [hX]
  generalize k0_pay2 (F := Ideal) (blk0 V c t) = Z at h
  exact (congrArg (shapeCast S1x128 Z shapeCasts_S128x1_S1x128) (eq_ix2 y)).trans ((turn_ap Z shapeCasts_S128x1_S1x128 (y 0) (y 1)).trans h)

theorem arr0_1 : (dat0 V c).arrAt 1 cfg0.N = fun x : S1024x1.Idx => wd (a (x 0).val).val := by
  have hc := col1 V c d hd hV a b hab
  refine (dat0 V c).arrAt_eq_of_covers 1 _ (by decide +kernel) fun t hf y => ?_
  blk_simp
  rw [Tile.after0_1, at1 t]
  exact hc t y

theorem arr0_2 : (dat0 V c).arrAt 2 cfg0.N = fun x : S1024x1.Idx => wd (b (x 0).val).val := by
  have hc := col2 V c d hd hV a b hab
  refine (dat0 V c).arrAt_eq_of_covers 2 _ (by decide +kernel) fun t hf y => ?_
  blk_simp
  rw [Tile.after0_2, at2 t]
  exact hc t y

theorem arr0_3 : (dat0 V c).arrAt 3 cfg0.N = fun x : S1x1024.Idx => wd (a (x 1).val).val := by
  have hc := col3 V c d hd hV a b hab
  refine (dat0 V c).arrAt_eq_of_covers 3 _ (by decide +kernel) fun t hf y => ?_
  blk_simp
  rw [Tile.after0_3, at3 t]
  exact hc t y

theorem arr0_4 : (dat0 V c).arrAt 4 cfg0.N = fun x : S1x1024.Idx => wd (b (x 1).val).val := by
  have hc := col4 V c d hd hV a b hab
  refine (dat0 V c).arrAt_eq_of_covers 4 _ (by decide +kernel) fun t hf y => ?_
  blk_simp
  rw [Tile.after0_4, at4 t]
  exact hc t y

end Cert.Proof.Arrays

end
-- ==== Proof.Count.lean ====
/-
  Counting along a list of rounds: a counter that starts at one when a round hits and grows by one at every later round
  that touches.
-/
module

public import Idealize.ShloMosaic.Lib.IdealHost
public import Idealize.ShloMosaic.Lib.ValueIdx

@[expose] public section

noncomputable section

namespace Cert.Proof.Count

variable (H T : ℕ → Prop) [DecidablePred H] [DecidablePred T]

/-- The counter before round `k`; zero until the first hit. -/
def age : ℕ → ℕ
  | 0 => 0
  | k + 1 => if H k then 1 else if age k = 0 then 0 else if T k then age k + 1 else age k

theorem age_none (n : ℕ) (h : ∀ k < n, ¬ H k) : age H T n = 0 := by
  induction n with
  | zero => rfl
  | succ n ih =>
    have := ih fun k hk => h k (by omega)
    simp [age, h n (by omega), this]

/-- After the last hit the counter is the number of touches from that hit on. -/
theorem age_since (s n : ℕ) (hs : s < n) (hH : H s) (hT : T s) (hl : ∀ k, s < k → k < n → ¬ H k) :
    age H T n = ∑ k ∈ Finset.range n, if s ≤ k ∧ T k then 1 else 0 := by
  have key : ∀ j, (∀ k, s < k → k < s + 1 + j → ¬ H k) →
      age H T (s + 1 + j) = (∑ k ∈ Finset.range (s + 1 + j), if s ≤ k ∧ T k then 1 else 0) ∧ age H T (s + 1 + j) ≠ 0 := by
    intro j
    induction j with
    | zero =>
      intro _
      have h1 : age H T (s + 1) = 1 := by simp [age, hH]
      have h2 : (∑ k ∈ Finset.range (s + 1), if s ≤ k ∧ T k then 1 else 0) = 1 := by
        rw [Finset.sum_range_succ, if_pos ⟨le_rfl, hT⟩, Finset.sum_eq_zero]
        intro k hk
        rw [if_neg]
        have := Finset.mem_range.1 hk
        omega
      exact ⟨h1.trans h2.symm, by rw [Nat.add_zero, h1]; decide⟩
    | succ j ih =>
      intro hl
      obtain ⟨h1, h2⟩ := ih fun k hk hk' => hl k hk (by omega)
      have hn := hl (s + 1 + j) (by omega) (by omega)
      rw [← Nat.add_assoc, Finset.sum_range_succ, ← h1]
      by_cases hTj : T (s + 1 + j)
      · rw [if_pos ⟨by omega, hTj⟩]
        simp [age, hn, h2, hTj]
      · rw [if_neg (fun h => hTj h.2)]
        simp [age, hn, h2, hTj]
  obtain ⟨j, rfl⟩ := Nat.exists_eq_add_of_le (show s + 1 ≤ n from hs)
  exact (key j hl).1

/-- What the counter says of an entry: is it an edge, and how old. -/
def edge (n : ℕ) : EReal := if 1 ≤ n ∧ n ≤ 50 then 1 else 0
def old (n : ℕ) : EReal := ((min n 51 : ℕ) : EReal)

theorem edge_zero : edge 0 = 0 := by simp [edge]
theorem old_zero : old 0 = 0 := by simp [old]
theorem edge_one_iff (n : ℕ) : edge n = 1 ↔ 1 ≤ n ∧ n ≤ 50 := by
  unfold edge; split <;> simp_all

theorem old_gt_iff (n : ℕ) : ((50 : ℕ) : EReal) < old n ↔ 51 ≤ n := by
  unfold old
  rw [Nat.cast_lt]
  omega

end Cert.Proof.Count

end
-- ==== Proof.Stats.lean ====
/-
  The second call's lists at an entry: the pair's position, and the edge and the age counted from the pair's last round.
-/
module

public import proofs.«01_k».proof.Proof.Folds
public import proofs.«01_k».proof.Proof.Count
public import proofs.«01_k».proof.Proof.Calls

@[expose] public section

noncomputable section

namespace Cert.Proof.Stats

open Cert.KernelIdeal Cert.KernelIdeal.Gen
open Idealize.ShloMosaic Idealize.ShloMosaic.ValueIdx
open Cert.Proof.Words Cert.Proof.Folds Cert.Proof.Count
open Cert.Proof.Tile (ent halves lI lC lG)

abbrev cols : IVec S1024x1024 32 := iota .tc S1024x1024 32 [1] iota_S1024x1024_d1_w32

theorem cols_ap (i k : Fin 1024) : cols (ix2 i k) = wd k.val := by
  show BitVec.ofNat 32 (0 * 1024 + k.val) = _
  rw [Nat.zero_mul, Nat.zero_add]

theorem sge_bit (s u : ℕ) (hs : s < 2 ^ 31) (hu : u < 2 ^ 31) : IntOp.cmpi .sge (wd s) (wd u) = bit (u ≤ s) := by
  unfold IntOp.cmpi
  simp only [BitVec.sle_eq_decide, toInt_wd s hs, toInt_wd u hu, Nat.cast_le, bit]

theorem sle_bit (s u : ℕ) (hs : s < 2 ^ 31) (hu : u < 2 ^ 31) : IntOp.cmpi .sle (wd s) (wd u) = bit (s ≤ u) := by
  unfold IntOp.cmpi
  simp only [BitVec.sle_eq_decide, toInt_wd s hs, toInt_wd u hu, Nat.cast_le, bit]

theorem extui_bit (p : Prop) [Decidable p] : (bit p).setWidth 32 = wd (if p then 1 else 0) := by
  by_cases h : p <;> simp [bit, h]

/-- The edge and the age as numbers of a count. -/
theorem edge_word (n : ℕ) (h1 : 1 ≤ n) (hn : n ≤ 1024) :
    FloatOps.sitofp (F := Ideal) .f32 (BitVec.setWidth 32 (IntOp.cmpi .sle (wd n) 50#32)) = edge n := by
  have e : BitVec.setWidth 32 (IntOp.cmpi .sle (wd n) 50#32) = wd (if n ≤ 50 then 1 else 0) := by
    rw [show (50#32 : BitVec 32) = wd 50 from rfl, sle_bit n 50 (by omega) (by decide)]
    exact extui_bit (n ≤ 50)
  rw [e]
  show (((wd (if n ≤ 50 then 1 else 0)).toInt : ℝ) : EReal) = _
  rw [toInt_wd _ (by split <;> decide)]
  unfold edge
  by_cases h : n ≤ 50 <;> simp [h, h1]

theorem old_word (n : ℕ) (hn : n ≤ 1024) :
    FloatOps.sitofp (F := Ideal) .f32 (IntOp.minsi (wd n) 51#32) = old n := by
  show (((IntOp.minsi (wd n) 51#32).toInt : ℝ) : EReal) = _
  rw [SortNet.toInt_minsi, show (51#32 : BitVec 32) = wd 51 from rfl, toInt_wd n (by omega), toInt_wd 51 (by decide)]
  unfold old
  rw [← Nat.cast_min]
  norm_cast

section Pays
variable (a b : ℕ → Fin 4096) (v0 v2 : S1024x1.Idx → BitVec 32) (v4 v6 : S1x1024.Idx → BitVec 32)
  (h0 : ∀ t : Fin 1024, v0 (ix2 t 0) = wd (a t.val).val) (h2 : ∀ t : Fin 1024, v2 (ix2 t 0) = wd (b t.val).val)
  (h4 : ∀ t : Fin 1024, v4 (ix2 0 t) = wd (a t.val).val) (h6 : ∀ t : Fin 1024, v6 (ix2 0 t) = wd (b t.val).val)

/-- Rounds `t` and `s` have the same pair. -/
abbrev same (t s : ℕ) : Prop := (a t = a s ∧ b t = b s) ∨ (a t = b s ∧ b t = a s)

/-- How many rounds from `u` on have position `r`. -/
def since (r : Fin 4096) (u : ℕ) : ℕ := ∑ s : Fin 1024, if (a s.val = r ∨ b s.val = r) ∧ u ≤ s.val then 1 else 0

theorem since_le (r : Fin 4096) (u : ℕ) : since a b r u ≤ 1024 := by
  unfold since
  refine (Finset.sum_le_sum (g := fun _ => 1) fun s _ => by split <;> decide).trans ?_
  simp

theorem since_pos (r : Fin 4096) (u : ℕ) (hu : u < 1024) (h : a u = r ∨ b u = r) : 1 ≤ since a b r u := by
  unfold since
  refine le_trans ?_ (Finset.single_le_sum (f := fun s : Fin 1024 => if (a s.val = r ∨ b s.val = r) ∧ u ≤ s.val then 1 else 0) (fun s _ => Nat.zero_le _) (Finset.mem_univ ⟨u, hu⟩))
  rw [if_pos ⟨h, le_rfl⟩]

include h0 in
theorem b0 (t s : Fin 1024) : broadcastTo S1024x1024 (k1_pay1 (F := Ideal) v0) broadcasts_S1024x1_S1024x1024 (ix2 t s) = wd (a t.val).val := by
  refine (spread_col _ _ (by decide) t s).trans ?_
  unfold k1_pay1
  rw [shapeCast_self]; exact h0 t
include h2 in
theorem b2 (t s : Fin 1024) : broadcastTo S1024x1024 (k1_pay2 (F := Ideal) v2) broadcasts_S1024x1_S1024x1024 (ix2 t s) = wd (b t.val).val := by
  refine (spread_col _ _ (by decide) t s).trans ?_
  unfold k1_pay2
  rw [shapeCast_self]; exact h2 t
include h4 in
theorem b4 (t s : Fin 1024) : broadcastTo S1024x1024 (k1_pay3 (F := Ideal) v4) broadcasts_S1x1024_S1024x1024 (ix2 t s) = wd (a s.val).val := by
  refine (spread_row _ _ t s).trans ?_
  unfold k1_pay3
  rw [shapeCast_self]; exact h4 s
include h6 in
theorem b6 (t s : Fin 1024) : broadcastTo S1024x1024 (k1_pay4 (F := Ideal) v6) broadcasts_S1x1024_S1024x1024 (ix2 t s) = wd (b s.val).val := by
  refine (spread_row _ _ t s).trans ?_
  unfold k1_pay4
  rw [shapeCast_self]; exact h6 s

include h0 h2 h4 h6

/-- The mask: from the pair's last round on. -/
theorem mask_ap (t u : Fin 1024) (hu : same a b t.val u.val) (hl : ∀ s : Fin 1024, same a b t.val s.val → s ≤ u) (s : Fin 1024) :
    k1_pay5 (F := Ideal) v0 v2 v4 v6 (ix2 t s) = bit (u.val ≤ s.val) := by
  let X : IVec S1024x1024 32 := select (ori (andi (cmpi .eq (broadcastTo S1024x1024 (k1_pay1 (F := Ideal) v0) broadcasts_S1024x1_S1024x1024) (broadcastTo S1024x1024 (k1_pay3 (F := Ideal) v4) broadcasts_S1x1024_S1024x1024))
      (cmpi .eq (broadcastTo S1024x1024 (k1_pay2 (F := Ideal) v2) broadcasts_S1024x1_S1024x1024) (broadcastTo S1024x1024 (k1_pay4 (F := Ideal) v6) broadcasts_S1x1024_S1024x1024)))
      (andi (cmpi .eq (broadcastTo S1024x1024 (k1_pay1 (F := Ideal) v0) broadcasts_S1024x1_S1024x1024) (broadcastTo S1024x1024 (k1_pay4 (F := Ideal) v6) broadcasts_S1x1024_S1024x1024))
      (cmpi .eq (broadcastTo S1024x1024 (k1_pay2 (F := Ideal) v2) broadcasts_S1024x1_S1024x1024) (broadcastTo S1024x1024 (k1_pay3 (F := Ideal) v4) broadcasts_S1x1024_S1024x1024))))
      cols (broadcast S1024x1024 4294967295#32)
  have hX : ∀ k : Fin 1024, X (ix2 t k) = if same a b t.val k.val then wd k.val else 4294967295#32 := by
    intro k
    have e0 := b0 a v0 h0 t k
    have e2 := b2 b v2 h2 t k
    have e4 := b4 a v4 h4 t k
    have e6 := b6 b v6 h6 t k
    show Scalar.select (IntOp.ori (IntOp.andi (IntOp.cmpi .eq (broadcastTo S1024x1024 (k1_pay1 (F := Ideal) v0) broadcasts_S1024x1_S1024x1024 (ix2 t k)) (broadcastTo S1024x1024 (k1_pay3 (F := Ideal) v4) broadcasts_S1x1024_S1024x1024 (ix2 t k)))
        (IntOp.cmpi .eq (broadcastTo S1024x1024 (k1_pay2 (F := Ideal) v2) broadcasts_S1024x1_S1024x1024 (ix2 t k)) (broadcastTo S1024x1024 (k1_pay4 (F := Ideal) v6) broadcasts_S1x1024_S1024x1024 (ix2 t k))))
        (IntOp.andi (IntOp.cmpi .eq (broadcastTo S1024x1024 (k1_pay1 (F := Ideal) v0) broadcasts_S1024x1_S1024x1024 (ix2 t k)) (broadcastTo S1024x1024 (k1_pay4 (F := Ideal) v6) broadcasts_S1x1024_S1024x1024 (ix2 t k)))
        (IntOp.cmpi .eq (broadcastTo S1024x1024 (k1_pay2 (F := Ideal) v2) broadcasts_S1024x1_S1024x1024 (ix2 t k)) (broadcastTo S1024x1024 (k1_pay3 (F := Ideal) v4) broadcasts_S1x1024_S1024x1024 (ix2 t k)))))
      (cols (ix2 t k)) 4294967295#32 = _
    rw [e0, e2, e4, e6, cols_ap, eq_bit (by decide), eq_bit (by decide), eq_bit (by decide), eq_bit (by decide), andi_bit, andi_bit, ori_bit, select_bit]
  have hXu : X (ix2 t u) = wd u.val := (hX u).trans (if_pos hu)
  have hub := u.isLt
  have hsb := s.isLt
  have hneg : (4294967295#32 : BitVec 32).toInt = -1 := by decide
  have hmin : (2147483648#32 : BitVec 32).toInt = -2147483648 := by decide
  have hm : broadcastTo S1024x1024 (shapeCast S1024x1 (multiReductionI .maxsi [1] S1024 X 2147483648#32 reduces_S1024x1024_S1024 rfl) shapeCasts_S1024_S1024x1) broadcasts_S1024x1_S1024x1024 (ix2 t s) = wd u.val := by
    refine (spread_col _ _ (by decide) t s).trans ((col_ap _ _ t 0).trans ((maxsi_row _ X _ _ t u (fun k => ?_) ?_).trans hXu))
    · rw [hXu, hX k, toInt_wd _ (by omega)]
      have hk := k.isLt
      split
      · rename_i h
        have := hl k h
        rw [toInt_wd _ (by omega)]
        exact_mod_cast this
      · rw [hneg]; omega
    · rw [hXu, hmin, toInt_wd _ (by omega)]; omega
  show IntOp.cmpi .sge (cols (ix2 t s)) (broadcastTo S1024x1024 (shapeCast S1024x1 (multiReductionI .maxsi [1] S1024 X 2147483648#32 reduces_S1024x1024_S1024 rfl) shapeCasts_S1024_S1024x1) broadcasts_S1024x1_S1024x1024 (ix2 t s)) = _
  rw [hm, cols_ap, sge_bit _ _ (by omega) (by omega)]

/-- The two counts. -/
theorem countA (t u : Fin 1024) (hu : same a b t.val u.val) (hl : ∀ s : Fin 1024, same a b t.val s.val → s ≤ u) :
    k1_pay6 (F := Ideal) v0 v2 v4 v6 (ix2 t 0) = wd (since a b (a t.val) u.val) := by
  let X : IVec S1024x1024 32 := extui 32 (andi (ori (cmpi .eq (broadcastTo S1024x1024 (k1_pay3 (F := Ideal) v4) broadcasts_S1x1024_S1024x1024) (broadcastTo S1024x1024 (k1_pay1 (F := Ideal) v0) broadcasts_S1024x1_S1024x1024)) (cmpi .eq (broadcastTo S1024x1024 (k1_pay4 (F := Ideal) v6) broadcasts_S1x1024_S1024x1024) (broadcastTo S1024x1024 (k1_pay1 (F := Ideal) v0) broadcasts_S1024x1_S1024x1024))) (k1_pay5 (F := Ideal) v0 v2 v4 v6)) natLt_1_32
  have hX : k1_pay6 (F := Ideal) v0 v2 v4 v6 = shapeCast S1024x1 (multiReductionI .add [1] S1024 X 0#32 reduces_S1024x1024_S1024 rfl) shapeCasts_S1024_S1024x1 := rfl
  refine (congrFun hX _).trans ((col_ap _ shapeCasts_S1024_S1024x1 t 0).trans ?_)
  refine add_row reduces_S1024x1024_S1024 X rfl t (fun s => if (a s.val = a t.val ∨ b s.val = a t.val) ∧ u.val ≤ s.val then 1 else 0) (fun s => ?_)
    (lt_of_le_of_lt (since_le a b (a t.val) u.val) (by decide))
  have e0 := b0 a v0 h0 t s
  have e4 := b4 a v4 h4 t s
  have e6 := b6 b v6 h6 t s
  have em := mask_ap a b v0 v2 v4 v6 h0 h2 h4 h6 t u hu hl s
  show (BitVec.setWidth 32 (IntOp.andi (IntOp.ori (IntOp.cmpi .eq (broadcastTo S1024x1024 (k1_pay3 (F := Ideal) v4) broadcasts_S1x1024_S1024x1024 (ix2 t s)) (broadcastTo S1024x1024 (k1_pay1 (F := Ideal) v0) broadcasts_S1024x1_S1024x1024 (ix2 t s)))
      (IntOp.cmpi .eq (broadcastTo S1024x1024 (k1_pay4 (F := Ideal) v6) broadcasts_S1x1024_S1024x1024 (ix2 t s)) (broadcastTo S1024x1024 (k1_pay1 (F := Ideal) v0) broadcasts_S1024x1_S1024x1024 (ix2 t s))))
      (k1_pay5 (F := Ideal) v0 v2 v4 v6 (ix2 t s)))).toNat = _
  rw [e0, e4, e6, em, eq_bit (by decide), eq_bit (by decide), ori_bit, andi_bit]
  refine (congrArg BitVec.toNat (extui_bit _)).trans (toNat_wd _ ?_)
  split <;> decide

theorem countB (t u : Fin 1024) (hu : same a b t.val u.val) (hl : ∀ s : Fin 1024, same a b t.val s.val → s ≤ u) :
    k1_pay8 (k1_pay7 (F := Ideal) v0 v2 v4 v6) (ix2 t 0) = wd (since a b (b t.val) u.val) := by
  let X : IVec S1024x1024 32 := extui 32 (andi (ori (cmpi .eq (broadcastTo S1024x1024 (k1_pay3 (F := Ideal) v4) broadcasts_S1x1024_S1024x1024) (broadcastTo S1024x1024 (k1_pay2 (F := Ideal) v2) broadcasts_S1024x1_S1024x1024)) (cmpi .eq (broadcastTo S1024x1024 (k1_pay4 (F := Ideal) v6) broadcasts_S1x1024_S1024x1024) (broadcastTo S1024x1024 (k1_pay2 (F := Ideal) v2) broadcasts_S1024x1_S1024x1024))) (k1_pay5 (F := Ideal) v0 v2 v4 v6)) natLt_1_32
  have hX : k1_pay8 (k1_pay7 (F := Ideal) v0 v2 v4 v6) = shapeCast S1024x1 (multiReductionI .add [1] S1024 X 0#32 reduces_S1024x1024_S1024 rfl) shapeCasts_S1024_S1024x1 := rfl
  refine (congrFun hX _).trans ((col_ap _ shapeCasts_S1024_S1024x1 t 0).trans ?_)
  refine add_row reduces_S1024x1024_S1024 X rfl t (fun s => if (a s.val = b t.val ∨ b s.val = b t.val) ∧ u.val ≤ s.val then 1 else 0) (fun s => ?_)
    (lt_of_le_of_lt (since_le a b (b t.val) u.val) (by decide))
  have e2 := b2 b v2 h2 t s
  have e4 := b4 a v4 h4 t s
  have e6 := b6 b v6 h6 t s
  have em := mask_ap a b v0 v2 v4 v6 h0 h2 h4 h6 t u hu hl s
  show (BitVec.setWidth 32 (IntOp.andi (IntOp.ori (IntOp.cmpi .eq (broadcastTo S1024x1024 (k1_pay3 (F := Ideal) v4) broadcasts_S1x1024_S1024x1024 (ix2 t s)) (broadcastTo S1024x1024 (k1_pay2 (F := Ideal) v2) broadcasts_S1024x1_S1024x1024 (ix2 t s)))
      (IntOp.cmpi .eq (broadcastTo S1024x1024 (k1_pay4 (F := Ideal) v6) broadcasts_S1x1024_S1024x1024 (ix2 t s)) (broadcastTo S1024x1024 (k1_pay2 (F := Ideal) v2) broadcasts_S1024x1_S1024x1024 (ix2 t s))))
      (k1_pay5 (F := Ideal) v0 v2 v4 v6 (ix2 t s)))).toNat = _
  rw [e2, e4, e6, em, eq_bit (by decide), eq_bit (by decide), ori_bit, andi_bit]
  refine (congrArg BitVec.toNat (extui_bit _)).trans (toNat_wd _ ?_)
  split <;> decide

end Pays

/-! ## The lists at an entry -/

/-- A round's place in a block of eight rows. -/
abbrev place (t : ℕ) (ht : t < 1024) : S8x128.Idx := ix2 (⟨t / 128, by omega⟩ : Fin 8) (⟨t % 128, by omega⟩ : Fin 128)

theorem block_ap {α : Type} (x : S1024x1.Idx → α) (t : ℕ) (ht : t < 1024) : shapeCast S8x128 x shapeCasts_S1024x1_S8x128 (place t ht) = x (ix2 (⟨t, ht⟩ : Fin 1024) 0) := by
  unfold shapeCast
  refine congrArg x (Shape.reshapeEquiv_eq_of_rowMajor _ ?_)
  rw [Shape.rowMajor_val_two, Shape.rowMajor_val_two]
  show t * 1 + 0 = t / 128 * 128 + t % 128
  omega

theorem halves_lo {e : EltTy} (lo hi : S8x128.Idx → Elt Ideal e) (t : ℕ) (ht : t < 1024) : halves (F := Ideal) lo hi (ent t) = lo (place t ht) := by
  unfold halves
  have hlt : (ent t 0).val < 8 := by show t / 128 % 16 < 8; omega
  rw [dif_pos hlt]
  refine congrArg lo (funext fun c => Fin.ext ?_)
  fin_cases c
  · show t / 128 % 16 - 0 = t / 128; omega
  · show t % 128 - 0 = t % 128; omega

theorem halves_hi {e : EltTy} (lo hi : S8x128.Idx → Elt Ideal e) (t : ℕ) (ht : t < 1024) : halves (F := Ideal) lo hi (ent (1024 + t)) = hi (place t ht) := by
  unfold halves
  have hlt : ¬ (ent (1024 + t) 0).val < 8 := by show ¬ (1024 + t) / 128 % 16 < 8; omega
  rw [dif_neg hlt]
  refine congrArg hi (funext fun c => Fin.ext ?_)
  fin_cases c
  · show (1024 + t) / 128 % 16 - 8 = t / 128; omega
  · show (1024 + t) % 128 - 0 = t % 128; omega

end Cert.Proof.Stats

end
-- ==== Proof.RefEntry.lean ====
/- An entry of the reference's two matrices, from zero matrices: the edge and the age its counter says. -/
module

public import proofs.«01_k».proof.Proof.RefRun
public import proofs.«01_k».proof.Proof.Words
public import proofs.«01_k».proof.Proof.Count
public import Idealize.ShloMosaic.Lib.DynamicIndex

@[expose] public section

noncomputable section

namespace Cert.Proof.RefEntry

open Cert.ReferenceIdeal Cert.ReferenceIdeal.Gen Cert.ReferenceIdeal.Loop
open Idealize.ShloMosaic Idealize.ShloMosaic.ValueIdx
open Cert.Proof.Words Cert.Proof.Count

/-- Round `k`'s pair is the entry's row and column. -/
abbrev hit (a b : ℕ → Fin 4096) (r c : Fin 4096) (k : ℕ) : Prop := (r = a k ∧ c = b k) ∨ (r = b k ∧ c = a k)
/-- Round `k`'s pair has the entry's row. -/
abbrev touch (a b : ℕ → Fin 4096) (r : Fin 4096) (k : ℕ) : Prop := r = a k ∨ r = b k

theorem hits_ap (i j r c : Fin 4096) :
    hits (F := Ideal) (rowOf (F := Ideal)) (colOf (F := Ideal)) (fun _ => wd i.val) (fun _ => wd j.val) (ix2 r c)
      = bit ((r = i ∧ c = j) ∨ (r = j ∧ c = i)) := by
  show IntOp.ori (IntOp.andi (IntOp.cmpi .eq (wd r.val) (wd i.val)) (IntOp.cmpi .eq (wd c.val) (wd j.val)))
    (IntOp.andi (IntOp.cmpi .eq (wd r.val) (wd j.val)) (IntOp.cmpi .eq (wd c.val) (wd i.val))) = _
  rw [eq_bit (by decide), eq_bit (by decide), eq_bit (by decide), eq_bit (by decide), andi_bit, andi_bit, ori_bit]

theorem touches_ap (i j r c : Fin 4096) :
    touches (F := Ideal) (rowOf (F := Ideal)) (fun _ => wd i.val) (fun _ => wd j.val) (ix2 r c) = bit (r = i ∨ r = j) := by
  show IntOp.ori (IntOp.cmpi .eq (wd r.val) (wd i.val)) (IntOp.cmpi .eq (wd r.val) (wd j.val)) = _
  rw [eq_bit (by decide), eq_bit (by decide), ori_bit]

/-- The loop's word is its number. -/
theorem word_eq (k : ℕ) : word (F := Ideal) k = fun _ => wd k := by
  funext i
  show Scf.iv 0#32 1#32 k = BitVec.ofNat 32 k
  simp [Scf.iv]

theorem wrap_small (k : ℕ) (hk : k < 1024) (n : BitVec 32) : Loop.wrap (F := Ideal) (fun _ => wd k) n = fun _ => wd k := by
  funext i
  exact select_slt_zero_of_nonneg (fun _ => wd k) _ _ i (by rw [toInt_wd k (by omega)]; omega)

theorem pick_ap (P : S1024x2.Idx → BitVec 32) (t k : ℕ) (ht : t < 1024) (hk : k < 2) :
    pick (F := Ideal) P (fun _ => wd t) (fun _ => wd k) = fun _ => P (ix2 ⟨t, ht⟩ ⟨k, hk⟩) := by
  funext i
  unfold pick
  rw [Host.dynamicSlice_eq_extractStridedSlice S1x1 P _ ![t, k] _ ⟨rfl, fun a => by
    fin_cases a
    · show t + 1 ≤ 1024; omega
    · show k + 1 ≤ 2; omega⟩ (fun a => by
    fin_cases a
    · exact toInt_wd t (by omega)
    · exact toInt_wd k (by omega))]
  unfold shapeCast
  refine congrArg P (funext fun a => ?_)
  fin_cases a
  · refine Fin.ext ?_
    show t + ((S1x1.reshapeEquiv _ _) 0).val = t
    have : ∀ y : S1x1.Idx, (y 0).val = 0 := fun y => by have : (y 0).val < 1 := (y 0).isLt; omega
    rw [this]; rfl
  · refine Fin.ext ?_
    show k + ((S1x1.reshapeEquiv _ _) 1).val = k
    have : ∀ y : S1x1.Idx, (y 1).val = 0 := fun y => by have : (y 1).val < 1 := (y 1).isLt; omega
    rw [this]; rfl

theorem fst_ap (P : S1024x2.Idx → BitVec 32) (t : ℕ) (ht : t < 1024) : fst (F := Ideal) P (word (F := Ideal) t) = fun _ => P (ix2 ⟨t, ht⟩ 0) := by
  unfold Loop.fst
  rw [word_eq, wrap_small t ht]
  refine (congrArg (pick (F := Ideal) P _) (wrap_small 0 (by decide) _)).trans ?_
  exact pick_ap P t 0 ht (by decide)

theorem snd_ap (P : S1024x2.Idx → BitVec 32) (t : ℕ) (ht : t < 1024) : snd (F := Ideal) P (word (F := Ideal) t) = fun _ => P (ix2 ⟨t, ht⟩ 1) := by
  unfold Loop.snd
  rw [word_eq, wrap_small t ht]
  refine (congrArg (pick (F := Ideal) P _) (wrap_small 1 (by decide) _)).trans ?_
  exact pick_ap P t 1 ht (by decide)

/-- One round at an entry. -/
theorem round (p q : Prop) [Decidable p] [Decidable q] (hpq : p → q) (n : ℕ) :
    let n' := if p then 1 else if n = 0 then 0 else if q then n + 1 else n
    let C : EReal := if p then 1 else edge n
    let A : EReal := if q then (if p then 0 else old n) + (if C = 1 then 1 else 0) else (if p then 0 else old n)
    A = old n' ∧ (if q ∧ ((50 : ℕ) : EReal) < A then 0 else C) = edge n' := by
  have h01 : ((0 : ℕ) : EReal) = 0 := Nat.cast_zero
  have h11 : ((1 : ℕ) : EReal) = 1 := Nat.cast_one
  by_cases hp : p
  · have hq := hpq hp
    have h : (0 : EReal) + 1 = old 1 := by simp [old]
    simp only [hp, hq, if_true, true_and, h, old_gt_iff]
    simp [edge]
  · by_cases hq : q
    · simp only [hp, hq, if_true, if_false, true_and, edge_one_iff]
      by_cases hn : n = 0
      · subst hn
        simp [edge, old]
      · have hA : old n + (if 1 ≤ n ∧ n ≤ 50 then (1 : EReal) else 0) = old (n + 1) := by
          unfold old
          by_cases hn' : n ≤ 50
          · rw [if_pos ⟨by omega, hn'⟩, ← h11, ← Nat.cast_add]
            congr 1; omega
          · rw [if_neg (by omega), add_zero]
            congr 1; omega
        simp only [hA, old_gt_iff, hn, if_false, true_and]
        unfold edge
        by_cases hn' : n ≤ 49
        · rw [if_neg (by omega), if_pos (by omega), if_pos (by omega)]
        · rw [if_pos (by omega), if_neg (by omega)]
    · simp only [hp, hq, if_false, false_and]
      by_cases hn : n = 0
      · subst hn; simp
      · simp [hn]

theorem mats_entry (P : S1024x2.Idx → BitVec 32) (a b : ℕ → Fin 4096)
    (ha : ∀ t : Fin 1024, P (ix2 t 0) = wd (a t.val).val) (hb : ∀ t : Fin 1024, P (ix2 t 1) = wd (b t.val).val)
    (c0 a0 : S4096x4096.Idx → EReal) (hc0 : ∀ x, c0 x = 0) (ha0 : ∀ x, a0 x = 0) (r c : Fin 4096) (k : ℕ) (hk : k ≤ 1024) :
    (mats (F := Ideal) P c0 a0 k).1 (ix2 r c) = edge (age (hit a b r c) (touch a b r) k)
    ∧ (mats (F := Ideal) P c0 a0 k).2 (ix2 r c) = old (age (hit a b r c) (touch a b r) k) := by
  induction k with
  | zero => exact ⟨(hc0 _).trans edge_zero.symm, (ha0 _).trans old_zero.symm⟩
  | succ k ih =>
    obtain ⟨ih1, ih2⟩ := ih (by omega)
    obtain ⟨r1, r2⟩ := round (hit a b r c k) (touch a b r k) (by rintro (h | h); exact .inl h.1; exact .inr h.1)
      (age (hit a b r c) (touch a b r) k)
    have ei : fst (F := Ideal) P (word (F := Ideal) k) = fun _ => wd (a k).val := by rw [fst_ap P k (by omega)]; funext _; exact ha ⟨k, by omega⟩
    have ej : snd (F := Ideal) P (word (F := Ideal) k) = fun _ => wd (b k).val := by rw [snd_ap P k (by omega)]; funext _; exact hb ⟨k, by omega⟩
    have hE := hits_ap (a k) (b k) r c
    have hT := touches_ap (a k) (b k) r c
    have eC : midC (F := Ideal) (hits (F := Ideal) (rowOf (F := Ideal)) (colOf (F := Ideal)) (fun _ => wd (a k).val) (fun _ => wd (b k).val)) (mats (F := Ideal) P c0 a0 k).1 (ix2 r c)
        = if hit a b r c k then (1 : EReal) else edge (age (hit a b r c) (touch a b r) k) := by
      show Scalar.select (α := EReal) (hits (F := Ideal) _ _ _ _ (ix2 r c)) (Ideal.ofBits .f32 0x3F800000#32) ((mats (F := Ideal) P c0 a0 k).1 (ix2 r c)) = _
      rw [hE, select_bit, one_word, ih1]
    have eM : midA (F := Ideal) (hits (F := Ideal) (rowOf (F := Ideal)) (colOf (F := Ideal)) (fun _ => wd (a k).val) (fun _ => wd (b k).val)) (mats (F := Ideal) P c0 a0 k).2 (ix2 r c)
        = if hit a b r c k then (0 : EReal) else old (age (hit a b r c) (touch a b r) k) := by
      show Scalar.select (α := EReal) (hits (F := Ideal) _ _ _ _ (ix2 r c)) (Ideal.ofBits .f32 0x00000000#32) ((mats (F := Ideal) P c0 a0 k).2 (ix2 r c)) = _
      rw [hE, select_bit, Ideal.ofBits_zero_f32, ih2]
    have hu : ∀ x : EReal, FloatOps.uitofp (F := Ideal) .f32 (FloatOps.cmpf (F := Ideal) (φ := .f32) .oeq x (Ideal.ofBits .f32 0x3F800000#32)) = (if x = 1 then (1 : EReal) else 0) := by
      intro x
      rw [Ideal.cmpf_def, one_word]
      show (((BitVec.ofBool (decide (x = 1))).toNat : ℝ) : EReal) = _
      by_cases h : x = 1 <;> simp [h]
    set C := midC (F := Ideal) (hits (F := Ideal) (rowOf (F := Ideal)) (colOf (F := Ideal)) (fun _ => wd (a k).val) (fun _ => wd (b k).val)) (mats (F := Ideal) P c0 a0 k).1 with hC
    set M := midA (F := Ideal) (hits (F := Ideal) (rowOf (F := Ideal)) (colOf (F := Ideal)) (fun _ => wd (a k).val) (fun _ => wd (b k).val)) (mats (F := Ideal) P c0 a0 k).2 with hM
    have eA : older (F := Ideal) (touches (F := Ideal) (rowOf (F := Ideal)) (fun _ => wd (a k).val) (fun _ => wd (b k).val)) C M (ix2 r c) = old (age (hit a b r c) (touch a b r) (k + 1)) := by
      refine Eq.trans ?_ r1
      show Scalar.select (α := EReal) (touches (F := Ideal) _ _ _ (ix2 r c)) ((M (ix2 r c) : EReal) + FloatOps.uitofp (F := Ideal) .f32 (FloatOps.cmpf (F := Ideal) (φ := .f32) .oeq (C (ix2 r c)) (Ideal.ofBits .f32 0x3F800000#32))) (M (ix2 r c)) = _
      rw [hT, select_bit, hu, eC, eM]
    have step : mats (F := Ideal) P c0 a0 (k + 1)
        = (cut (F := Ideal) (touches (F := Ideal) (rowOf (F := Ideal)) (fun _ => wd (a k).val) (fun _ => wd (b k).val)) C
            (older (F := Ideal) (touches (F := Ideal) (rowOf (F := Ideal)) (fun _ => wd (a k).val) (fun _ => wd (b k).val)) C M),
          older (F := Ideal) (touches (F := Ideal) (rowOf (F := Ideal)) (fun _ => wd (a k).val) (fun _ => wd (b k).val)) C M) := by
      rw [hC, hM, ← ei, ← ej]; rfl
    rw [step]
    refine ⟨?_, eA⟩
    show Scalar.select (α := EReal) (IntOp.andi (touches (F := Ideal) _ _ _ (ix2 r c)) (FloatOps.cmpf (F := Ideal) (φ := .f32) .ogt (older (F := Ideal) _ C M (ix2 r c)) (Ideal.ofBits .f32 0x42480000#32)))
      (Ideal.ofBits .f32 0x00000000#32) (C (ix2 r c)) = _
    rw [Ideal.cmpf_def, fifty_word, Ideal.ofBits_zero_f32, hT, eA, eC]
    show Scalar.select (α := EReal) (IntOp.andi (bit _) (bit (((50 : ℕ) : EReal) < _))) _ _ = _
    rw [andi_bit, select_bit]
    rw [r1] at r2
    exact r2

end Cert.Proof.RefEntry

end
-- ==== Proof.Listing.lean ====
/- What the call's lists leave at an entry of the two matrices: what the entry's counter says. -/
module

public import proofs.«01_k».proof.Proof.Stats
public import proofs.«01_k».proof.Proof.RefEntry

@[expose] public section

noncomputable section

namespace Cert.Proof.Listing

open Cert.KernelIdeal Cert.KernelIdeal.Gen
open Idealize.ShloMosaic Idealize.ShloMosaic.ValueIdx
open Cert.Proof.Words Cert.Proof.Folds Cert.Proof.Count Cert.Proof.Stats
open Cert.Proof.RefEntry (hit touch)
open Cert.Proof.Tile (ent halves lI lC lG lastAt spread)

section Last
variable {α : Type} (I : S16x128.Idx → BitVec 32) (V : S16x128.Idx → α) (z : α) (p : ℕ)

theorem lastAt_none (n : ℕ) (h : ∀ k < n, (I (ent k)).toNat ≠ p) : lastAt I V z p n = z := by
  induction n with
  | zero => rfl
  | succ n ih =>
    unfold lastAt
    rw [if_neg (h n (by omega))]
    exact ih fun k hk => h k (by omega)

theorem lastAt_some (n : ℕ) (v : α) (h : ∀ k < n, (I (ent k)).toNat = p → V (ent k) = v) (hex : ∃ k < n, (I (ent k)).toNat = p) :
    lastAt I V z p n = v := by
  induction n with
  | zero => obtain ⟨k, hk, -⟩ := hex; exact absurd hk (Nat.not_lt_zero _)
  | succ n ih =>
    unfold lastAt
    by_cases e : (I (ent n)).toNat = p
    · rw [if_pos e]; exact h n (by omega) e
    · rw [if_neg e]
      refine ih (fun k hk => h k (by omega)) ?_
      obtain ⟨k, hk, hp⟩ := hex
      refine ⟨k, ?_, hp⟩
      rcases Nat.lt_succ_iff_lt_or_eq.1 hk with h' | rfl
      · exact h'
      · exact absurd hp e

end Last

variable (a b : ℕ → Fin 4096) (v0 v2 : S1024x1.Idx → BitVec 32) (v4 v6 : S1x1024.Idx → BitVec 32)
  (h0 : ∀ t : Fin 1024, v0 (ix2 t 0) = wd (a t.val).val) (h2 : ∀ t : Fin 1024, v2 (ix2 t 0) = wd (b t.val).val)
  (h4 : ∀ t : Fin 1024, v4 (ix2 0 t) = wd (a t.val).val) (h6 : ∀ t : Fin 1024, v6 (ix2 0 t) = wd (b t.val).val)

theorem pos_word (r c : Fin 4096) : (IntOp.addi (IntOp.muli (wd r.val) 4096#32) (wd c.val)).toNat = r.val * 4096 + c.val := by
  have hr := r.isLt
  have hc := c.isLt
  show ((wd r.val) * 4096#32 + wd c.val).toNat = _
  rw [BitVec.toNat_add, BitVec.toNat_mul, toNat_wd r.val (by omega)]
  rw [toNat_wd c.val (by omega)]
  show (r.val * 4096 % 2 ^ 32 + c.val) % 2 ^ 32 = _
  omega

include h0 h2 in
theorem pos_lo (t : ℕ) (ht : t < 1024) : (lI (F := Ideal) v0 v2 (ent t)).toNat = (a t).val * 4096 + (b t).val := by
  have e : lI (F := Ideal) v0 v2 (ent t) = IntOp.addi (IntOp.muli (v0 (ix2 (⟨t, ht⟩ : Fin 1024) 0)) 4096#32) (v2 (ix2 (⟨t, ht⟩ : Fin 1024) 0)) := by
    unfold lI
    have hX : k1_pay9 (k1_pay1 (F := Ideal) v0) (k1_pay2 (F := Ideal) v2) = shapeCast S8x128 (addi (muli (k1_pay1 v0) (broadcast S1024x1 4096#32)) (k1_pay2 v2)) shapeCasts_S1024x1_S8x128 := rfl
    refine (halves_lo (e := .i32) _ _ t ht).trans ((congrFun hX _).trans ((block_ap _ t ht).trans ?_))
    unfold k1_pay1 k1_pay2
    rw [shapeCast_self, shapeCast_self]; rfl
  rw [e, h0 ⟨t, ht⟩, h2 ⟨t, ht⟩]
  exact pos_word _ _

include h0 h2 in
theorem pos_hi (t : ℕ) (ht : t < 1024) : (lI (F := Ideal) v0 v2 (ent (1024 + t))).toNat = (b t).val * 4096 + (a t).val := by
  have e : lI (F := Ideal) v0 v2 (ent (1024 + t)) = IntOp.addi (IntOp.muli (v2 (ix2 (⟨t, ht⟩ : Fin 1024) 0)) 4096#32) (v0 (ix2 (⟨t, ht⟩ : Fin 1024) 0)) := by
    unfold lI
    have hX : k1_pay10 (k1_pay1 (F := Ideal) v0) (k1_pay2 (F := Ideal) v2) = shapeCast S8x128 (addi (muli (k1_pay2 v2) (broadcast S1024x1 4096#32)) (k1_pay1 v0)) shapeCasts_S1024x1_S8x128 := rfl
    refine (halves_hi (e := .i32) _ _ t ht).trans ((congrFun hX _).trans ((block_ap _ t ht).trans ?_))
    unfold k1_pay1 k1_pay2
    rw [shapeCast_self, shapeCast_self]; rfl
  rw [e, h0 ⟨t, ht⟩, h2 ⟨t, ht⟩]
  exact pos_word _ _

include h0 h2 h4 h6

theorem vals_lo (t : ℕ) (ht : t < 1024) (u : Fin 1024) (hu : same a b t u.val) (hl : ∀ s : Fin 1024, same a b t s.val → s ≤ u) :
    lC (F := Ideal) v0 v2 v4 v6 (ent t) = edge (since a b (a t) u.val) ∧ lG (F := Ideal) v0 v2 v4 v6 (ent t) = old (since a b (a t) u.val) := by
  have hc := countA a b v0 v2 v4 v6 h0 h2 h4 h6 ⟨t, ht⟩ u hu hl
  have hpos := since_pos a b (a t) u.val u.isLt (by rcases hu with h | h; exact .inl h.1.symm; exact .inr h.1.symm)
  have hle := since_le a b (a t) u.val
  constructor
  · unfold lC
    have hX : k1_pay11 (F := Ideal) (k1_pay6 (F := Ideal) v0 v2 v4 v6) = shapeCast S8x128 (sitofp .f32 (extui 32 (cmpi .sle (k1_pay6 (F := Ideal) v0 v2 v4 v6) (broadcast S1024x1 50#32)) natLt_1_32)) shapeCasts_S1024x1_S8x128 := rfl
    refine (halves_lo (e := .f32) _ _ t ht).trans ((congrFun hX _).trans ((block_ap _ t ht).trans ?_))
    show FloatOps.sitofp (F := Ideal) .f32 (BitVec.setWidth 32 (IntOp.cmpi .sle (k1_pay6 (F := Ideal) v0 v2 v4 v6 (ix2 (⟨t, ht⟩ : Fin 1024) 0)) 50#32)) = _
    rw [hc]; exact edge_word _ hpos hle
  · unfold lG
    have hX : k1_pay13 (F := Ideal) (k1_pay6 (F := Ideal) v0 v2 v4 v6) = shapeCast S8x128 (sitofp .f32 (minsi (k1_pay6 (F := Ideal) v0 v2 v4 v6) (broadcast S1024x1 51#32))) shapeCasts_S1024x1_S8x128 := rfl
    refine (halves_lo (e := .f32) _ _ t ht).trans ((congrFun hX _).trans ((block_ap _ t ht).trans ?_))
    show FloatOps.sitofp (F := Ideal) .f32 (IntOp.minsi (k1_pay6 (F := Ideal) v0 v2 v4 v6 (ix2 (⟨t, ht⟩ : Fin 1024) 0)) 51#32) = _
    rw [hc]; exact old_word _ hle

theorem vals_hi (t : ℕ) (ht : t < 1024) (u : Fin 1024) (hu : same a b t u.val) (hl : ∀ s : Fin 1024, same a b t s.val → s ≤ u) :
    lC (F := Ideal) v0 v2 v4 v6 (ent (1024 + t)) = edge (since a b (b t) u.val) ∧ lG (F := Ideal) v0 v2 v4 v6 (ent (1024 + t)) = old (since a b (b t) u.val) := by
  have hc := countB a b v0 v2 v4 v6 h0 h2 h4 h6 ⟨t, ht⟩ u hu hl
  have hpos := since_pos a b (b t) u.val u.isLt (by rcases hu with h | h; exact .inr h.2.symm; exact .inl h.2.symm)
  have hle := since_le a b (b t) u.val
  constructor
  · unfold lC
    have hX : k1_pay12 (F := Ideal) (k1_pay7 (F := Ideal) v0 v2 v4 v6) = shapeCast S8x128 (sitofp .f32 (extui 32 (cmpi .sle (k1_pay8 (k1_pay7 (F := Ideal) v0 v2 v4 v6)) (broadcast S1024x1 50#32)) natLt_1_32)) shapeCasts_S1024x1_S8x128 := rfl
    refine (halves_hi (e := .f32) _ _ t ht).trans ((congrFun hX _).trans ((block_ap _ t ht).trans ?_))
    show FloatOps.sitofp (F := Ideal) .f32 (BitVec.setWidth 32 (IntOp.cmpi .sle (k1_pay8 (k1_pay7 (F := Ideal) v0 v2 v4 v6) (ix2 (⟨t, ht⟩ : Fin 1024) 0)) 50#32)) = _
    rw [hc]; exact edge_word _ hpos hle
  · unfold lG
    have hX : k1_pay14 (F := Ideal) (k1_pay7 (F := Ideal) v0 v2 v4 v6) = shapeCast S8x128 (sitofp .f32 (minsi (k1_pay8 (k1_pay7 (F := Ideal) v0 v2 v4 v6)) (broadcast S1024x1 51#32))) shapeCasts_S1024x1_S8x128 := rfl
    refine (halves_hi (e := .f32) _ _ t ht).trans ((congrFun hX _).trans ((block_ap _ t ht).trans ?_))
    show FloatOps.sitofp (F := Ideal) .f32 (IntOp.minsi (k1_pay8 (k1_pay7 (F := Ideal) v0 v2 v4 v6) (ix2 (⟨t, ht⟩ : Fin 1024) 0)) 51#32) = _
    rw [hc]; exact old_word _ hle

omit h0 h2 h4 h6 in
/-- The counter of an entry whose pair is round `t`'s. -/
theorem age_of_hit (r c : Fin 4096) (t : ℕ) (ht : t < 1024) (hh : hit a b r c t) :
    ∃ u : Fin 1024, same a b t u.val ∧ (∀ s : Fin 1024, same a b t s.val → s ≤ u) ∧ age (hit a b r c) (touch a b r) 1024 = since a b r u.val := by
  have hS : (Finset.univ.filter fun s : Fin 1024 => same a b t s.val).Nonempty := ⟨⟨t, ht⟩, Finset.mem_filter.2 ⟨Finset.mem_univ _, .inl ⟨rfl, rfl⟩⟩⟩
  obtain ⟨u, hu, hmax⟩ := Finset.exists_max_image _ (fun s : Fin 1024 => s) hS
  have hus : same a b t u.val := (Finset.mem_filter.1 hu).2
  have hl : ∀ s : Fin 1024, same a b t s.val → s ≤ u := fun s hs => hmax s (Finset.mem_filter.2 ⟨Finset.mem_univ _, hs⟩)
  have hhu : hit a b r c u.val := by
    rcases hh with ⟨e1, e2⟩ | ⟨e1, e2⟩ <;> rcases hus with ⟨e3, e4⟩ | ⟨e3, e4⟩ <;> subst e1 <;> subst e2 <;> simp_all [hit]
  have hback : ∀ s, hit a b r c s → same a b t s := by
    intro s hs
    rcases hh with ⟨e1, e2⟩ | ⟨e1, e2⟩ <;> rcases hs with ⟨e3, e4⟩ | ⟨e3, e4⟩ <;> subst e1 <;> subst e2
    · exact .inl ⟨e3, e4⟩
    · exact .inr ⟨e3, e4⟩
    · exact .inr ⟨e4, e3⟩
    · exact .inl ⟨e4, e3⟩
  refine ⟨u, hus, hl, ?_⟩
  rw [age_since _ _ u.val 1024 u.isLt hhu (by rcases hhu with h | h; exact .inl h.1; exact .inr h.1)
    (fun k hk hk' hkk => by have : (⟨k, hk'⟩ : Fin 1024) ≤ u := hl ⟨k, hk'⟩ (hback k hkk); exact absurd hk (not_lt.2 this))]
  unfold since
  rw [Fin.sum_univ_eq_sum_range (fun s => if (a s = r ∨ b s = r) ∧ u.val ≤ s then 1 else 0) 1024]
  refine Finset.sum_congr rfl fun k _ => if_congr ?_ rfl rfl
  constructor
  · rintro ⟨h, h' | h'⟩
    · exact ⟨.inl h'.symm, h⟩
    · exact ⟨.inr h'.symm, h⟩
  · rintro ⟨h' | h', h⟩
    · exact ⟨h, .inl h'.symm⟩
    · exact ⟨h, .inr h'.symm⟩

omit h0 h2 h4 h6 in
theorem pos_inj (r c r' c' : Fin 4096) (h : r.val * 4096 + c.val = r'.val * 4096 + c'.val) : r = r' ∧ c = c' := by
  have := c.isLt
  have := c'.isLt
  exact ⟨Fin.ext (by omega), Fin.ext (by omega)⟩

/-- The values listed at an entry's position are its counter's. -/
theorem listed (r c : Fin 4096) (n : ℕ) (hn : n < 2048) (hp : (lI (F := Ideal) v0 v2 (ent n)).toNat = r.val * 4096 + c.val) :
    (∃ t < 1024, hit a b r c t) ∧ lC (F := Ideal) v0 v2 v4 v6 (ent n) = edge (age (hit a b r c) (touch a b r) 1024)
      ∧ lG (F := Ideal) v0 v2 v4 v6 (ent n) = old (age (hit a b r c) (touch a b r) 1024) := by
  by_cases hlt : n < 1024
  · rw [pos_lo a b v0 v2 h0 h2 n hlt] at hp
    obtain ⟨e1, e2⟩ := pos_inj _ _ _ _ hp
    have hh : hit a b r c n := .inl ⟨e1.symm, e2.symm⟩
    obtain ⟨u, hu, hl, ha⟩ := age_of_hit a b r c n hlt hh
    have hv := vals_lo a b v0 v2 v4 v6 h0 h2 h4 h6 n hlt u hu hl
    rw [e1] at hv
    rw [ha]
    exact ⟨⟨n, hlt, hh⟩, hv⟩
  · obtain ⟨t, rfl⟩ := Nat.exists_eq_add_of_le (Nat.not_lt.1 hlt)
    have ht : t < 1024 := by omega
    rw [pos_hi a b v0 v2 h0 h2 t ht] at hp
    obtain ⟨e1, e2⟩ := pos_inj _ _ _ _ hp
    have hh : hit a b r c t := .inr ⟨e1.symm, e2.symm⟩
    obtain ⟨u, hu, hl, ha⟩ := age_of_hit a b r c t ht hh
    have hv := vals_hi a b v0 v2 v4 v6 h0 h2 h4 h6 t ht u hu hl
    rw [e1] at hv
    rw [ha]
    exact ⟨⟨t, ht, hh⟩, hv⟩

/-- The two matrices at an entry. -/
theorem spread_entry (r c : Fin 4096) :
    spread (F := Ideal) (lI (F := Ideal) v0 v2) (lC (F := Ideal) v0 v2 v4 v6) (ix2 r c) = edge (age (hit a b r c) (touch a b r) 1024)
    ∧ spread (F := Ideal) (lI (F := Ideal) v0 v2) (lG (F := Ideal) v0 v2 v4 v6) (ix2 r c) = old (age (hit a b r c) (touch a b r) 1024) := by
  have hz : Tile.zf (F := Ideal) = (0 : EReal) := Ideal.ofBits_zero_f32
  have L := listed a b v0 v2 v4 v6 h0 h2 h4 h6 r c
  show lastAt _ _ _ (r.val * 4096 + c.val) 2048 = _ ∧ lastAt _ _ _ (r.val * 4096 + c.val) 2048 = _
  by_cases hex : ∃ n < 2048, (lI (F := Ideal) v0 v2 (ent n)).toNat = r.val * 4096 + c.val
  · exact ⟨lastAt_some _ _ _ _ _ _ (fun k hk hp => (L k hk hp).2.1) hex, lastAt_some _ _ _ _ _ _ (fun k hk hp => (L k hk hp).2.2) hex⟩
  · have hno : ∀ k < 2048, (lI (F := Ideal) v0 v2 (ent k)).toNat ≠ r.val * 4096 + c.val := fun k hk hp => hex ⟨k, hk, hp⟩
    have hnh : ∀ t < 1024, ¬ hit a b r c t := by
      intro t ht hh
      rcases hh with ⟨e1, e2⟩ | ⟨e1, e2⟩
      · exact hno t (by omega) (by rw [pos_lo a b v0 v2 h0 h2 t ht, e1, e2])
      · exact hno (1024 + t) (by omega) (by rw [pos_hi a b v0 v2 h0 h2 t ht, e1, e2])
    rw [age_none _ _ 1024 hnh, lastAt_none _ _ _ _ _ hno, lastAt_none _ _ _ _ _ hno, edge_zero, old_zero]
    exact ⟨hz, hz⟩

end Cert.Proof.Listing

end
-- ==== Proof.Agree.lean ====
/- The kernel's two matrices are the reference's, from finite distances and zero matrices. -/
module

public import proofs.«01_k».proof.Proof.Run
public import proofs.«01_k».proof.Proof.Arrays
public import proofs.«01_k».proof.Proof.Listing

@[expose] public section

noncomputable section

namespace Cert.Proof.Agree

open Cert.KernelIdeal Cert.KernelIdeal.Gen
open Idealize.ShloMosaic hiding ix2 ix3 eq_ix2
open Idealize.ShloMosaic.ValueIdx
open Idealize.ShloMosaic.TcCoe
open Cert.Proof.Words Cert.Proof.Nearest Cert.Proof.Arrays
open Cert.Proof.Tile (lI lC lG spread lists next0 next1)

/-- The two nearest columns of every row. -/
theorem pairs_of (d : S1024x4096.Idx → EReal) : ∃ a b : ℕ → Fin 4096, ∀ t : Fin 1024, Two (row d t) (a t.val) (b t.val) := by
  have h : ∀ n : ℕ, ∃ p q : Fin 4096, Two (row d ⟨n % 1024, Nat.mod_lt _ (by decide)⟩) p q := fun n => exists_two (by decide) _
  choose a b hab using h
  refine ⟨a, b, fun t => ?_⟩
  have e : (⟨t.val % 1024, Nat.mod_lt _ (by decide)⟩ : Fin 1024) = t := Fin.ext (Nat.mod_eq_of_lt t.isLt)
  have := hab t.val
  rwa [e] at this

variable (m : (ℓ : Loc nD τ sig) → Buf (Elt Ideal) ℓ) (c : Dev nD)

/-- The lists are the second call's of what the first call leaves. -/
theorem lists_eq : lists m c = ⟨lI (Tile.at1 m c main_v0_0) (Tile.at1 m c main_v0_1),
    lC (Tile.at1 m c main_v0_0) (Tile.at1 m c main_v0_1) (Tile.at1 m c main_v0_2) (Tile.at1 m c main_v0_3),
    lG (Tile.at1 m c main_v0_0) (Tile.at1 m c main_v0_1) (Tile.at1 m c main_v0_2) (Tile.at1 m c main_v0_3)⟩ := by
  unfold lists Tile.at2
  rw [Tile.next1_0, Tile.next1_1, Tile.next1_2, arr1_4, arr1_5, arr1_6]

/-- Both programs' matrices, entry by entry. -/
theorem agree (d : S1024x4096.Idx → EReal) (c0 a0 : S4096x4096.Idx → EReal) (hd : ∀ x, d x < ⊤) (hc0 : ∀ x, c0 x = 0) (ha0 : ∀ x, a0 x = 0)
    (hV : Tile.at0 m c main_arg0 = d) :
    spread (lists m c).I (lists m c).C = (Cert.ReferenceIdeal.Loop.mats (F := Ideal) (Cert.ReferenceIdeal.Loop.nearest (F := Ideal) d) c0 a0 1024).1
    ∧ spread (lists m c).I (lists m c).G = (Cert.ReferenceIdeal.Loop.mats (F := Ideal) (Cert.ReferenceIdeal.Loop.nearest (F := Ideal) d) c0 a0 1024).2 := by
  obtain ⟨a, b, hab⟩ := pairs_of d
  rw [lists_eq]
  have e0 : Tile.at1 m c main_v0_0 = fun x : S1024x1.Idx => wd (a (x 0).val).val := (Tile.next0_0 _ c).trans (arr0_1 _ c d hd hV a b hab)
  have e1 : Tile.at1 m c main_v0_1 = fun x : S1024x1.Idx => wd (b (x 0).val).val := (Tile.next0_1 _ c).trans (arr0_2 _ c d hd hV a b hab)
  have e2 : Tile.at1 m c main_v0_2 = fun x : S1x1024.Idx => wd (a (x 1).val).val := (Tile.next0_2 _ c).trans (arr0_3 _ c d hd hV a b hab)
  have e3 : Tile.at1 m c main_v0_3 = fun x : S1x1024.Idx => wd (b (x 1).val).val := (Tile.next0_3 _ c).trans (arr0_4 _ c d hd hV a b hab)
  rw [e0, e1, e2, e3]
  have K := Listing.spread_entry a b (fun _ => rfl) (fun _ => rfl) (fun _ => rfl) (fun _ => rfl)
    (v0 := fun x : S1024x1.Idx => wd (a (x 0).val).val) (v2 := fun x : S1024x1.Idx => wd (b (x 0).val).val)
    (v4 := fun x : S1x1024.Idx => wd (a (x 1).val).val) (v6 := fun x : S1x1024.Idx => wd (b (x 1).val).val)
  have R := fun r s : Fin 4096 => RefEntry.mats_entry (Cert.ReferenceIdeal.Loop.nearest (F := Ideal) d) a b
    (fun t => (nearest_eq d t _ _ (hab t)).1) (fun t => (nearest_eq d t _ _ (hab t)).2) c0 a0 hc0 ha0 r s 1024 le_rfl
  constructor
  · funext x
    rw [eq_ix2 x]
    exact ((K (x 0) (x 1)).1).trans (R (x 0) (x 1)).1.symm
  · funext x
    rw [eq_ix2 x]
    exact ((K (x 0) (x 1)).2).trans (R (x 0) (x 1)).2.symm

end Cert.Proof.Agree

end
-- ==== Proof.Admitted.lean ====
/- What the precondition says of the three arguments. -/
module

public import proofs.«01_k».proof.Pre_pre
public import proofs.«01_k».proof.Proof.Words
public import Idealize.ShloMosaic.Lib.Pipeline.Value
public import Idealize.ShloMosaic.Lib.ValueIdx

@[expose] public section

noncomputable section

namespace Cert.Proof.Admitted

open Cert.Pre_pre
open Idealize.ShloMosaic
open Idealize.ShloMosaic.ValueIdx
open Cert.Proof.Words

theorem of_bool (p : Prop) [Decidable p] (h : BitVec.ofBool (decide p) = 1#1) : p := by
  by_contra hn
  rw [decide_eq_false hn] at h
  exact absurd h (by decide)

section Pieces
variable [hP : Facts] (u : S1024x4096.Idx → BitVec 1) (v w : S4096x4096.Idx → BitVec 1)

/-- The three arrays laid one under the other. -/
abbrev stack : S9216x4096.Idx → BitVec 1 := concatenate S9216x4096 0 [⟨S1024x4096, u⟩, ⟨S4096x4096, v⟩, ⟨S4096x4096, w⟩] Facts.concatenates_S1024x4096_S4096x4096_S4096x4096_S9216x4096_d0

theorem stack_fst (x : S1024x4096.Idx) (hx : (x 0).val < 9216) : stack u v w (ix2 (⟨(x 0).val, hx⟩ : Fin 9216) (x 1)) = u x :=
  concatenate_apply_piece (0 : Fin S9216x4096.rank) [⟨S1024x4096, u⟩, ⟨S4096x4096, v⟩, ⟨S4096x4096, w⟩] _ _ 0 (show 0 < 3 by decide) S1024x4096 u rfl rfl 0 rfl x
    (fun b hb => by fin_cases b <;> first | exact absurd rfl hb | rfl) (Nat.zero_add _)

theorem stack_snd (x : S4096x4096.Idx) (hx : 1024 + (x 0).val < 9216) : stack u v w (ix2 (⟨1024 + (x 0).val, hx⟩ : Fin 9216) (x 1)) = v x :=
  concatenate_apply_piece (0 : Fin S9216x4096.rank) [⟨S1024x4096, u⟩, ⟨S4096x4096, v⟩, ⟨S4096x4096, w⟩] _ _ 1 (show 1 < 3 by decide) S4096x4096 v rfl rfl 1024 rfl x
    (fun b hb => by fin_cases b <;> first | exact absurd rfl hb | rfl) rfl

theorem stack_trd (x : S4096x4096.Idx) (hx : 5120 + (x 0).val < 9216) : stack u v w (ix2 (⟨5120 + (x 0).val, hx⟩ : Fin 9216) (x 1)) = w x :=
  concatenate_apply_piece (0 : Fin S9216x4096.rank) [⟨S1024x4096, u⟩, ⟨S4096x4096, v⟩, ⟨S4096x4096, w⟩] _ _ 2 (show 2 < 3 by decide) S4096x4096 w rfl rfl 5120 rfl x
    (fun b hb => by fin_cases b <;> first | exact absurd rfl hb | rfl) rfl

end Pieces

variable [hP : Facts] (d : S1024x4096.Idx → EReal) (c0 a0 : S4096x4096.Idx → EReal) (h : Cert.Pre_pre.fn (F := Ideal) d c0 a0 = fun _ => 1#1)

include h

theorem finite (x : S1024x4096.Idx) : d x < ⊤ := by
  have hx0 : (x 0).val < 1024 := (x 0).isLt
  have e := congrFun h (ix2 (⟨(x 0).val, by omega⟩ : Fin 9216) (x 1))
  have e' : BitVec.ofBool (decide (d x < Ideal.ofBits .f32 0x7F800000#32)) = 1#1 := (stack_fst _ _ _ x _).symm.trans e
  rw [top_word] at e'
  exact of_bool _ e'

theorem no_edge (x : S4096x4096.Idx) : c0 x = 0 := by
  have hx0 : (x 0).val < 4096 := (x 0).isLt
  have e := congrFun h (ix2 (⟨1024 + (x 0).val, by omega⟩ : Fin 9216) (x 1))
  have e' : BitVec.ofBool (decide (c0 x = Ideal.ofBits .f32 0x00000000#32)) = 1#1 := (stack_snd _ _ _ x _).symm.trans e
  rw [Ideal.ofBits_zero_f32] at e'
  exact of_bool _ e'

theorem no_age (x : S4096x4096.Idx) : a0 x = 0 := by
  have hx0 : (x 0).val < 4096 := (x 0).isLt
  have e := congrFun h (ix2 (⟨5120 + (x 0).val, by omega⟩ : Fin 9216) (x 1))
  have e' : BitVec.ofBool (decide (a0 x = Ideal.ofBits .f32 0x00000000#32)) = 1#1 := (stack_trd _ _ _ x _).symm.trans e
  rw [Ideal.ofBits_zero_f32] at e'
  exact of_bool _ e'

end Cert.Proof.Admitted

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_pre
public import proofs.«01_k».proof.Proof.Agree
public import proofs.«01_k».proof.Proof.Admitted
public import Idealize.ShloMosaic.Adequacy
public import Idealize.ShloMosaic.Init

@[expose] public section

noncomputable section

namespace Cert.Proof

open Idealize.ShloMosaic Idealize.SL.Sem Cert.Kernel

set_option maxHeartbeats 4000000 in
/-- The bodies the two programs' labels run are the same. -/
theorem bodies_eq : (Cert.Kernel.defs₀ (F := Bits) : Defs Cert.KernelIdeal.nD Cert.KernelIdeal.τ Cert.KernelIdeal.sig (Elt Bits) Cert.KernelIdeal.Λ₀) = Cert.KernelIdeal.defs₀ (F := Bits) := by
  funext p ℓ a
  match p, ℓ, a with
  | .tc, ⟨0, _⟩, (t, s) => rfl
  | .tc, ⟨1, _⟩, (t, s) => rfl
  | .tc, ⟨2, _⟩, _ => rfl
  | .scScalar c, ⟨0, _⟩, (t, s) => rfl
  | .scScalar c, ⟨1, _⟩, (t, s) => rfl
  | .scScalar c, ⟨2, _⟩, _ => rfl
  | .scVector c s, ⟨0, _⟩, _ => rfl
  | .scVector c s, ⟨1, _⟩, _ => rfl
  | .scVector c s, ⟨2, _⟩, _ => rfl

/-- So their definitions are. -/
theorem defs_eq : (Cert.Kernel.defs (F := Bits) : Defs Cert.KernelIdeal.nD Cert.KernelIdeal.τ Cert.KernelIdeal.sig (Elt Bits)
      (SparseCore.Sig (Pipeline.Sig Cert.KernelIdeal.Λ₀ (Fin 2) fun p => (Cert.KernelIdeal.pcfgs (F := Bits) p).Adm) 1)) = Cert.KernelIdeal.defs (F := Bits) :=
  congrArg (fun D => (Cert.KernelIdeal.sc (F := Bits)).defs (Pipeline.defs Cert.KernelIdeal.pcfgs D)) bodies_eq

/-- The kernel runs, its arguments unchanged, every semaphore back at zero. -/
theorem frame_kernel : Cert.quiescent_Kernel := fun m ρ _ => by
  have H := (θ_run (Cert.KernelIdeal.defs (F := Bits)) _ _).mono (fun r h => (⟨fun c => (h.1 c).1, h.2⟩ :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)) (Tile.run_main (F := Bits) m ρ)
  rw [← defs_eq] at H
  exact H

/-- The same of the kernel read at the ideal instance. -/
theorem frame_ideal : Cert.quiescent_KernelIdeal := fun m ρ _ =>
  (θ_run Cert.KernelIdeal.defs _ _).mono (fun _ h => ⟨fun c => (h.1 c).1, h.2⟩) (Tile.run_main (F := Ideal) m ρ)

/-- The reference runs, its arguments unchanged, every semaphore at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Loop.run_main (F := Ideal) m ρ)

/-- From finite distances and zero matrices both programs end with the same two matrices. -/
theorem value : Cert.algebraic_KernelIdeal_ReferenceIdeal_pre_pre := fun m ρ m' ρ' hpre hag => by
  refine ⟨fun c => Tile.spread (F := Ideal) (Tile.lists m c).I (Tile.lists m c).C, fun c => Tile.spread (F := Ideal) (Tile.lists m c).I (Tile.lists m c).G, ?_, ?_⟩
  · exact (θ_run Cert.KernelIdeal.defs _ _).mono (fun _ h c => ⟨(h.1 c).2.1, (h.1 c).2.2, (h.1 c).1⟩) (Tile.run_main (F := Ideal) m ρ)
  refine (θ_run Cert.ReferenceIdeal.defs _ _).mono (fun _ h c => ?_) (Cert.ReferenceIdeal.Loop.run_main (F := Ideal) m' ρ')
  obtain ⟨h1, h2, h3⟩ := h c
  obtain ⟨a0, a1, a2⟩ := hag c
  rw [a0, a1, a2] at h1 h2
  have A := Agree.agree m c _ _ _ (Admitted.finite _ _ _ (hpre c)) (Admitted.no_edge _ _ _ (hpre c)) (Admitted.no_age _ _ _ (hpre c)) rfl
  exact ⟨h1.trans A.1.symm, h2.trans A.2.symm, h3⟩

theorem claim : Cert.Claim := ⟨Cert.Kernel.Gen.facts, Cert.KernelIdeal.Gen.facts, Cert.ReferenceIdeal.Gen.facts, Cert.Pre_pre.Gen.facts,
  frame_kernel, frame_ideal, fun m ρ _ => frame_ideal m ρ trivial, frame_reference, fun m ρ _ => frame_reference m ρ trivial, trivial, value⟩

end Cert.Proof

end
